-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def preserves_Kernel3_Kernel3Ideal : Prop :=
  True

def preserves_Kernel4_Kernel4Ideal : Prop :=
  True

def preserves_Kernel5_Kernel5Ideal : Prop :=
  True

def preserves_Kernel6_Kernel6Ideal : Prop :=
  True

def preserves_Kernel7_Kernel7Ideal : Prop :=
  True

def preserves_Kernel8_Kernel8Ideal : Prop :=
  True

def preserves_Kernel9_Kernel9Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v70) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)) (v2 : (c : Dev Cert.Kernel4Ideal.nD) → Buf (Elt Ideal) ((c.tc : Thread Cert.Kernel4Ideal.nD Cert.Kernel4Ideal.τ).loc Cert.Kernel4Ideal.main_v23_2)) (v3 : (c : Dev Cert.Kernel4Ideal.nD) → Buf (Elt Ideal) ((c.tc : Thread Cert.Kernel4Ideal.nD Cert.Kernel4Ideal.τ).loc Cert.Kernel4Ideal.main_v23_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_v23_2) = v2 c
          ∧ r.2.mem ((c.tc : Thread Cert.Kernel4Ideal.nD Cert.Kernel4Ideal.τ).loc Cert.Kernel4Ideal.main_v23_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_v71) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v33_0)) (v1 : (c : Dev Cert.Kernel5Ideal.nD) → Buf (Elt Ideal) ((c.tc : Thread Cert.Kernel5Ideal.nD Cert.Kernel5Ideal.τ).loc Cert.Kernel5Ideal.main_v33_1)) (v2 : (c : Dev Cert.Kernel5Ideal.nD) → Buf (Elt Ideal) ((c.tc : Thread Cert.Kernel5Ideal.nD Cert.Kernel5Ideal.τ).loc Cert.Kernel5Ideal.main_v33_2)) (v3 : (c : Dev Cert.Kernel5Ideal.nD) → Buf (Elt Ideal) ((c.tc : Thread Cert.Kernel5Ideal.nD Cert.Kernel5Ideal.τ).loc Cert.Kernel5Ideal.main_v33_3)) (v4 : (c : Dev Cert.Kernel5Ideal.nD) → Buf (Elt Ideal) ((c.tc : Thread Cert.Kernel5Ideal.nD Cert.Kernel5Ideal.τ).loc Cert.Kernel5Ideal.main_v33_4)) (v5 : (c : Dev Cert.Kernel5Ideal.nD) → Buf (Elt Ideal) ((c.tc : Thread Cert.Kernel5Ideal.nD Cert.Kernel5Ideal.τ).loc Cert.Kernel5Ideal.main_v33_5)) (v6 : (c : Dev Cert.Kernel5Ideal.nD) → Buf (Elt Ideal) ((c.tc : Thread Cert.Kernel5Ideal.nD Cert.Kernel5Ideal.τ).loc Cert.Kernel5Ideal.main_v33_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33_0) = v0 c
          ∧ r.2.mem ((c.tc : Thread Cert.Kernel5Ideal.nD Cert.Kernel5Ideal.τ).loc Cert.Kernel5Ideal.main_v33_1) = v1 c
          ∧ r.2.mem ((c.tc : Thread Cert.Kernel5Ideal.nD Cert.Kernel5Ideal.τ).loc Cert.Kernel5Ideal.main_v33_2) = v2 c
          ∧ r.2.mem ((c.tc : Thread Cert.Kernel5Ideal.nD Cert.Kernel5Ideal.τ).loc Cert.Kernel5Ideal.main_v33_3) = v3 c
          ∧ r.2.mem ((c.tc : Thread Cert.Kernel5Ideal.nD Cert.Kernel5Ideal.τ).loc Cert.Kernel5Ideal.main_v33_4) = v4 c
          ∧ r.2.mem ((c.tc : Thread Cert.Kernel5Ideal.nD Cert.Kernel5Ideal.τ).loc Cert.Kernel5Ideal.main_v33_5) = v5 c
          ∧ r.2.mem ((c.tc : Thread Cert.Kernel5Ideal.nD Cert.Kernel5Ideal.τ).loc Cert.Kernel5Ideal.main_v33_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v83) = v0 c
          ∧ r.2.mem ((c.tc : Thread Cert.Reference5Ideal.nD Cert.Reference5Ideal.τ).loc Cert.Reference5Ideal.main_v84) = v1 c
          ∧ r.2.mem ((c.tc : Thread Cert.Reference5Ideal.nD Cert.Reference5Ideal.τ).loc Cert.Reference5Ideal.main_v85) = v2 c
          ∧ r.2.mem ((c.tc : Thread Cert.Reference5Ideal.nD Cert.Reference5Ideal.τ).loc Cert.Reference5Ideal.main_v86) = v3 c
          ∧ r.2.mem ((c.tc : Thread Cert.Reference5Ideal.nD Cert.Reference5Ideal.τ).loc Cert.Reference5Ideal.main_v87) = v4 c
          ∧ r.2.mem ((c.tc : Thread Cert.Reference5Ideal.nD Cert.Reference5Ideal.τ).loc Cert.Reference5Ideal.main_v88) = v5 c
          ∧ r.2.mem ((c.tc : Thread Cert.Reference5Ideal.nD Cert.Reference5Ideal.τ).loc Cert.Reference5Ideal.main_v89) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v34_0)) (v1 : (c : Dev Cert.Kernel6Ideal.nD) → Buf (Elt Ideal) ((c.tc : Thread Cert.Kernel6Ideal.nD Cert.Kernel6Ideal.τ).loc Cert.Kernel6Ideal.main_v34_1)) (v2 : (c : Dev Cert.Kernel6Ideal.nD) → Buf (Elt Ideal) ((c.tc : Thread Cert.Kernel6Ideal.nD Cert.Kernel6Ideal.τ).loc Cert.Kernel6Ideal.main_v34_2)) (v3 : (c : Dev Cert.Kernel6Ideal.nD) → Buf (Elt Ideal) ((c.tc : Thread Cert.Kernel6Ideal.nD Cert.Kernel6Ideal.τ).loc Cert.Kernel6Ideal.main_v34_3)) (v4 : (c : Dev Cert.Kernel6Ideal.nD) → Buf (Elt Ideal) ((c.tc : Thread Cert.Kernel6Ideal.nD Cert.Kernel6Ideal.τ).loc Cert.Kernel6Ideal.main_v34_4)) (v5 : (c : Dev Cert.Kernel6Ideal.nD) → Buf (Elt Ideal) ((c.tc : Thread Cert.Kernel6Ideal.nD Cert.Kernel6Ideal.τ).loc Cert.Kernel6Ideal.main_v34_5)) (v6 : (c : Dev Cert.Kernel6Ideal.nD) → Buf (Elt Ideal) ((c.tc : Thread Cert.Kernel6Ideal.nD Cert.Kernel6Ideal.τ).loc Cert.Kernel6Ideal.main_v34_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v34_0) = v0 c
          ∧ r.2.mem ((c.tc : Thread Cert.Kernel6Ideal.nD Cert.Kernel6Ideal.τ).loc Cert.Kernel6Ideal.main_v34_1) = v1 c
          ∧ r.2.mem ((c.tc : Thread Cert.Kernel6Ideal.nD Cert.Kernel6Ideal.τ).loc Cert.Kernel6Ideal.main_v34_2) = v2 c
          ∧ r.2.mem ((c.tc : Thread Cert.Kernel6Ideal.nD Cert.Kernel6Ideal.τ).loc Cert.Kernel6Ideal.main_v34_3) = v3 c
          ∧ r.2.mem ((c.tc : Thread Cert.Kernel6Ideal.nD Cert.Kernel6Ideal.τ).loc Cert.Kernel6Ideal.main_v34_4) = v4 c
          ∧ r.2.mem ((c.tc : Thread Cert.Kernel6Ideal.nD Cert.Kernel6Ideal.τ).loc Cert.Kernel6Ideal.main_v34_5) = v5 c
          ∧ r.2.mem ((c.tc : Thread Cert.Kernel6Ideal.nD Cert.Kernel6Ideal.τ).loc Cert.Kernel6Ideal.main_v34_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v85) = v0 c
          ∧ r.2.mem ((c.tc : Thread Cert.Reference6Ideal.nD Cert.Reference6Ideal.τ).loc Cert.Reference6Ideal.main_v86) = v1 c
          ∧ r.2.mem ((c.tc : Thread Cert.Reference6Ideal.nD Cert.Reference6Ideal.τ).loc Cert.Reference6Ideal.main_v88) = v2 c
          ∧ r.2.mem ((c.tc : Thread Cert.Reference6Ideal.nD Cert.Reference6Ideal.τ).loc Cert.Reference6Ideal.main_v90) = v3 c
          ∧ r.2.mem ((c.tc : Thread Cert.Reference6Ideal.nD Cert.Reference6Ideal.τ).loc Cert.Reference6Ideal.main_v92) = v4 c
          ∧ r.2.mem ((c.tc : Thread Cert.Reference6Ideal.nD Cert.Reference6Ideal.τ).loc Cert.Reference6Ideal.main_v94) = v5 c
          ∧ r.2.mem ((c.tc : Thread Cert.Reference6Ideal.nD Cert.Reference6Ideal.τ).loc Cert.Reference6Ideal.main_v95) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v19_0)) (v1 : (c : Dev Cert.Kernel7Ideal.nD) → Buf (Elt Ideal) ((c.tc : Thread Cert.Kernel7Ideal.nD Cert.Kernel7Ideal.τ).loc Cert.Kernel7Ideal.main_v19_1)) (v2 : (c : Dev Cert.Kernel7Ideal.nD) → Buf (Elt Ideal) ((c.tc : Thread Cert.Kernel7Ideal.nD Cert.Kernel7Ideal.τ).loc Cert.Kernel7Ideal.main_v19_2)) (v3 : (c : Dev Cert.Kernel7Ideal.nD) → Buf (Elt Ideal) ((c.tc : Thread Cert.Kernel7Ideal.nD Cert.Kernel7Ideal.τ).loc Cert.Kernel7Ideal.main_v19_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v19_0) = v0 c
          ∧ r.2.mem ((c.tc : Thread Cert.Kernel7Ideal.nD Cert.Kernel7Ideal.τ).loc Cert.Kernel7Ideal.main_v19_1) = v1 c
          ∧ r.2.mem ((c.tc : Thread Cert.Kernel7Ideal.nD Cert.Kernel7Ideal.τ).loc Cert.Kernel7Ideal.main_v19_2) = v2 c
          ∧ r.2.mem ((c.tc : Thread Cert.Kernel7Ideal.nD Cert.Kernel7Ideal.τ).loc Cert.Kernel7Ideal.main_v19_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v70) = v0 c
          ∧ r.2.mem ((c.tc : Thread Cert.Reference7Ideal.nD Cert.Reference7Ideal.τ).loc Cert.Reference7Ideal.main_v71) = v1 c
          ∧ r.2.mem ((c.tc : Thread Cert.Reference7Ideal.nD Cert.Reference7Ideal.τ).loc Cert.Reference7Ideal.main_v72) = v2 c
          ∧ r.2.mem ((c.tc : Thread Cert.Reference7Ideal.nD Cert.Reference7Ideal.τ).loc Cert.Reference7Ideal.main_v74) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v26)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v26) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v84) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Kernel3_Kernel3Ideal
    ∧ preserves_Kernel4_Kernel4Ideal
    ∧ preserves_Kernel5_Kernel5Ideal
    ∧ preserves_Kernel6_Kernel6Ideal
    ∧ preserves_Kernel7_Kernel7Ideal
    ∧ preserves_Kernel8_Kernel8Ideal
    ∧ preserves_Kernel9_Kernel9Ideal
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
    ∧ algebraic_Kernel7Ideal_Reference7Ideal (hKernel7Ideal := hKernel7Ideal) (hReference7Ideal := hReference7Ideal)
    ∧ algebraic_Kernel8Ideal_Reference8Ideal (hKernel8Ideal := hKernel8Ideal) (hReference8Ideal := hReference8Ideal)
-- ==== Pre_finite.lean ====
abbrev S32x1x3072 : Shape := ⟨3, ![32, 1, 3072]⟩
abbrev S32x1x32 : Shape := ⟨3, ![32, 1, 32]⟩
abbrev S1x32 : Shape := ⟨2, ![1, 32]⟩
abbrev S1x32x32x64x128 : Shape := ⟨5, ![1, 32, 32, 64, 128]⟩
abbrev S_ : Shape := ⟨0, ![]⟩

class Facts : Prop where
  bcast_S_S32x1x3072 : S_.BroadcastsInDim S32x1x3072 (![] : Fin 0 → Fin S32x1x3072.rank)
  reducesTo_S32x1x3072_S_d0_1_2 : S32x1x3072.ReducesTo [0, 1, 2] S_
  h_S_ : 0 < S_.numel
  bcast_S_S32x1x32 : S_.BroadcastsInDim S32x1x32 (![] : Fin 0 → Fin S32x1x32.rank)
  reducesTo_S32x1x32_S_d0_1_2 : S32x1x32.ReducesTo [0, 1, 2] S_
  bcast_S_S1x32 : S_.BroadcastsInDim S1x32 (![] : Fin 0 → Fin S1x32.rank)
  reducesTo_S1x32_S_d0_1 : S1x32.ReducesTo [0, 1] S_
  bcast_S_S1x32x32x64x128 : S_.BroadcastsInDim S1x32x32x64x128 (![] : Fin 0 → Fin S1x32x32x64x128.rank)
  reducesTo_S1x32x32x64x128_S_d0_1_2_3_4 : S1x32x32x64x128.ReducesTo [0, 1, 2, 3, 4] S_

variable [Facts]

def fn_part1 {F : FTy → Type} [FloatOps F] (main_arg4 : FVec F S1x32x32x64x128 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S1x32x32x64x128 .f32 := Host.absf main_arg4
  let main_cst_6 : FVec F S_ .f32 := constant S_ .f32 0x7F800000#32
  let main_v20 : FVec F S1x32x32x64x128 .f32 := broadcastInDim S1x32x32x64x128 ![] bcast_S_S1x32x32x64x128 main_cst_6
  let main_v21 : IVec S1x32x32x64x128 1 := cmpf .olt main_v19 main_v20
  let main_c_7 : IVec S_ 1 := constantI S_ 1 1#1
  let main_v22 : IVec S_ 1 := (fun x v => Host.reduce IntOp.andi x v reducesTo_S1x32x32x64x128_S_d0_1_2_3_4 h_S_) main_v21 main_c_7
  let main_v23 : IVec S_ 1 := andi main_v18 main_v22
  main_v23

def fn {F : FTy → Type} [FloatOps F] (main_arg0 : FVec F S32x1x3072 .f32) (main_arg1 : FVec F S32x1x32 .f32) (main_arg2 : FVec F S1x32 .f32) (main_arg3 : FVec F S1x32 .f32) (main_arg4 : FVec F S1x32x32x64x128 .f32) : IVec S_ 1 :=
  let main_v0 : FVec F S32x1x3072 .f32 := Host.absf main_arg0
  let main_cst : FVec F S_ .f32 := constant S_ .f32 0x7F800000#32
  let main_v1 : FVec F S32x1x3072 .f32 := broadcastInDim S32x1x3072 ![] bcast_S_S32x1x3072 main_cst
  let main_v2 : IVec S32x1x3072 1 := cmpf .olt main_v0 main_v1
  let main_c : IVec S_ 1 := constantI S_ 1 1#1
  let main_v3 : IVec S_ 1 := (fun x v => Host.reduce IntOp.andi x v reducesTo_S32x1x3072_S_d0_1_2 h_S_) main_v2 main_c
  let main_v4 : FVec F S32x1x32 .f32 := Host.absf main_arg1
  let main_cst_0 : FVec F S_ .f32 := constant S_ .f32 0x7F800000#32
  let main_v5 : FVec F S32x1x32 .f32 := broadcastInDim S32x1x32 ![] bcast_S_S32x1x32 main_cst_0
  let main_v6 : IVec S32x1x32 1 := cmpf .olt main_v4 main_v5
  let main_c_1 : IVec S_ 1 := constantI S_ 1 1#1
  let main_v7 : IVec S_ 1 := (fun x v => Host.reduce IntOp.andi x v reducesTo_S32x1x32_S_d0_1_2 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg4 main_v13 main_v16
-- ==== Kernel.lean ====
abbrev S32x1x3072 : Shape := ⟨3, ![32, 1, 3072]⟩
abbrev S32x1x32 : Shape := ⟨3, ![32, 1, 32]⟩
abbrev S1x32 : Shape := ⟨2, ![1, 32]⟩
abbrev S1x32x32x64x128 : Shape := ⟨5, ![1, 32, 32, 64, 128]⟩
abbrev S32x3072 : Shape := ⟨2, ![32, 3072]⟩
abbrev S32x32 : Shape := ⟨2, ![32, 32]⟩
abbrev S_ : Shape := ⟨0, ![]⟩
abbrev S32x128 : Shape := ⟨2, ![32, 128]⟩
abbrev S32 : Shape := ⟨1, ![32]⟩
abbrev S1x128 : Shape := ⟨2, ![1, 128]⟩
abbrev S32x64 : Shape := ⟨2, ![32, 64]⟩
abbrev S2048 : Shape := ⟨1, ![2048]⟩
abbrev S1x2048 : Shape := ⟨2, ![1, 2048]⟩
abbrev S32x32x64x128 : Shape := ⟨4, ![32, 32, 64, 128]⟩
abbrev S32x2048x128 : Shape := ⟨3, ![32, 2048, 128]⟩
abbrev S128x2048 : Shape := ⟨2, ![128, 2048]⟩
abbrev S2048x128 : Shape := ⟨2, ![2048, 128]⟩
abbrev S32x1x128 : Shape := ⟨3, ![32, 1, 128]⟩
abbrev S32x1x2048 : Shape := ⟨3, ![32, 1, 2048]⟩
abbrev S1x1x2048 : Shape := ⟨3, ![1, 1, 2048]⟩
abbrev S1x1x512 : Shape := ⟨3, ![1, 1, 512]⟩
abbrev S1x1x128 : Shape := ⟨3, ![1, 1, 128]⟩
abbrev S1x2048x128 : Shape := ⟨3, ![1, 2048, 128]⟩
abbrev S128x128 : Shape := ⟨2, ![128, 128]⟩
abbrev S128 : Shape := ⟨1, ![128]⟩
abbrev S128x1 : Shape := ⟨2, ![128, 1]⟩
abbrev S512x512 : Shape := ⟨2, ![512, 512]⟩
abbrev S1x512 : Shape := ⟨2, ![1, 512]⟩
abbrev S512x128 : Shape := ⟨2, ![512, 128]⟩
abbrev S1x512x128 : Shape := ⟨3, ![1, 512, 128]⟩
abbrev S8x128 : Shape := ⟨2, ![8, 128]⟩
abbrev S8x512 : Shape := ⟨2, ![8, 512]⟩

abbrev nBuf : Space → Nat
  | .hbm => 41
  | .vmem => 18
  | .smem => 0
  | _ => 0

abbrev bufTy : (tb : Table) → Fin (tcTables nBuf tb) → BufTy
  | .hbm, ⟨0, _⟩ => ⟨S32x1x3072, .f32⟩
  | .hbm, ⟨1, _⟩ => ⟨S32x1x32, .f32⟩
  | .hbm, ⟨2, _⟩ => ⟨S1x32, .f32⟩
  | .hbm, ⟨3, _⟩ => ⟨S1x32, .f32⟩
  | .hbm, ⟨4, _⟩ => ⟨S1x32x32x64x128, .f32⟩
  | .hbm, ⟨5, _⟩ => ⟨S32x3072, .f32⟩
  | .hbm, ⟨6, _⟩ => ⟨S32x32, .f32⟩
  | .hbm, ⟨7, _⟩ => ⟨S_, .i32⟩
  | .hbm, ⟨8, _⟩ => ⟨S_, .f32⟩
  | .hbm, ⟨9, _⟩ => ⟨S32x128, .f32⟩
  | .hbm, ⟨10, _⟩ => ⟨S32, .f32⟩
  | .hbm, ⟨11, _⟩ => ⟨S1x32, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S32, .f32⟩
  | .hbm, ⟨16, _⟩ => ⟨S32x64, .f32⟩
  | .hbm, ⟨17, _⟩ => ⟨S2048, .f32⟩
  | .hbm, ⟨18, _⟩ => ⟨S1x2048, .f32⟩
  | .hbm, ⟨19, _⟩ => ⟨S32x32x64x128, .f32⟩
  | .hbm, ⟨20, _⟩ => ⟨S32x2048x128, .f32⟩
  | .hbm, ⟨21, _⟩ => ⟨S128x2048, .i32⟩
  | .hbm, ⟨22, _⟩ => ⟨S128x2048, .i32⟩
  | .hbm, ⟨23, _⟩ => ⟨S_, .i32⟩
  | .hbm, ⟨24, _⟩ => ⟨S128x2048, .i32⟩
  | .hbm, ⟨25, _⟩ => ⟨S128x2048, .i32⟩
  | .hbm, ⟨26, _⟩ => ⟨S128x2048, .i1⟩
  | .hbm, ⟨27, _⟩ => ⟨S128x2048, .i32⟩
  | .hbm, ⟨28, _⟩ => ⟨S128x2048, .bf16⟩
  | .hbm, ⟨29, _⟩ => ⟨S2048x128, .i32⟩
  | .hbm, ⟨30, _⟩ => ⟨S2048x128, .i32⟩
  | .hbm, ⟨31, _⟩ => ⟨S_, .i32⟩
  | .hbm, ⟨32, _⟩ => ⟨S2048x128, .i32⟩
  | .hbm, ⟨33, _⟩ => ⟨S2048x128, .i32⟩
  | .hbm, ⟨34, _⟩ => ⟨S2048x128, .i1⟩
  | .hbm, ⟨35, _⟩ => ⟨S2048x128, .i32⟩
  | .hbm, ⟨36, _⟩ => ⟨S2048x128, .bf16⟩
  | .hbm, ⟨37, _⟩ => ⟨S32x1x3072, .f32⟩
  | .hbm, ⟨38, _⟩ => ⟨S32x1x128, .f32⟩
  | .hbm, ⟨39, _⟩ => ⟨S32x1x2048, .f32⟩
  | .hbm, ⟨40, _⟩ => ⟨S32x2048x128, .f32⟩
  | .local _ .vmem, ⟨0, _⟩ => ⟨S1x1x2048, .f32⟩
  | .local _ .vmem, ⟨1, _⟩ => ⟨S1x1x2048, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x128, .f32⟩
  | .local _ .vmem, ⟨7, _⟩ => ⟨S1x1x128, .f32⟩
  | .local _ .vmem, ⟨8, _⟩ => ⟨S1x128, .f32⟩
  | .local _ .vmem, ⟨9, _⟩ => ⟨S1x2048, .f32⟩
  | .local _ .vmem, ⟨10, _⟩ => ⟨S128x2048, .bf16⟩
  | .local _ .vmem, ⟨11, _⟩ => ⟨S2048x128, .bf16⟩
  | .local _ .vmem, ⟨12, _⟩ => ⟨S1x2048x128, .f32⟩
  | .local _ .vmem, ⟨13, _⟩ => ⟨S1x2048x128, .f32⟩
  | .local _ .vmem, ⟨14, _⟩ => ⟨S1x1x2048, .f32⟩
  | .local _ .vmem, ⟨15, _⟩ => ⟨S1x1x2048, .f32⟩
  | .local _ .vmem, ⟨16, _⟩ => ⟨S1x2048x128, .f32⟩
  | .local _ .vmem, ⟨17, _⟩ => ⟨S1x2048x128, .f32⟩
  | _, _ => ⟨S32x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S32x1x3072 : Shape := ⟨3, ![32, 1, 3072]⟩
abbrev S32x1x32 : Shape := ⟨3, ![32, 1, 32]⟩
abbrev S1x32 : Shape := ⟨2, ![1, 32]⟩
abbrev S1x32x32x64x128 : Shape := ⟨5, ![1, 32, 32, 64, 128]⟩
abbrev S32x1x2048 : Shape := ⟨3, ![32, 1, 2048]⟩
abbrev S32x2048 : Shape := ⟨2, ![32, 2048]⟩
abbrev S32x4x8x64 : Shape := ⟨4, ![32, 4, 8, 64]⟩
abbrev S32x1x512 : Shape := ⟨3, ![32, 1, 512]⟩
abbrev S32x512 : Shape := ⟨2, ![32, 512]⟩
abbrev S32x4x128 : Shape := ⟨3, ![32, 4, 128]⟩
abbrev S32x4x8 : Shape := ⟨3, ![32, 4, 8]⟩
abbrev S32 : Shape := ⟨1, ![32]⟩
abbrev S4x8 : Shape := ⟨2, ![4, 8]⟩
abbrev S32x32x64x128 : Shape := ⟨4, ![32, 32, 64, 128]⟩
abbrev S32x4x8x64x128 : Shape := ⟨5, ![32, 4, 8, 64, 128]⟩
abbrev S1x4x8 : Shape := ⟨3, ![1, 4, 8]⟩
abbrev S_ : Shape := ⟨0, ![]⟩
abbrev S32x4 : Shape := ⟨2, ![32, 4]⟩
abbrev S32x4x1 : Shape := ⟨3, ![32, 4, 1]⟩
abbrev S32x4x8x1 : Shape := ⟨4, ![32, 4, 8, 1]⟩
abbrev S32x4x8x64x1 : Shape := ⟨5, ![32, 4, 8, 64, 1]⟩
abbrev S32x4x1x1x128 : Shape := ⟨5, ![32, 4, 1, 1, 128]⟩
abbrev S32x4x8x1x1 : Shape := ⟨5, ![32, 4, 8, 1, 1]⟩
abbrev S4x8x1 : Shape := ⟨3, ![4, 8, 1]⟩
abbrev S1x4x8x1 : Shape := ⟨4, ![1, 4, 8, 1]⟩
abbrev S32x2048x128 : Shape := ⟨3, ![32, 2048, 128]⟩

abbrev nBuf : Space → Nat
  | .hbm => 71
  | .vmem => 0
  | .smem => 0
  | _ => 0

abbrev bufTy : (tb : Table) → Fin (tcTables nBuf tb) → BufTy
  | .hbm, ⟨0, _⟩ => ⟨S32x1x3072, .f32⟩
  | .hbm, ⟨1, _⟩ => ⟨S32x1x32, .f32⟩
  | .hbm, ⟨2, _⟩ => ⟨S1x32, .f32⟩
  | .hbm, ⟨3, _⟩ => ⟨S1x32, .f32⟩
  | .hbm, ⟨4, _⟩ => ⟨S1x32x32x64x128, .f32⟩
  | .hbm, ⟨5, _⟩ => ⟨S32x1x2048, .f32⟩
  | .hbm, ⟨6, _⟩ => ⟨S32x2048, .f32⟩
  | .hbm, ⟨7, _⟩ => ⟨S32x4x8x64, .f32⟩
  | .hbm, ⟨8, _⟩ => ⟨S32x1x512, .f32⟩
  | .hbm, ⟨9, _⟩ => ⟨S32x512, .f32⟩
  | .hbm, ⟨10, _⟩ => ⟨S32x4x128, .f32⟩
  | .hbm, ⟨11, _⟩ => ⟨S32x1x512, .f32⟩
  | .hbm, ⟨12, _⟩ => ⟨S32x512, .f32⟩
  | .hbm, ⟨13, _⟩ => ⟨S32x4x128, .f32⟩
  | .hbm, ⟨14, _⟩ => ⟨S32x4x8, .f32⟩
  | .hbm, ⟨15, _⟩ => ⟨S32, .f32⟩
  | .hbm, ⟨16, _⟩ => ⟨S32, .f32⟩
  | .hbm, ⟨17, _⟩ => ⟨S4x8, .f32⟩
  | .hbm, ⟨18, _⟩ => ⟨S4x8, .f32⟩
  | .hbm, ⟨19, _⟩ => ⟨S32, .f32⟩
  | .hbm, ⟨20, _⟩ => ⟨S4x8, .f32⟩
  | .hbm, ⟨21, _⟩ => ⟨S32x32x64x128, .f32⟩
  | .hbm, ⟨22, _⟩ => ⟨S32x4x8x64x128, .f32⟩
  | .hbm, ⟨23, _⟩ => ⟨S1x4x8, .f32⟩
  | .hbm, ⟨24, _⟩ => ⟨S32x4x8, .f32⟩
  | .hbm, ⟨25, _⟩ => ⟨S32x4x8, .f32⟩
  | .hbm, ⟨26, _⟩ => ⟨S32x4x8, .f32⟩
  | .hbm, ⟨27, _⟩ => ⟨S32x4x8, .f32⟩
  | .hbm, ⟨28, _⟩ => ⟨S32x4x128, .f32⟩
  | .hbm, ⟨29, _⟩ => ⟨S_, .f32⟩
  | .hbm, ⟨30, _⟩ => ⟨S32x4, .f32⟩
  | .hbm, ⟨31, _⟩ => ⟨S32x4x1, .f32⟩
  | .hbm, ⟨32, _⟩ => ⟨S32x4x8, .f32⟩
  | .hbm, ⟨33, _⟩ => ⟨S32x4x8, .f32⟩
  | .hbm, ⟨34, _⟩ => ⟨S32x4x8, .f32⟩
  | .hbm, ⟨35, _⟩ => ⟨S32x4x8x1, .f32⟩
  | .hbm, ⟨36, _⟩ => ⟨S32x4x8x64, .f32⟩
  | .hbm, ⟨37, _⟩ => ⟨S32x4x8x64, .f32⟩
  | .hbm, ⟨38, _⟩ => ⟨S32x4x8, .f32⟩
  | .hbm, ⟨39, _⟩ => ⟨S32x4x8, .f32⟩
  | .hbm, ⟨40, _⟩ => ⟨S32x4x8, .f32⟩
  | .hbm, ⟨41, _⟩ => ⟨S32x4x8x1, .f32⟩
  | .hbm, ⟨42, _⟩ => ⟨S32x4x8x64, .f32⟩
  | .hbm, ⟨43, _⟩ => ⟨S32x4x8x64, .f32⟩
  | .hbm, ⟨44, _⟩ => ⟨S32x4x8x64x1, .f32⟩
  | .hbm, ⟨45, _⟩ => ⟨S32x4x1x1x128, .f32⟩
  | .hbm, ⟨46, _⟩ => ⟨S32x4x8x64x128, .f32⟩
  | .hbm, ⟨47, _⟩ => ⟨S32x4x8x64x128, .f32⟩
  | .hbm, ⟨48, _⟩ => ⟨S32x4x8x64x128, .f32⟩
  | .hbm, ⟨49, _⟩ => ⟨S32x4x8, .f32⟩
  | .hbm, ⟨50, _⟩ => ⟨S32x4x8x1x1, .f32⟩
  | .hbm, ⟨51, _⟩ => ⟨S32x4x8x64x128, .f32⟩
  | .hbm, ⟨52, _⟩ => ⟨S32x4x8x64x128, .f32⟩
  | .hbm, ⟨53, _⟩ => ⟨S32x4x8x64x128, .f32⟩
  | .hbm, ⟨54, _⟩ => ⟨S32x4x1x1x128, .f32⟩
  | .hbm, ⟨55, _⟩ => ⟨S32x4x8x64x128, .f32⟩
  | .hbm, ⟨56, _⟩ => ⟨S32x4x8x64x128, .f32⟩
  | .hbm, ⟨57, _⟩ => ⟨S_, .f32⟩
  | .hbm, ⟨58, _⟩ => ⟨S32x4x8x64, .f32⟩
  | .hbm, ⟨59, _⟩ => ⟨S32x4x8, .f32⟩
  | .hbm, ⟨60, _⟩ => ⟨S32x4x8x1, .f32⟩
  | .hbm, ⟨61, _⟩ => ⟨S32x4x8x64, .f32⟩
  | .hbm, ⟨62, _⟩ => ⟨S32x4x8x64, .f32⟩
  | .hbm, ⟨63, _⟩ => ⟨S32x4x8x64, .f32⟩
  | .hbm, ⟨64, _⟩ => ⟨S4x8x1, .f32⟩
  | .hbm, ⟨65, _⟩ => ⟨S1x4x8x1, .f32⟩
  | .hbm, ⟨66, _⟩ => ⟨S32x4x8x64, .f32⟩
  | .hbm, ⟨67, _⟩ => ⟨S32x4x8x64, .f32⟩
  | .hbm, ⟨68, _⟩ => ⟨S32x4x8x64, .f32⟩
  | .hbm, ⟨69, _⟩ => ⟨S32x1x2048, .f32⟩
  | .hbm, ⟨70, _⟩ => ⟨S32x2048x128, .f32⟩
  | _, _ => ⟨S32x1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_0 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x2048 : Shape := ⟨3, ![8, 2048, 2048]⟩
abbrev S8x1x1024 : Shape := ⟨3, ![8, 1, 1024]⟩
abbrev S2x1024 : Shape := ⟨2, ![2, 1024]⟩
abbrev S1x2048 : Shape := ⟨2, ![1, 2048]⟩
abbrev S1x2048x1024 : Shape := ⟨3, ![1, 2048, 1024]⟩
abbrev S2x1024x5632 : Shape := ⟨3, ![2, 1024, 5632]⟩
abbrev S2x2816x1024 : Shape := ⟨3, ![2, 2816, 1024]⟩
abbrev S16384x1024 : Shape := ⟨2, ![16384, 1024]⟩
abbrev S16384x2048 : Shape := ⟨2, ![16384, 2048]⟩
abbrev S2048x1024 : Shape := ⟨2, ![2048, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2048 : Shape := ⟨1, ![2048]⟩
abbrev S512x1024 : Shape := ⟨2, ![512, 1024]⟩
abbrev S512x2048 : Shape := ⟨2, ![512, 2048]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 37
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S8x2048x2048, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1x2048, .f32⟩
  | .hbm, ⟨11, _⟩ => ⟨S1x2048x1024, .f32⟩
  | .hbm, ⟨12, _⟩ => ⟨S2x1024x5632, .f32⟩
  | .hbm, ⟨13, _⟩ => ⟨S2x2816x1024, .f32⟩
  | .hbm, ⟨14, _⟩ => ⟨S16384x1024, .f32⟩
  | .hbm, ⟨15, _⟩ => ⟨S16384x2048, .f32⟩
  | .hbm, ⟨16, _⟩ => ⟨S16384x2048, .f32⟩
  | .hbm, ⟨17, _⟩ => ⟨S2048x1024, .f32⟩
  | .hbm, ⟨18, _⟩ => ⟨S2048x1024, .bf16⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2x1024x5632, .bf16⟩
  | .hbm, ⟨29, _⟩ => ⟨S1x1024x5632, .bf16⟩
  | .hbm, ⟨30, _⟩ => ⟨S1024x5632, .bf16⟩
  | .hbm, ⟨31, _⟩ => ⟨S2x2816x1024, .bf16⟩
  | .hbm, ⟨32, _⟩ => ⟨S1x2816x1024, .bf16⟩
  | .hbm, ⟨33, _⟩ => ⟨S2816x1024, .bf16⟩
  | .hbm, ⟨34, _⟩ => ⟨S2048, .f32⟩
  | .hbm, ⟨35, _⟩ => ⟨S1x2048, .f32⟩
  | .hbm, ⟨36, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1024x5632, .bf16⟩
  | .local _ .vmem, ⟨20, _⟩ => ⟨S2816x1024, .bf16⟩
  | .local _ .vmem, ⟨21, _⟩ => ⟨S512x1024, .f32⟩
  | .local _ .vmem, ⟨22, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x2048x1024 : Shape := ⟨3, ![8, 2048, 1024]⟩
abbrev S8x2048x2048 : Shape := ⟨3, ![8, 2048, 2048]⟩
abbrev S8x1x1024 : Shape := ⟨3, ![8, 1, 1024]⟩
abbrev S2x1024 : Shape := ⟨2, ![2, 1024]⟩
abbrev S1x2048 : Shape := ⟨2, ![1, 2048]⟩
abbrev S1x2048x1024 : Shape := ⟨3, ![1, 2048, 1024]⟩
abbrev S2x1024x5632 : Shape := ⟨3, ![2, 1024, 5632]⟩
abbrev S2x2816x1024 : Shape := ⟨3, ![2, 2816, 1024]⟩
abbrev S8x2048x4x512 : Shape := ⟨4, ![8, 2048, 4, 512]⟩
abbrev S_ : Shape := ⟨0, ![]⟩
abbrev S8x2048x4 : Shape := ⟨3, ![8, 2048, 4]⟩
abbrev S8x2048x4x1 : Shape := ⟨4, ![8, 2048, 4, 1]⟩
abbrev S2048 : Shape := ⟨1, ![2048]⟩
abbrev S1x1x2048 : Shape := ⟨3, ![1, 1, 2048]⟩
abbrev S2048x1024 : Shape := ⟨2, ![2048, 1024]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 132
  | .vmem => 0
  | .smem => 0
  | _ => 0

abbrev hbmTy0_0 (i : Nat) : BufTy := match i % 128 with
  | 0 => ⟨S8x2048x1024, .f32⟩
  | 1 => ⟨S8x2048x2048, .f32⟩
  | 2 => ⟨S8x2048x2048, .f32⟩
  | 3 => ⟨S8x1x1024, .f32⟩
  | 4 => ⟨S8x1x1024, .f32⟩
  | 5 => ⟨S8x1x1024, .f32⟩
  | 6 => ⟨S8x1x1024, .f32⟩
  | 7 => ⟨S2x1024, .f32⟩
  | 8 => ⟨S2x1024, .f32⟩
  | 9 => ⟨S2x1024, .f32⟩
  | 10 => ⟨S1x2048, .f32⟩
  | 11 => ⟨S1x2048x1024, .f32⟩
  | 12 => ⟨S2x1024x5632, .f32⟩
  | 13 => ⟨S2x2816x1024, .f32⟩
  | 14 => ⟨S8x2048x4x512, .f32⟩
  | 15 => ⟨S8x2048x2048, .f32⟩
  | 16 => ⟨S8x2048x2048, .f32⟩
  | 17 => ⟨S_, .f32⟩
  | 18 => ⟨S8x2048x2048, .f32⟩
  | 19 => ⟨S8x2048x2048, .f32⟩
  | 20 => ⟨S_, .f32⟩
  | 21 => ⟨S8x2048x2048, .f32⟩
  | 22 => ⟨S8x2048x2048, .f32⟩
  | 23 => ⟨S8x2048x2048, .f32⟩
  | 24 => ⟨S8x2048x4x512, .f32⟩
  | 25 => ⟨S8x2048x4x512, .f32⟩
  | 26 => ⟨S8x2048x4x512, .f32⟩
  | 27 => ⟨S_, .f32⟩
  | 28 => ⟨S8x2048x4, .f32⟩
  | 29 => ⟨S8x2048x4x1, .f32⟩
  | 30 => ⟨S_, .f32⟩
  | 31 => ⟨S8x2048x4x1, .f32⟩
  | 32 => ⟨S8x2048x4x1, .f32⟩
  | 33 => ⟨S_, .f32⟩
  | 34 => ⟨S8x2048x4x1, .f32⟩
  | 35 => ⟨S8x2048x4x1, .f32⟩
  | 36 => ⟨S8x2048x4x1, .f32⟩
  | 37 => ⟨S8x2048x4x512, .f32⟩
  | 38 => ⟨S8x2048x4x512, .f32⟩
  | 39 => ⟨S8x2048x2048, .f32⟩
  | 40 => ⟨S2048, .f32⟩
  | 41 => ⟨S1x1x2048, .f32⟩
  | 42 => ⟨S8x2048x2048, .f32⟩
  | 43 => ⟨S8x2048x2048, .f32⟩
  | 44 => ⟨S2048x1024, .f32⟩
  | 45 => ⟨S8x2048x1024, .f32⟩
  | 46 => ⟨S1x1024, .f32⟩
  | 47 => ⟨S1024, .f32⟩
  | 48 => ⟨S8x2048x1024, .f32⟩
  | 49 => ⟨S_, .f32⟩
  | 50 => ⟨S8x2048, .f32⟩
  | 51 => ⟨S8x2048x1, .f32⟩
  | 52 => ⟨S_, .f32⟩
  | 53 => ⟨S8x2048x1, .f32⟩
  | 54 => ⟨S8x2048x1, .f32⟩
  | 55 => ⟨S_, .f32⟩
  | 56 => ⟨S8x2048x1, .f32⟩
  | 57 => ⟨S8x2048x1, .f32⟩
  | 58 => ⟨S8x2048x1, .f32⟩
  | 59 => ⟨S8x2048x1024, .f32⟩
  | 60 => ⟨S8x2048x1024, .f32⟩
  | 61 => ⟨S1x1x1024, .f32⟩
  | 62 => ⟨S8x2048x1024, .f32⟩
  | 63 => ⟨S8x2048x1024, .f32⟩
  | 64 => ⟨S8x2048x1024, .f32⟩
  | 65 => ⟨S8x2048x1024, .f32⟩
  | 66 => ⟨S8x2048x1024, .f32⟩
  | 67 => ⟨S1x1024, .f32⟩
  | 68 => ⟨S1024, .f32⟩
  | 69 => ⟨S8x2048x1024, .f32⟩
  | 70 => ⟨S_, .f32⟩
  | 71 => ⟨S8x2048, .f32⟩
  | 72 => ⟨S8x2048x1, .f32⟩
  | 73 => ⟨S_, .f32⟩
  | 74 => ⟨S8x2048x1, .f32⟩
  | 75 => ⟨S8x2048x1, .f32⟩
  | 76 => ⟨S_, .f32⟩
  | 77 => ⟨S8x2048x1, .f32⟩
  | 78 => ⟨S8x2048x1, .f32⟩
  | 79 => ⟨S8x2048x1, .f32⟩
  | 80 => ⟨S8x2048x1024, .f32⟩
  | 81 => ⟨S8x2048x1024, .f32⟩
  | 82 => ⟨S1x1x1024, .f32⟩
  | 83 => ⟨S8x2048x1024, .f32⟩
  | 84 => ⟨S8x2048x1024, .f32⟩
  | 85 => ⟨S_, .f32⟩
  | 86 => ⟨S8x1x1024, .f32⟩
  | 87 => ⟨S8x1x1024, .f32⟩
  | 88 => ⟨S8x2048x1024, .f32⟩
  | 89 => ⟨S8x2048x1024, .f32⟩
  | 90 => ⟨S8x2048x1024, .f32⟩
  | 91 => ⟨S8x2048x1024, .f32⟩
  | 92 => ⟨S1x1024x5632, .f32⟩
  | 93 => ⟨S1024x5632, .f32⟩
  | 94 => ⟨S1x2816x1024, .f32⟩
  | 95 => ⟨S2816x1024, .f32⟩
  | 96 => ⟨S8x2048x5632, .f32⟩
  | 97 => ⟨S8x2048x2816, .f32⟩
  | 98 => ⟨S8x2048x2816, .f32⟩
  | 99 => ⟨S8x2048x2816, .f32⟩
  | 100 => ⟨S8x2048x2816, .f32⟩
  | 101 => ⟨S_, .f32⟩
  | 102 => ⟨S8x2048x2816, .f32⟩
  | 103 => ⟨S8x2048x2816, .f32⟩
  | 104 => ⟨S_, .f32⟩
  | 105 => ⟨S8x2048x2816, .f32⟩
  | 106 => ⟨S8x2048x2816, .f32⟩
  | 107 => ⟨S8x2048x2816, .f32⟩
  | 108 => ⟨S8x2048x2816, .f32⟩
  | 109 => ⟨S8x2048x1024, .f32⟩
  | 110 => ⟨S1x1024, .f32⟩
  | 111 => ⟨S1024, .f32⟩
  | 112 => ⟨S8x2048x1024, .f32⟩
  | 113 => ⟨S_, .f32⟩
  | 114 => ⟨S8x2048, .f32⟩
  | 115 => ⟨S8x2048x1, .f32⟩
  | 116 => ⟨S_, .f32⟩
  | 117 => ⟨S8x2048x1, .f32⟩
  | 118 => ⟨S8x2048x1, .f32⟩
  | 119 => ⟨S_, .f32⟩
  | 120 => ⟨S8x2048x1, .f32⟩
  | 121 => ⟨S8x2048x1, .f32⟩
  | 122 => ⟨S8x2048x1, .f32⟩
  | 123 => ⟨S8x2048x1024, .f32⟩
  | 124 => ⟨S8x2048x1024, .f32⟩
  | 125 => ⟨S1x1x1024, .f32⟩
  | 126 => ⟨S8x2048x1024, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S8x2048x1024, .f32⟩
  | 3 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_5 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_9 : Ref sig .tc := ⟨.hbm, 113, rfl⟩
abbrev main_v73 : Ref sig .tc := ⟨.hbm, 114, rfl⟩
abbrev main_v74 : Ref sig .tc := ⟨.hbm, 115, rfl⟩
abbrev main_cst_10 : Ref sig .tc := ⟨.hbm, 116, rfl⟩
abbrev main_v75 : Ref sig .tc := ⟨.hbm, 117, rfl⟩
abbrev main_v76 : Ref sig .tc := ⟨.hbm, 118, rfl⟩
abbrev main_cst_11 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S8x1x1024 : Shape := ⟨3, ![8, 1, 1024]⟩
abbrev S2x1024 : Shape := ⟨2, ![2, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S16384x1024 : Shape := ⟨2, ![16384, 1024]⟩
abbrev S16384x512 : Shape := ⟨2, ![16384, 512]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S512x1024 : Shape := ⟨2, ![512, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 34
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1x1024x1024, .f32⟩
  | .hbm, ⟨11, _⟩ => ⟨S2x1024x5632, .f32⟩
  | .hbm, ⟨12, _⟩ => ⟨S2x2816x1024, .f32⟩
  | .hbm, ⟨13, _⟩ => ⟨S16384x1024, .f32⟩
  | .hbm, ⟨14, _⟩ => ⟨S16384x512, .f32⟩
  | .hbm, ⟨15, _⟩ => ⟨S16384x512, .f32⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S2x1024x5632, .bf16⟩
  | .hbm, ⟨28, _⟩ => ⟨S1x1024x5632, .bf16⟩
  | .hbm, ⟨29, _⟩ => ⟨S1024x5632, .bf16⟩
  | .hbm, ⟨30, _⟩ => ⟨S2x2816x1024, .bf16⟩
  | .hbm, ⟨31, _⟩ => ⟨S1x2816x1024, .bf16⟩
  | .hbm, ⟨32, _⟩ => ⟨S2816x1024, .bf16⟩
  | .hbm, ⟨33, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1024x5632, .bf16⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8x2048x1024 : Shape := ⟨3, ![8, 2048, 1024]⟩
abbrev S8x2048x512 : Shape := ⟨3, ![8, 2048, 512]⟩
abbrev S8x1x1024 : Shape := ⟨3, ![8, 1, 1024]⟩
abbrev S2x1024 : Shape := ⟨2, ![2, 1024]⟩
abbrev S1x1024x1024 : Shape := ⟨3, ![1, 1024, 1024]⟩
abbrev S2x1024x5632 : Shape := ⟨3, ![2, 1024, 5632]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1x1024x1024, .f32⟩
  | .hbm, ⟨11, _⟩ => ⟨S2x1024x5632, .f32⟩
  | .hbm, ⟨12, _⟩ => ⟨S2x2816x1024, .f32⟩
  | .hbm, ⟨13, _⟩ => ⟨S8x2048x1024, .f32⟩
  | .hbm, ⟨14, _⟩ => ⟨S1024x1024, .f32⟩
  | .hbm, ⟨15, _⟩ => ⟨S8x2048x1024, .f32⟩
  | .hbm, ⟨16, _⟩ => ⟨S1x1024, .f32⟩
  | .hbm, ⟨17, _⟩ => ⟨S1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S1x1024, .f32⟩
  | .hbm, ⟨38, _⟩ => ⟨S1024, .f32⟩
  | .hbm, ⟨39, _⟩ => ⟨S8x2048x1024, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x1, .f32⟩
  | .hbm, ⟨50, _⟩ => ⟨S8x2048x1024, .f32⟩
  | .hbm, ⟨51, _⟩ => ⟨S8x2048x1024, .f32⟩
  | .hbm, ⟨52, _⟩ => ⟨S1x1x1024, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x1x1024, .f32⟩
  | .hbm, ⟨57, _⟩ => ⟨S8x1x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S1x1024x5632, .f32⟩
  | .hbm, ⟨63, _⟩ => ⟨S1024x5632, .f32⟩
  | .hbm, ⟨64, _⟩ => ⟨S1x2816x1024, .f32⟩
  | .hbm, ⟨65, _⟩ => ⟨S2816x1024, .f32⟩
  | .hbm, ⟨66, _⟩ => ⟨S8x2048x5632, .f32⟩
  | .hbm, ⟨67, _⟩ => ⟨S8x2048x2816, .f32⟩
  | .hbm, ⟨68, _⟩ => ⟨S8x2048x2816, .f32⟩
  | .hbm, ⟨69, _⟩ => ⟨S8x2048x2816, .f32⟩
  | .hbm, ⟨70, _⟩ => ⟨S8x2048x2816, .f32⟩
  | .hbm, ⟨71, _⟩ => ⟨S_, .f32⟩
  | .hbm, ⟨72, _⟩ => ⟨S8x2048x2816, .f32⟩
  | .hbm, ⟨73, _⟩ => ⟨S8x2048x2816, .f32⟩
  | .hbm, ⟨74, _⟩ => ⟨S_, .f32⟩
  | .hbm, ⟨75, _⟩ => ⟨S8x2048x2816, .f32⟩
  | .hbm, ⟨76, _⟩ => ⟨S8x2048x2816, .f32⟩
  | .hbm, ⟨77, _⟩ => ⟨S8x2048x2816, .f32⟩
  | .hbm, ⟨78, _⟩ => ⟨S8x2048x2816, .f32⟩
  | .hbm, ⟨79, _⟩ => ⟨S8x2048x1024, .f32⟩
  | .hbm, ⟨80, _⟩ => ⟨S1x1024, .f32⟩
  | .hbm, ⟨81, _⟩ => ⟨S1024, .f32⟩
  | .hbm, ⟨82, _⟩ => ⟨S8x2048x1024, .f32⟩
  | .hbm, ⟨83, _⟩ => ⟨S_, .f32⟩
  | .hbm, ⟨84, _⟩ => ⟨S8x2048, .f32⟩
  | .hbm, ⟨85, _⟩ => ⟨S8x2048x1, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S_, .f32⟩
  | .hbm, ⟨90, _⟩ => ⟨S8x2048x1, .f32⟩
  | .hbm, ⟨91, _⟩ => ⟨S8x2048x1, .f32⟩
  | .hbm, ⟨92, _⟩ => ⟨S8x2048x1, .f32⟩
  | .hbm, ⟨93, _⟩ => ⟨S8x2048x1024, .f32⟩
  | .hbm, ⟨94, _⟩ => ⟨S8x2048x1024, .f32⟩
  | .hbm, ⟨95, _⟩ => ⟨S1x1x1024, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | .hbm, ⟨99, _⟩ => ⟨S8x2048x1024, .f32⟩
  | .hbm, ⟨100, _⟩ => ⟨S8x2048x1024, .f32⟩
  | .hbm, ⟨101, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]
-- ==== Kernel4.lean ====
abbrev S32x1x1024 : Shape := ⟨3, ![32, 1, 1024]⟩
abbrev S2x1024 : Shape := ⟨2, ![2, 1024]⟩
abbrev S1x1024x5152 : Shape := ⟨3, ![1, 1024, 5152]⟩
abbrev S1x4x3072 : Shape := ⟨3, ![1, 4, 3072]⟩
abbrev S1x3072 : Shape := ⟨2, ![1, 3072]⟩
abbrev S1x32 : Shape := ⟨2, ![1, 32]⟩
abbrev S1x32x3x3072 : Shape := ⟨4, ![1, 32, 3, 3072]⟩
abbrev S32x1024 : Shape := ⟨2, ![32, 1024]⟩
abbrev S1x32x1024 : Shape := ⟨3, ![1, 32, 1024]⟩
abbrev S1x1024 : Shape := ⟨2, ![1, 1024]⟩
abbrev S1024 : Shape := ⟨1, ![1024]⟩
abbrev S1024x5152 : Shape := ⟨2, ![1024, 5152]⟩
abbrev S5152x1024 : Shape := ⟨2, ![5152, 1024]⟩
abbrev S2048x1024 : Shape := ⟨2, ![2048, 1024]⟩
abbrev S3072x1024 : Shape := ⟨2, ![3072, 1024]⟩
abbrev S_ : Shape := ⟨0, ![]⟩
abbrev S128x1024 : Shape := ⟨2, ![128, 1024]⟩
abbrev S32 : Shape := ⟨1, ![32]⟩
abbrev S1x128 : Shape := ⟨2, ![1, 128]⟩
abbrev S4x3072 : Shape := ⟨2, ![4, 3072]⟩
abbrev S3072 : Shape := ⟨1, ![3072]⟩
abbrev S32x3x3072 : Shape := ⟨3, ![32, 3, 3072]⟩
abbrev S3x32x3072 : Shape := ⟨3, ![3, 32, 3072]⟩
abbrev S32x2048 : Shape := ⟨2, ![32, 2048]⟩
abbrev S32x3072 : Shape := ⟨2, ![32, 3072]⟩
abbrev S32x128 : Shape := ⟨2, ![32, 128]⟩
abbrev S32x1 : Shape := ⟨2, ![32, 1]⟩
abbrev S1x32x3072 : Shape := ⟨3, ![1, 32, 3072]⟩

abbrev nBuf : Space → Nat
  | .hbm => 40
  | .vmem => 15
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S2x1024, .f32⟩
  | .hbm, ⟨4, _⟩ => ⟨S1x1024x5152, .f32⟩
  | .hbm, ⟨5, _⟩ => ⟨S1x4x3072, .f32⟩
  | .hbm, ⟨6, _⟩ => ⟨S1x3072, .f32⟩
  | .hbm, ⟨7, _⟩ => ⟨S1x32, .f32⟩
  | .hbm, ⟨8, _⟩ => ⟨S1x32x3x3072, .f32⟩
  | .hbm, ⟨9, _⟩ => ⟨S32x1024, .f32⟩
  | .hbm, ⟨10, _⟩ => ⟨S1x32x1024, .f32⟩
  | .hbm, ⟨11, _⟩ => ⟨S1x32x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024x5152, .f32⟩
  | .hbm, ⟨16, _⟩ => ⟨S5152x1024, .f32⟩
  | .hbm, ⟨17, _⟩ => ⟨S2048x1024, .f32⟩
  | .hbm, ⟨18, _⟩ => ⟨S2048x1024, .bf16⟩
  | .hbm, ⟨19, _⟩ => ⟨S3072x1024, .f32⟩
  | .hbm, ⟨20, _⟩ => ⟨S3072x1024, .bf16⟩
  | .hbm, ⟨21, _⟩ => ⟨S32x1024, .f32⟩
  | .hbm, ⟨22, _⟩ => ⟨S_, .i32⟩
  | .hbm, ⟨23, _⟩ => ⟨S_, .f32⟩
  | .hbm, ⟨24, _⟩ => ⟨S128x1024, .f32⟩
  | .hbm, ⟨25, _⟩ => ⟨S128x1024, .bf16⟩
  | .hbm, ⟨26, _⟩ => ⟨S32, .f32⟩
  | .hbm, ⟨27, _⟩ => ⟨S1x32, .f32⟩
  | .hbm, ⟨28, _⟩ => ⟨S_, .i32⟩
  | .hbm, ⟨29, _⟩ => ⟨S_, .f32⟩
  | .hbm, ⟨30, _⟩ => ⟨S1x128, .f32⟩
  | .hbm, ⟨31, _⟩ => ⟨S4x3072, .f32⟩
  | .hbm, ⟨32, _⟩ => ⟨S3072, .f32⟩
  | .hbm, ⟨33, _⟩ => ⟨S1x3072, .f32⟩
  | .hbm, ⟨34, _⟩ => ⟨S32x3x3072, .f32⟩
  | .hbm, ⟨35, _⟩ => ⟨S3x32x3072, .f32⟩
  | .hbm, ⟨36, _⟩ => ⟨S32x2048, .f32⟩
  | .hbm, ⟨37, _⟩ => ⟨S32x3072, .f32⟩
  | .hbm, ⟨38, _⟩ => ⟨S32x128, .f32⟩
  | .hbm, ⟨39, _⟩ => ⟨S3x32x3072, .f32⟩
  | .local _ .vmem, ⟨0, _⟩ => ⟨S32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x1024, .f32⟩
  | .local _ .vmem, ⟨4, _⟩ => ⟨S2048x1024, .bf16⟩
  | .local _ .vmem, ⟨5, _⟩ => ⟨S3072x1024, .bf16⟩
  | .local _ .vmem, ⟨6, _⟩ => ⟨S128x1024, .bf16⟩
  | .local _ .vmem, ⟨7, _⟩ => ⟨S1x128, .f32⟩
  | .local _ .vmem, ⟨8, _⟩ => ⟨S4x3072, .f32⟩
  | .local _ .vmem, ⟨9, _⟩ => ⟨S1x3072, .f32⟩
  | .local _ .vmem, ⟨10, _⟩ => ⟨S3x32x3072, .f32⟩
  | .local _ .vmem, ⟨11, _⟩ => ⟨S32x2048, .f32⟩
  | .local _ .vmem, ⟨12, _⟩ => ⟨S32x3072, .f32⟩
  | .local _ .vmem, ⟨13, _⟩ => ⟨S32x128, .f32⟩
  | .local _ .vmem, ⟨14, _⟩ => ⟨S3x32x3072, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev main_v23_3 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x32x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S3x32x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S32x1x1024 : Shape := ⟨3, ![32, 1, 1024]⟩
abbrev S2x1024 : Shape := ⟨2, ![2, 1024]⟩
abbrev S1x1024x5152 : Shape := ⟨3, ![1, 1024, 5152]⟩
abbrev S1x4x3072 : Shape := ⟨3, ![1, 4, 3072]⟩
abbrev S1x3072 : Shape := ⟨2, ![1, 3072]⟩
abbrev S1x32 : Shape := ⟨2, ![1, 32]⟩
abbrev S1x32x3x3072 : Shape := ⟨4, ![1, 32, 3, 3072]⟩
abbrev S1x1024 : Shape := ⟨2, ![1, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x5152 : Shape := ⟨2, ![1024, 5152]⟩
abbrev S32x1x5152 : Shape := ⟨3, ![32, 1, 5152]⟩
abbrev S32x1x2048 : Shape := ⟨3, ![32, 1, 2048]⟩
abbrev S32x1x3072 : Shape := ⟨3, ![32, 1, 3072]⟩
abbrev S32x1x32 : Shape := ⟨3, ![32, 1, 32]⟩
abbrev S32x3x3072 : Shape := ⟨3, ![32, 3, 3072]⟩
abbrev S4x3072 : Shape := ⟨2, ![4, 3072]⟩
abbrev S3072 : Shape := ⟨1, ![3072]⟩
abbrev S32x4x3072 : Shape := ⟨3, ![32, 4, 3072]⟩
abbrev S1x1x3072 : Shape := ⟨3, ![1, 1, 3072]⟩
abbrev S32 : Shape := ⟨1, ![32]⟩
abbrev S1x1x32 : Shape := ⟨3, ![1, 1, 32]⟩
abbrev S32x1x128 : Shape := ⟨3, ![32, 1, 128]⟩
abbrev S32x2048 : Shape := ⟨2, ![32, 2048]⟩
abbrev S32x3072 : Shape := ⟨2, ![32, 3072]⟩
abbrev S32x128 : Shape := ⟨2, ![32, 128]⟩
abbrev S3x32x3072 : Shape := ⟨3, ![3, 32, 3072]⟩

abbrev nBuf : Space → Nat
  | .hbm => 109
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S2x1024, .f32⟩
  | .hbm, ⟨4, _⟩ => ⟨S1x1024x5152, .f32⟩
  | .hbm, ⟨5, _⟩ => ⟨S1x4x3072, .f32⟩
  | .hbm, ⟨6, _⟩ => ⟨S1x3072, .f32⟩
  | .hbm, ⟨7, _⟩ => ⟨S1x32, .f32⟩
  | .hbm, ⟨8, _⟩ => ⟨S1x32x3x3072, .f32⟩
  | .hbm, ⟨9, _⟩ => ⟨S1x1024, .f32⟩
  | .hbm, ⟨10, _⟩ => ⟨S1024, .f32⟩
  | .hbm, ⟨11, _⟩ => ⟨S32x1x1024, .f32⟩
  | .hbm, ⟨12, _⟩ => ⟨S_, .f32⟩
  | .hbm, ⟨13, _⟩ => ⟨S32x1, .f32⟩
  | .hbm, ⟨14, _⟩ => ⟨S32x1x1, .f32⟩
  | .hbm, ⟨15, _⟩ => ⟨S_, .f32⟩
  | .hbm, ⟨16, _⟩ => ⟨S32x1x1, .f32⟩
  | .hbm, ⟨17, _⟩ => ⟨S32x1x1, .f32⟩
  | .hbm, ⟨18, _⟩ => ⟨S_, .f32⟩
  | .hbm, ⟨19, _⟩ => ⟨S32x1x1, .f32⟩
  | .hbm, ⟨20, _⟩ => ⟨S32x1x1, .f32⟩
  | .hbm, ⟨21, _⟩ => ⟨S32x1x1, .f32⟩
  | .hbm, ⟨22, _⟩ => ⟨S32x1x1024, .f32⟩
  | .hbm, ⟨23, _⟩ => ⟨S32x1x1024, .f32⟩
  | .hbm, ⟨24, _⟩ => ⟨S1x1x1024, .f32⟩
  | .hbm, ⟨25, _⟩ => ⟨S32x1x1024, .f32⟩
  | .hbm, ⟨26, _⟩ => ⟨S32x1x1024, .f32⟩
  | .hbm, ⟨27, _⟩ => ⟨S_, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S32x1x1024, .f32⟩
  | .hbm, ⟨32, _⟩ => ⟨S1024x5152, .f32⟩
  | .hbm, ⟨33, _⟩ => ⟨S32x1x5152, .f32⟩
  | .hbm, ⟨34, _⟩ => ⟨S32x1x2048, .f32⟩
  | .hbm, ⟨35, _⟩ => ⟨S32x1x3072, .f32⟩
  | .hbm, ⟨36, _⟩ => ⟨S32x1x32, .f32⟩
  | .hbm, ⟨37, _⟩ => ⟨S32x3x3072, .f32⟩
  | .hbm, ⟨38, _⟩ => ⟨S4x3072, .f32⟩
  | .hbm, ⟨39, _⟩ => ⟨S3072, .f32⟩
  | .hbm, ⟨40, _⟩ => ⟨S32x4x3072, .f32⟩
  | .hbm, ⟨41, _⟩ => ⟨S32x1x3072, .f32⟩
  | .hbm, ⟨42, _⟩ => ⟨S1x3072, .f32⟩
  | .hbm, ⟨43, _⟩ => ⟨S3072, .f32⟩
  | .hbm, ⟨44, _⟩ => ⟨S1x1x3072, .f32⟩
  | .hbm, ⟨45, _⟩ => ⟨S32x1x3072, .f32⟩
  | .hbm, ⟨46, _⟩ => ⟨S32x1x3072, .f32⟩
  | .hbm, ⟨47, _⟩ => ⟨S_, .f32⟩
  | .hbm, ⟨48, _⟩ => ⟨S32x1x3072, .f32⟩
  | .hbm, ⟨49, _⟩ => ⟨S32x1x3072, .f32⟩
  | .hbm, ⟨50, _⟩ => ⟨S32x1x3072, .f32⟩
  | .hbm, ⟨51, _⟩ => ⟨S1x3072, .f32⟩
  | .hbm, ⟨52, _⟩ => ⟨S3072, .f32⟩
  | .hbm, ⟨53, _⟩ => ⟨S1x1x3072, .f32⟩
  | .hbm, ⟨54, _⟩ => ⟨S32x1x3072, .f32⟩
  | .hbm, ⟨55, _⟩ => ⟨S32x1x3072, .f32⟩
  | .hbm, ⟨56, _⟩ => ⟨S32x1x3072, .f32⟩
  | .hbm, ⟨57, _⟩ => ⟨S32x1x3072, .f32⟩
  | .hbm, ⟨58, _⟩ => ⟨S1x3072, .f32⟩
  | .hbm, ⟨59, _⟩ => ⟨S3072, .f32⟩
  | .hbm, ⟨60, _⟩ => ⟨S1x1x3072, .f32⟩
  | .hbm, ⟨61, _⟩ => ⟨S32x1x3072, .f32⟩
  | .hbm, ⟨62, _⟩ => ⟨S32x1x3072, .f32⟩
  | .hbm, ⟨63, _⟩ => ⟨S32x1x3072, .f32⟩
  | .hbm, ⟨64, _⟩ => ⟨S32x1x3072, .f32⟩
  | .hbm, ⟨65, _⟩ => ⟨S1x3072, .f32⟩
  | .hbm, ⟨66, _⟩ => ⟨S3072, .f32⟩
  | .hbm, ⟨67, _⟩ => ⟨S1x1x3072, .f32⟩
  | .hbm, ⟨68, _⟩ => ⟨S32x1x3072, .f32⟩
  | .hbm, ⟨69, _⟩ => ⟨S32x1x3072, .f32⟩
  | .hbm, ⟨70, _⟩ => ⟨S32x1x3072, .f32⟩
  | .hbm, ⟨71, _⟩ => ⟨S1x1x3072, .f32⟩
  | .hbm, ⟨72, _⟩ => ⟨S32x1x3072, .f32⟩
  | .hbm, ⟨73, _⟩ => ⟨S32x1x3072, .f32⟩
  | .hbm, ⟨74, _⟩ => ⟨S32x1x3072, .f32⟩
  | .hbm, ⟨75, _⟩ => ⟨S32x1x3072, .f32⟩
  | .hbm, ⟨76, _⟩ => ⟨S_, .f32⟩
  | .hbm, ⟨77, _⟩ => ⟨S32x1x3072, .f32⟩
  | .hbm, ⟨78, _⟩ => ⟨S32x1x3072, .f32⟩
  | .hbm, ⟨79, _⟩ => ⟨S_, .f32⟩
  | .hbm, ⟨80, _⟩ => ⟨S32x1x3072, .f32⟩
  | .hbm, ⟨81, _⟩ => ⟨S32x1x3072, .f32⟩
  | .hbm, ⟨82, _⟩ => ⟨S32x1x3072, .f32⟩
  | .hbm, ⟨83, _⟩ => ⟨S32x3x3072, .f32⟩
  | .hbm, ⟨84, _⟩ => ⟨S32, .f32⟩
  | .hbm, ⟨85, _⟩ => ⟨S1x1x32, .f32⟩
  | .hbm, ⟨86, _⟩ => ⟨S32x1x32, .f32⟩
  | .hbm, ⟨87, _⟩ => ⟨S32x1x32, .f32⟩
  | .hbm, ⟨88, _⟩ => ⟨S_, .i32⟩
  | .hbm, ⟨89, _⟩ => ⟨S_, .f32⟩
  | .hbm, ⟨90, _⟩ => ⟨S32x1x128, .f32⟩
  | .hbm, ⟨91, _⟩ => ⟨S_, .f32⟩
  | .hbm, ⟨92, _⟩ => ⟨S32x1x128, .f32⟩
  | .hbm, ⟨93, _⟩ => ⟨S32x1x128, .f32⟩
  | .hbm, ⟨94, _⟩ => ⟨S32x1x128, .f32⟩
  | .hbm, ⟨95, _⟩ => ⟨S32x1x128, .f32⟩
  | .hbm, ⟨96, _⟩ => ⟨S32x1x128, .i1⟩
  | .hbm, ⟨97, _⟩ => ⟨S32x1x128, .f32⟩
  | .hbm, ⟨98, _⟩ => ⟨S32x1x128, .f32⟩
  | .hbm, ⟨99, _⟩ => ⟨S32x1x128, .f32⟩
  | .hbm, ⟨100, _⟩ => ⟨S32x1x128, .f32⟩
  | .hbm, ⟨101, _⟩ => ⟨S32x1x128, .f32⟩
  | .hbm, ⟨102, _⟩ => ⟨S32x1x128, .f32⟩
  | .hbm, ⟨103, _⟩ => ⟨S32x1x128, .f32⟩
  | .hbm, ⟨104, _⟩ => ⟨S32x1x128, .f32⟩
  | .hbm, ⟨105, _⟩ => ⟨S32x2048, .f32⟩
  | .hbm, ⟨106, _⟩ => ⟨S32x3072, .f32⟩
  | .hbm, ⟨107, _⟩ => ⟨S32x128, .f32⟩
  | .hbm, ⟨108, _⟩ => ⟨S3x32x3072, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c : Ref sig .tc := ⟨.hbm, 88, rfl⟩
abbrev main_call1_v0 : Ref sig .tc := ⟨.hbm, 89, rfl⟩
abbrev main_v66 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩

abbrev nD : Nat := 1
abbrev τ : Topo := Topo.v7x

variable {F : FTy → Type} [FloatOps F]
-- ==== Kernel5.lean ====
abbrev S32x1x1024 : Shape := ⟨3, ![32, 1, 1024]⟩
abbrev S2x1024 : Shape := ⟨2, ![2, 1024]⟩
abbrev S1x1024x3080 : Shape := ⟨3, ![1, 1024, 3080]⟩
abbrev S1x8 : Shape := ⟨2, ![1, 8]⟩
abbrev S1024x3080 : Shape := ⟨2, ![1024, 3080]⟩
abbrev S3080x1024 : Shape := ⟨2, ![3080, 1024]⟩
abbrev S32x1024 : Shape := ⟨2, ![32, 1024]⟩
abbrev S1x32x1024 : Shape := ⟨3, ![1, 32, 1024]⟩
abbrev S1x1024 : Shape := ⟨2, ![1, 1024]⟩
abbrev S1024 : Shape := ⟨1, ![1024]⟩
abbrev S3072x1024 : Shape := ⟨2, ![3072, 1024]⟩
abbrev S8x1024 : Shape := ⟨2, ![8, 1024]⟩
abbrev S8 : Shape := ⟨1, ![8]⟩
abbrev S_ : Shape := ⟨0, ![]⟩
abbrev S1x48 : Shape := ⟨2, ![1, 48]⟩
abbrev S1x64 : Shape := ⟨2, ![1, 64]⟩
abbrev S1x56 : Shape := ⟨2, ![1, 56]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x1x128 : Shape := ⟨3, ![1, 1, 128]⟩
abbrev S32x512 : Shape := ⟨2, ![32, 512]⟩
abbrev S32x8 : Shape := ⟨2, ![32, 8]⟩
abbrev S32 : Shape := ⟨1, ![32]⟩
abbrev S32x1 : Shape := ⟨2, ![32, 1]⟩
abbrev S512x1024 : Shape := ⟨2, ![512, 1024]⟩
abbrev S32x128 : Shape := ⟨2, ![32, 128]⟩

abbrev nBuf : Space → Nat
  | .hbm => 52
  | .vmem => 17
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S2x1024, .f32⟩
  | .hbm, ⟨4, _⟩ => ⟨S1x1024x3080, .f32⟩
  | .hbm, ⟨5, _⟩ => ⟨S1x8, .f32⟩
  | .hbm, ⟨6, _⟩ => ⟨S1x8, .f32⟩
  | .hbm, ⟨7, _⟩ => ⟨S1x8, .f32⟩
  | .hbm, ⟨8, _⟩ => ⟨S1024x3080, .f32⟩
  | .hbm, ⟨9, _⟩ => ⟨S3080x1024, .f32⟩
  | .hbm, ⟨10, _⟩ => ⟨S32x1024, .f32⟩
  | .hbm, ⟨11, _⟩ => ⟨S1x32x1024, .f32⟩
  | .hbm, ⟨12, _⟩ => ⟨S1x32x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S3072x1024, .f32⟩
  | .hbm, ⟨17, _⟩ => ⟨S3072x1024, .bf16⟩
  | .hbm, ⟨18, _⟩ => ⟨S8x1024, .f32⟩
  | .hbm, ⟨19, _⟩ => ⟨S8, .f32⟩
  | .hbm, ⟨20, _⟩ => ⟨S_, .f32⟩
  | .hbm, ⟨21, _⟩ => ⟨S1x48, .f32⟩
  | .hbm, ⟨22, _⟩ => ⟨S1x64, .f32⟩
  | .hbm, ⟨23, _⟩ => ⟨S1x8, .f32⟩
  | .hbm, ⟨24, _⟩ => ⟨S_, .f32⟩
  | .hbm, ⟨25, _⟩ => ⟨S1x56, .f32⟩
  | .hbm, ⟨26, _⟩ => ⟨S1x64, .f32⟩
  | .hbm, ⟨27, _⟩ => ⟨S_, .f32⟩
  | .hbm, ⟨28, _⟩ => ⟨S1x8, .f32⟩
  | .hbm, ⟨29, _⟩ => ⟨S_, .f32⟩
  | .hbm, ⟨30, _⟩ => ⟨S1x48, .f32⟩
  | .hbm, ⟨31, _⟩ => ⟨S1x64, .f32⟩
  | .hbm, ⟨32, _⟩ => ⟨S1x1x1x64, .f32⟩
  | .hbm, ⟨33, _⟩ => ⟨S1x1x2x64, .f32⟩
  | .hbm, ⟨34, _⟩ => ⟨S1x128, .f32⟩
  | .hbm, ⟨35, _⟩ => ⟨S1x1x128, .f32⟩
  | .hbm, ⟨36, _⟩ => ⟨S1x1x1x64, .f32⟩
  | .hbm, ⟨37, _⟩ => ⟨S1x1x2x64, .f32⟩
  | .hbm, ⟨38, _⟩ => ⟨S1x128, .f32⟩
  | .hbm, ⟨39, _⟩ => ⟨S1x1x128, .f32⟩
  | .hbm, ⟨40, _⟩ => ⟨S1x1x1x64, .f32⟩
  | .hbm, ⟨41, _⟩ => ⟨S1x1x2x64, .f32⟩
  | .hbm, ⟨42, _⟩ => ⟨S1x128, .f32⟩
  | .hbm, ⟨43, _⟩ => ⟨S1x1x128, .f32⟩
  | .hbm, ⟨44, _⟩ => ⟨S1x8, .f32⟩
  | .hbm, ⟨45, _⟩ => ⟨S32x512, .f32⟩
  | .hbm, ⟨46, _⟩ => ⟨S32x512, .f32⟩
  | .hbm, ⟨47, _⟩ => ⟨S32x512, .f32⟩
  | .hbm, ⟨48, _⟩ => ⟨S32x512, .f32⟩
  | .hbm, ⟨49, _⟩ => ⟨S32x512, .f32⟩
  | .hbm, ⟨50, _⟩ => ⟨S32x512, .f32⟩
  | .hbm, ⟨51, _⟩ => ⟨S32x8, .f32⟩
  | .local _ .vmem, ⟨0, _⟩ => ⟨S32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x1024, .f32⟩
  | .local _ .vmem, ⟨4, _⟩ => ⟨S3072x1024, .bf16⟩
  | .local _ .vmem, ⟨5, _⟩ => ⟨S8x1024, .f32⟩
  | .local _ .vmem, ⟨6, _⟩ => ⟨S1x8, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S32x8, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev main_v33_2 : Ref sig .tc := ⟨.hbm, 47, rfl⟩
abbrev main_v33_3 : Ref sig .tc := ⟨.hbm, 48, rfl⟩
abbrev main_v33_4 : Ref sig .tc := ⟨.hbm, 49, rfl⟩
abbrev main_v33_5 : Ref sig .tc := ⟨.hbm, 50, rfl⟩
abbrev main_v33_6 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== Reference5Ideal.lean ====
abbrev S32x1x1024 : Shape := ⟨3, ![32, 1, 1024]⟩
abbrev S2x1024 : Shape := ⟨2, ![2, 1024]⟩
abbrev S1x1024x3080 : Shape := ⟨3, ![1, 1024, 3080]⟩
abbrev S1x8 : Shape := ⟨2, ![1, 8]⟩
abbrev S1x1024 : Shape := ⟨2, ![1, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x3080 : Shape := ⟨2, ![1024, 3080]⟩
abbrev S8 : Shape := ⟨1, ![8]⟩
abbrev S32x1x3080 : Shape := ⟨3, ![32, 1, 3080]⟩
abbrev S32x1x512 : Shape := ⟨3, ![32, 1, 512]⟩
abbrev S32x1x8 : Shape := ⟨3, ![32, 1, 8]⟩
abbrev S32x1x8x64 : Shape := ⟨4, ![32, 1, 8, 64]⟩
abbrev S1x1x8 : Shape := ⟨3, ![1, 1, 8]⟩
abbrev S32x1x8x16 : Shape := ⟨4, ![32, 1, 8, 16]⟩
abbrev S32x1x8x8 : Shape := ⟨4, ![32, 1, 8, 8]⟩
abbrev S1x1x1x8 : Shape := ⟨4, ![1, 1, 1, 8]⟩
abbrev S32x1x8x48 : Shape := ⟨4, ![32, 1, 8, 48]⟩
abbrev S32x512 : Shape := ⟨2, ![32, 512]⟩
abbrev S32x8 : Shape := ⟨2, ![32, 8]⟩

abbrev nBuf : Space → Nat
  | .hbm => 117
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x1024, .f32⟩
  | .hbm, ⟨2, _⟩ => ⟨S32x1x1024, .f32⟩
  | .hbm, ⟨3, _⟩ => ⟨S2x1024, .f32⟩
  | .hbm, ⟨4, _⟩ => ⟨S1x1024x3080, .f32⟩
  | .hbm, ⟨5, _⟩ => ⟨S1x8, .f32⟩
  | .hbm, ⟨6, _⟩ => ⟨S1x8, .f32⟩
  | .hbm, ⟨7, _⟩ => ⟨S1x8, .f32⟩
  | .hbm, ⟨8, _⟩ => ⟨S1x1024, .f32⟩
  | .hbm, ⟨9, _⟩ => ⟨S1024, .f32⟩
  | .hbm, ⟨10, _⟩ => ⟨S32x1x1024, .f32⟩
  | .hbm, ⟨11, _⟩ => ⟨S_, .f32⟩
  | .hbm, ⟨12, _⟩ => ⟨S32x1, .f32⟩
  | .hbm, ⟨13, _⟩ => ⟨S32x1x1, .f32⟩
  | .hbm, ⟨14, _⟩ => ⟨S_, .f32⟩
  | .hbm, ⟨15, _⟩ => ⟨S32x1x1, .f32⟩
  | .hbm, ⟨16, _⟩ => ⟨S32x1x1, .f32⟩
  | .hbm, ⟨17, _⟩ => ⟨S_, .f32⟩
  | .hbm, ⟨18, _⟩ => ⟨S32x1x1, .f32⟩
  | .hbm, ⟨19, _⟩ => ⟨S32x1x1, .f32⟩
  | .hbm, ⟨20, _⟩ => ⟨S32x1x1, .f32⟩
  | .hbm, ⟨21, _⟩ => ⟨S32x1x1024, .f32⟩
  | .hbm, ⟨22, _⟩ => ⟨S32x1x1024, .f32⟩
  | .hbm, ⟨23, _⟩ => ⟨S1x1x1024, .f32⟩
  | .hbm, ⟨24, _⟩ => ⟨S32x1x1024, .f32⟩
  | .hbm, ⟨25, _⟩ => ⟨S32x1x1024, .f32⟩
  | .hbm, ⟨26, _⟩ => ⟨S_, .f32⟩
  | .hbm, ⟨27, _⟩ => ⟨S32x1x1024, .f32⟩
  | .hbm, ⟨28, _⟩ => ⟨S32x1x1024, .f32⟩
  | .hbm, ⟨29, _⟩ => ⟨S32x1x1024, .f32⟩
  | .hbm, ⟨30, _⟩ => ⟨S32x1x1024, .f32⟩
  | .hbm, ⟨31, _⟩ => ⟨S1024x3080, .f32⟩
  | .hbm, ⟨32, _⟩ => ⟨S8, .f32⟩
  | .hbm, ⟨33, _⟩ => ⟨S32x1x3080, .f32⟩
  | .hbm, ⟨34, _⟩ => ⟨S32x1x512, .f32⟩
  | .hbm, ⟨35, _⟩ => ⟨S32x1x512, .f32⟩
  | .hbm, ⟨36, _⟩ => ⟨S32x1x512, .f32⟩
  | .hbm, ⟨37, _⟩ => ⟨S32x1x512, .f32⟩
  | .hbm, ⟨38, _⟩ => ⟨S32x1x512, .f32⟩
  | .hbm, ⟨39, _⟩ => ⟨S32x1x512, .f32⟩
  | .hbm, ⟨40, _⟩ => ⟨S32x1x8, .f32⟩
  | .hbm, ⟨41, _⟩ => ⟨S32x1x8x64, .f32⟩
  | .hbm, ⟨42, _⟩ => ⟨S1x1x8, .f32⟩
  | .hbm, ⟨43, _⟩ => ⟨S1x1x8, .f32⟩
  | .hbm, ⟨44, _⟩ => ⟨S32x1x8x16, .f32⟩
  | .hbm, ⟨45, _⟩ => ⟨S32x1x8x8, .f32⟩
  | .hbm, ⟨46, _⟩ => ⟨S32x1x8x8, .f32⟩
  | .hbm, ⟨47, _⟩ => ⟨S1x1x1x8, .f32⟩
  | .hbm, ⟨48, _⟩ => ⟨S32x1x8x8, .f32⟩
  | .hbm, ⟨49, _⟩ => ⟨S32x1x8x8, .f32⟩
  | .hbm, ⟨50, _⟩ => ⟨S1x1x1x8, .f32⟩
  | .hbm, ⟨51, _⟩ => ⟨S32x1x8x8, .f32⟩
  | .hbm, ⟨52, _⟩ => ⟨S32x1x8x8, .f32⟩
  | .hbm, ⟨53, _⟩ => ⟨S32x1x8x8, .f32⟩
  | .hbm, ⟨54, _⟩ => ⟨S1x1x1x8, .f32⟩
  | .hbm, ⟨55, _⟩ => ⟨S32x1x8x8, .f32⟩
  | .hbm, ⟨56, _⟩ => ⟨S32x1x8x8, .f32⟩
  | .hbm, ⟨57, _⟩ => ⟨S1x1x1x8, .f32⟩
  | .hbm, ⟨58, _⟩ => ⟨S32x1x8x8, .f32⟩
  | .hbm, ⟨59, _⟩ => ⟨S32x1x8x8, .f32⟩
  | .hbm, ⟨60, _⟩ => ⟨S32x1x8x8, .f32⟩
  | .hbm, ⟨61, _⟩ => ⟨S32x1x8x16, .f32⟩
  | .hbm, ⟨62, _⟩ => ⟨S32x1x8x48, .f32⟩
  | .hbm, ⟨63, _⟩ => ⟨S32x1x8x64, .f32⟩
  | .hbm, ⟨64, _⟩ => ⟨S32x1x8x64, .f32⟩
  | .hbm, ⟨65, _⟩ => ⟨S1x1x8, .f32⟩
  | .hbm, ⟨66, _⟩ => ⟨S1x1x8, .f32⟩
  | .hbm, ⟨67, _⟩ => ⟨S32x1x8x16, .f32⟩
  | .hbm, ⟨68, _⟩ => ⟨S32x1x8x8, .f32⟩
  | .hbm, ⟨69, _⟩ => ⟨S32x1x8x8, .f32⟩
  | .hbm, ⟨70, _⟩ => ⟨S1x1x1x8, .f32⟩
  | .hbm, ⟨71, _⟩ => ⟨S32x1x8x8, .f32⟩
  | .hbm, ⟨72, _⟩ => ⟨S32x1x8x8, .f32⟩
  | .hbm, ⟨73, _⟩ => ⟨S1x1x1x8, .f32⟩
  | .hbm, ⟨74, _⟩ => ⟨S32x1x8x8, .f32⟩
  | .hbm, ⟨75, _⟩ => ⟨S32x1x8x8, .f32⟩
  | .hbm, ⟨76, _⟩ => ⟨S32x1x8x8, .f32⟩
  | .hbm, ⟨77, _⟩ => ⟨S1x1x1x8, .f32⟩
  | .hbm, ⟨78, _⟩ => ⟨S32x1x8x8, .f32⟩
  | .hbm, ⟨79, _⟩ => ⟨S32x1x8x8, .f32⟩
  | .hbm, ⟨80, _⟩ => ⟨S1x1x1x8, .f32⟩
  | .hbm, ⟨81, _⟩ => ⟨S32x1x8x8, .f32⟩
  | .hbm, ⟨82, _⟩ => ⟨S32x1x8x8, .f32⟩
  | .hbm, ⟨83, _⟩ => ⟨S32x1x8x8, .f32⟩
  | .hbm, ⟨84, _⟩ => ⟨S32x1x8x16, .f32⟩
  | .hbm, ⟨85, _⟩ => ⟨S32x1x8x48, .f32⟩
  | .hbm, ⟨86, _⟩ => ⟨S32x1x8x64, .f32⟩
  | .hbm, ⟨87, _⟩ => ⟨S32x1x8x64, .f32⟩
  | .hbm, ⟨88, _⟩ => ⟨S32x1x8x64, .f32⟩
  | .hbm, ⟨89, _⟩ => ⟨S32x1x8x64, .f32⟩
  | .hbm, ⟨90, _⟩ => ⟨S32x1x8x64, .f32⟩
  | .hbm, ⟨91, _⟩ => ⟨S1x1x8, .f32⟩
  | .hbm, ⟨92, _⟩ => ⟨S32x1x8, .f32⟩
  | .hbm, ⟨93, _⟩ => ⟨S32x1x8, .f32⟩
  | .hbm, ⟨94, _⟩ => ⟨S32x1x8, .f32⟩
  | .hbm, ⟨95, _⟩ => ⟨S_, .f32⟩
  | .hbm, ⟨96, _⟩ => ⟨S32x1x8, .f32⟩
  | .hbm, ⟨97, _⟩ => ⟨S32x1x8, .f32⟩
  | .hbm, ⟨98, _⟩ => ⟨S32x1x8, .f32⟩
  | .hbm, ⟨99, _⟩ => ⟨S32x1x8, .f32⟩
  | .hbm, ⟨100, _⟩ => ⟨S32x1x8, .i1⟩
  | .hbm, ⟨101, _⟩ => ⟨S32x1x8, .f32⟩
  | .hbm, ⟨102, _⟩ => ⟨S32x1x8, .f32⟩
  | .hbm, ⟨103, _⟩ => ⟨S32x1x8, .f32⟩
  | .hbm, ⟨104, _⟩ => ⟨S32x1x8, .f32⟩
  | .hbm, ⟨105, _⟩ => ⟨S32x1x8, .f32⟩
  | .hbm, ⟨106, _⟩ => ⟨S32x1x8, .f32⟩
  | .hbm, ⟨107, _⟩ => ⟨S32x1x8, .f32⟩
  | .hbm, ⟨108, _⟩ => ⟨S32x1x8, .f32⟩
  | .hbm, ⟨109, _⟩ => ⟨S32x1x8, .f32⟩
  | .hbm, ⟨110, _⟩ => ⟨S32x512, .f32⟩
  | .hbm, ⟨111, _⟩ => ⟨S32x512, .f32⟩
  | .hbm, ⟨112, _⟩ => ⟨S32x512, .f32⟩
  | .hbm, ⟨113, _⟩ => ⟨S32x512, .f32⟩
  | .hbm, ⟨114, _⟩ => ⟨S32x512, .f32⟩
  | .hbm, ⟨115, _⟩ => ⟨S32x512, .f32⟩
  | .hbm, ⟨116, _⟩ => ⟨S32x8, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_call0_v0 : Ref sig .tc := ⟨.hbm, 94, rfl⟩
abbrev main_call0_call0_cst : Ref sig .tc := ⟨.hbm, 95, rfl⟩
abbrev main_call0_call0_v0 : Ref sig .tc := ⟨.hbm, 96, rfl⟩
abbrev main_call0_call0_v1 : Ref sig .tc := ⟨.hbm, 97, rfl⟩
abbrev main_call0_call0_v2 : Ref sig .tc := ⟨.hbm, 98, rfl⟩
abbrev main_call0_call0_v3 : Ref sig .tc := ⟨.hbm, 99, rfl⟩
abbrev main_call0_call0_v4 : Ref sig .tc := ⟨.hbm, 100, rfl⟩
abbrev main_call0_call0_v5 : Ref sig .tc := ⟨.hbm, 101, rfl⟩
abbrev main_call0_call0_v6 : Ref sig .tc := ⟨.hbm, 102, rfl⟩
abbrev main_call0_call0_v7 : Ref sig .tc := ⟨.hbm, 103, rfl⟩
abbrev main_call0_call0_v8 : Ref sig .tc := ⟨.hbm, 104, rfl⟩
abbrev main_call0_call0_v9 : Ref sig .tc := ⟨.hbm, 105, rfl⟩
abbrev main_call0_call0_v10 : Ref sig .tc := ⟨.hbm, 106, rfl⟩
abbrev main_call0_call0_v11 : Ref sig .tc := ⟨.hbm, 107, rfl⟩
abbrev main_call0_v1 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x1x1024 : Shape := ⟨3, ![8, 1, 1024]⟩
abbrev S2x1024 : Shape := ⟨2, ![2, 1024]⟩
abbrev S1x1024x3080 : Shape := ⟨3, ![1, 1024, 3080]⟩
abbrev S1x8 : Shape := ⟨2, ![1, 8]⟩
abbrev S2048x8 : Shape := ⟨2, ![2048, 8]⟩
abbrev S1024x3080 : Shape := ⟨2, ![1024, 3080]⟩
abbrev S3080x1024 : Shape := ⟨2, ![3080, 1024]⟩
abbrev S16384x1024 : Shape := ⟨2, ![16384, 1024]⟩
abbrev S1x1024 : Shape := ⟨2, ![1, 1024]⟩
abbrev S1024 : Shape := ⟨1, ![1024]⟩
abbrev S3072x1024 : Shape := ⟨2, ![3072, 1024]⟩
abbrev S8x1024 : Shape := ⟨2, ![8, 1024]⟩
abbrev S8 : Shape := ⟨1, ![8]⟩
abbrev S_ : Shape := ⟨0, ![]⟩
abbrev S2048x48 : Shape := ⟨2, ![2048, 48]⟩
abbrev S2048x64 : Shape := ⟨2, ![2048, 64]⟩
abbrev S2048x56 : Shape := ⟨2, ![2048, 56]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S4x512x128 : Shape := ⟨3, ![4, 512, 128]⟩
abbrev S64x2048 : Shape := ⟨2, ![64, 2048]⟩
abbrev S8x1 : Shape := ⟨2, ![8, 1]⟩
abbrev S16384x512 : Shape := ⟨2, ![16384, 512]⟩
abbrev S8x512x2048 : Shape := ⟨3, ![8, 512, 2048]⟩
abbrev S8x8x2048 : Shape := ⟨3, ![8, 8, 2048]⟩
abbrev S512x1024 : Shape := ⟨2, ![512, 1024]⟩
abbrev S1x1x1024 : Shape := ⟨3, ![1, 1, 1024]⟩
abbrev S1x512x128 : Shape := ⟨3, ![1, 512, 128]⟩
abbrev S64x512 : Shape := ⟨2, ![64, 512]⟩
abbrev S512x512 : Shape := ⟨2, ![512, 512]⟩
abbrev S1x512x512 : Shape := ⟨3, ![1, 512, 512]⟩
abbrev S1x8x512 : Shape := ⟨3, ![1, 8, 512]⟩
abbrev S512 : Shape := ⟨1, ![512]⟩
abbrev S512x1 : Shape := ⟨2, ![512, 1]⟩
abbrev S512x128 : Shape := ⟨2, ![512, 128]⟩
abbrev S8x512 : Shape := ⟨2, ![8, 512]⟩

abbrev nBuf : Space → Nat
  | .hbm => 53
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S2x1024, .f32⟩
  | .hbm, ⟨4, _⟩ => ⟨S1x1024x3080, .f32⟩
  | .hbm, ⟨5, _⟩ => ⟨S1x8, .f32⟩
  | .hbm, ⟨6, _⟩ => ⟨S2048x8, .f32⟩
  | .hbm, ⟨7, _⟩ => ⟨S2048x8, .f32⟩
  | .hbm, ⟨8, _⟩ => ⟨S1024x3080, .f32⟩
  | .hbm, ⟨9, _⟩ => ⟨S3080x1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S3072x1024, .f32⟩
  | .hbm, ⟨15, _⟩ => ⟨S3072x1024, .bf16⟩
  | .hbm, ⟨16, _⟩ => ⟨S8x1024, .f32⟩
  | .hbm, ⟨17, _⟩ => ⟨S8, .f32⟩
  | .hbm, ⟨18, _⟩ => ⟨S_, .f32⟩
  | .hbm, ⟨19, _⟩ => ⟨S2048x48, .f32⟩
  | .hbm, ⟨20, _⟩ => ⟨S2048x64, .f32⟩
  | .hbm, ⟨21, _⟩ => ⟨S2048x8, .f32⟩
  | .hbm, ⟨22, _⟩ => ⟨S_, .f32⟩
  | .hbm, ⟨23, _⟩ => ⟨S2048x56, .f32⟩
  | .hbm, ⟨24, _⟩ => ⟨S2048x64, .f32⟩
  | .hbm, ⟨25, _⟩ => ⟨S_, .f32⟩
  | .hbm, ⟨26, _⟩ => ⟨S2048x8, .f32⟩
  | .hbm, ⟨27, _⟩ => ⟨S_, .f32⟩
  | .hbm, ⟨28, _⟩ => ⟨S2048x48, .f32⟩
  | .hbm, ⟨29, _⟩ => ⟨S2048x64, .f32⟩
  | .hbm, ⟨30, _⟩ => ⟨S1x2048x1x64, .f32⟩
  | .hbm, ⟨31, _⟩ => ⟨S1x2048x2x64, .f32⟩
  | .hbm, ⟨32, _⟩ => ⟨S2048x128, .f32⟩
  | .hbm, ⟨33, _⟩ => ⟨S4x512x128, .f32⟩
  | .hbm, ⟨34, _⟩ => ⟨S1x2048x1x64, .f32⟩
  | .hbm, ⟨35, _⟩ => ⟨S1x2048x2x64, .f32⟩
  | .hbm, ⟨36, _⟩ => ⟨S2048x128, .f32⟩
  | .hbm, ⟨37, _⟩ => ⟨S4x512x128, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S4x512x128, .f32⟩
  | .hbm, ⟨42, _⟩ => ⟨S64x2048, .f32⟩
  | .hbm, ⟨43, _⟩ => ⟨S64x2048, .f32⟩
  | .hbm, ⟨44, _⟩ => ⟨S64x2048, .f32⟩
  | .hbm, ⟨45, _⟩ => ⟨S8x1, .f32⟩
  | .hbm, ⟨46, _⟩ => ⟨S16384x512, .f32⟩
  | .hbm, ⟨47, _⟩ => ⟨S16384x512, .f32⟩
  | .hbm, ⟨48, _⟩ => ⟨S8x512x2048, .f32⟩
  | .hbm, ⟨49, _⟩ => ⟨S8x512x2048, .f32⟩
  | .hbm, ⟨50, _⟩ => ⟨S8x512x2048, .f32⟩
  | .hbm, ⟨51, _⟩ => ⟨S8x512x2048, .f32⟩
  | .hbm, ⟨52, _⟩ => ⟨S8x8x2048, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S3072x1024, .bf16⟩
  | .local _ .vmem, ⟨8, _⟩ => ⟨S8x1024, .f32⟩
  | .local _ .vmem, ⟨9, _⟩ => ⟨S8x1, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x512, .f32⟩
  | .local _ .vmem, ⟨32, _⟩ => ⟨S1x512x512, .f32⟩
  | .local _ .vmem, ⟨33, _⟩ => ⟨S1x512x512, .f32⟩
  | .local _ .vmem, ⟨34, _⟩ => ⟨S1x8x512, .f32⟩
  | .local _ .vmem, ⟨35, _⟩ => ⟨S1x8x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev main_v34_4 : Ref sig .tc := ⟨.hbm, 50, rfl⟩
abbrev main_v34_5 : Ref sig .tc := ⟨.hbm, 51, rfl⟩
abbrev main_v34_6 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_8 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_9 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_12 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference6Ideal.lean ====
abbrev S8x2048x1024 : Shape := ⟨3, ![8, 2048, 1024]⟩
abbrev S8x1x1024 : Shape := ⟨3, ![8, 1, 1024]⟩
abbrev S2x1024 : Shape := ⟨2, ![2, 1024]⟩
abbrev S1x1024x3080 : Shape := ⟨3, ![1, 1024, 3080]⟩
abbrev S1x8 : Shape := ⟨2, ![1, 8]⟩
abbrev S2048x8 : Shape := ⟨2, ![2048, 8]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3080 : Shape := ⟨2, ![1024, 3080]⟩
abbrev S8 : Shape := ⟨1, ![8]⟩
abbrev S8x2048x3080 : Shape := ⟨3, ![8, 2048, 3080]⟩
abbrev S8x2048x512 : Shape := ⟨3, ![8, 2048, 512]⟩
abbrev S8x2048x8 : Shape := ⟨3, ![8, 2048, 8]⟩
abbrev S8x2048x8x64 : Shape := ⟨4, ![8, 2048, 8, 64]⟩
abbrev S2048x1x8 : Shape := ⟨3, ![2048, 1, 8]⟩
abbrev S8x2048x8x16 : Shape := ⟨4, ![8, 2048, 8, 16]⟩
abbrev S8x2048x8x8 : Shape := ⟨4, ![8, 2048, 8, 8]⟩
abbrev S1x2048x1x8 : Shape := ⟨4, ![1, 2048, 1, 8]⟩
abbrev S8x2048x8x48 : Shape := ⟨4, ![8, 2048, 8, 48]⟩
abbrev S1x1x8 : Shape := ⟨3, ![1, 1, 8]⟩
abbrev S16384x512 : Shape := ⟨2, ![16384, 512]⟩
abbrev S8x8x64x2048 : Shape := ⟨4, ![8, 8, 64, 2048]⟩
abbrev S8x512x2048 : Shape := ⟨3, ![8, 512, 2048]⟩
abbrev S8x8x2048 : Shape := ⟨3, ![8, 8, 2048]⟩

abbrev nBuf : Space → Nat
  | .hbm => 123
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S2x1024, .f32⟩
  | .hbm, ⟨4, _⟩ => ⟨S1x1024x3080, .f32⟩
  | .hbm, ⟨5, _⟩ => ⟨S1x8, .f32⟩
  | .hbm, ⟨6, _⟩ => ⟨S2048x8, .f32⟩
  | .hbm, ⟨7, _⟩ => ⟨S2048x8, .f32⟩
  | .hbm, ⟨8, _⟩ => ⟨S1x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S1024x3080, .f32⟩
  | .hbm, ⟨34, _⟩ => ⟨S8, .f32⟩
  | .hbm, ⟨35, _⟩ => ⟨S8x2048x3080, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S8x2048x512, .f32⟩
  | .hbm, ⟨41, _⟩ => ⟨S8x2048x512, .f32⟩
  | .hbm, ⟨42, _⟩ => ⟨S8x2048x8, .f32⟩
  | .hbm, ⟨43, _⟩ => ⟨S8x2048x8x64, .f32⟩
  | .hbm, ⟨44, _⟩ => ⟨S2048x1x8, .f32⟩
  | .hbm, ⟨45, _⟩ => ⟨S2048x1x8, .f32⟩
  | .hbm, ⟨46, _⟩ => ⟨S8x2048x8x16, .f32⟩
  | .hbm, ⟨47, _⟩ => ⟨S8x2048x8x8, .f32⟩
  | .hbm, ⟨48, _⟩ => ⟨S8x2048x8x8, .f32⟩
  | .hbm, ⟨49, _⟩ => ⟨S1x2048x1x8, .f32⟩
  | .hbm, ⟨50, _⟩ => ⟨S8x2048x8x8, .f32⟩
  | .hbm, ⟨51, _⟩ => ⟨S8x2048x8x8, .f32⟩
  | .hbm, ⟨52, _⟩ => ⟨S1x2048x1x8, .f32⟩
  | .hbm, ⟨53, _⟩ => ⟨S8x2048x8x8, .f32⟩
  | .hbm, ⟨54, _⟩ => ⟨S8x2048x8x8, .f32⟩
  | .hbm, ⟨55, _⟩ => ⟨S8x2048x8x8, .f32⟩
  | .hbm, ⟨56, _⟩ => ⟨S1x2048x1x8, .f32⟩
  | .hbm, ⟨57, _⟩ => ⟨S8x2048x8x8, .f32⟩
  | .hbm, ⟨58, _⟩ => ⟨S8x2048x8x8, .f32⟩
  | .hbm, ⟨59, _⟩ => ⟨S1x2048x1x8, .f32⟩
  | .hbm, ⟨60, _⟩ => ⟨S8x2048x8x8, .f32⟩
  | .hbm, ⟨61, _⟩ => ⟨S8x2048x8x8, .f32⟩
  | .hbm, ⟨62, _⟩ => ⟨S8x2048x8x8, .f32⟩
  | .hbm, ⟨63, _⟩ => ⟨S8x2048x8x16, .f32⟩
  | .hbm, ⟨64, _⟩ => ⟨S8x2048x8x48, .f32⟩
  | .hbm, ⟨65, _⟩ => ⟨S8x2048x8x64, .f32⟩
  | .hbm, ⟨66, _⟩ => ⟨S8x2048x8x64, .f32⟩
  | .hbm, ⟨67, _⟩ => ⟨S2048x1x8, .f32⟩
  | .hbm, ⟨68, _⟩ => ⟨S2048x1x8, .f32⟩
  | .hbm, ⟨69, _⟩ => ⟨S8x2048x8x16, .f32⟩
  | .hbm, ⟨70, _⟩ => ⟨S8x2048x8x8, .f32⟩
  | .hbm, ⟨71, _⟩ => ⟨S8x2048x8x8, .f32⟩
  | .hbm, ⟨72, _⟩ => ⟨S1x2048x1x8, .f32⟩
  | .hbm, ⟨73, _⟩ => ⟨S8x2048x8x8, .f32⟩
  | .hbm, ⟨74, _⟩ => ⟨S8x2048x8x8, .f32⟩
  | .hbm, ⟨75, _⟩ => ⟨S1x2048x1x8, .f32⟩
  | .hbm, ⟨76, _⟩ => ⟨S8x2048x8x8, .f32⟩
  | .hbm, ⟨77, _⟩ => ⟨S8x2048x8x8, .f32⟩
  | .hbm, ⟨78, _⟩ => ⟨S8x2048x8x8, .f32⟩
  | .hbm, ⟨79, _⟩ => ⟨S1x2048x1x8, .f32⟩
  | .hbm, ⟨80, _⟩ => ⟨S8x2048x8x8, .f32⟩
  | .hbm, ⟨81, _⟩ => ⟨S8x2048x8x8, .f32⟩
  | .hbm, ⟨82, _⟩ => ⟨S1x2048x1x8, .f32⟩
  | .hbm, ⟨83, _⟩ => ⟨S8x2048x8x8, .f32⟩
  | .hbm, ⟨84, _⟩ => ⟨S8x2048x8x8, .f32⟩
  | .hbm, ⟨85, _⟩ => ⟨S8x2048x8x8, .f32⟩
  | .hbm, ⟨86, _⟩ => ⟨S8x2048x8x16, .f32⟩
  | .hbm, ⟨87, _⟩ => ⟨S8x2048x8x48, .f32⟩
  | .hbm, ⟨88, _⟩ => ⟨S8x2048x8x64, .f32⟩
  | .hbm, ⟨89, _⟩ => ⟨S8x2048x8x64, .f32⟩
  | .hbm, ⟨90, _⟩ => ⟨S8x2048x8x64, .f32⟩
  | .hbm, ⟨91, _⟩ => ⟨S8x2048x8x64, .f32⟩
  | .hbm, ⟨92, _⟩ => ⟨S8x2048x8x64, .f32⟩
  | .hbm, ⟨93, _⟩ => ⟨S1x1x8, .f32⟩
  | .hbm, ⟨94, _⟩ => ⟨S8x2048x8, .f32⟩
  | .hbm, ⟨95, _⟩ => ⟨S8x2048x8, .f32⟩
  | .hbm, ⟨96, _⟩ => ⟨S8x2048x8, .f32⟩
  | .hbm, ⟨97, _⟩ => ⟨S_, .f32⟩
  | .hbm, ⟨98, _⟩ => ⟨S8x2048x8, .f32⟩
  | .hbm, ⟨99, _⟩ => ⟨S8x2048x8, .f32⟩
  | .hbm, ⟨100, _⟩ => ⟨S8x2048x8, .f32⟩
  | .hbm, ⟨101, _⟩ => ⟨S8x2048x8, .f32⟩
  | .hbm, ⟨102, _⟩ => ⟨S8x2048x8, .i1⟩
  | .hbm, ⟨103, _⟩ => ⟨S8x2048x8, .f32⟩
  | .hbm, ⟨104, _⟩ => ⟨S8x2048x8, .f32⟩
  | .hbm, ⟨105, _⟩ => ⟨S8x2048x8, .f32⟩
  | .hbm, ⟨106, _⟩ => ⟨S8x2048x8, .f32⟩
  | .hbm, ⟨107, _⟩ => ⟨S8x2048x8, .f32⟩
  | .hbm, ⟨108, _⟩ => ⟨S8x2048x8, .f32⟩
  | .hbm, ⟨109, _⟩ => ⟨S8x2048x8, .f32⟩
  | .hbm, ⟨110, _⟩ => ⟨S8x2048x8, .f32⟩
  | .hbm, ⟨111, _⟩ => ⟨S8x2048x8, .f32⟩
  | .hbm, ⟨112, _⟩ => ⟨S16384x512, .f32⟩
  | .hbm, ⟨113, _⟩ => ⟨S16384x512, .f32⟩
  | .hbm, ⟨114, _⟩ => ⟨S8x8x64x2048, .f32⟩
  | .hbm, ⟨115, _⟩ => ⟨S8x512x2048, .f32⟩
  | .hbm, ⟨116, _⟩ => ⟨S8x8x64x2048, .f32⟩
  | .hbm, ⟨117, _⟩ => ⟨S8x512x2048, .f32⟩
  | .hbm, ⟨118, _⟩ => ⟨S8x8x64x2048, .f32⟩
  | .hbm, ⟨119, _⟩ => ⟨S8x512x2048, .f32⟩
  | .hbm, ⟨120, _⟩ => ⟨S8x8x64x2048, .f32⟩
  | .hbm, ⟨121, _⟩ => ⟨S8x512x2048, .f32⟩
  | .hbm, ⟨122, _⟩ => ⟨S8x8x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_call0_v0 : Ref sig .tc := ⟨.hbm, 96, rfl⟩
abbrev main_call0_call0_cst : Ref sig .tc := ⟨.hbm, 97, rfl⟩
abbrev main_call0_call0_v0 : Ref sig .tc := ⟨.hbm, 98, rfl⟩
abbrev main_call0_call0_v1 : Ref sig .tc := ⟨.hbm, 99, rfl⟩
abbrev main_call0_call0_v2 : Ref sig .tc := ⟨.hbm, 100, rfl⟩
abbrev main_call0_call0_v3 : Ref sig .tc := ⟨.hbm, 101, rfl⟩
abbrev main_call0_call0_v4 : Ref sig .tc := ⟨.hbm, 102, rfl⟩
abbrev main_call0_call0_v5 : Ref sig .tc := ⟨.hbm, 103, rfl⟩
abbrev main_call0_call0_v6 : Ref sig .tc := ⟨.hbm, 104, rfl⟩
abbrev main_call0_call0_v7 : Ref sig .tc := ⟨.hbm, 105, rfl⟩
abbrev main_call0_call0_v8 : Ref sig .tc := ⟨.hbm, 106, rfl⟩
abbrev main_call0_call0_v9 : Ref sig .tc := ⟨.hbm, 107, rfl⟩
abbrev main_call0_call0_v10 : Ref sig .tc := ⟨.hbm, 108, rfl⟩
abbrev main_call0_call0_v11 : Ref sig .tc := ⟨.hbm, 109, rfl⟩
abbrev main_call0_v1 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩

abbrev nD : Nat := 1
abbrev τ : Topo := Topo.v7x

variable {F : FTy → Type} [FloatOps F]
-- ==== Kernel7.lean ====
abbrev S8x2048x1024 : Shape := ⟨3, ![8, 2048, 1024]⟩
abbrev S8x1x1024 : Shape := ⟨3, ![8, 1, 1024]⟩
abbrev S2x1024 : Shape := ⟨2, ![2, 1024]⟩
abbrev S1x1024x5152 : Shape := ⟨3, ![1, 1024, 5152]⟩
abbrev S1x4x3072 : Shape := ⟨3, ![1, 4, 3072]⟩
abbrev S1x3072 : Shape := ⟨2, ![1, 3072]⟩
abbrev S1x32 : Shape := ⟨2, ![1, 32]⟩
abbrev S16384x1024 : Shape := ⟨2, ![16384, 1024]⟩
abbrev S1x1024 : Shape := ⟨2, ![1, 1024]⟩
abbrev S1024 : Shape := ⟨1, ![1024]⟩
abbrev S1024x5152 : Shape := ⟨2, ![1024, 5152]⟩
abbrev S5152x1024 : Shape := ⟨2, ![5152, 1024]⟩
abbrev S2048x1024 : Shape := ⟨2, ![2048, 1024]⟩
abbrev S3072x1024 : Shape := ⟨2, ![3072, 1024]⟩
abbrev S32x1024 : Shape := ⟨2, ![32, 1024]⟩
abbrev S_ : Shape := ⟨0, ![]⟩
abbrev S128x1024 : Shape := ⟨2, ![128, 1024]⟩
abbrev S32 : Shape := ⟨1, ![32]⟩
abbrev S1x128 : Shape := ⟨2, ![1, 128]⟩
abbrev S4x3072 : Shape := ⟨2, ![4, 3072]⟩
abbrev S3072 : Shape := ⟨1, ![3072]⟩
abbrev S16384x2048 : Shape := ⟨2, ![16384, 2048]⟩
abbrev S16384x3072 : Shape := ⟨2, ![16384, 3072]⟩
abbrev S16384x128 : Shape := ⟨2, ![16384, 128]⟩
abbrev S3x8x1x3072 : Shape := ⟨4, ![3, 8, 1, 3072]⟩
abbrev S512x1024 : Shape := ⟨2, ![512, 1024]⟩
abbrev S1x1x1024 : Shape := ⟨3, ![1, 1, 1024]⟩
abbrev S512x2048 : Shape := ⟨2, ![512, 2048]⟩
abbrev S512x3072 : Shape := ⟨2, ![512, 3072]⟩
abbrev S512x128 : Shape := ⟨2, ![512, 128]⟩
abbrev S3x1x1x3072 : Shape := ⟨4, ![3, 1, 1, 3072]⟩
abbrev S520x3072 : Shape := ⟨2, ![520, 3072]⟩
abbrev S512 : Shape := ⟨1, ![512]⟩
abbrev S512x1 : Shape := ⟨2, ![512, 1]⟩
abbrev S8x3072 : Shape := ⟨2, ![8, 3072]⟩
abbrev S512x512 : Shape := ⟨2, ![512, 512]⟩
abbrev S1x512 : Shape := ⟨2, ![1, 512]⟩
abbrev S3x3072 : Shape := ⟨2, ![3, 3072]⟩

abbrev nBuf : Space → Nat
  | .hbm => 35
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S2x1024, .f32⟩
  | .hbm, ⟨4, _⟩ => ⟨S1x1024x5152, .f32⟩
  | .hbm, ⟨5, _⟩ => ⟨S1x4x3072, .f32⟩
  | .hbm, ⟨6, _⟩ => ⟨S1x3072, .f32⟩
  | .hbm, ⟨7, _⟩ => ⟨S1x32, .f32⟩
  | .hbm, ⟨8, _⟩ => ⟨S16384x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024x5152, .f32⟩
  | .hbm, ⟨13, _⟩ => ⟨S5152x1024, .f32⟩
  | .hbm, ⟨14, _⟩ => ⟨S2048x1024, .f32⟩
  | .hbm, ⟨15, _⟩ => ⟨S2048x1024, .bf16⟩
  | .hbm, ⟨16, _⟩ => ⟨S3072x1024, .f32⟩
  | .hbm, ⟨17, _⟩ => ⟨S3072x1024, .bf16⟩
  | .hbm, ⟨18, _⟩ => ⟨S32x1024, .f32⟩
  | .hbm, ⟨19, _⟩ => ⟨S_, .i32⟩
  | .hbm, ⟨20, _⟩ => ⟨S_, .f32⟩
  | .hbm, ⟨21, _⟩ => ⟨S128x1024, .f32⟩
  | .hbm, ⟨22, _⟩ => ⟨S128x1024, .bf16⟩
  | .hbm, ⟨23, _⟩ => ⟨S32, .f32⟩
  | .hbm, ⟨24, _⟩ => ⟨S1x32, .f32⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S4x3072, .f32⟩
  | .hbm, ⟨29, _⟩ => ⟨S3072, .f32⟩
  | .hbm, ⟨30, _⟩ => ⟨S1x3072, .f32⟩
  | .hbm, ⟨31, _⟩ => ⟨S16384x2048, .f32⟩
  | .hbm, ⟨32, _⟩ => ⟨S16384x3072, .f32⟩
  | .hbm, ⟨33, _⟩ => ⟨S16384x128, .f32⟩
  | .hbm, ⟨34, _⟩ => ⟨S3x8x1x3072, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S2048x1024, .bf16⟩
  | .local _ .vmem, ⟨8, _⟩ => ⟨S3072x1024, .bf16⟩
  | .local _ .vmem, ⟨9, _⟩ => ⟨S128x1024, .bf16⟩
  | .local _ .vmem, ⟨10, _⟩ => ⟨S1x128, .f32⟩
  | .local _ .vmem, ⟨11, _⟩ => ⟨S4x3072, .f32⟩
  | .local _ .vmem, ⟨12, _⟩ => ⟨S1x3072, .f32⟩
  | .local _ .vmem, ⟨13, _⟩ => ⟨S512x2048, .f32⟩
  | .local _ .vmem, ⟨14, _⟩ => ⟨S512x2048, .f32⟩
  | .local _ .vmem, ⟨15, _⟩ => ⟨S512x3072, .f32⟩
  | .local _ .vmem, ⟨16, _⟩ => ⟨S512x3072, .f32⟩
  | .local _ .vmem, ⟨17, _⟩ => ⟨S512x128, .f32⟩
  | .local _ .vmem, ⟨18, _⟩ => ⟨S512x128, .f32⟩
  | .local _ .vmem, ⟨19, _⟩ => ⟨S3x1x1x3072, .f32⟩
  | .local _ .vmem, ⟨20, _⟩ => ⟨S3x1x1x3072, .f32⟩
  | .local _ .vmem, ⟨21, _⟩ => ⟨S520x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x1x1x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S8x2048x1024 : Shape := ⟨3, ![8, 2048, 1024]⟩
abbrev S8x1x1024 : Shape := ⟨3, ![8, 1, 1024]⟩
abbrev S2x1024 : Shape := ⟨2, ![2, 1024]⟩
abbrev S1x1024x5152 : Shape := ⟨3, ![1, 1024, 5152]⟩
abbrev S1x4x3072 : Shape := ⟨3, ![1, 4, 3072]⟩
abbrev S1x3072 : Shape := ⟨2, ![1, 3072]⟩
abbrev S1x32 : Shape := ⟨2, ![1, 32]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5152 : Shape := ⟨2, ![1024, 5152]⟩
abbrev S8x2048x5152 : Shape := ⟨3, ![8, 2048, 5152]⟩
abbrev S8x2048x2048 : Shape := ⟨3, ![8, 2048, 2048]⟩
abbrev S8x2048x3072 : Shape := ⟨3, ![8, 2048, 3072]⟩
abbrev S8x2048x32 : Shape := ⟨3, ![8, 2048, 32]⟩
abbrev S8x3x3072 : Shape := ⟨3, ![8, 3, 3072]⟩
abbrev S4x3072 : Shape := ⟨2, ![4, 3072]⟩
abbrev S3072 : Shape := ⟨1, ![3072]⟩
abbrev S8x2051x3072 : Shape := ⟨3, ![8, 2051, 3072]⟩
abbrev S1x1x3072 : Shape := ⟨3, ![1, 1, 3072]⟩
abbrev S32 : Shape := ⟨1, ![32]⟩
abbrev S1x1x32 : Shape := ⟨3, ![1, 1, 32]⟩
abbrev S8x2048x128 : Shape := ⟨3, ![8, 2048, 128]⟩
abbrev S16384x2048 : Shape := ⟨2, ![16384, 2048]⟩
abbrev S16384x3072 : Shape := ⟨2, ![16384, 3072]⟩
abbrev S16384x128 : Shape := ⟨2, ![16384, 128]⟩
abbrev S3x8x3072 : Shape := ⟨3, ![3, 8, 3072]⟩
abbrev S3x8x1x3072 : Shape := ⟨4, ![3, 8, 1, 3072]⟩

abbrev nBuf : Space → Nat
  | .hbm => 112
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S2x1024, .f32⟩
  | .hbm, ⟨4, _⟩ => ⟨S1x1024x5152, .f32⟩
  | .hbm, ⟨5, _⟩ => ⟨S1x4x3072, .f32⟩
  | .hbm, ⟨6, _⟩ => ⟨S1x3072, .f32⟩
  | .hbm, ⟨7, _⟩ => ⟨S1x32, .f32⟩
  | .hbm, ⟨8, _⟩ => ⟨S1x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S1024x5152, .f32⟩
  | .hbm, ⟨34, _⟩ => ⟨S8x2048x5152, .f32⟩
  | .hbm, ⟨35, _⟩ => ⟨S8x2048x2048, .f32⟩
  | .hbm, ⟨36, _⟩ => ⟨S8x2048x3072, .f32⟩
  | .hbm, ⟨37, _⟩ => ⟨S8x2048x32, .f32⟩
  | .hbm, ⟨38, _⟩ => ⟨S_, .f32⟩
  | .hbm, ⟨39, _⟩ => ⟨S8x3x3072, .f32⟩
  | .hbm, ⟨40, _⟩ => ⟨S4x3072, .f32⟩
  | .hbm, ⟨41, _⟩ => ⟨S3072, .f32⟩
  | .hbm, ⟨42, _⟩ => ⟨S8x2051x3072, .f32⟩
  | .hbm, ⟨43, _⟩ => ⟨S8x2048x3072, .f32⟩
  | .hbm, ⟨44, _⟩ => ⟨S1x3072, .f32⟩
  | .hbm, ⟨45, _⟩ => ⟨S3072, .f32⟩
  | .hbm, ⟨46, _⟩ => ⟨S1x1x3072, .f32⟩
  | .hbm, ⟨47, _⟩ => ⟨S8x2048x3072, .f32⟩
  | .hbm, ⟨48, _⟩ => ⟨S8x2048x3072, .f32⟩
  | .hbm, ⟨49, _⟩ => ⟨S_, .f32⟩
  | .hbm, ⟨50, _⟩ => ⟨S8x2048x3072, .f32⟩
  | .hbm, ⟨51, _⟩ => ⟨S8x2048x3072, .f32⟩
  | .hbm, ⟨52, _⟩ => ⟨S8x2048x3072, .f32⟩
  | .hbm, ⟨53, _⟩ => ⟨S1x3072, .f32⟩
  | .hbm, ⟨54, _⟩ => ⟨S3072, .f32⟩
  | .hbm, ⟨55, _⟩ => ⟨S1x1x3072, .f32⟩
  | .hbm, ⟨56, _⟩ => ⟨S8x2048x3072, .f32⟩
  | .hbm, ⟨57, _⟩ => ⟨S8x2048x3072, .f32⟩
  | .hbm, ⟨58, _⟩ => ⟨S8x2048x3072, .f32⟩
  | .hbm, ⟨59, _⟩ => ⟨S8x2048x3072, .f32⟩
  | .hbm, ⟨60, _⟩ => ⟨S1x3072, .f32⟩
  | .hbm, ⟨61, _⟩ => ⟨S3072, .f32⟩
  | .hbm, ⟨62, _⟩ => ⟨S1x1x3072, .f32⟩
  | .hbm, ⟨63, _⟩ => ⟨S8x2048x3072, .f32⟩
  | .hbm, ⟨64, _⟩ => ⟨S8x2048x3072, .f32⟩
  | .hbm, ⟨65, _⟩ => ⟨S8x2048x3072, .f32⟩
  | .hbm, ⟨66, _⟩ => ⟨S8x2048x3072, .f32⟩
  | .hbm, ⟨67, _⟩ => ⟨S1x3072, .f32⟩
  | .hbm, ⟨68, _⟩ => ⟨S3072, .f32⟩
  | .hbm, ⟨69, _⟩ => ⟨S1x1x3072, .f32⟩
  | .hbm, ⟨70, _⟩ => ⟨S8x2048x3072, .f32⟩
  | .hbm, ⟨71, _⟩ => ⟨S8x2048x3072, .f32⟩
  | .hbm, ⟨72, _⟩ => ⟨S8x2048x3072, .f32⟩
  | .hbm, ⟨73, _⟩ => ⟨S1x1x3072, .f32⟩
  | .hbm, ⟨74, _⟩ => ⟨S8x2048x3072, .f32⟩
  | .hbm, ⟨75, _⟩ => ⟨S8x2048x3072, .f32⟩
  | .hbm, ⟨76, _⟩ => ⟨S8x2048x3072, .f32⟩
  | .hbm, ⟨77, _⟩ => ⟨S8x2048x3072, .f32⟩
  | .hbm, ⟨78, _⟩ => ⟨S_, .f32⟩
  | .hbm, ⟨79, _⟩ => ⟨S8x2048x3072, .f32⟩
  | .hbm, ⟨80, _⟩ => ⟨S8x2048x3072, .f32⟩
  | .hbm, ⟨81, _⟩ => ⟨S_, .f32⟩
  | .hbm, ⟨82, _⟩ => ⟨S8x2048x3072, .f32⟩
  | .hbm, ⟨83, _⟩ => ⟨S8x2048x3072, .f32⟩
  | .hbm, ⟨84, _⟩ => ⟨S8x2048x3072, .f32⟩
  | .hbm, ⟨85, _⟩ => ⟨S8x3x3072, .f32⟩
  | .hbm, ⟨86, _⟩ => ⟨S32, .f32⟩
  | .hbm, ⟨87, _⟩ => ⟨S1x1x32, .f32⟩
  | .hbm, ⟨88, _⟩ => ⟨S8x2048x32, .f32⟩
  | .hbm, ⟨89, _⟩ => ⟨S8x2048x32, .f32⟩
  | .hbm, ⟨90, _⟩ => ⟨S_, .i32⟩
  | .hbm, ⟨91, _⟩ => ⟨S_, .f32⟩
  | .hbm, ⟨92, _⟩ => ⟨S8x2048x128, .f32⟩
  | .hbm, ⟨93, _⟩ => ⟨S_, .f32⟩
  | .hbm, ⟨94, _⟩ => ⟨S8x2048x128, .f32⟩
  | .hbm, ⟨95, _⟩ => ⟨S8x2048x128, .f32⟩
  | .hbm, ⟨96, _⟩ => ⟨S8x2048x128, .f32⟩
  | .hbm, ⟨97, _⟩ => ⟨S8x2048x128, .f32⟩
  | .hbm, ⟨98, _⟩ => ⟨S8x2048x128, .i1⟩
  | .hbm, ⟨99, _⟩ => ⟨S8x2048x128, .f32⟩
  | .hbm, ⟨100, _⟩ => ⟨S8x2048x128, .f32⟩
  | .hbm, ⟨101, _⟩ => ⟨S8x2048x128, .f32⟩
  | .hbm, ⟨102, _⟩ => ⟨S8x2048x128, .f32⟩
  | .hbm, ⟨103, _⟩ => ⟨S8x2048x128, .f32⟩
  | .hbm, ⟨104, _⟩ => ⟨S8x2048x128, .f32⟩
  | .hbm, ⟨105, _⟩ => ⟨S8x2048x128, .f32⟩
  | .hbm, ⟨106, _⟩ => ⟨S8x2048x128, .f32⟩
  | .hbm, ⟨107, _⟩ => ⟨S16384x2048, .f32⟩
  | .hbm, ⟨108, _⟩ => ⟨S16384x3072, .f32⟩
  | .hbm, ⟨109, _⟩ => ⟨S16384x128, .f32⟩
  | .hbm, ⟨110, _⟩ => ⟨S3x8x3072, .f32⟩
  | .hbm, ⟨111, _⟩ => ⟨S3x8x1x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_call0_v0 : Ref sig .tc := ⟨.hbm, 76, rfl⟩
abbrev main_call0_v1 : Ref sig .tc := ⟨.hbm, 77, rfl⟩
abbrev main_call0_cst : Ref sig .tc := ⟨.hbm, 78, rfl⟩
abbrev main_call0_v2 : Ref sig .tc := ⟨.hbm, 79, rfl⟩
abbrev main_call0_v3 : Ref sig .tc := ⟨.hbm, 80, rfl⟩
abbrev main_call0_cst_0 : Ref sig .tc := ⟨.hbm, 81, rfl⟩
abbrev main_call0_v4 : Ref sig .tc := ⟨.hbm, 82, rfl⟩
abbrev main_call0_v5 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c : Ref sig .tc := ⟨.hbm, 90, rfl⟩
abbrev main_call1_v0 : Ref sig .tc := ⟨.hbm, 91, rfl⟩
abbrev main_v68 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩

abbrev nD : Nat := 1
abbrev τ : Topo := Topo.v7x

variable {F : FTy → Type} [FloatOps F]
-- ==== Kernel8.lean ====
abbrev S32x1x1024 : Shape := ⟨3, ![32, 1, 1024]⟩
abbrev S32x1x2048 : Shape := ⟨3, ![32, 1, 2048]⟩
abbrev S2x1024 : Shape := ⟨2, ![2, 1024]⟩
abbrev S1x2048 : Shape := ⟨2, ![1, 2048]⟩
abbrev S1x2048x1024 : Shape := ⟨3, ![1, 2048, 1024]⟩
abbrev S2x1024x5632 : Shape := ⟨3, ![2, 1024, 5632]⟩
abbrev S2x2816x1024 : Shape := ⟨3, ![2, 2816, 1024]⟩
abbrev S32x1024 : Shape := ⟨2, ![32, 1024]⟩
abbrev S32x2048 : Shape := ⟨2, ![32, 2048]⟩
abbrev S2048x1024 : Shape := ⟨2, ![2048, 1024]⟩
abbrev S1x32x1024 : Shape := ⟨3, ![1, 32, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2048 : Shape := ⟨1, ![2048]⟩
abbrev S32x512 : Shape := ⟨2, ![32, 512]⟩
abbrev S32 : Shape := ⟨1, ![32]⟩
abbrev S32x1 : Shape := ⟨2, ![32, 1]⟩
abbrev S1024x1536 : Shape := ⟨2, ![1024, 1536]⟩
abbrev S32x1536 : Shape := ⟨2, ![32, 1536]⟩
abbrev S1536x1024 : Shape := ⟨2, ![1536, 1024]⟩
abbrev S1024x1280 : Shape := ⟨2, ![1024, 1280]⟩
abbrev S32x1280 : Shape := ⟨2, ![32, 1280]⟩
abbrev S1280x1024 : Shape := ⟨2, ![1280, 1024]⟩

abbrev nBuf : Space → Nat
  | .hbm => 41
  | .vmem => 15
  | .smem => 0
  | _ => 0

abbrev bufTy : (tb : Table) → Fin (tcTables nBuf tb) → BufTy
  | .hbm, ⟨0, _⟩ => ⟨S32x1x1024, .f32⟩
  | .hbm, ⟨1, _⟩ => ⟨S32x1x2048, .f32⟩
  | .hbm, ⟨2, _⟩ => ⟨S32x1x2048, .f32⟩
  | .hbm, ⟨3, _⟩ => ⟨S32x1x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1x2048, .f32⟩
  | .hbm, ⟨11, _⟩ => ⟨S1x2048x1024, .f32⟩
  | .hbm, ⟨12, _⟩ => ⟨S2x1024x5632, .f32⟩
  | .hbm, ⟨13, _⟩ => ⟨S2x2816x1024, .f32⟩
  | .hbm, ⟨14, _⟩ => ⟨S32x1024, .f32⟩
  | .hbm, ⟨15, _⟩ => ⟨S32x2048, .f32⟩
  | .hbm, ⟨16, _⟩ => ⟨S32x2048, .f32⟩
  | .hbm, ⟨17, _⟩ => ⟨S2048x1024, .f32⟩
  | .hbm, ⟨18, _⟩ => ⟨S2048x1024, .bf16⟩
  | .hbm, ⟨19, _⟩ => ⟨S1x32x1024, .f32⟩
  | .hbm, ⟨20, _⟩ => ⟨S1x32x1024, .f32⟩
  | .hbm, ⟨21, _⟩ => ⟨S1x32x1024, .f32⟩
  | .hbm, ⟨22, _⟩ => ⟨S1x32x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S2x1024x5632, .bf16⟩
  | .hbm, ⟨33, _⟩ => ⟨S1x1024x5632, .bf16⟩
  | .hbm, ⟨34, _⟩ => ⟨S1024x5632, .bf16⟩
  | .hbm, ⟨35, _⟩ => ⟨S2x2816x1024, .bf16⟩
  | .hbm, ⟨36, _⟩ => ⟨S1x2816x1024, .bf16⟩
  | .hbm, ⟨37, _⟩ => ⟨S2816x1024, .bf16⟩
  | .hbm, ⟨38, _⟩ => ⟨S2048, .f32⟩
  | .hbm, ⟨39, _⟩ => ⟨S1x2048, .f32⟩
  | .hbm, ⟨40, _⟩ => ⟨S32x1024, .f32⟩
  | .local _ .vmem, ⟨0, _⟩ => ⟨S32x1024, .f32⟩
  | .local _ .vmem, ⟨1, _⟩ => ⟨S32x2048, .f32⟩
  | .local _ .vmem, ⟨2, _⟩ => ⟨S32x2048, .f32⟩
  | .local _ .vmem, ⟨3, _⟩ => ⟨S1x2048, .f32⟩
  | .local _ .vmem, ⟨4, _⟩ => ⟨S2048x1024, .bf16⟩
  | .local _ .vmem, ⟨5, _⟩ => ⟨S1x32x1024, .f32⟩
  | .local _ .vmem, ⟨6, _⟩ => ⟨S1x1024, .f32⟩
  | .local _ .vmem, ⟨7, _⟩ => ⟨S1x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x1024, .f32⟩
  | .local _ .vmem, ⟨12, _⟩ => ⟨S1024x5632, .bf16⟩
  | .local _ .vmem, ⟨13, _⟩ => ⟨S2816x1024, .bf16⟩
  | .local _ .vmem, ⟨14, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference8Ideal.lean ====
abbrev S32x1x1024 : Shape := ⟨3, ![32, 1, 1024]⟩
abbrev S32x1x2048 : Shape := ⟨3, ![32, 1, 2048]⟩
abbrev S2x1024 : Shape := ⟨2, ![2, 1024]⟩
abbrev S1x2048 : Shape := ⟨2, ![1, 2048]⟩
abbrev S1x2048x1024 : Shape := ⟨3, ![1, 2048, 1024]⟩
abbrev S2x1024x5632 : Shape := ⟨3, ![2, 1024, 5632]⟩
abbrev S2x2816x1024 : Shape := ⟨3, ![2, 2816, 1024]⟩
abbrev S32x1x4x512 : Shape := ⟨4, ![32, 1, 4, 512]⟩
abbrev S_ : Shape := ⟨0, ![]⟩
abbrev S32x1x4 : Shape := ⟨3, ![32, 1, 4]⟩
abbrev S32x1x4x1 : Shape := ⟨4, ![32, 1, 4, 1]⟩
abbrev S2048 : Shape := ⟨1, ![2048]⟩
abbrev S1x1x2048 : Shape := ⟨3, ![1, 1, 2048]⟩
abbrev S2048x1024 : Shape := ⟨2, ![2048, 1024]⟩
abbrev S1x1024 : Shape := ⟨2, ![1, 1024]⟩
abbrev S1024 : Shape := ⟨1, ![1024]⟩
abbrev S32x1 : Shape := ⟨2, ![32, 1]⟩
abbrev S32x1x1 : Shape := ⟨3, ![32, 1, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32x1x5632 : Shape := ⟨3, ![32, 1, 5632]⟩
abbrev S32x1x2816 : Shape := ⟨3, ![32, 1, 2816]⟩
abbrev S32x1024 : Shape := ⟨2, ![32, 1024]⟩

abbrev nBuf : Space → Nat
  | .hbm => 128
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x1x2048, .f32⟩
  | .hbm, ⟨2, _⟩ => ⟨S32x1x2048, .f32⟩
  | .hbm, ⟨3, _⟩ => ⟨S32x1x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S1x2048, .f32⟩
  | .hbm, ⟨11, _⟩ => ⟨S1x2048x1024, .f32⟩
  | .hbm, ⟨12, _⟩ => ⟨S2x1024x5632, .f32⟩
  | .hbm, ⟨13, _⟩ => ⟨S2x2816x1024, .f32⟩
  | .hbm, ⟨14, _⟩ => ⟨S32x1x4x512, .f32⟩
  | .hbm, ⟨15, _⟩ => ⟨S32x1x2048, .f32⟩
  | .hbm, ⟨16, _⟩ => ⟨S32x1x2048, .f32⟩
  | .hbm, ⟨17, _⟩ => ⟨S_, .f32⟩
  | .hbm, ⟨18, _⟩ => ⟨S32x1x2048, .f32⟩
  | .hbm, ⟨19, _⟩ => ⟨S32x1x2048, .f32⟩
  | .hbm, ⟨20, _⟩ => ⟨S_, .f32⟩
  | .hbm, ⟨21, _⟩ => ⟨S32x1x2048, .f32⟩
  | .hbm, ⟨22, _⟩ => ⟨S32x1x2048, .f32⟩
  | .hbm, ⟨23, _⟩ => ⟨S32x1x2048, .f32⟩
  | .hbm, ⟨24, _⟩ => ⟨S32x1x4x512, .f32⟩
  | .hbm, ⟨25, _⟩ => ⟨S32x1x4x512, .f32⟩
  | .hbm, ⟨26, _⟩ => ⟨S32x1x4x512, .f32⟩
  | .hbm, ⟨27, _⟩ => ⟨S_, .f32⟩
  | .hbm, ⟨28, _⟩ => ⟨S32x1x4, .f32⟩
  | .hbm, ⟨29, _⟩ => ⟨S32x1x4x1, .f32⟩
  | .hbm, ⟨30, _⟩ => ⟨S_, .f32⟩
  | .hbm, ⟨31, _⟩ => ⟨S32x1x4x1, .f32⟩
  | .hbm, ⟨32, _⟩ => ⟨S32x1x4x1, .f32⟩
  | .hbm, ⟨33, _⟩ => ⟨S_, .f32⟩
  | .hbm, ⟨34, _⟩ => ⟨S32x1x4x1, .f32⟩
  | .hbm, ⟨35, _⟩ => ⟨S32x1x4x1, .f32⟩
  | .hbm, ⟨36, _⟩ => ⟨S32x1x4x1, .f32⟩
  | .hbm, ⟨37, _⟩ => ⟨S32x1x4x512, .f32⟩
  | .hbm, ⟨38, _⟩ => ⟨S32x1x4x512, .f32⟩
  | .hbm, ⟨39, _⟩ => ⟨S32x1x2048, .f32⟩
  | .hbm, ⟨40, _⟩ => ⟨S2048, .f32⟩
  | .hbm, ⟨41, _⟩ => ⟨S1x1x2048, .f32⟩
  | .hbm, ⟨42, _⟩ => ⟨S32x1x2048, .f32⟩
  | .hbm, ⟨43, _⟩ => ⟨S32x1x2048, .f32⟩
  | .hbm, ⟨44, _⟩ => ⟨S2048x1024, .f32⟩
  | .hbm, ⟨45, _⟩ => ⟨S32x1x1024, .f32⟩
  | .hbm, ⟨46, _⟩ => ⟨S1x1024, .f32⟩
  | .hbm, ⟨47, _⟩ => ⟨S1024, .f32⟩
  | .hbm, ⟨48, _⟩ => ⟨S32x1x1024, .f32⟩
  | .hbm, ⟨49, _⟩ => ⟨S_, .f32⟩
  | .hbm, ⟨50, _⟩ => ⟨S32x1, .f32⟩
  | .hbm, ⟨51, _⟩ => ⟨S32x1x1, .f32⟩
  | .hbm, ⟨52, _⟩ => ⟨S_, .f32⟩
  | .hbm, ⟨53, _⟩ => ⟨S32x1x1, .f32⟩
  | .hbm, ⟨54, _⟩ => ⟨S32x1x1, .f32⟩
  | .hbm, ⟨55, _⟩ => ⟨S_, .f32⟩
  | .hbm, ⟨56, _⟩ => ⟨S32x1x1, .f32⟩
  | .hbm, ⟨57, _⟩ => ⟨S32x1x1, .f32⟩
  | .hbm, ⟨58, _⟩ => ⟨S32x1x1, .f32⟩
  | .hbm, ⟨59, _⟩ => ⟨S32x1x1024, .f32⟩
  | .hbm, ⟨60, _⟩ => ⟨S32x1x1024, .f32⟩
  | .hbm, ⟨61, _⟩ => ⟨S1x1x1024, .f32⟩
  | .hbm, ⟨62, _⟩ => ⟨S32x1x1024, .f32⟩
  | .hbm, ⟨63, _⟩ => ⟨S32x1x1024, .f32⟩
  | .hbm, ⟨64, _⟩ => ⟨S32x1x1024, .f32⟩
  | .hbm, ⟨65, _⟩ => ⟨S32x1x1024, .f32⟩
  | .hbm, ⟨66, _⟩ => ⟨S1x1024, .f32⟩
  | .hbm, ⟨67, _⟩ => ⟨S1024, .f32⟩
  | .hbm, ⟨68, _⟩ => ⟨S32x1x1024, .f32⟩
  | .hbm, ⟨69, _⟩ => ⟨S_, .f32⟩
  | .hbm, ⟨70, _⟩ => ⟨S32x1, .f32⟩
  | .hbm, ⟨71, _⟩ => ⟨S32x1x1, .f32⟩
  | .hbm, ⟨72, _⟩ => ⟨S_, .f32⟩
  | .hbm, ⟨73, _⟩ => ⟨S32x1x1, .f32⟩
  | .hbm, ⟨74, _⟩ => ⟨S32x1x1, .f32⟩
  | .hbm, ⟨75, _⟩ => ⟨S_, .f32⟩
  | .hbm, ⟨76, _⟩ => ⟨S32x1x1, .f32⟩
  | .hbm, ⟨77, _⟩ => ⟨S32x1x1, .f32⟩
  | .hbm, ⟨78, _⟩ => ⟨S32x1x1, .f32⟩
  | .hbm, ⟨79, _⟩ => ⟨S32x1x1024, .f32⟩
  | .hbm, ⟨80, _⟩ => ⟨S32x1x1024, .f32⟩
  | .hbm, ⟨81, _⟩ => ⟨S1x1x1024, .f32⟩
  | .hbm, ⟨82, _⟩ => ⟨S32x1x1024, .f32⟩
  | .hbm, ⟨83, _⟩ => ⟨S32x1x1024, .f32⟩
  | .hbm, ⟨84, _⟩ => ⟨S_, .f32⟩
  | .hbm, ⟨85, _⟩ => ⟨S32x1x1024, .f32⟩
  | .hbm, ⟨86, _⟩ => ⟨S32x1x1024, .f32⟩
  | .hbm, ⟨87, _⟩ => ⟨S32x1x1024, .f32⟩
  | .hbm, ⟨88, _⟩ => ⟨S32x1x1024, .f32⟩
  | .hbm, ⟨89, _⟩ => ⟨S1x1024x5632, .f32⟩
  | .hbm, ⟨90, _⟩ => ⟨S1024x5632, .f32⟩
  | .hbm, ⟨91, _⟩ => ⟨S1x2816x1024, .f32⟩
  | .hbm, ⟨92, _⟩ => ⟨S2816x1024, .f32⟩
  | .hbm, ⟨93, _⟩ => ⟨S32x1x5632, .f32⟩
  | .hbm, ⟨94, _⟩ => ⟨S32x1x2816, .f32⟩
  | .hbm, ⟨95, _⟩ => ⟨S32x1x2816, .f32⟩
  | .hbm, ⟨96, _⟩ => ⟨S32x1x2816, .f32⟩
  | .hbm, ⟨97, _⟩ => ⟨S32x1x2816, .f32⟩
  | .hbm, ⟨98, _⟩ => ⟨S_, .f32⟩
  | .hbm, ⟨99, _⟩ => ⟨S32x1x2816, .f32⟩
  | .hbm, ⟨100, _⟩ => ⟨S32x1x2816, .f32⟩
  | .hbm, ⟨101, _⟩ => ⟨S_, .f32⟩
  | .hbm, ⟨102, _⟩ => ⟨S32x1x2816, .f32⟩
  | .hbm, ⟨103, _⟩ => ⟨S32x1x2816, .f32⟩
  | .hbm, ⟨104, _⟩ => ⟨S32x1x2816, .f32⟩
  | .hbm, ⟨105, _⟩ => ⟨S32x1x2816, .f32⟩
  | .hbm, ⟨106, _⟩ => ⟨S32x1x1024, .f32⟩
  | .hbm, ⟨107, _⟩ => ⟨S1x1024, .f32⟩
  | .hbm, ⟨108, _⟩ => ⟨S1024, .f32⟩
  | .hbm, ⟨109, _⟩ => ⟨S32x1x1024, .f32⟩
  | .hbm, ⟨110, _⟩ => ⟨S_, .f32⟩
  | .hbm, ⟨111, _⟩ => ⟨S32x1, .f32⟩
  | .hbm, ⟨112, _⟩ => ⟨S32x1x1, .f32⟩
  | .hbm, ⟨113, _⟩ => ⟨S_, .f32⟩
  | .hbm, ⟨114, _⟩ => ⟨S32x1x1, .f32⟩
  | .hbm, ⟨115, _⟩ => ⟨S32x1x1, .f32⟩
  | .hbm, ⟨116, _⟩ => ⟨S_, .f32⟩
  | .hbm, ⟨117, _⟩ => ⟨S32x1x1, .f32⟩
  | .hbm, ⟨118, _⟩ => ⟨S32x1x1, .f32⟩
  | .hbm, ⟨119, _⟩ => ⟨S32x1x1, .f32⟩
  | .hbm, ⟨120, _⟩ => ⟨S32x1x1024, .f32⟩
  | .hbm, ⟨121, _⟩ => ⟨S32x1x1024, .f32⟩
  | .hbm, ⟨122, _⟩ => ⟨S1x1x1024, .f32⟩
  | .hbm, ⟨123, _⟩ => ⟨S32x1x1024, .f32⟩
  | .hbm, ⟨124, _⟩ => ⟨S32x1x1024, .f32⟩
  | .hbm, ⟨125, _⟩ => ⟨S32x1x1024, .f32⟩
  | .hbm, ⟨126, _⟩ => ⟨S32x1x1024, .f32⟩
  | .hbm, ⟨127, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_9 : Ref sig .tc := ⟨.hbm, 110, rfl⟩
abbrev main_v70 : Ref sig .tc := ⟨.hbm, 111, rfl⟩
abbrev main_v71 : Ref sig .tc := ⟨.hbm, 112, rfl⟩
abbrev main_cst_10 : Ref sig .tc := ⟨.hbm, 113, rfl⟩
abbrev main_v72 : Ref sig .tc := ⟨.hbm, 114, rfl⟩
abbrev main_v73 : Ref sig .tc := ⟨.hbm, 115, rfl⟩
abbrev main_cst_11 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩

abbrev nD : Nat := 1
abbrev τ : Topo := Topo.v7x

variable {F : FTy → Type} [FloatOps F]
-- ==== Kernel9.lean ====
abbrev S8x2048x3072 : Shape := ⟨3, ![8, 2048, 3072]⟩
abbrev S8x2048x32 : Shape := ⟨3, ![8, 2048, 32]⟩
abbrev S1x32 : Shape := ⟨2, ![1, 32]⟩
abbrev S16384x3072 : Shape := ⟨2, ![16384, 3072]⟩
abbrev S16384x32 : Shape := ⟨2, ![16384, 32]⟩
abbrev S_ : Shape := ⟨0, ![]⟩
abbrev S16384x128 : Shape := ⟨2, ![16384, 128]⟩
abbrev S32 : Shape := ⟨1, ![32]⟩
abbrev S1x128 : Shape := ⟨2, ![1, 128]⟩
abbrev S32x64 : Shape := ⟨2, ![32, 64]⟩
abbrev S2048 : Shape := ⟨1, ![2048]⟩
abbrev S1x2048 : Shape := ⟨2, ![1, 2048]⟩
abbrev S128x2048 : Shape := ⟨2, ![128, 2048]⟩
abbrev S2048x128 : Shape := ⟨2, ![2048, 128]⟩
abbrev S16384x2048 : Shape := ⟨2, ![16384, 2048]⟩
abbrev S8x2048x128 : Shape := ⟨3, ![8, 2048, 128]⟩
abbrev S512x2048 : Shape := ⟨2, ![512, 2048]⟩
abbrev S512x512 : Shape := ⟨2, ![512, 512]⟩
abbrev S512x128 : Shape := ⟨2, ![512, 128]⟩
abbrev S1x2048x128 : Shape := ⟨3, ![1, 2048, 128]⟩
abbrev S128x128 : Shape := ⟨2, ![128, 128]⟩
abbrev S128x1 : Shape := ⟨2, ![128, 1]⟩
abbrev S128x512 : Shape := ⟨2, ![128, 512]⟩
abbrev S1x512 : Shape := ⟨2, ![1, 512]⟩

abbrev nBuf : Space → Nat
  | .hbm => 36
  | .vmem => 17
  | .smem => 0
  | _ => 0

abbrev bufTy : (tb : Table) → Fin (tcTables nBuf tb) → BufTy
  | .hbm, ⟨0, _⟩ => ⟨S8x2048x3072, .f32⟩
  | .hbm, ⟨1, _⟩ => ⟨S8x2048x32, .f32⟩
  | .hbm, ⟨2, _⟩ => ⟨S1x32, .f32⟩
  | .hbm, ⟨3, _⟩ => ⟨S1x32, .f32⟩
  | .hbm, ⟨4, _⟩ => ⟨S16384x3072, .f32⟩
  | .hbm, ⟨5, _⟩ => ⟨S16384x32, .f32⟩
  | .hbm, ⟨6, _⟩ => ⟨S_, .i32⟩
  | .hbm, ⟨7, _⟩ => ⟨S_, .f32⟩
  | .hbm, ⟨8, _⟩ => ⟨S16384x128, .f32⟩
  | .hbm, ⟨9, _⟩ => ⟨S32, .f32⟩
  | .hbm, ⟨10, _⟩ => ⟨S1x32, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S32, .f32⟩
  | .hbm, ⟨15, _⟩ => ⟨S32x64, .f32⟩
  | .hbm, ⟨16, _⟩ => ⟨S2048, .f32⟩
  | .hbm, ⟨17, _⟩ => ⟨S1x2048, .f32⟩
  | .hbm, ⟨18, _⟩ => ⟨S128x2048, .i32⟩
  | .hbm, ⟨19, _⟩ => ⟨S128x2048, .i32⟩
  | .hbm, ⟨20, _⟩ => ⟨S_, .i32⟩
  | .hbm, ⟨21, _⟩ => ⟨S128x2048, .i32⟩
  | .hbm, ⟨22, _⟩ => ⟨S128x2048, .i32⟩
  | .hbm, ⟨23, _⟩ => ⟨S128x2048, .i1⟩
  | .hbm, ⟨24, _⟩ => ⟨S128x2048, .i32⟩
  | .hbm, ⟨25, _⟩ => ⟨S128x2048, .bf16⟩
  | .hbm, ⟨26, _⟩ => ⟨S2048x128, .i32⟩
  | .hbm, ⟨27, _⟩ => ⟨S2048x128, .i32⟩
  | .hbm, ⟨28, _⟩ => ⟨S_, .i32⟩
  | .hbm, ⟨29, _⟩ => ⟨S2048x128, .i32⟩
  | .hbm, ⟨30, _⟩ => ⟨S2048x128, .i32⟩
  | .hbm, ⟨31, _⟩ => ⟨S2048x128, .i1⟩
  | .hbm, ⟨32, _⟩ => ⟨S2048x128, .i32⟩
  | .hbm, ⟨33, _⟩ => ⟨S2048x128, .bf16⟩
  | .hbm, ⟨34, _⟩ => ⟨S16384x2048, .f32⟩
  | .hbm, ⟨35, _⟩ => ⟨S8x2048x128, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x2048, .f32⟩
  | .local _ .vmem, ⟨10, _⟩ => ⟨S128x2048, .bf16⟩
  | .local _ .vmem, ⟨11, _⟩ => ⟨S2048x128, .bf16⟩
  | .local _ .vmem, ⟨12, _⟩ => ⟨S512x2048, .f32⟩
  | .local _ .vmem, ⟨13, _⟩ => ⟨S512x2048, .f32⟩
  | .local _ .vmem, ⟨14, _⟩ => ⟨S1x2048x128, .f32⟩
  | .local _ .vmem, ⟨15, _⟩ => ⟨S1x2048x128, .f32⟩
  | .local _ .vmem, ⟨16, _⟩ => ⟨S2048x128, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v2654 : BitVec 1 := Scalar.cmpi .eq arg1 c3_i32
  let v2655 : BitVec 32 := Scalar.extui v2654
  let c0_i32_520 : BitVec 32 := 0#32
  let v2656 : BitVec 1 := Scalar.cmpi .ne v2655 c0_i32_520
  v2656

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let c0_i32 : BitVec 32 := 0#32
  ![v1.toNat, c4_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Proof.StepBlock.lean ====
/-
  What one block of the decoding step computes, at an index: the state after the step and the step's output, both as
  scalar arithmetic on the block's inputs. The two 0/1 tables are taken by hypothesis; the sums over their rows pick
  the one head that a channel belongs to, and the second and third summand of each three-way split are zero because
  the value that is split is real.
-/
module

public import proofs.«01_k».proof.Proof.Gen.KernelIdeal.Skeleton
public import Idealize.ShloMosaic.Lib.Pointwise

@[expose] public section

set_option maxRecDepth 16384

noncomputable section

open Idealize.ShloMosaic

namespace Cert.KernelIdeal.StepBlock

open Cert.KernelIdeal Cert.KernelIdeal.Gen

/-- An extended real that is neither of the two infinities. -/
def Real (x : EReal) : Prop := x ≠ ⊤ ∧ x ≠ ⊥

theorem Real.coe {x : EReal} (h : Real x) : ∃ r : ℝ, x = (r : EReal) := ⟨x.toReal, (EReal.coe_toReal h.1 h.2).symm⟩
theorem Real.of_coe (r : ℝ) : Real (r : EReal) := ⟨EReal.coe_ne_top r, EReal.coe_ne_bot r⟩
theorem Real.sub_self {x : EReal} (h : Real x) : x - x = 0 := EReal.sub_self h.1 h.2
theorem Real.mul {x y : EReal} (hx : Real x) (hy : Real y) : Real (x * y) := by
  obtain ⟨a, rfl⟩ := hx.coe; obtain ⟨b, rfl⟩ := hy.coe; rw [← EReal.coe_mul]; exact .of_coe _
theorem Real.exp {x : EReal} (hx : Real x) : Real (Ideal.exp x) := by
  obtain ⟨a, rfl⟩ := hx.coe; exact .of_coe _
theorem Real.zero_sub {x : EReal} (hx : Real x) : Real (0 - x) := by
  obtain ⟨a, rfl⟩ := hx.coe; rw [← EReal.coe_zero, ← EReal.coe_sub]; exact .of_coe _

/-- A select on "the two numbers are equal", both below 2³². -/
theorem select_eq {α : Type} {n m : Nat} (a : Fin n) (b : Fin m) (hn : n ≤ 2 ^ 32) (hm : m ≤ 2 ^ 32) (x y : α) :
    Scalar.select (IntOp.cmpi CmpIPredicate.eq (BitVec.ofNat 32 a) (BitVec.ofNat 32 b)) x y = if (a : ℕ) = (b : ℕ) then x else y := by
  have ha := a.isLt
  have hb := b.isLt
  have h : (BitVec.ofNat 32 a = BitVec.ofNat 32 b) ↔ (a : ℕ) = (b : ℕ) := by
    rw [← BitVec.toNat_inj, BitVec.toNat_ofNat, BitVec.toNat_ofNat, Nat.mod_eq_of_lt (by omega), Nat.mod_eq_of_lt (by omega)]
  unfold Scalar.select IntOp.cmpi
  by_cases e : (a : ℕ) = (b : ℕ)
  · rw [if_pos e]; simp [h.mpr e]
  · have hb : (BitVec.ofNat 32 (a : ℕ) == BitVec.ofNat 32 (b : ℕ)) = false := beq_eq_false_iff_ne.mpr (mt h.mp e)
    rw [if_neg e]; simp only [hb]; rfl

/-- A sum whose terms vanish off one place is the term there. -/
theorem sum_pick {n : ℕ} (k : Fin n) (f : Fin n → EReal) : ∑ x : Fin n, (if (k : ℕ) = (x : ℕ) then f x else 0) = f k := by
  simp only [← Fin.ext_iff]; simp

/-- A row of the 0/1 table times a column picks the column's entry at the row's head. -/
theorem sum_oneHot {n : ℕ} (k : Fin n) (e f : Fin n → EReal) (he : ∀ x, e x = if (k : ℕ) = (x : ℕ) then 1 else 0) :
    ∑ x : Fin n, e x * f x = f k := by
  refine (Finset.sum_congr rfl fun x _ => ?_).trans (sum_pick k f)
  rw [he]; split <;> simp

/-- The head a channel belongs to. -/
def hd (r : Fin 2048) : Fin 128 := ⟨r / 64, by omega⟩
/-- The place of a channel's group's state column `n` among the four groups' columns. -/
def gc (r : Fin 2048) (n : Fin 128) : Fin 512 := ⟨(r / 512) * 128 + n, by omega⟩

/-- The factor by which a head's state decays in one step. -/
def dec (dt : Vec Ideal S1x1x128 .f32) (al : Vec Ideal S1x128 .f32) (h : Fin 128) : EReal :=
  Ideal.exp (dt (ix3 0 0 h) * (0 - Ideal.exp (al (ix2 0 h))))

/-- The state after the step. -/
def stepState (xs : Vec Ideal S1x1x2048 .f32) (bm : Vec Ideal S1x1x512 .f32) (dt : Vec Ideal S1x1x128 .f32)
    (al : Vec Ideal S1x128 .f32) (h0 : Vec Ideal S1x2048x128 .f32) (r : Fin 2048) (n : Fin 128) : EReal :=
  h0 (ix3 0 r n) * dec dt al (hd r) + xs (ix3 0 0 r) * dt (ix3 0 0 (hd r)) * bm (ix3 0 0 (gc r n))

/-- The step's output. -/
def stepOut (xs : Vec Ideal S1x1x2048 .f32) (bm cm : Vec Ideal S1x1x512 .f32) (dt : Vec Ideal S1x1x128 .f32)
    (al : Vec Ideal S1x128 .f32) (ds : Vec Ideal S1x2048 .f32) (h0 : Vec Ideal S1x2048x128 .f32) (r : Fin 2048) : EReal :=
  ∑ n : Fin 128, cm (ix3 0 0 (gc r n)) * stepState xs bm dt al h0 r n + ds (ix2 0 r) * xs (ix3 0 0 r)

section
variable (xs : Vec Ideal S1x1x2048 .f32) (bm cm : Vec Ideal S1x1x512 .f32) (dt : Vec Ideal S1x1x128 .f32)
    (al : Vec Ideal S1x128 .f32) (ds : Vec Ideal S1x2048 .f32) (h0 : Vec Ideal S1x2048x128 .f32)
    (e : Vec Ideal S128x2048 .bf16) (et : Vec Ideal S2048x128 .bf16)
    (hdt : ∀ h : Fin 128, Real (dt (ix3 0 0 h))) (hal : ∀ h : Fin 128, Real (al (ix2 0 h)))
    (he : ∀ (h : Fin 128) (r : Fin 2048), e (ix2 h r) = if (hd r : ℕ) = (h : ℕ) then 1 else 0)
    (het : ∀ (h : Fin 128) (r : Fin 2048), et (ix2 r h) = if (hd r : ℕ) = (h : ℕ) then 1 else 0)

include hdt he in
/-- A channel of the input times its head's step size. -/
theorem dtx_at (r : Fin 2048) :
    k0_pay7 (k0_pay2 dt) (k0_pay3 e) (k0_pay5 xs) (k0_pay6 dt) (ix2 0 r) = xs (ix3 0 0 r) * dt (ix3 0 0 (hd r)) := by
  pointwise [k0_pay7, k0_pay2, k0_pay3, k0_pay5, k0_pay6]
  simp only [fun x => (hdt x).sub_self, sub_zero, zero_mul, Finset.sum_const_zero, add_zero]
  congr 1
  refine (Finset.sum_congr rfl fun x _ => mul_comm _ _).trans ?_
  exact sum_oneHot (hd r) (fun x => e (ix2 x r)) (fun x => dt (ix3 0 0 x)) (fun x => he x r)

include hdt hal het in
/-- The decay factors, spread over the rows of the state. -/
theorem dec_at (r : Fin 2048) (n : Fin 128) : k0_pay4 dt al et (ix2 r n) = dec dt al (hd r) := by
  have hr : ∀ x, Real (dec dt al x) := fun x => ((hdt x).mul (hal x).exp.zero_sub).exp
  pointwise [k0_pay4, k0_pay2]
  simp only [select_eq _ _ (by norm_num : 128 ≤ 2 ^ 32) (by norm_num : 128 ≤ 2 ^ 32)]
  have hp : ∀ x : Fin 128, ∑ x_1 : Fin 128, (if (x : ℕ) = (x_1 : ℕ) then Ideal.exp (dt (ix3 0 0 x_1) * (0 - Ideal.exp (al (ix2 0 x_1)))) else 0) = dec dt al x :=
    fun x => sum_pick x fun y => dec dt al y
  simp only [hp, fun x => (hr x).sub_self, sub_zero, mul_zero, Finset.sum_const_zero, add_zero]
  exact sum_oneHot (hd r) (fun x => et (ix2 r x)) (fun x => dec dt al x) (fun x => het x r)

end

section
variable (v37 : FVec Ideal S2048x128 .f32) (v54 : FVec Ideal S1x2048 .f32) (v59 : FVec Ideal S1x512 .f32)
  (h : Vec Ideal S1x512x128 .f32)

/-- Group 1's new state, over the spread tables. -/
theorem state1 (r : Fin 512) (n : Fin 128) : k0_pay15 v37 v54 k0_pay8 v59 h (ix2 r n) =
    h (ix3 0 r n) * v37 (ix2 ⟨512 + r, by omega⟩ n) + v54 (ix2 0 ⟨512 + r, by omega⟩) * v59 (ix2 0 ⟨128 + n, by omega⟩) := by
  pointwise [k0_pay15, k0_pay8]
  simp only [select_eq _ _ (by norm_num : 512 ≤ 2 ^ 32) (by norm_num : 512 ≤ 2 ^ 32)]
  rw [sum_pick r fun x => v54 (ix2 0 ⟨512 + x, by omega⟩) * v59 (ix2 0 ⟨128 + n, by omega⟩)]

/-- Group 2's new state. -/
theorem state2 (r : Fin 512) (n : Fin 128) : k0_pay20 v37 (k0_pay19 v54 k0_pay8 v59) h (ix2 r n) =
    h (ix3 0 r n) * v37 (ix2 ⟨1024 + r, by omega⟩ n) + v54 (ix2 0 ⟨1024 + r, by omega⟩) * v59 (ix2 0 ⟨256 + n, by omega⟩) := by
  pointwise [k0_pay20, k0_pay19, k0_pay8]
  simp only [select_eq _ _ (by norm_num : 512 ≤ 2 ^ 32) (by norm_num : 512 ≤ 2 ^ 32)]
  rw [sum_pick r fun x => v54 (ix2 0 ⟨1024 + x, by omega⟩) * v59 (ix2 0 ⟨256 + n, by omega⟩)]

/-- Group 3's new state. -/
theorem state3 (r : Fin 512) (n : Fin 128) : k0_pay22 v37 v54 k0_pay8 v59 h (ix2 r n) =
    h (ix3 0 r n) * v37 (ix2 ⟨1536 + r, by omega⟩ n) + v54 (ix2 0 ⟨1536 + r, by omega⟩) * v59 (ix2 0 ⟨384 + n, by omega⟩) := by
  pointwise [k0_pay22, k0_pay8]
  simp only [select_eq _ _ (by norm_num : 512 ≤ 2 ^ 32) (by norm_num : 512 ≤ 2 ^ 32)]
  rw [sum_pick r fun x => v54 (ix2 0 ⟨1536 + x, by omega⟩) * v59 (ix2 0 ⟨384 + n, by omega⟩)]

/-- Group 0's new state. -/
theorem state0 (v1 : FVec Ideal S1x128 .f32) (v10 : FVec Ideal S128x2048 .bf16) (v39 : FVec Ideal S1x2048 .f32)
    (v40 : FVec Ideal S1x128 .bf16) (v58 : Vec Ideal S1x1x512 .f32) (r : Fin 512) (n : Fin 128) :
    k0_pay11 v1 v10 v37 v39 v40 v58 h (ix2 r n) =
    h (ix3 0 r n) * v37 (ix2 ⟨r, by omega⟩ n) + k0_pay7 v1 v10 v39 v40 (ix2 0 ⟨r, by omega⟩) * k0_pay9 v58 (ix2 0 ⟨n, by omega⟩) := by
  pointwise [k0_pay11, k0_pay8]
  simp only [select_eq _ _ (by norm_num : 512 ≤ 2 ^ 32) (by norm_num : 512 ≤ 2 ^ 32)]
  rw [sum_pick r fun x => k0_pay7 v1 v10 v39 v40 (ix2 0 ⟨x, by omega⟩) * k0_pay9 v58 (ix2 0 ⟨n, by omega⟩)]

end

section
variable (xs : Vec Ideal S1x1x2048 .f32) (bm cm : Vec Ideal S1x1x512 .f32) (dt : Vec Ideal S1x1x128 .f32)
    (al : Vec Ideal S1x128 .f32) (ds : Vec Ideal S1x2048 .f32) (h0 : Vec Ideal S1x2048x128 .f32)
    (e : Vec Ideal S128x2048 .bf16) (et : Vec Ideal S2048x128 .bf16)
    (hdt : ∀ h : Fin 128, Real (dt (ix3 0 0 h))) (hal : ∀ h : Fin 128, Real (al (ix2 0 h)))
    (he : ∀ (h : Fin 128) (r : Fin 2048), e (ix2 h r) = if (hd r : ℕ) = (h : ℕ) then 1 else 0)
    (het : ∀ (h : Fin 128) (r : Fin 2048), et (ix2 r h) = if (hd r : ℕ) = (h : ℕ) then 1 else 0)

include hdt hal he het in
/-- Group 0 of the kernel's four leaves the step's state of its channels. -/
theorem group0 (r : Fin 512) (n : Fin 128) :
    k0_pay11 (k0_pay2 dt) (k0_pay3 e) (k0_pay4 dt al et) (k0_pay5 xs) (k0_pay6 dt) bm (View.ld h0 (Rect.unit ![0, 0, 0] ![1, 512, 128] inb_S1x2048x128_S1x512x128_0_0_0)) (ix2 r n)
      = stepState xs bm dt al h0 ⟨0 + r, by omega⟩ n := by
  have hg : gc ⟨0 + r, by omega⟩ n = ⟨0 + n, by omega⟩ := Fin.ext (by show (0 + (r : ℕ)) / 512 * 128 + (n : ℕ) = 0 + (n : ℕ); omega)
  rw [state0, dtx_at xs dt e hdt he, dec_at dt al et hdt hal het]
  unfold stepState
  rw [hg]
  pointwise [k0_pay9]

include hdt hal he het in
/-- Group 1 of the kernel's four leaves the step's state of its channels. -/
theorem group1 (r : Fin 512) (n : Fin 128) :
    k0_pay15 (k0_pay4 dt al et) (k0_pay7 (k0_pay2 dt) (k0_pay3 e) (k0_pay5 xs) (k0_pay6 dt)) k0_pay8 (k0_pay9 bm) (View.ld h0 (Rect.unit ![0, 512, 0] ![1, 512, 128] inb_S1x2048x128_S1x512x128_0_512_0)) (ix2 r n)
      = stepState xs bm dt al h0 ⟨512 + r, by omega⟩ n := by
  have hg : gc ⟨512 + r, by omega⟩ n = ⟨128 + n, by omega⟩ := Fin.ext (by show (512 + (r : ℕ)) / 512 * 128 + (n : ℕ) = 128 + (n : ℕ); omega)
  rw [state1, dtx_at xs dt e hdt he, dec_at dt al et hdt hal het]
  unfold stepState
  rw [hg]
  pointwise [k0_pay9]

include hdt hal he het in
/-- Group 2 of the kernel's four leaves the step's state of its channels. -/
theorem group2 (r : Fin 512) (n : Fin 128) :
    k0_pay20 (k0_pay4 dt al et) (k0_pay19 (k0_pay7 (k0_pay2 dt) (k0_pay3 e) (k0_pay5 xs) (k0_pay6 dt)) k0_pay8 (k0_pay9 bm)) (View.ld h0 (Rect.unit ![0, 1024, 0] ![1, 512, 128] inb_S1x2048x128_S1x512x128_0_1024_0)) (ix2 r n)
      = stepState xs bm dt al h0 ⟨1024 + r, by omega⟩ n := by
  have hg : gc ⟨1024 + r, by omega⟩ n = ⟨256 + n, by omega⟩ := Fin.ext (by show (1024 + (r : ℕ)) / 512 * 128 + (n : ℕ) = 256 + (n : ℕ); omega)
  rw [state2, dtx_at xs dt e hdt he, dec_at dt al et hdt hal het]
  unfold stepState
  rw [hg]
  pointwise [k0_pay9]

include hdt hal he het in
/-- Group 3 of the kernel's four leaves the step's state of its channels. -/
theorem group3 (r : Fin 512) (n : Fin 128) :
    k0_pay22 (k0_pay4 dt al et) (k0_pay7 (k0_pay2 dt) (k0_pay3 e) (k0_pay5 xs) (k0_pay6 dt)) k0_pay8 (k0_pay9 bm) (View.ld h0 (Rect.unit ![0, 1536, 0] ![1, 512, 128] inb_S1x2048x128_S1x512x128_0_1536_0)) (ix2 r n)
      = stepState xs bm dt al h0 ⟨1536 + r, by omega⟩ n := by
  have hg : gc ⟨1536 + r, by omega⟩ n = ⟨384 + n, by omega⟩ := Fin.ext (by show (1536 + (r : ℕ)) / 512 * 128 + (n : ℕ) = 384 + (n : ℕ); omega)
  rw [state3, dtx_at xs dt e hdt he, dec_at dt al et hdt hal het]
  unfold stepState
  rw [hg]
  pointwise [k0_pay9]

set_option maxHeartbeats 2000000 in
include hdt hal he het in
/-- The step's output, channel by channel. -/
theorem out_at (r : Fin 2048) :
    k0_pay1
      (k0_pay24 (k0_pay4 dt al et) (k0_pay7 (k0_pay2 dt) (k0_pay3 e) (k0_pay5 xs) (k0_pay6 dt)) k0_pay8 (k0_pay9 bm)
        (k0_pay10 cm)
        (k0_pay14
          (k0_pay11 (k0_pay2 dt) (k0_pay3 e) (k0_pay4 dt al et) (k0_pay5 xs) (k0_pay6 dt) bm
            (View.ld h0 (Rect.unit ![0, 0, 0] ![1, 512, 128] inb_S1x2048x128_S1x512x128_0_0_0)))
          (k0_pay13 cm))
        (k0_pay17 (k0_pay4 dt al et) (k0_pay7 (k0_pay2 dt) (k0_pay3 e) (k0_pay5 xs) (k0_pay6 dt)) k0_pay8 (k0_pay9 bm)
          (k0_pay10 cm) (View.ld h0 (Rect.unit ![0, 512, 0] ![1, 512, 128] inb_S1x2048x128_S1x512x128_0_512_0)))
        (k0_pay18 (k0_pay10 cm))
        (k0_pay19 (k0_pay7 (k0_pay2 dt) (k0_pay3 e) (k0_pay5 xs) (k0_pay6 dt)) k0_pay8 (k0_pay9 bm))
        (View.ld h0 (Rect.unit ![0, 1024, 0] ![1, 512, 128] inb_S1x2048x128_S1x512x128_0_1024_0))
        (View.ld h0 (Rect.unit ![0, 1536, 0] ![1, 512, 128] inb_S1x2048x128_S1x512x128_0_1536_0)))
      (k0_pay25 (k0_pay5 xs) ds) (ix3 0 0 r) = stepOut xs bm cm dt al ds h0 r := by
  have g0 := group0 xs bm dt al h0 e et hdt hal he het
  have g1 := group1 xs bm dt al h0 e et hdt hal he het
  have g2 := group2 xs bm dt al h0 e et hdt hal he het
  have g3 := group3 xs bm dt al h0 e et hdt hal he het
  pointwise [k0_pay1, k0_pay24, k0_pay25, k0_pay14, k0_pay13, k0_pay17, k0_pay18, k0_pay10]
  have hx : k0_pay5 xs (ix2 0 r) = xs (ix3 0 0 r) := by pointwise [k0_pay5]
  rw [hx]
  unfold stepOut
  congr 1
  have key : ∀ (r' : Fin 2048) (k : ℕ) (hk : k < 4) (q : Fin 512), (r' : ℕ) = 512 * k + q → ∀ n : Fin 128, gc r' n = ⟨128 * k + n, by omega⟩ :=
    fun r' k hk q h n => Fin.ext (by show (r' : ℕ) / 512 * 128 + (n : ℕ) = 128 * k + (n : ℕ); omega)
  split
  · rename_i h
    refine Finset.sum_congr rfl fun n _ => ?_
    rw [g0, key r 0 (by omega) ⟨r, h⟩ (by simp) n]
    congr 2 <;> simp
  · split
    · rename_i h' h
      refine Finset.sum_congr rfl fun n _ => ?_
      rw [g1, key r 1 (by omega) ⟨r - 512, h⟩ (by simp; omega) n]
      congr 2; exact Fin.ext (by simp; omega)
    · split
      · rename_i h'' h' h
        refine Finset.sum_congr rfl fun n _ => ?_
        rw [g2, key r 2 (by omega) ⟨r - 512 - 512, h⟩ (by simp; omega) n]
        congr 2; exact Fin.ext (by simp; omega)
      · rename_i h'' h' h
        refine Finset.sum_congr rfl fun n _ => ?_
        rw [g3, key r 3 (by omega) ⟨r - 512 - 512 - 512, by omega⟩ (by simp; omega) n]
        congr 2; exact Fin.ext (by simp; omega)

end

end Cert.KernelIdeal.StepBlock
-- ==== Proof.StepHost.lean ====
module

public import proofs.«01_k».proof.Proof.StepBlock
public import proofs.«01_k».proof.Proof.Gen.KernelIdeal.Value
public import Idealize.ShloMosaic.Lib.Pipeline.Value
public import Idealize.ShloMosaic.Lib.StableHlo.ReadAt
public import Idealize.ShloMosaic.Lib.Tactic
public import Idealize.ShloMosaic.Lib.Routing.Words
public import Idealize.ShloMosaic.Lib.KernelVsHost

@[expose] public section

set_option maxRecDepth 16384

noncomputable section

open Idealize.ShloMosaic Idealize.ShloMosaic.TcCoe Idealize.SL.Sem

namespace Cert.KernelIdeal.StepHost

open Cert.KernelIdeal Cert.KernelIdeal.Gen Cert.KernelIdeal.StepBlock

variable (m : (ℓ : Loc nD τ sig) → Buf (Elt Ideal) ℓ) (c : Dev nD)

/-- A word comparing a quotient with a head number, turned into a number: one where they agree and zero elsewhere. -/
theorem hot (r : Fin 2048) (h : Fin 128) : (FloatOps.sitofp FTy.bf16 (BitVec.setWidth 32
    (IntOp.cmpi CmpIPredicate.eq (IntOp.divsi ArithUnit.host (BitVec.ofNat 32 (r : ℕ)) 64#32) (BitVec.ofNat 32 (h : ℕ)))) : Ideal .bf16)
    = if (hd r : ℕ) = (h : ℕ) then (1 : EReal) else 0 := by
  rw [Routing.divsi_word .host (by omega) (by norm_num : 0 < 64) (by norm_num)]
  have hq : ((r : ℕ) / 64) = (hd r : ℕ) := rfl
  rw [hq]
  have hb : IntOp.cmpi CmpIPredicate.eq (BitVec.ofNat 32 (hd r : ℕ)) (BitVec.ofNat 32 (h : ℕ)) = if (hd r : ℕ) = (h : ℕ) then 1#1 else 0#1 := by
    have := select_eq (hd r) h (by norm_num) (by norm_num) 1#1 0#1
    rw [← this]
    generalize IntOp.cmpi CmpIPredicate.eq (BitVec.ofNat 32 (hd r : ℕ)) (BitVec.ofNat 32 (h : ℕ)) = w
    revert w; decide
  rw [hb]
  split_ifs
  · show ((((1#1).setWidth 32).toInt : ℝ) : EReal) = 1
    norm_num
  · show ((((0#1).setWidth 32).toInt : ℝ) : EReal) = 0
    norm_num

theorem V26 (b : Fin 32) (k : Fin 3072) : V m c main_v26 (ix3 b 0 k) = m ((c : Thread nD τ).loc main_arg0) (ix3 b 0 k) := by
  unfold V
  after_reads_at
theorem V27 (b : Fin 32) (h : Fin 128) : V m c main_v27 (ix3 b 0 h) = if hh : h.val < 32 then (m ((c : Thread nD τ).loc main_arg1) (ix3 b 0 ⟨h, hh⟩) : EReal) else (0 : EReal) := by
  unfold V
  after_reads_at
  split_ifs
  · rfl
  · exact sitofp_zero (φ := .f32)
theorem V5 (h : Fin 128) : V m c main_v5 (ix2 0 h) = if hh : h.val < 32 then (m ((c : Thread nD τ).loc main_arg2) (ix2 0 ⟨h, hh⟩) : EReal) else (0 : EReal) := by
  unfold V
  after_reads_at
  split_ifs
  · rfl
  · exact sitofp_zero (φ := .f32)
theorem V9 (r : Fin 2048) : V m c main_v9 (ix2 0 r) = m ((c : Thread nD τ).loc main_arg3) (ix2 0 ⟨r / 64, by omega⟩) := by
  unfold V
  after_reads_at
theorem V18 (h : Fin 128) (r : Fin 2048) : V m c main_v18 (ix2 h r) = if (hd r : ℕ) = (h : ℕ) then (1 : EReal) else 0 := by
  unfold V
  after_reads_at
  exact hot r h
theorem V25 (h : Fin 128) (r : Fin 2048) : V m c main_v25 (ix2 r h) = if (hd r : ℕ) = (h : ℕ) then (1 : EReal) else 0 := by
  unfold V
  after_reads_at
  exact hot r h
theorem V11 (b : Fin 32) (r : Fin 2048) (n : Fin 128) : V m c main_v11 (ix3 b r n) =
    m ((c : Thread nD τ).loc main_arg4) (ix5 0 b ⟨r / 64, by omega⟩ ⟨r % 64, by omega⟩ n) := by
  unfold V
  after_reads_at

end Cert.KernelIdeal.StepHost
-- ==== Proof.StepOut.lean ====
module

public import proofs.«01_k».proof.Proof.StepBlock
public import proofs.«01_k».proof.Proof.Gen.KernelIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.StepOut

open Cert.KernelIdeal Cert.KernelIdeal.Gen Cert.KernelIdeal.StepBlock

variable (m : (ℓ : Loc nD τ sig) → Buf (Elt Ideal) ℓ) (c : Dev nD) (t : Fin cfg0.N)

theorem hz3 : (![0, 0, 0] : Fin 3 → Nat) = fun _ => 0 := funext fun a => by fin_cases a <;> rfl
theorem hz2 : (![0, 0] : Fin 2 → Nat) = fun _ => 0 := funext fun a => by fin_cases a <;> rfl

/-- What one grid point leaves in its block of the layer's output: the step's output of the blocks it reads. -/
theorem outs9 (hdt : ∀ h : Fin 128, Real ((iblk m c 3 t : Vec Ideal S1x1x128 .f32) (ix3 0 0 h)))
    (hal : ∀ h : Fin 128, Real ((iblk m c 4 t : Vec Ideal S1x128 .f32) (ix2 0 h)))
    (he : ∀ (h : Fin 128) (r : Fin 2048), (iblk m c 6 t : Vec Ideal S128x2048 .bf16) (ix2 h r) = if (hd r : ℕ) = (h : ℕ) then (1 : EReal) else 0)
    (het : ∀ (h : Fin 128) (r : Fin 2048), (iblk m c 7 t : Vec Ideal S2048x128 .bf16) (ix2 r h) = if (hd r : ℕ) = (h : ℕ) then (1 : EReal) else 0)
    (r : Fin 2048) : (outsAt0 m c t).1 (ix3 0 0 r) = stepOut (X0_0 m c t) (iblk m c 1 t) (iblk m c 2 t) (iblk m c 3 t) (iblk m c 4 t) (iblk m c 5 t) (iblk m c 8 t) r := by
  unfold outsAt0 out0_A_9
  dsimp only
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t) (iblk m c 6 t) (iblk m c 7 t) (iblk m c 8 t))]
  unfold kernelRun0_A
  dsimp only
  sl_unfold_words
  rw [View.canon_unit_zero hz3]
  revert hdt hal he het
  generalize X0_0 m c t = x0, iblk m c 1 t = x1, iblk m c 2 t = x2, iblk m c 3 t = x3, iblk m c 4 t = x4, iblk m c 5 t = x5, iblk m c 6 t = x6, iblk m c 7 t = x7, iblk m c 8 t = x8
  intro hdt hal he het
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  simp only [View.ld_unit_zero (S := S1x1x2048) hz3, View.ld_unit_zero (S := S1x1x512) hz3, View.ld_unit_zero (S := S1x1x128) hz3, View.ld_unit_zero (S := S1x128) hz2, View.ld_unit_zero (S := S1x2048) hz2, View.ld_unit_zero (S := S128x2048) hz2, View.ld_unit_zero (S := S2048x128) hz2]
  exact out_at x0 x1 x2 x3 x4 x5 x8 x6 x7 hdt hal he het r

/-- What one grid point leaves in its block of the new state: the step's state of the blocks it reads. -/
theorem outs10 (hdt : ∀ h : Fin 128, Real ((iblk m c 3 t : Vec Ideal S1x1x128 .f32) (ix3 0 0 h)))
    (hal : ∀ h : Fin 128, Real ((iblk m c 4 t : Vec Ideal S1x128 .f32) (ix2 0 h)))
    (he : ∀ (h : Fin 128) (r : Fin 2048), (iblk m c 6 t : Vec Ideal S128x2048 .bf16) (ix2 h r) = if (hd r : ℕ) = (h : ℕ) then (1 : EReal) else 0)
    (het : ∀ (h : Fin 128) (r : Fin 2048), (iblk m c 7 t : Vec Ideal S2048x128 .bf16) (ix2 r h) = if (hd r : ℕ) = (h : ℕ) then (1 : EReal) else 0)
    (r : Fin 2048) (n : Fin 128) : (outsAt0 m c t).2 (ix3 0 r n) = stepState (X0_0 m c t) (iblk m c 1 t) (iblk m c 3 t) (iblk m c 4 t) (iblk m c 8 t) r n := by
  unfold outsAt0 out0_A_10
  dsimp only
  rw [View.read_writes_eq_canon _ _ _ (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (X0_0 m c t) (iblk m c 1 t) (iblk m c 2 t) (iblk m c 3 t) (iblk m c 4 t) (iblk m c 5 t) (iblk m c 6 t) (iblk m c 7 t) (iblk m c 8 t))]
  unfold kernelRun0_A
  dsimp only
  sl_unfold_words
  revert hdt hal he het
  generalize X0_0 m c t = x0, iblk m c 1 t = x1, iblk m c 2 t = x2, iblk m c 3 t = x3, iblk m c 4 t = x4, iblk m c 5 t = x5, iblk m c 6 t = x6, iblk m c 7 t = x7, iblk m c 8 t = x8
  intro hdt hal he het
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  simp only [View.ld_unit_zero (S := S1x1x2048) hz3, View.ld_unit_zero (S := S1x1x512) hz3, View.ld_unit_zero (S := S1x1x128) hz3, View.ld_unit_zero (S := S1x128) hz2, View.ld_unit_zero (S := S1x2048) hz2, View.ld_unit_zero (S := S128x2048) hz2, View.ld_unit_zero (S := S2048x128) hz2]
  refine (View.canon_apply_of_pieces (fun i => stepState x0 x1 x3 x4 x8 (i 1) (i 2)) _ ?_ (ix3 0 r n) ?_).trans rfl
  · simp only [List.forall_mem_cons, List.not_mem_nil, false_imp_iff, implies_true, and_true]
    refine ⟨?_, ?_, ?_, ?_⟩
    · intro x
      obtain ⟨z, q, k, rfl⟩ : ∃ (z : Fin 1) (q : Fin 512) (k : Fin 128), x = ix3 z q k := ⟨x 0, x 1, x 2, by funext a; fin_cases a <;> rfl⟩
      refine Eq.trans ?_ ((group3 x0 x1 x3 x4 x8 x6 x7 hdt hal he het q k).trans ?_)
      · pointwise [k0_pay23]
      · congr 1 <;> apply Fin.ext <;> show _ = _ + 1 * _ <;> simp
    · intro x
      obtain ⟨z, q, k, rfl⟩ : ∃ (z : Fin 1) (q : Fin 512) (k : Fin 128), x = ix3 z q k := ⟨x 0, x 1, x 2, by funext a; fin_cases a <;> rfl⟩
      refine Eq.trans ?_ ((group2 x0 x1 x3 x4 x8 x6 x7 hdt hal he het q k).trans ?_)
      · pointwise [k0_pay21]
      · congr 1 <;> apply Fin.ext <;> show _ = _ + 1 * _ <;> simp
    · intro x
      obtain ⟨z, q, k, rfl⟩ : ∃ (z : Fin 1) (q : Fin 512) (k : Fin 128), x = ix3 z q k := ⟨x 0, x 1, x 2, by funext a; fin_cases a <;> rfl⟩
      refine Eq.trans ?_ ((group1 x0 x1 x3 x4 x8 x6 x7 hdt hal he het q k).trans ?_)
      · pointwise [k0_pay16]
      · congr 1 <;> apply Fin.ext <;> show _ = _ + 1 * _ <;> simp
    · intro x
      obtain ⟨z, q, k, rfl⟩ : ∃ (z : Fin 1) (q : Fin 512) (k : Fin 128), x = ix3 z q k := ⟨x 0, x 1, x 2, by funext a; fin_cases a <;> rfl⟩
      refine Eq.trans ?_ ((group0 x0 x1 x3 x4 x8 x6 x7 hdt hal he het q k).trans ?_)
      · pointwise [k0_pay12]
      · congr 1 <;> apply Fin.ext <;> show _ = _ + 1 * _ <;> simp
  · have hr := r.isLt
    have hn := n.isLt
    have key : ∀ (o : Nat) (inb : ∀ a, (![0, o, 0] : Fin 3 → Nat) a + (![1, 512, 128] : Fin 3 → Nat) a ≤ S1x2048x128.size a), o ≤ r.val → r.val < o + 512 →
        (ix3 0 r n : S1x2048x128.Idx) ∈ (Rect.unit ![0, o, 0] ![1, 512, 128] inb).set := by
      intro o inb h1 h2
      rw [Rect.mem_set_unit]
      intro a
      match a with
      | ⟨0, _⟩ => exact ⟨Nat.zero_le _, Nat.zero_lt_one⟩
      | ⟨1, _⟩ => exact ⟨h1, h2⟩
      | ⟨2, _⟩ => exact ⟨Nat.zero_le _, by show n.val < 0 + 128; omega⟩
    rcases (by omega : r.val < 512 ∨ (512 ≤ r.val ∧ r.val < 1024) ∨ (1024 ≤ r.val ∧ r.val < 1536) ∨ 1536 ≤ r.val) with h | h | h | h
    · exact ⟨_, List.mem_cons_of_mem _ (List.mem_cons_of_mem _ (List.mem_cons_of_mem _ List.mem_cons_self)), key 0 inb_S1x2048x128_S1x512x128_0_0_0 (Nat.zero_le _) (by omega)⟩
    · exact ⟨_, List.mem_cons_of_mem _ (List.mem_cons_of_mem _ List.mem_cons_self), key 512 inb_S1x2048x128_S1x512x128_0_512_0 h.1 (by omega)⟩
    · exact ⟨_, List.mem_cons_of_mem _ List.mem_cons_self, key 1024 inb_S1x2048x128_S1x512x128_0_1024_0 h.1 (by omega)⟩
    · exact ⟨_, List.mem_cons_self, key 1536 inb_S1x2048x128_S1x512x128_0_1536_0 h (by omega)⟩

end Cert.KernelIdeal.StepOut
-- ==== Proof.StepRead.lean ====
module

public import proofs.«01_k».proof.Proof.StepHost
public import proofs.«01_k».proof.Proof.StepOut

@[expose] public section

set_option maxRecDepth 16384

noncomputable section

open Idealize.ShloMosaic Idealize.ShloMosaic.TcCoe Idealize.SL.Sem

namespace Cert.KernelIdeal.StepRead

open Cert.KernelIdeal Cert.KernelIdeal.Gen Cert.KernelIdeal.StepBlock Cert.KernelIdeal.StepHost Cert.KernelIdeal.StepOut

variable (m : (ℓ : Loc nD τ sig) → Buf (Elt Ideal) ℓ) (c : Dev nD) (t : Fin cfg0.N)

/-- A grid point's number as a row of the batch. -/
def row (t : Fin cfg0.N) : Fin 32 := ⟨t.val, t.isLt⟩

/-- Where each window's block starts at a grid point. -/
theorem idx0 : ∀ t : Fin grid0.N, win0_0.index t 0 = t.val ∧ win0_0.index t 1 = 0 ∧ win0_0.index t 2 = 0 := by decide +kernel
theorem idx1 : ∀ t : Fin grid0.N, win0_1.index t 0 = t.val ∧ win0_1.index t 1 = 0 ∧ win0_1.index t 2 = 4 := by decide +kernel
theorem idx2 : ∀ t : Fin grid0.N, win0_2.index t 0 = t.val ∧ win0_2.index t 1 = 0 ∧ win0_2.index t 2 = 5 := by decide +kernel
theorem idx3 : ∀ t : Fin grid0.N, win0_3.index t 0 = t.val ∧ win0_3.index t 1 = 0 ∧ win0_3.index t 2 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = t.val ∧ win0_8.index t 1 = 0 ∧ win0_8.index t 2 = 0 := by decide +kernel
theorem idx9 : ∀ t : Fin grid0.N, win0_9.index t 0 = t.val ∧ win0_9.index t 1 = 0 ∧ win0_9.index t 2 = 0 := by decide +kernel
theorem idx10 : ∀ t : Fin grid0.N, win0_10.index t 0 = t.val ∧ win0_10.index t 1 = 0 ∧ win0_10.index t 2 = 0 := by decide +kernel

/-- What window 1's block holds, in terms of the array it is cut from. -/
theorem blk1 (k : Fin 512) : (iblk m c 1 t : Vec Ideal S1x1x512 .f32) (ix3 0 0 k) = V m c main_v26 (ix3 (row t) 0 ⟨2048 + k, by omega⟩) := by
  unfold iblk
  rw [View.read_apply]
  show V m c main_v26 _ = _
  congr 1
  funext ax
  apply Fin.ext
  match ax with
  | ⟨0, _⟩ => show win0_1.index t 0 * 1 + 1 * 0 = t.val; rw [(idx1 t).1] <;> omega
  | ⟨1, _⟩ => show win0_1.index t 1 * 1 + 1 * 0 = 0; rw [(idx1 t).2.1] <;> omega
  | ⟨2, _⟩ => show win0_1.index t 2 * 512 + 1 * k.val = 2048 + k.val; rw [(idx1 t).2.2] <;> omega

/-- What window 2's block holds, in terms of the array it is cut from. -/
theorem blk2 (k : Fin 512) : (iblk m c 2 t : Vec Ideal S1x1x512 .f32) (ix3 0 0 k) = V m c main_v26 (ix3 (row t) 0 ⟨2560 + k, by omega⟩) := by
  unfold iblk
  rw [View.read_apply]
  show V m c main_v26 _ = _
  congr 1
  funext ax
  apply Fin.ext
  match ax with
  | ⟨0, _⟩ => show win0_2.index t 0 * 1 + 1 * 0 = t.val; rw [(idx2 t).1] <;> omega
  | ⟨1, _⟩ => show win0_2.index t 1 * 1 + 1 * 0 = 0; rw [(idx2 t).2.1] <;> omega
  | ⟨2, _⟩ => show win0_2.index t 2 * 512 + 1 * k.val = 2560 + k.val; rw [(idx2 t).2.2] <;> omega

/-- What window 3's block holds, in terms of the array it is cut from. -/
theorem blk3 (k : Fin 128) : (iblk m c 3 t : Vec Ideal S1x1x128 .f32) (ix3 0 0 k) = V m c main_v27 (ix3 (row t) 0 k) := by
  unfold iblk
  rw [View.read_apply]
  show V m c main_v27 _ = _
  congr 1
  funext ax
  apply Fin.ext
  match ax with
  | ⟨0, _⟩ => show win0_3.index t 0 * 1 + 1 * 0 = t.val; rw [(idx3 t).1] <;> omega
  | ⟨1, _⟩ => show win0_3.index t 1 * 1 + 1 * 0 = 0; rw [(idx3 t).2.1] <;> omega
  | ⟨2, _⟩ => show win0_3.index t 2 * 128 + 1 * k.val = k.val; rw [(idx3 t).2.2] <;> omega

/-- What window 4's block holds, in terms of the array it is cut from. -/
theorem blk4 (b : Fin 128) : (iblk m c 4 t : Vec Ideal S1x128 .f32) (ix2 0 b) = V m c main_v5 (ix2 0 b) := by
  unfold iblk
  rw [View.read_apply]
  show V m c main_v5 _ = _
  congr 1
  funext ax
  apply Fin.ext
  match ax with
  | ⟨0, _⟩ => show win0_4.index t 0 * 1 + 1 * 0 = 0; rw [(idx4 t).1] <;> omega
  | ⟨1, _⟩ => show win0_4.index t 1 * 128 + 1 * b.val = b.val; rw [(idx4 t).2] <;> omega

/-- What window 5's block holds, in terms of the array it is cut from. -/
theorem blk5 (b : Fin 2048) : (iblk m c 5 t : Vec Ideal S1x2048 .f32) (ix2 0 b) = V m c main_v9 (ix2 0 b) := by
  unfold iblk
  rw [View.read_apply]
  show V m c main_v9 _ = _
  congr 1
  funext ax
  apply Fin.ext
  match ax with
  | ⟨0, _⟩ => show win0_5.index t 0 * 1 + 1 * 0 = 0; rw [(idx5 t).1] <;> omega
  | ⟨1, _⟩ => show win0_5.index t 1 * 2048 + 1 * b.val = b.val; rw [(idx5 t).2] <;> omega

/-- What window 6's block holds, in terms of the array it is cut from. -/
theorem blk6 (a : Fin 128) (b : Fin 2048) : (iblk m c 6 t : Vec Ideal S128x2048 .bf16) (ix2 a b) = V m c main_v18 (ix2 a b) := by
  unfold iblk
  rw [View.read_apply]
  show V m c main_v18 _ = _
  congr 1
  funext ax
  apply Fin.ext
  match ax with
  | ⟨0, _⟩ => show win0_6.index t 0 * 128 + 1 * a.val = a.val; rw [(idx6 t).1] <;> omega
  | ⟨1, _⟩ => show win0_6.index t 1 * 2048 + 1 * b.val = b.val; rw [(idx6 t).2] <;> omega

/-- What window 7's block holds, in terms of the array it is cut from. -/
theorem blk7 (a : Fin 2048) (b : Fin 128) : (iblk m c 7 t : Vec Ideal S2048x128 .bf16) (ix2 a b) = V m c main_v25 (ix2 a b) := by
  unfold iblk
  rw [View.read_apply]
  show V m c main_v25 _ = _
  congr 1
  funext ax
  apply Fin.ext
  match ax with
  | ⟨0, _⟩ => show win0_7.index t 0 * 2048 + 1 * a.val = a.val; rw [(idx7 t).1] <;> omega
  | ⟨1, _⟩ => show win0_7.index t 1 * 128 + 1 * b.val = b.val; rw [(idx7 t).2] <;> omega

/-- What window 8's block holds, in terms of the array it is cut from. -/
theorem blk8 (b : Fin 2048) (k : Fin 128) : (iblk m c 8 t : Vec Ideal S1x2048x128 .f32) (ix3 0 b k) = V m c main_v11 (ix3 (row t) b k) := by
  unfold iblk
  rw [View.read_apply]
  show V m c main_v11 _ = _
  congr 1
  funext ax
  apply Fin.ext
  match ax with
  | ⟨0, _⟩ => show win0_8.index t 0 * 1 + 1 * 0 = t.val; rw [(idx8 t).1] <;> omega
  | ⟨1, _⟩ => show win0_8.index t 1 * 2048 + 1 * b.val = b.val; rw [(idx8 t).2.1] <;> omega
  | ⟨2, _⟩ => show win0_8.index t 2 * 128 + 1 * k.val = k.val; rw [(idx8 t).2.2] <;> omega

/-- The first window's staging buffer holds its block. -/
theorem X0_at (k : Fin 2048) : (X0_0 m c t : Vec Ideal S1x1x2048 .f32) (ix3 0 0 k) = V m c main_v26 (ix3 (row t) 0 ⟨k, by omega⟩) := by
  unfold X0_0 Pipeline.Window.fill
  rw [dif_pos (moved0_0 t _)]
  unfold iblk
  rw [View.read_apply]
  show V m c main_v26 _ = _
  congr 1
  funext ax
  apply Fin.ext
  match ax with
  | ⟨0, _⟩ => show win0_0.index t 0 * 1 + 1 * 0 = t.val; rw [(idx0 t).1] <;> omega
  | ⟨1, _⟩ => show win0_0.index t 1 * 1 + 1 * 0 = 0; rw [(idx0 t).2.1]
  | ⟨2, _⟩ => show win0_0.index t 2 * 2048 + 1 * k.val = k.val; rw [(idx0 t).2.2] <;> omega

/-- A run's result array of the output, at one index: the grid point whose block holds it left it there. -/
theorem arr9 (k : Fin 2048) : ((dats m 0 c).arrAt 9 cfg0.N : Vec Ideal S32x1x2048 .f32) (ix3 (row t) 0 k) = (outsAt0 m c t).1 (ix3 0 0 k) := by
  have h := congrFun ((Value.blocks9 m c t (flush0_9 t)).trans (Value.flushed9 m c t)) (ix3 0 0 k : S1x1x2048.Idx)
  rw [View.read_apply] at h
  refine Eq.trans ?_ (h.trans rfl)
  show (dats m 0 c).arrAt 9 cfg0.N _ = (dats m 0 c).arrAt 9 cfg0.N _
  congr 1
  funext ax
  apply Fin.ext
  match ax with
  | ⟨0, _⟩ => show t.val = win0_9.index t 0 * 1 + 1 * 0; rw [(idx9 t).1] <;> omega
  | ⟨1, _⟩ => show 0 = win0_9.index t 1 * 1 + 1 * 0; rw [(idx9 t).2.1]
  | ⟨2, _⟩ => show k.val = win0_9.index t 2 * 2048 + 1 * k.val; rw [(idx9 t).2.2] <;> omega

/-- A run's result array of the new state, at one index. -/
theorem arr10 (k : Fin 2048) (n : Fin 128) : ((dats m 0 c).arrAt 10 cfg0.N : Vec Ideal S32x2048x128 .f32) (ix3 (row t) k n) = (outsAt0 m c t).2 (ix3 0 k n) := by
  have h := congrFun ((Value.blocks10 m c t (flush0_10 t)).trans (Value.flushed10 m c t)) (ix3 0 k n : S1x2048x128.Idx)
  rw [View.read_apply] at h
  refine Eq.trans ?_ (h.trans rfl)
  show (dats m 0 c).arrAt 10 cfg0.N _ = (dats m 0 c).arrAt 10 cfg0.N _
  congr 1
  funext ax
  apply Fin.ext
  match ax with
  | ⟨0, _⟩ => show t.val = win0_10.index t 0 * 1 + 1 * 0; rw [(idx10 t).1] <;> omega
  | ⟨1, _⟩ => show k.val = win0_10.index t 1 * 2048 + 1 * k.val; rw [(idx10 t).2.1] <;> omega
  | ⟨2, _⟩ => show n.val = win0_10.index t 2 * 128 + 1 * n.val; rw [(idx10 t).2.2] <;> omega

end Cert.KernelIdeal.StepRead
-- ==== Proof.StepRef.lean ====
module

public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.StepRef

open Cert.ReferenceIdeal Cert.ReferenceIdeal.Read

/-- The head that owns channel `r`. -/
abbrev hq (r : Fin 2048) : Fin 32 := ⟨(r : ℕ) / 64, by omega⟩

/-- Where group-and-state place `n` of channel `r` lies, past the 2048 channels and past the second table. -/
abbrev gb (r : Fin 2048) (n : Fin 128) : Fin 3072 := ⟨2048 + ((r : ℕ) / 512 * 128 + n), by omega⟩
abbrev gcc (r : Fin 2048) (n : Fin 128) : Fin 3072 := ⟨2560 + ((r : ℕ) / 512 * 128 + n), by omega⟩

/-- The rate at which channel `r`'s state decays over the step. -/
abbrev rate (x1 : Vec Ideal S32x1x32 .f32) (x2 : Vec Ideal S1x32 .f32) (b : Fin 32) (r : Fin 2048) : EReal :=
  x1 (ix3 b 0 (hq r)) * -Ideal.exp (x2 (ix2 0 (hq r)))

theorem hq_eq (r : Fin 2048) (h) : (⟨(r : ℕ) / 512 * 8 + (r : ℕ) / 64 % 8, h⟩ : Fin 32) = hq r := Fin.ext (by show _ / 512 * 8 + _ / 64 % 8 = _ / 64; omega)

variable (x0 : Vec Ideal S32x1x3072 .f32) (x1 : Vec Ideal S32x1x32 .f32) (x2 x3 : Vec Ideal S1x32 .f32) (x4 : Vec Ideal S1x32x32x64x128 .f32)
  (b : Fin 32) (r : Fin 2048)

/-- The reference's output at an index. -/
theorem y_at : val_main_v62 x0 x1 x2 x3 x4 (ix3 b 0 r) =
    (∑ n : Fin 128, x0 (ix3 b 0 (gcc r n)) * x0 (ix3 b 0 (gb r n))) * Ideal.exp (rate x1 x2 b r - rate x1 x2 b r) * x1 (ix3 b 0 (hq r)) * x0 (ix3 b 0 ⟨r, by omega⟩)
    + (∑ n : Fin 128, x0 (ix3 b 0 (gcc r n)) * x4 (ix5 0 b (hq r) ⟨r % 64, by omega⟩ n)) * Ideal.exp (rate x1 x2 b r)
    + x3 (ix2 0 (hq r)) * x0 (ix3 b 0 ⟨r, by omega⟩) := by
  rw [← val_main_v62_eq]
  pointwise []
  simp only [hq_eq]

/-- The reference's new state at an index. -/
theorem h_at (n : Fin 128) : val_main_v63 x0 x1 x2 x4 (ix3 b r n) =
    x4 (ix5 0 b (hq r) ⟨r % 64, by omega⟩ n) * Ideal.exp (rate x1 x2 b r)
    + Ideal.exp (rate x1 x2 b r - rate x1 x2 b r) * x1 (ix3 b 0 (hq r)) * x0 (ix3 b 0 ⟨r, by omega⟩) * x0 (ix3 b 0 (gb r n)) := by
  rw [← val_main_v63_eq]
  pointwise []
  simp only [hq_eq]

end Cert.ReferenceIdeal.StepRef
-- ==== Proof.StepEq.lean ====
module

public import proofs.«01_k».proof.Proof.StepRead
public import proofs.«01_k».proof.Proof.StepRef

@[expose] public section

set_option maxRecDepth 16384

noncomputable section

open Idealize.ShloMosaic Idealize.ShloMosaic.TcCoe Idealize.SL.Sem

namespace Cert.StepEq

open Cert.KernelIdeal.StepBlock Cert.ReferenceIdeal.StepRef

/-- A finite sum of real numbers is the sum of them as extended reals. -/
theorem coe_sum {n : Nat} (f : Fin n → ℝ) : ((∑ k, f k : ℝ) : EReal) = ∑ k, (f k : EReal) := by
  induction n with
  | zero => simp
  | succ n ih => rw [Fin.sum_univ_succ, Fin.sum_univ_succ, EReal.coe_add, ih]

/-- The new state's equation, over real numbers. -/
theorem state_law (h x d B : EReal) (a : EReal) (hh : Real h) (hx : Real x) (hd : Real d) (hB : Real B) (ha : Real a) :
    h * Ideal.exp (d * (0 - Ideal.exp a)) + x * d * B
      = h * Ideal.exp (d * -Ideal.exp a) + Ideal.exp (d * -Ideal.exp a - d * -Ideal.exp a) * d * x * B := by
  have hr : Real (d * -Ideal.exp a) := by have := hd.mul ha.exp.zero_sub; rwa [zero_sub] at this
  have h1 : Ideal.exp 0 = 1 := by show ((Real.exp 0 : ℝ) : EReal) = 1; simp
  rw [hr.sub_self, zero_sub, h1, one_mul, mul_comm x d]

/-- The output's equation, over real numbers. -/
theorem out_law (C h B : Fin 128 → EReal) (x d a s : EReal) (hC : ∀ n, Real (C n)) (hh : ∀ n, Real (h n)) (hB : ∀ n, Real (B n)) (hx : Real x) (hd : Real d)
    (ha : Real a) (hs : Real s) :
    ∑ n, C n * (h n * Ideal.exp (d * (0 - Ideal.exp a)) + x * d * B n) + s * x
      = (∑ n, C n * B n) * Ideal.exp (d * -Ideal.exp a - d * -Ideal.exp a) * d * x + (∑ n, C n * h n) * Ideal.exp (d * -Ideal.exp a) + s * x := by
  have hr : Real (d * -Ideal.exp a) := by have := hd.mul ha.exp.zero_sub; rwa [zero_sub] at this
  have h1 : Ideal.exp 0 = 1 := by show ((Real.exp 0 : ℝ) : EReal) = 1; simp
  rw [hr.sub_self, zero_sub, h1, mul_one]
  obtain ⟨e, he⟩ := hr.exp.coe
  obtain ⟨x', rfl⟩ := hx.coe
  obtain ⟨d', rfl⟩ := hd.coe
  obtain ⟨s', rfl⟩ := hs.coe
  rw [he]
  choose C' hC' using fun n => (hC n).coe
  choose h' hh' using fun n => (hh n).coe
  choose B' hB' using fun n => (hB n).coe
  obtain rfl : C = fun n => ((C' n : ℝ) : EReal) := funext hC'
  obtain rfl : h = fun n => ((h' n : ℝ) : EReal) := funext hh'
  obtain rfl : B = fun n => ((B' n : ℝ) : EReal) := funext hB'
  simp only [← EReal.coe_mul, ← EReal.coe_add, ← coe_sum]
  congr 2
  rw [Finset.sum_mul, Finset.sum_mul, Finset.sum_mul, ← Finset.sum_add_distrib]
  refine Finset.sum_congr rfl fun n _ => ?_
  ring

open Cert.KernelIdeal Cert.KernelIdeal.Gen Cert.KernelIdeal.StepRead Cert.KernelIdeal.StepHost Cert.KernelIdeal.StepOut

variable (m : (ℓ : Loc nD τ sig) → Buf (Elt Ideal) ℓ) (c : Dev nD) (t : Fin cfg0.N)

/-- The arguments a run starts from. -/
abbrev a0 : Vec Ideal S32x1x3072 .f32 := m ((c : Thread nD τ).loc main_arg0)
abbrev a1 : Vec Ideal S32x1x32 .f32 := m ((c : Thread nD τ).loc main_arg1)
abbrev a2 : Vec Ideal S1x32 .f32 := m ((c : Thread nD τ).loc main_arg2)
abbrev a3 : Vec Ideal S1x32 .f32 := m ((c : Thread nD τ).loc main_arg3)
abbrev a4 : Vec Ideal S1x32x32x64x128 .f32 := m ((c : Thread nD τ).loc main_arg4)

theorem dt_real (h1 : ∀ i, Real (a1 m c i)) (h : Fin 128) : Real ((iblk m c 3 t : Vec Ideal S1x1x128 .f32) (ix3 0 0 h)) := by
  rw [blk3, V27]
  split_ifs
  · exact h1 _
  · exact ⟨by simp, by simp⟩

theorem al_real (h2 : ∀ i, Real (a2 m c i)) (h : Fin 128) : Real ((iblk m c 4 t : Vec Ideal S1x128 .f32) (ix2 0 h)) := by
  rw [blk4, V5]
  split_ifs
  · exact h2 _
  · exact ⟨by simp, by simp⟩

/-- One element of the kernel's new state, from the arguments. -/
theorem state_val (r : Fin 2048) (n : Fin 128) : stepState (X0_0 m c t) (iblk m c 1 t) (iblk m c 3 t) (iblk m c 4 t) (iblk m c 8 t) r n
    = a4 m c (ix5 0 (row t) (hq r) ⟨r % 64, by omega⟩ n) * Ideal.exp (a1 m c (ix3 (row t) 0 (hq r)) * (0 - Ideal.exp (a2 m c (ix2 0 (hq r)))))
      + a0 m c (ix3 (row t) 0 ⟨r, by omega⟩) * a1 m c (ix3 (row t) 0 (hq r)) * a0 m c (ix3 (row t) 0 (gb r n)) := by
  have hr : (hd r : ℕ) < 32 := by show (r : ℕ) / 64 < 32; omega
  unfold stepState dec
  rw [X0_at, blk1, blk3, blk4, blk8, V27, V5, V26, V26, V11, dif_pos hr, dif_pos hr]
  rfl

/-- One element of the kernel's output, from the arguments. -/
theorem out_val (r : Fin 2048) : stepOut (X0_0 m c t) (iblk m c 1 t) (iblk m c 2 t) (iblk m c 3 t) (iblk m c 4 t) (iblk m c 5 t) (iblk m c 8 t) r
    = ∑ n : Fin 128, a0 m c (ix3 (row t) 0 (gcc r n)) * (a4 m c (ix5 0 (row t) (hq r) ⟨r % 64, by omega⟩ n) * Ideal.exp (a1 m c (ix3 (row t) 0 (hq r)) * (0 - Ideal.exp (a2 m c (ix2 0 (hq r)))))
      + a0 m c (ix3 (row t) 0 ⟨r, by omega⟩) * a1 m c (ix3 (row t) 0 (hq r)) * a0 m c (ix3 (row t) 0 (gb r n)))
      + a3 m c (ix2 0 (hq r)) * a0 m c (ix3 (row t) 0 ⟨r, by omega⟩) := by
  unfold stepOut
  rw [X0_at, blk5, V9, V26]
  refine congrArg₂ (· + ·) (Finset.sum_congr rfl fun n _ => ?_) rfl
  rw [state_val, blk2, V26]
  rfl

/-- The kernel's output array is the reference's. -/
theorem y_eq (h0 : ∀ i, Real (a0 m c i)) (h1 : ∀ i, Real (a1 m c i)) (h2 : ∀ i, Real (a2 m c i)) (h3 : ∀ i, Real (a3 m c i)) (h4 : ∀ i, Real (a4 m c i)) :
    (dats m 0 c).arrAt 9 cfg0.N = Cert.ReferenceIdeal.Read.val_main_v62 (a0 m c) (a1 m c) (a2 m c) (a3 m c) (a4 m c) := by
  funext i
  obtain ⟨b, z, r, rfl⟩ : ∃ (b : Fin 32) (z : Fin 1) (r : Fin 2048), i = ix3 b z r := ⟨i 0, i 1, i 2, by funext a; fin_cases a <;> rfl⟩
  obtain rfl : z = 0 := Subsingleton.elim _ _
  refine (arr9 m c ⟨b.val, b.isLt⟩ r).trans ?_
  rw [outs9 m c _ (dt_real m c _ h1) (al_real m c _ h2) (fun h r => by rw [blk6, V18]) (fun h r => by rw [blk7, V25]), out_val, y_at]
  exact out_law _ _ _ _ _ _ _ (fun n => h0 _) (fun n => h4 _) (fun n => h0 _) (h0 _) (h1 _) (h2 _) (h3 _)

/-- The kernel's new state array is the reference's. -/
theorem h_eq (h0 : ∀ i, Real (a0 m c i)) (h1 : ∀ i, Real (a1 m c i)) (h2 : ∀ i, Real (a2 m c i)) (h4 : ∀ i, Real (a4 m c i)) :
    (dats m 0 c).arrAt 10 cfg0.N = Cert.ReferenceIdeal.Read.val_main_v63 (a0 m c) (a1 m c) (a2 m c) (a4 m c) := by
  funext i
  obtain ⟨b, r, n, rfl⟩ : ∃ (b : Fin 32) (r : Fin 2048) (n : Fin 128), i = ix3 b r n := ⟨i 0, i 1, i 2, by funext a; fin_cases a <;> rfl⟩
  refine (arr10 m c ⟨b.val, b.isLt⟩ r n).trans ?_
  rw [outs10 m c _ (dt_real m c _ h1) (al_real m c _ h2) (fun h r => by rw [blk6, V18]) (fun h r => by rw [blk7, V25]), state_val, h_at]
  exact state_law _ _ _ _ _ (h4 _) (h0 _) (h1 _) (h0 _) (h2 _)

end Cert.StepEq
-- ==== Proof.StepFinite.lean ====
module

public import proofs.«01_k».proof.Proof.StepBlock
public import proofs.«01_k».proof.Defs
public import proofs.«01_k».proof.Proof.Gen.Pre_finite
public import Idealize.ShloMosaic.Lib.ReduceAll
public import Idealize.ShloMosaic.Lib.Affine

@[expose] public section

set_option maxRecDepth 16384

noncomputable section

open Idealize.ShloMosaic Idealize.ShloMosaic.TcCoe Idealize.SL.Sem

namespace Cert.StepFinite

open Cert.KernelIdeal.StepBlock

theorem inf_bits : (FloatOps.ofBits .f32 0x7F800000#32 : Ideal .f32) = (⊤ : EReal) := by
  show Ideal.ofBits .f32 0x7F800000#32 = ⊤
  simp [Ideal.ofBits, Ideal.ieee]

/-- An array all of whose elements have a magnitude below the infinity holds real numbers. -/
theorem real_of {s : Shape} (x : FVec Ideal s .f32) (y : FVec Ideal s .f32) (hy : ∀ i, y i = (⊤ : EReal)) (i : s.Idx) (h : cmpf .olt (Host.absf x) y i = 1#1) : Real (x i) := by
  have h' : Ideal.cmp .olt (max (x i) (-(x i)) : EReal) (y i) = 1#1 := h
  rw [hy] at h'
  have h'' : (max (x i) (-(x i)) : EReal) < ⊤ := (Ideal.cmp_olt_eq_one _ _).mp h'
  refine ⟨fun e => ?_, fun e => ?_⟩
  · rw [e] at h''; simp at h''
  · rw [e] at h''; simp at h''

open Cert.Pre_finite in
/-- What the precondition says: every element of every argument is a real number. -/
theorem real_args [Cert.Pre_finite.Facts] (a0 : FVec Ideal S32x1x3072 .f32) (a1 : FVec Ideal S32x1x32 .f32) (a2 a3 : FVec Ideal S1x32 .f32) (a4 : FVec Ideal S1x32x32x64x128 .f32)
    (h : fn a0 a1 a2 a3 a4 = fun _ => 1#1) :
    (∀ i, Real (a0 i)) ∧ (∀ i, Real (a1 i)) ∧ (∀ i, Real (a2 i)) ∧ (∀ i, Real (a3 i)) ∧ (∀ i, Real (a4 i)) := by
  have : Subsingleton S_.Idx := ⟨fun a b => funext fun k => k.elim0⟩
  have h0 := congrFun h (fun k => k.elim0)
  unfold fn fn_part1 at h0
  dsimp only at h0
  obtain ⟨h1, e4⟩ := IntOp.andi_eq_one.1 h0
  obtain ⟨h1, e3⟩ := IntOp.andi_eq_one.1 h1
  obtain ⟨h1, e2⟩ := IntOp.andi_eq_one.1 h1
  obtain ⟨e0, e1⟩ := IntOp.andi_eq_one.1 h1
  exact ⟨fun i => real_of a0 _ (fun _ => inf_bits) i (Host.reduce_andi_all _ _ _ _ _ e0 i), fun i => real_of a1 _ (fun _ => inf_bits) i (Host.reduce_andi_all _ _ _ _ _ e1 i),
    fun i => real_of a2 _ (fun _ => inf_bits) i (Host.reduce_andi_all _ _ _ _ _ e2 i), fun i => real_of a3 _ (fun _ => inf_bits) i (Host.reduce_andi_all _ _ _ _ _ e3 i),
    fun i => real_of a4 _ (fun _ => inf_bits) i (Host.reduce_andi_all _ _ _ _ _ e4 i)⟩

end Cert.StepFinite
-- ==== Proof.PostSpec.lean ====
/-
  One row of the half of a block that follows a mixer, as scalar arithmetic: the gated residual of the mixer's
  normalised output, and the gated residual of the normalised SwiGLU feed-forward of the modulated row. Both of the
  two calls that compute it, and both of their references, are read against these functions.
-/
module

public import Idealize.ShloMosaic.Lib.Pointwise

@[expose] public section

noncomputable section

open Idealize.ShloMosaic

namespace Cert.PostSpec

/-- The row length and the stabiliser of the mean square, as the words that the programs hold. -/
def width : EReal := Ideal.ofBits .f32 0x44800000#32
def eps : EReal := Ideal.ofBits .f32 0x358637BD#32

/-- The factor that brings a row to root mean square one. -/
def scale (u : Fin 1024 → EReal) : EReal := Ideal.rsqrt (Ideal.div (∑ k, u k * u k) width + eps)
/-- A row's root-mean-square norm with a gain. -/
def rms (u g : Fin 1024 → EReal) (j : Fin 1024) : EReal := u j * scale u * g j
/-- A residual: the row plus the gated norm of an update. -/
def resid (x u g gt : Fin 1024 → EReal) (j : Fin 1024) : EReal := x j + gt j * rms u g j
/-- The modulated norm of a row, the feed-forward's input. -/
def modul (x g sc sh : Fin 1024 → EReal) (j : Fin 1024) : EReal := rms x g j * (1 + sc j) + sh j
/-- A column of a product of the row with a matrix. -/
def lin {n : ℕ} (h : Fin 1024 → EReal) (w : Fin 1024 → Fin n → EReal) (j : Fin n) : EReal := ∑ k, h k * w k j
/-- The gated unit of a gate and an up projection. -/
def glu (a b : EReal) : EReal := a * Ideal.logistic a * b
/-- A column of the gate projection's half of the weights, and the same column of the up projection's half. -/
def lo (k : Fin 2816) : Fin 5632 := ⟨k, by omega⟩
def hi (k : Fin 2816) : Fin 5632 := ⟨2816 + k, by omega⟩
/-- The feed-forward of a row. -/
def ffn (h : Fin 1024 → EReal) (wi : Fin 1024 → Fin 5632 → EReal) (wo : Fin 2816 → Fin 1024 → EReal) (j : Fin 1024) : EReal :=
  ∑ k : Fin 2816, glu (lin h wi (lo k)) (lin h wi (hi k)) * wo k j
/-- The row that the call returns, from the row, the mixer's update, the four modulations and the three gains. -/
def out (x u gt1 gpost gpre sc2 sh2 gt2 gfpost : Fin 1024 → EReal) (wi : Fin 1024 → Fin 5632 → EReal)
    (wo : Fin 2816 → Fin 1024 → EReal) (j : Fin 1024) : EReal :=
  resid (resid x u gpost gt1) (ffn (modul (resid x u gpost gt1) gpre sc2 sh2) wi wo) gfpost gt2 j

/-- The projection of the two mechanisms' outputs, each by its own half of the weight's rows. -/
def att (a b : Fin 512 → EReal) (w : Fin 1024 → Fin 1024 → EReal) (j : Fin 1024) : EReal :=
  (∑ n : Fin 512, a n * w ⟨n, by omega⟩ j) + ∑ n : Fin 512, b n * w ⟨512 + n, by omega⟩ j

/-- A sum over the hidden width is the sum of its two parts. -/
theorem split (f : Fin 2816 → EReal) :
    ∑ k, f k = (∑ k : Fin 1536, f ⟨k, by omega⟩) + ∑ k : Fin 1280, f ⟨1536 + k, by omega⟩ :=
  Fin.sum_univ_add (a := 1536) (b := 1280) f
/-- The number of channels in a group of the recurrence's output, as the word that the programs hold. -/
def group : EReal := Ideal.ofBits .f32 0x44000000#32
/-- A channel of the recurrence's output under its gate. -/
def gated (y z : Fin 2048 → EReal) (n : Fin 2048) : EReal := y n * (z n * Ideal.logistic (z n))
/-- A channel of the output, its group brought to root mean square one. -/
def gnorm (y z : Fin 2048 → EReal) (n : Fin 2048) : EReal :=
  gated y z n * Ideal.rsqrt (Ideal.div (∑ k : Fin 512, gated y z ⟨n / 512 * 512 + k, by omega⟩ * gated y z ⟨n / 512 * 512 + k, by omega⟩) group + eps)
/-- The norm within one group, its places named by how far they lie past the group's first. -/
theorem gnorm_at (y z : Fin 2048 → EReal) (o : ℕ) (ho : o % 512 = 0) (p : Fin 512 → Fin 2048) (hp : ∀ k, (p k).val = o + k.val) (k : Fin 512) :
    gnorm y z (p k) = gated y z (p k) * Ideal.rsqrt (Ideal.div (∑ l, gated y z (p l) * gated y z (p l)) group + eps) := by
  have e : ∀ l : Fin 512, (⟨(p k).val / 512 * 512 + l, by omega⟩ : Fin 2048) = p l := fun l => Fin.ext (by
    show (p k).val / 512 * 512 + l.val = (p l).val
    rw [hp, hp]; omega)
  unfold gnorm
  simp only [e]

/-- Four groups of channels side by side. -/
def pick (a b c d : Fin 512 → EReal) (n : Fin 2048) : EReal :=
  if h : n.val < 512 then a ⟨n.val, h⟩ else if h : n.val - 512 < 512 then b ⟨n.val - 512, h⟩ else
    if h : n.val - 512 - 512 < 512 then c ⟨n.val - 512 - 512, h⟩ else d ⟨n.val - 512 - 512 - 512, by omega⟩

/-- Reading the four groups of a function side by side is the function. -/
theorem pick_eq (f : Fin 2048 → EReal) (a b c d : Fin 512 → EReal) (ha : ∀ k : Fin 512, a k = f ⟨k, by omega⟩) (hb : ∀ k : Fin 512, b k = f ⟨512 + k, by omega⟩)
    (hc : ∀ k : Fin 512, c k = f ⟨1024 + k, by omega⟩) (hd : ∀ k : Fin 512, d k = f ⟨1536 + k, by omega⟩) : pick a b c d = f := by
  funext n
  unfold pick
  split_ifs with h1 h2 h3
  · exact ha _
  · rw [hb]; exact congrArg f (Fin.ext (by show 512 + (n.val - 512) = n.val; omega))
  · rw [hc]; exact congrArg f (Fin.ext (by show 1024 + (n.val - 512 - 512) = n.val; omega))
  · rw [hd]; exact congrArg f (Fin.ext (by show 1536 + (n.val - 512 - 512 - 512) = n.val; omega))

/-- The projection of the recurrence's gated and normalised output. -/
def ssm (y z g : Fin 2048 → EReal) (w : Fin 2048 → Fin 1024 → EReal) (j : Fin 1024) : EReal := ∑ n, gnorm y z n * g n * w n j

end Cert.PostSpec
-- ==== Proof.PostABlock.lean ====
/-
  What one block of the attention layer's second half computes, at an index, as the row functions of the blocks that
  its steps read.
-/
module

public import proofs.«01_k».proof.Proof.Gen.Kernel3Ideal.Skeleton
public import proofs.«01_k».proof.Proof.PostSpec

@[expose] public section

set_option maxRecDepth 16384

noncomputable section

open Idealize.ShloMosaic

namespace Cert.Kernel3Ideal.Block

open Cert.Kernel3Ideal Cert.Kernel3Ideal.Gen Cert.PostSpec

theorem pay2_at (v0 : Vec Ideal S512x512 .f32) (v3 : Vec Ideal S512x1024 .bf16) (v6 : Vec Ideal S512x512 .f32)
    (v9 : Vec Ideal S512x1024 .bf16) (v13 : Vec Ideal S512x1024 .f32) (v15 : Vec Ideal S1x1x1024 .f32)
    (v17 : Vec Ideal S1x1024 .f32) (r : Fin 512) (j : Fin 1024) :
    k0_pay2 (F := Ideal) v0 v3 v6 v9 v13 v15 v17 (ix2 r j) = resid (fun k => v13 (ix2 r k))
      (fun k => (∑ n : Fin 512, v0 (ix2 r n) * v3 (ix2 n k)) + ∑ n : Fin 512, v6 (ix2 r n) * v9 (ix2 n k))
      (fun k => v17 (ix2 0 k)) (fun k => v15 (ix3 0 0 k)) j := by
  pointwise [k0_pay2]
  rfl

theorem pay4_at (v0 : Vec Ideal S512x512 .f32) (v3 : Vec Ideal S512x1024 .bf16) (v6 : Vec Ideal S512x512 .f32)
    (v9 : Vec Ideal S512x1024 .bf16) (v13 : Vec Ideal S512x1024 .f32) (v15 : Vec Ideal S1x1x1024 .f32)
    (v17 : Vec Ideal S1x1024 .f32) (i : S512x1024.Idx) :
    k0_pay4 (F := Ideal) v0 v3 v6 v9 v13 v15 v17 i = k0_pay2 (F := Ideal) v0 v3 v6 v9 v13 v15 v17 i * k0_pay2 (F := Ideal) v0 v3 v6 v9 v13 v15 v17 i := rfl

theorem pay3_at (v34 : Vec Ideal S1x1024 .f32) (j : Fin 1024) : k0_pay3 (F := Ideal) v34 (ix2 0 j) = v34 (ix2 0 j) := by
  pointwise [k0_pay3]

theorem pay5_at (v33 : FVec Ideal S512x1024 .f32) (v35 : FVec Ideal S1x1024 .f32) (v36 : FVec Ideal S512x1024 .f32)
    (v48 v54 : Vec Ideal S1x1x1024 .f32) (hs : ∀ i, v36 i = v33 i * v33 i) (r : Fin 512) (j : Fin 1024) :
    k0_pay5 (F := Ideal) v33 v35 v36 v48 v54 (ix2 r j) = modul (fun k => v33 (ix2 r k)) (fun k => v35 (ix2 0 k))
      (fun k => v48 (ix3 0 0 k)) (fun k => v54 (ix3 0 0 k)) j := by
  pointwise [k0_pay5]
  simp only [hs]
  rfl

/-- The first part of the hidden width: the sum over its columns. -/
theorem pay6_at (v33 : FVec Ideal S512x1024 .f32) (v35 : FVec Ideal S1x1024 .f32) (v36 : FVec Ideal S512x1024 .f32)
    (v48 v54 : Vec Ideal S1x1x1024 .f32) (v59 v62 : Vec Ideal S1024x1536 .bf16) (v69 : Vec Ideal S1536x1024 .bf16)
    (r : Fin 512) (j : Fin 1024) :
    k0_pay6 (F := Ideal) v33 v35 v36 v48 v54 v59 v62 v69 (ix2 r j) = ∑ k : Fin 1536,
      glu (∑ n : Fin 1024, k0_pay5 (F := Ideal) v33 v35 v36 v48 v54 (ix2 r n) * v59 (ix2 n k))
        (∑ n : Fin 1024, k0_pay5 (F := Ideal) v33 v35 v36 v48 v54 (ix2 r n) * v62 (ix2 n k)) * v69 (ix2 k j) := by
  unfold k0_pay6
  generalize k0_pay5 (F := Ideal) v33 v35 v36 v48 v54 = h
  pointwise []
  rfl

theorem pay7_at (v33 : FVec Ideal S512x1024 .f32) (v35 : FVec Ideal S1x1024 .f32) (v36 : FVec Ideal S512x1024 .f32)
    (v48 v54 : Vec Ideal S1x1x1024 .f32) (v72 : Vec Ideal S1024x1280 .bf16) (r : Fin 512) (k : Fin 1280) :
    k0_pay7 (F := Ideal) v33 v35 v36 v48 v54 v72 (ix2 r k) =
      ∑ n : Fin 1024, k0_pay5 (F := Ideal) v33 v35 v36 v48 v54 (ix2 r n) * v72 (ix2 n k) := by
  unfold k0_pay7
  generalize k0_pay5 (F := Ideal) v33 v35 v36 v48 v54 = h
  pointwise []

theorem pay1_at (v33 : FVec Ideal S512x1024 .f32) (v58 : FVec Ideal S512x1024 .bf16) (v71 : FVec Ideal S512x1024 .f32)
    (v74 : FVec Ideal S512x1280 .f32) (v75 : Vec Ideal S1024x1280 .bf16) (v82 : Vec Ideal S1280x1024 .bf16)
    (v86 : Vec Ideal S1x1x1024 .f32) (v88 : Vec Ideal S1x1024 .f32) (r : Fin 512) (j : Fin 1024) :
    k0_pay1 (F := Ideal) v33 v58 v71 v74 v75 v82 v86 v88 (ix2 r j) = resid (fun k => v33 (ix2 r k))
      (fun k => v71 (ix2 r k) + ∑ m : Fin 1280, glu (v74 (ix2 r m)) (∑ n : Fin 1024, v58 (ix2 r n) * v75 (ix2 n m)) * v82 (ix2 m k))
      (fun k => v88 (ix2 0 k)) (fun k => v86 (ix3 0 0 k)) j := by
  pointwise [k0_pay1]
  rfl

end Cert.Kernel3Ideal.Block
-- ==== Proof.PostAOut.lean ====
/-
  What one grid point of the attention layer's second half leaves in its block of the result, at an index: the row
  function of the blocks it reads, its two parts of the hidden width put together.
-/
module

public import proofs.«01_k».proof.Proof.PostABlock
public import proofs.«01_k».proof.Proof.Gen.Kernel3Ideal.Value
public import Idealize.ShloMosaic.Lib.Pipeline.Value

@[expose] public section

set_option maxRecDepth 16384

noncomputable section

open Idealize.ShloMosaic

namespace Cert.Kernel3Ideal.Out

open Cert.Kernel3Ideal Cert.Kernel3Ideal.Gen Cert.Kernel3Ideal.Block Cert.PostSpec

theorem hz3 : (![0, 0, 0] : Fin 3 → Nat) = fun _ => 0 := funext fun a => by fin_cases a <;> rfl
theorem hz2 : (![0, 0] : Fin 2 → Nat) = fun _ => 0 := funext fun a => by fin_cases a <;> rfl

theorem ld1 (x : Vec Ideal S1024x1024 .bf16) (n : Fin 512) (k : Fin 1024) : (View.ld x r0_1 : Vec Ideal S512x1024 .bf16) (ix2 n k) = x (ix2 ⟨n, by omega⟩ k) := by
  show x _ = x _
  congr 1; funext ax; apply Fin.ext
  match ax with
  | ⟨0, _⟩ => show 0 + 1 * n.val = n.val; omega
  | ⟨1, _⟩ => show 0 + 1 * k.val = k.val; omega
theorem ld2 (x : Vec Ideal S1024x1024 .bf16) (n : Fin 512) (k : Fin 1024) : (View.ld x r0_2 : Vec Ideal S512x1024 .bf16) (ix2 n k) = x (ix2 ⟨512 + n, by omega⟩ k) := by
  show x _ = x _
  congr 1; funext ax; apply Fin.ext
  match ax with
  | ⟨0, _⟩ => show 512 + 1 * n.val = 512 + n.val; omega
  | ⟨1, _⟩ => show 0 + 1 * k.val = k.val; omega
theorem ld6 (x : Vec Ideal S1024x5632 .bf16) (n : Fin 1024) (k : Fin 1536) : (View.ld x r0_6 : Vec Ideal S1024x1536 .bf16) (ix2 n k) = x (ix2 n (lo ⟨k, by omega⟩)) := by
  show x _ = x _
  congr 1; funext ax; apply Fin.ext
  match ax with
  | ⟨0, _⟩ => show 0 + 1 * n.val = n.val; omega
  | ⟨1, _⟩ => show 0 + 1 * k.val = k.val; omega
theorem ld7 (x : Vec Ideal S1024x5632 .bf16) (n : Fin 1024) (k : Fin 1536) : (View.ld x r0_7 : Vec Ideal S1024x1536 .bf16) (ix2 n k) = x (ix2 n (hi ⟨k, by omega⟩)) := by
  show x _ = x _
  congr 1; funext ax; apply Fin.ext
  match ax with
  | ⟨0, _⟩ => show 0 + 1 * n.val = n.val; omega
  | ⟨1, _⟩ => show 2816 + 1 * k.val = 2816 + k.val; omega
theorem ld8 (x : Vec Ideal S2816x1024 .bf16) (n : Fin 1536) (k : Fin 1024) : (View.ld x r0_8 : Vec Ideal S1536x1024 .bf16) (ix2 n k) = x (ix2 ⟨n, by omega⟩ k) := by
  show x _ = x _
  congr 1; funext ax; apply Fin.ext
  match ax with
  | ⟨0, _⟩ => show 0 + 1 * n.val = n.val; omega
  | ⟨1, _⟩ => show 0 + 1 * k.val = k.val; omega
theorem ld9 (x : Vec Ideal S1024x5632 .bf16) (n : Fin 1024) (k : Fin 1280) : (View.ld x r0_9 : Vec Ideal S1024x1280 .bf16) (ix2 n k) = x (ix2 n (lo ⟨1536 + k, by omega⟩)) := by
  show x _ = x _
  congr 1; funext ax; apply Fin.ext
  match ax with
  | ⟨0, _⟩ => show 0 + 1 * n.val = n.val; omega
  | ⟨1, _⟩ => show 1536 + 1 * k.val = 1536 + k.val; omega
theorem ld10 (x : Vec Ideal S1024x5632 .bf16) (n : Fin 1024) (k : Fin 1280) : (View.ld x r0_10 : Vec Ideal S1024x1280 .bf16) (ix2 n k) = x (ix2 n (hi ⟨1536 + k, by omega⟩)) := by
  show x _ = x _
  congr 1; funext ax; apply Fin.ext
  match ax with
  | ⟨0, _⟩ => show 0 + 1 * n.val = n.val; omega
  | ⟨1, _⟩ => show 4352 + 1 * k.val = 2816 + (1536 + k.val); omega
theorem ld11 (x : Vec Ideal S2816x1024 .bf16) (n : Fin 1280) (k : Fin 1024) : (View.ld x r0_11 : Vec Ideal S1280x1024 .bf16) (ix2 n k) = x (ix2 ⟨1536 + n, by omega⟩ k) := by
  show x _ = x _
  congr 1; funext ax; apply Fin.ext
  match ax with
  | ⟨0, _⟩ => show 1536 + 1 * n.val = 1536 + n.val; omega
  | ⟨1, _⟩ => show 0 + 1 * k.val = k.val; omega

/-- A grid point's block of the result at an index is the row function of the blocks it reads. -/
theorem out_at (x0 : Vec Ideal S512x1024 .f32) (x1 x2 : Vec Ideal S512x512 .f32) (x3 : Vec Ideal S1024x1024 .bf16)
    (x4 : Vec Ideal S1x1x1024 .f32) (x5 x6 : Vec Ideal S1x1024 .f32) (x7 x8 x9 : Vec Ideal S1x1x1024 .f32)
    (x10 : Vec Ideal S1x1024 .f32) (x11 : Vec Ideal S1024x5632 .bf16) (x12 : Vec Ideal S2816x1024 .bf16)
    (r : Fin 512) (j : Fin 1024) :
    out0_13 x0 x1 x2 x3 x4 x5 x6 x7 x8 x9 x10 x11 x12 (ix2 r j) =
      out (fun k => x0 (ix2 r k)) (att (fun n => x1 (ix2 r n)) (fun n => x2 (ix2 r n)) fun n k => x3 (ix2 n k))
        (fun k => x4 (ix3 0 0 k)) (fun k => x5 (ix2 0 k)) (fun k => x6 (ix2 0 k)) (fun k => x7 (ix3 0 0 k))
        (fun k => x8 (ix3 0 0 k)) (fun k => x9 (ix3 0 0 k)) (fun k => x10 (ix2 0 k)) (fun n k => x11 (ix2 n k))
        (fun n k => x12 (ix2 n k)) j := by
  have e0 : View.ld x0 r0_3 = x0 := View.ld_unit_zero hz2 _ _
  have e1 : View.ld x1 r0_0 = x1 := View.ld_unit_zero hz2 _ _
  have e2 : View.ld x2 r0_0 = x2 := View.ld_unit_zero hz2 _ _
  have e4 : View.ld x4 r0_4 = x4 := View.ld_unit_zero hz3 _ _
  have e5 : View.ld x5 r0_5 = x5 := View.ld_unit_zero hz2 _ _
  have e6 : View.ld x6 r0_5 = x6 := View.ld_unit_zero hz2 _ _
  have e7 : View.ld x7 r0_4 = x7 := View.ld_unit_zero hz3 _ _
  have e8 : View.ld x8 r0_4 = x8 := View.ld_unit_zero hz3 _ _
  have e9 : View.ld x9 r0_4 = x9 := View.ld_unit_zero hz3 _ _
  have e10 : View.ld x10 r0_5 = x10 := View.ld_unit_zero hz2 _ _
  unfold out0_13
  rw [View.canon_unit_zero hz2, e7, e8, e9, e10]
  have h8 : ∀ k, k0_pay8 x0 x1 x2 x3 x4 x5 x6 x7 x8 x9 x10 x11 x12 (ix2 r k) = resid (fun k => x0 (ix2 r k))
      (att (fun n => x1 (ix2 r n)) (fun n => x2 (ix2 r n)) fun n k => x3 (ix2 n k)) (fun k => x5 (ix2 0 k)) (fun k => x4 (ix3 0 0 k)) k := by
    intro k
    unfold k0_pay8
    have l1 := ld1 x3
    have l2 := ld2 x3
    generalize View.ld x3 r0_1 = y1 at *
    generalize View.ld x3 r0_2 = y2 at *
    rw [e0, e1, e2, e4, e5, pay2_at]
    simp only [l1, l2]
    rfl
  have h9 : ∀ k, k0_pay9 x0 x1 x2 x3 x4 x5 x6 x7 x8 x9 x10 x11 x12 (ix2 0 k) = x6 (ix2 0 k) := by
    intro k
    unfold k0_pay9
    rw [e6, pay3_at]
  have h10 : ∀ i, k0_pay10 x0 x1 x2 x3 x4 x5 x6 x7 x8 x9 x10 x11 x12 i =
      k0_pay8 x0 x1 x2 x3 x4 x5 x6 x7 x8 x9 x10 x11 x12 i * k0_pay8 x0 x1 x2 x3 x4 x5 x6 x7 x8 x9 x10 x11 x12 i := fun i => rfl
  generalize k0_pay8 x0 x1 x2 x3 x4 x5 x6 x7 x8 x9 x10 x11 x12 = p8 at *
  generalize k0_pay9 x0 x1 x2 x3 x4 x5 x6 x7 x8 x9 x10 x11 x12 = p9 at *
  generalize k0_pay10 x0 x1 x2 x3 x4 x5 x6 x7 x8 x9 x10 x11 x12 = p10 at *
  have h5 : ∀ k, k0_pay5 p8 p9 p10 x7 x8 (ix2 r k) = modul (fun k => p8 (ix2 r k)) (fun k => x6 (ix2 0 k))
      (fun k => x7 (ix3 0 0 k)) (fun k => x8 (ix3 0 0 k)) k := by
    intro k
    rw [pay5_at _ _ _ _ _ h10]
    simp only [h9]
  have l6 := ld6 x11
  have l7 := ld7 x11
  have l8 := ld8 x12
  have l9 := ld9 x11
  have l10 := ld10 x11
  have l11 := ld11 x12
  generalize View.ld x11 r0_6 = y6 at *
  generalize View.ld x11 r0_7 = y7 at *
  generalize View.ld x12 r0_8 = y8 at *
  generalize View.ld x11 r0_9 = y9 at *
  generalize View.ld x11 r0_10 = y10 at *
  generalize View.ld x12 r0_11 = y11 at *
  rw [pay1_at]
  simp only [pay6_at, pay7_at, h5, h8, l6, l7, l8, l9, l10, l11]
  unfold out
  congr 1
  funext k
  unfold ffn
  rw [split]
  rfl

end Cert.Kernel3Ideal.Out
-- ==== Proof.PostARead.lean ====
/-
  What the arrays hold that the attention layer's second half works on: what the host's operations leave for the call to
  read, what each grid point's blocks hold of that, and what the result array holds after the run.
-/
module

public import proofs.«01_k».proof.Proof.PostAOut
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel3Ideal.PostRead

open Cert.Kernel3Ideal Cert.Kernel3Ideal.Gen

variable (m : (ℓ : Loc nD τ sig) → Buf (Elt Ideal) ℓ) (c : Dev nD) (t : Fin cfg0.N)

/-- A row of the flattened batch as a sequence and a token of it. -/
abbrev sq (r : Fin 16384) : Fin 8 := ⟨r / 2048, by omega⟩
abbrev tok (r : Fin 16384) : Fin 2048 := ⟨r % 2048, by omega⟩
/-- A grid point's block's row as a row of the flattened batch, and the sequence that the block is cut from. -/
def row (t : Fin cfg0.N) (r : Fin 512) : Fin 16384 := ⟨t.val * 512 + r.val, by have h : t.val < 32 := t.isLt; omega⟩
def bat (t : Fin cfg0.N) : Fin 8 := ⟨t.val / 4, by have h : t.val < 32 := t.isLt; omega⟩

/-! What the host's operations leave, in terms of the arguments. -/

theorem V0 (r : Fin 16384) (k : Fin 1024) : V m c main_v0 (ix2 r k) = m ((c : Thread nD τ).loc main_arg0) (ix3 (sq r) (tok r) k) := by
  unfold V
  after_reads_at
theorem V1 (r : Fin 16384) (k : Fin 512) : V m c main_v1 (ix2 r k) = m ((c : Thread nD τ).loc main_arg1) (ix3 (sq r) (tok r) k) := by
  unfold V
  after_reads_at
theorem V2 (r : Fin 16384) (k : Fin 512) : V m c main_v2 (ix2 r k) = m ((c : Thread nD τ).loc main_arg2) (ix3 (sq r) (tok r) k) := by
  unfold V
  after_reads_at
theorem V4 (n : Fin 1024) (k : Fin 1024) : V m c main_v4 (ix2 n k) = m ((c : Thread nD τ).loc main_arg10) (ix3 0 n k) := by
  unfold V
  after_reads_at
theorem V7 (k : Fin 1024) : V m c main_v7 (ix2 0 k) = m ((c : Thread nD τ).loc main_arg7) (ix2 0 k) := by
  unfold V
  after_reads_at
theorem V10 (k : Fin 1024) : V m c main_v10 (ix2 0 k) = m ((c : Thread nD τ).loc main_arg8) (ix2 0 k) := by
  unfold V
  after_reads_at
theorem V13 (k : Fin 1024) : V m c main_v13 (ix2 0 k) = m ((c : Thread nD τ).loc main_arg9) (ix2 0 k) := by
  unfold V
  after_reads_at
theorem V16 (n : Fin 1024) (k : Fin 5632) : V m c main_v16 (ix2 n k) = m ((c : Thread nD τ).loc main_arg11) (ix3 0 n k) := by
  unfold V
  after_reads_at
theorem V19 (n : Fin 2816) (k : Fin 1024) : V m c main_v19 (ix2 n k) = m ((c : Thread nD τ).loc main_arg12) (ix3 0 n k) := by
  unfold V
  after_reads_at

/-- Where each window's block starts at a grid point. -/
theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val / 4 ∧ win0_4.index t 1 = 0 ∧ win0_4.index t 2 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = t.val / 4 ∧ win0_7.index t 1 = 0 ∧ win0_7.index t 2 = 0 := by decide +kernel
theorem idx8 : ∀ t : Fin grid0.N, win0_8.index t 0 = t.val / 4 ∧ win0_8.index t 1 = 0 ∧ win0_8.index t 2 = 0 := by decide +kernel
theorem idx9 : ∀ t : Fin grid0.N, win0_9.index t 0 = t.val / 4 ∧ win0_9.index t 1 = 0 ∧ win0_9.index t 2 = 0 := by decide +kernel
theorem idx10 : ∀ t : Fin grid0.N, win0_10.index t 0 = 0 ∧ win0_10.index t 1 = 0 := by decide +kernel
theorem idx11 : ∀ t : Fin grid0.N, win0_11.index t 0 = 0 ∧ win0_11.index t 1 = 0 := by decide +kernel
theorem idx12 : ∀ t : Fin grid0.N, win0_12.index t 0 = 0 ∧ win0_12.index t 1 = 0 := by decide +kernel
theorem idx13 : ∀ t : Fin grid0.N, win0_13.index t 0 = t.val ∧ win0_13.index t 1 = 0 := by decide +kernel

/-- What window 0's block holds, in terms of the array it is cut from. -/
theorem blk0 (r : Fin 512) (k : Fin 1024) : (iblk m c 0 t : Vec Ideal S512x1024 .f32) (ix2 r k) = V m c main_v0 (ix2 (row t r) k) := by
  unfold iblk
  rw [View.read_apply]
  show V m c main_v0 _ = _
  congr 1
  funext ax
  apply Fin.ext
  match ax with
  | ⟨0, _⟩ => show win0_0.index t 0 * 512 + 1 * r.val = t.val * 512 + r.val; rw [(idx0 t).1] <;> omega
  | ⟨1, _⟩ => show win0_0.index t 1 * 1024 + 1 * k.val = k.val; rw [(idx0 t).2] <;> omega

/-- What window 1's block holds, in terms of the array it is cut from. -/
theorem blk1 (r : Fin 512) (k : Fin 512) : (iblk m c 1 t : Vec Ideal S512x512 .f32) (ix2 r k) = V m c main_v1 (ix2 (row t r) k) := by
  unfold iblk
  rw [View.read_apply]
  show V m c main_v1 _ = _
  congr 1
  funext ax
  apply Fin.ext
  match ax with
  | ⟨0, _⟩ => show win0_1.index t 0 * 512 + 1 * r.val = t.val * 512 + r.val; rw [(idx1 t).1] <;> omega
  | ⟨1, _⟩ => show win0_1.index t 1 * 512 + 1 * k.val = k.val; rw [(idx1 t).2] <;> omega

/-- What window 2's block holds, in terms of the array it is cut from. -/
theorem blk2 (r : Fin 512) (k : Fin 512) : (iblk m c 2 t : Vec Ideal S512x512 .f32) (ix2 r k) = V m c main_v2 (ix2 (row t r) k) := by
  unfold iblk
  rw [View.read_apply]
  show V m c main_v2 _ = _
  congr 1
  funext ax
  apply Fin.ext
  match ax with
  | ⟨0, _⟩ => show win0_2.index t 0 * 512 + 1 * r.val = t.val * 512 + r.val; rw [(idx2 t).1] <;> omega
  | ⟨1, _⟩ => show win0_2.index t 1 * 512 + 1 * k.val = k.val; rw [(idx2 t).2] <;> omega

/-- What window 3's block holds, in terms of the array it is cut from. -/
theorem blk3 (n : Fin 1024) (k : Fin 1024) : (iblk m c 3 t : Vec Ideal S1024x1024 .bf16) (ix2 n k) = V m c main_v4 (ix2 n k) := by
  unfold iblk
  rw [View.read_apply]
  show V m c main_v4 _ = _
  congr 1
  funext ax
  apply Fin.ext
  match ax with
  | ⟨0, _⟩ => show win0_3.index t 0 * 1024 + 1 * n.val = n.val; rw [(idx3 t).1] <;> omega
  | ⟨1, _⟩ => show win0_3.index t 1 * 1024 + 1 * k.val = k.val; rw [(idx3 t).2] <;> omega

/-- What window 4's block holds, in terms of the array it is cut from. -/
theorem blk4 (k : Fin 1024) : (iblk m c 4 t : Vec Ideal S1x1x1024 .f32) (ix3 0 0 k) = V m c main_arg3 (ix3 (bat t) 0 k) := by
  unfold iblk
  rw [View.read_apply]
  show V m c main_arg3 _ = _
  congr 1
  funext ax
  apply Fin.ext
  match ax with
  | ⟨0, _⟩ => show win0_4.index t 0 * 1 + 1 * 0 = t.val / 4; rw [(idx4 t).1] <;> omega
  | ⟨1, _⟩ => show win0_4.index t 1 * 1 + 1 * 0 = 0; rw [(idx4 t).2.1] <;> omega
  | ⟨2, _⟩ => show win0_4.index t 2 * 1024 + 1 * k.val = k.val; rw [(idx4 t).2.2] <;> omega

/-- What window 5's block holds, in terms of the array it is cut from. -/
theorem blk5 (k : Fin 1024) : (iblk m c 5 t : Vec Ideal S1x1024 .f32) (ix2 0 k) = V m c main_v7 (ix2 0 k) := by
  unfold iblk
  rw [View.read_apply]
  show V m c main_v7 _ = _
  congr 1
  funext ax
  apply Fin.ext
  match ax with
  | ⟨0, _⟩ => show win0_5.index t 0 * 1 + 1 * 0 = 0; rw [(idx5 t).1] <;> omega
  | ⟨1, _⟩ => show win0_5.index t 1 * 1024 + 1 * k.val = k.val; rw [(idx5 t).2] <;> omega

/-- What window 6's block holds, in terms of the array it is cut from. -/
theorem blk6 (k : Fin 1024) : (iblk m c 6 t : Vec Ideal S1x1024 .f32) (ix2 0 k) = V m c main_v10 (ix2 0 k) := by
  unfold iblk
  rw [View.read_apply]
  show V m c main_v10 _ = _
  congr 1
  funext ax
  apply Fin.ext
  match ax with
  | ⟨0, _⟩ => show win0_6.index t 0 * 1 + 1 * 0 = 0; rw [(idx6 t).1] <;> omega
  | ⟨1, _⟩ => show win0_6.index t 1 * 1024 + 1 * k.val = k.val; rw [(idx6 t).2] <;> omega

/-- What window 7's block holds, in terms of the array it is cut from. -/
theorem blk7 (k : Fin 1024) : (iblk m c 7 t : Vec Ideal S1x1x1024 .f32) (ix3 0 0 k) = V m c main_arg4 (ix3 (bat t) 0 k) := by
  unfold iblk
  rw [View.read_apply]
  show V m c main_arg4 _ = _
  congr 1
  funext ax
  apply Fin.ext
  match ax with
  | ⟨0, _⟩ => show win0_7.index t 0 * 1 + 1 * 0 = t.val / 4; rw [(idx7 t).1] <;> omega
  | ⟨1, _⟩ => show win0_7.index t 1 * 1 + 1 * 0 = 0; rw [(idx7 t).2.1] <;> omega
  | ⟨2, _⟩ => show win0_7.index t 2 * 1024 + 1 * k.val = k.val; rw [(idx7 t).2.2] <;> omega

/-- What window 8's block holds, in terms of the array it is cut from. -/
theorem blk8 (k : Fin 1024) : (iblk m c 8 t : Vec Ideal S1x1x1024 .f32) (ix3 0 0 k) = V m c main_arg5 (ix3 (bat t) 0 k) := by
  unfold iblk
  rw [View.read_apply]
  show V m c main_arg5 _ = _
  congr 1
  funext ax
  apply Fin.ext
  match ax with
  | ⟨0, _⟩ => show win0_8.index t 0 * 1 + 1 * 0 = t.val / 4; rw [(idx8 t).1] <;> omega
  | ⟨1, _⟩ => show win0_8.index t 1 * 1 + 1 * 0 = 0; rw [(idx8 t).2.1] <;> omega
  | ⟨2, _⟩ => show win0_8.index t 2 * 1024 + 1 * k.val = k.val; rw [(idx8 t).2.2] <;> omega

/-- What window 9's block holds, in terms of the array it is cut from. -/
theorem blk9 (k : Fin 1024) : (iblk m c 9 t : Vec Ideal S1x1x1024 .f32) (ix3 0 0 k) = V m c main_arg6 (ix3 (bat t) 0 k) := by
  unfold iblk
  rw [View.read_apply]
  show V m c main_arg6 _ = _
  congr 1
  funext ax
  apply Fin.ext
  match ax with
  | ⟨0, _⟩ => show win0_9.index t 0 * 1 + 1 * 0 = t.val / 4; rw [(idx9 t).1] <;> omega
  | ⟨1, _⟩ => show win0_9.index t 1 * 1 + 1 * 0 = 0; rw [(idx9 t).2.1] <;> omega
  | ⟨2, _⟩ => show win0_9.index t 2 * 1024 + 1 * k.val = k.val; rw [(idx9 t).2.2] <;> omega

/-- What window 10's block holds, in terms of the array it is cut from. -/
theorem blk10 (k : Fin 1024) : (iblk m c 10 t : Vec Ideal S1x1024 .f32) (ix2 0 k) = V m c main_v13 (ix2 0 k) := by
  unfold iblk
  rw [View.read_apply]
  show V m c main_v13 _ = _
  congr 1
  funext ax
  apply Fin.ext
  match ax with
  | ⟨0, _⟩ => show win0_10.index t 0 * 1 + 1 * 0 = 0; rw [(idx10 t).1] <;> omega
  | ⟨1, _⟩ => show win0_10.index t 1 * 1024 + 1 * k.val = k.val; rw [(idx10 t).2] <;> omega

/-- What window 11's block holds, in terms of the array it is cut from. -/
theorem blk11 (n : Fin 1024) (k : Fin 5632) : (iblk m c 11 t : Vec Ideal S1024x5632 .bf16) (ix2 n k) = V m c main_v16 (ix2 n k) := by
  unfold iblk
  rw [View.read_apply]
  show V m c main_v16 _ = _
  congr 1
  funext ax
  apply Fin.ext
  match ax with
  | ⟨0, _⟩ => show win0_11.index t 0 * 1024 + 1 * n.val = n.val; rw [(idx11 t).1] <;> omega
  | ⟨1, _⟩ => show win0_11.index t 1 * 5632 + 1 * k.val = k.val; rw [(idx11 t).2] <;> omega

/-- What window 12's block holds, in terms of the array it is cut from. -/
theorem blk12 (n : Fin 2816) (k : Fin 1024) : (iblk m c 12 t : Vec Ideal S2816x1024 .bf16) (ix2 n k) = V m c main_v19 (ix2 n k) := by
  unfold iblk
  rw [View.read_apply]
  show V m c main_v19 _ = _
  congr 1
  funext ax
  apply Fin.ext
  match ax with
  | ⟨0, _⟩ => show win0_12.index t 0 * 2816 + 1 * n.val = n.val; rw [(idx12 t).1] <;> omega
  | ⟨1, _⟩ => show win0_12.index t 1 * 1024 + 1 * k.val = k.val; rw [(idx12 t).2] <;> omega

/-- A run's result array, at one index: the grid point whose block holds it left it there. -/
theorem arr13 (r : Fin 512) (k : Fin 1024) : ((dats m 0 c).arrAt 13 cfg0.N : Vec Ideal S16384x1024 .f32) (ix2 (row t r) k) = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) := by
  have h := congrFun ((Value.blocks13 m c t (flush0_13 t)).trans (Value.flushed13 m c t)) (ix2 r k : S512x1024.Idx)
  rw [View.read_apply] at h
  refine Eq.trans ?_ (h.trans rfl)
  show (dats m 0 c).arrAt 13 cfg0.N _ = (dats m 0 c).arrAt 13 cfg0.N _
  congr 1
  funext ax
  apply Fin.ext
  match ax with
  | ⟨0, _⟩ => show t.val * 512 + r.val = win0_13.index t 0 * 512 + 1 * r.val; rw [(idx13 t).1] <;> omega
  | ⟨1, _⟩ => show k.val = win0_13.index t 1 * 1024 + 1 * k.val; rw [(idx13 t).2] <;> omega

/-! What each window's block holds, in terms of the arguments. -/

theorem bat_eq (r : Fin 512) : bat t = sq (row t r) := Fin.ext (by show t.val / 4 = (t.val * 512 + r.val) / 2048; omega)

theorem in0 (r : Fin 512) (k : Fin 1024) : (iblk m c 0 t : Vec Ideal S512x1024 .f32) (ix2 r k) = m ((c : Thread nD τ).loc main_arg0) (ix3 (sq (row t r)) (tok (row t r)) k) :=
  (blk0 m c t r k).trans (V0 m c (row t r) k)
theorem in1 (r : Fin 512) (k : Fin 512) : (iblk m c 1 t : Vec Ideal S512x512 .f32) (ix2 r k) = m ((c : Thread nD τ).loc main_arg1) (ix3 (sq (row t r)) (tok (row t r)) k) :=
  (blk1 m c t r k).trans (V1 m c (row t r) k)
theorem in2 (r : Fin 512) (k : Fin 512) : (iblk m c 2 t : Vec Ideal S512x512 .f32) (ix2 r k) = m ((c : Thread nD τ).loc main_arg2) (ix3 (sq (row t r)) (tok (row t r)) k) :=
  (blk2 m c t r k).trans (V2 m c (row t r) k)
theorem in3 (n : Fin 1024) (k : Fin 1024) : (iblk m c 3 t : Vec Ideal S1024x1024 .bf16) (ix2 n k) = m ((c : Thread nD τ).loc main_arg10) (ix3 0 n k) :=
  (blk3 m c t n k).trans (V4 m c n k)
theorem in4 (r : Fin 512) (k : Fin 1024) : (iblk m c 4 t : Vec Ideal S1x1x1024 .f32) (ix3 0 0 k) = m ((c : Thread nD τ).loc main_arg3) (ix3 (sq (row t r)) 0 k) := by
  rw [blk4, V_main_arg3, bat_eq t r]
theorem in5 (k : Fin 1024) : (iblk m c 5 t : Vec Ideal S1x1024 .f32) (ix2 0 k) = m ((c : Thread nD τ).loc main_arg7) (ix2 0 k) :=
  (blk5 m c t k).trans (V7 m c k)
theorem in6 (k : Fin 1024) : (iblk m c 6 t : Vec Ideal S1x1024 .f32) (ix2 0 k) = m ((c : Thread nD τ).loc main_arg8) (ix2 0 k) :=
  (blk6 m c t k).trans (V10 m c k)
theorem in7 (r : Fin 512) (k : Fin 1024) : (iblk m c 7 t : Vec Ideal S1x1x1024 .f32) (ix3 0 0 k) = m ((c : Thread nD τ).loc main_arg4) (ix3 (sq (row t r)) 0 k) := by
  rw [blk7, V_main_arg4, bat_eq t r]
theorem in8 (r : Fin 512) (k : Fin 1024) : (iblk m c 8 t : Vec Ideal S1x1x1024 .f32) (ix3 0 0 k) = m ((c : Thread nD τ).loc main_arg5) (ix3 (sq (row t r)) 0 k) := by
  rw [blk8, V_main_arg5, bat_eq t r]
theorem in9 (r : Fin 512) (k : Fin 1024) : (iblk m c 9 t : Vec Ideal S1x1x1024 .f32) (ix3 0 0 k) = m ((c : Thread nD τ).loc main_arg6) (ix3 (sq (row t r)) 0 k) := by
  rw [blk9, V_main_arg6, bat_eq t r]
theorem in10 (k : Fin 1024) : (iblk m c 10 t : Vec Ideal S1x1024 .f32) (ix2 0 k) = m ((c : Thread nD τ).loc main_arg9) (ix2 0 k) :=
  (blk10 m c t k).trans (V13 m c k)
theorem in11 (n : Fin 1024) (k : Fin 5632) : (iblk m c 11 t : Vec Ideal S1024x5632 .bf16) (ix2 n k) = m ((c : Thread nD τ).loc main_arg11) (ix3 0 n k) :=
  (blk11 m c t n k).trans (V16 m c n k)
theorem in12 (n : Fin 2816) (k : Fin 1024) : (iblk m c 12 t : Vec Ideal S2816x1024 .bf16) (ix2 n k) = m ((c : Thread nD τ).loc main_arg12) (ix3 0 n k) :=
  (blk12 m c t n k).trans (V19 m c n k)

end Cert.Kernel3Ideal.PostRead
-- ==== Proof.PostARef.lean ====
/-
  What the attention layer's second half is in the reference, at an index: the row functions of the reference's
  arguments.
-/
module

public import proofs.«01_k».proof.Proof.Gen.Reference3Ideal.Read
public import proofs.«01_k».proof.Proof.PostSpec

@[expose] public section

set_option maxRecDepth 16384

noncomputable section

open Idealize.ShloMosaic Idealize.ShloMosaic.TcCoe Idealize.SL.Sem

namespace Cert.Reference3Ideal.PostRef

open Cert.Reference3Ideal Cert.Reference3Ideal.Read Cert.PostSpec

variable (x0 : Vec Ideal S8x2048x1024 .f32) (x1 x2 : Vec Ideal S8x2048x512 .f32) (x3 x4 x5 x6 : Vec Ideal S8x1x1024 .f32)
  (x7 x8 x9 : Vec Ideal S2x1024 .f32) (x10 : Vec Ideal S1x1024x1024 .f32) (x11 : Vec Ideal S2x1024x5632 .f32)
  (x12 : Vec Ideal S2x2816x1024 .f32) (b : Fin 8) (s : Fin 2048)

/-- The projection of the two mechanisms' outputs side by side is the sum of each one's projection. -/
theorem mix_at (k : Fin 1024) : val_main_v2 x1 x2 x10 (ix3 b s k) =
    att (fun n => x1 (ix3 b s n)) (fun n => x2 (ix3 b s n)) (fun n k => x10 (ix3 0 n k)) k := by
  pointwise [val_main_v2, val_main_v1, val_main_v0]
  rfl

/-- The row after the first residual. -/
theorem x1_at (k : Fin 1024) : val_main_v20 x0 x1 x2 x3 x7 x10 (ix3 b s k) =
    resid (fun k => x0 (ix3 b s k)) (fun k => val_main_v2 x1 x2 x10 (ix3 b s k)) (fun k => x7 (ix2 0 k)) (fun k => x3 (ix3 b 0 k)) k := by
  unfold val_main_v20 val_main_v19 val_main_v18 val_main_v17 val_main_v16 val_main_v15 val_main_v14 val_main_v13 val_main_v12
    val_main_v11 val_main_v9 val_main_v7 val_main_v6 val_main_v5
  generalize val_main_v2 x1 x2 x10 = u
  pointwise [val_main_v10, val_main_v8, val_main_v4, val_main_v3, val_main_cst, val_main_cst_0, val_main_cst_1]
  rfl

/-- The feed-forward's input. -/
theorem h2_at (k : Fin 1024) : val_main_v41 x0 x1 x2 x3 x4 x5 x7 x8 x10 (ix3 b s k) =
    modul (fun k => val_main_v20 x0 x1 x2 x3 x7 x10 (ix3 b s k)) (fun k => x8 (ix2 0 k)) (fun k => x4 (ix3 b 0 k)) (fun k => x5 (ix3 b 0 k)) k := by
  unfold val_main_v41 val_main_v39 val_main_v35 val_main_v32 val_main_v31 val_main_v30 val_main_v29 val_main_v27 val_main_v25
    val_main_v24 val_main_v23
  generalize val_main_v20 x0 x1 x2 x3 x7 x10 = u
  pointwise [val_main_v40, val_main_v38, val_main_v37, val_main_v36, val_main_v34, val_main_v33, val_main_v28, val_main_v26,
    val_main_v22, val_main_v21, val_main_cst_2, val_main_cst_3, val_main_cst_4, val_main_cst_5]
  rfl

/-- The two projections of the feed-forward's input, gate and up side by side. -/
theorem gu_at (k : Fin 5632) : val_main_v46 x0 x1 x2 x3 x4 x5 x7 x8 x10 x11 (ix3 b s k) =
    lin (fun k => val_main_v41 x0 x1 x2 x3 x4 x5 x7 x8 x10 (ix3 b s k)) (fun n k => x11 (ix3 0 n k)) k := by
  unfold val_main_v46
  generalize val_main_v41 x0 x1 x2 x3 x4 x5 x7 x8 x10 = u
  pointwise [val_main_v43, val_main_v42]
  rfl

/-- The feed-forward. -/
theorem ffn_at (j : Fin 1024) : val_main_v51 x0 x1 x2 x3 x4 x5 x7 x8 x10 x11 x12 (ix3 b s j) =
    ffn (fun k => val_main_v41 x0 x1 x2 x3 x4 x5 x7 x8 x10 (ix3 b s k)) (fun n k => x11 (ix3 0 n k)) (fun n k => x12 (ix3 0 n k)) j := by
  have g := gu_at x0 x1 x2 x3 x4 x5 x7 x8 x10 x11 b s
  unfold val_main_v51 val_main_v50 val_main_v49 val_main_call0_v5 val_main_call0_v3 val_main_call0_v1 val_main_call0_v0 val_main_v48 val_main_v47
  generalize val_main_v46 x0 x1 x2 x3 x4 x5 x7 x8 x10 x11 = u at *
  pointwise [val_main_v45, val_main_v44, val_main_call0_v4, val_main_call0_v2, val_main_call0_cst, val_main_call0_cst_0]
  unfold ffn glu
  simp only [← g]
  rfl

/-- The row after the second residual, from the row before it and its update. -/
theorem x2_at (k : Fin 1024) : val_main_v69 x0 x1 x2 x3 x4 x5 x6 x7 x8 x9 x10 x11 x12 (ix3 b s k) =
    resid (fun k => val_main_v20 x0 x1 x2 x3 x7 x10 (ix3 b s k)) (fun k => val_main_v51 x0 x1 x2 x3 x4 x5 x7 x8 x10 x11 x12 (ix3 b s k))
      (fun k => x9 (ix2 0 k)) (fun k => x6 (ix3 b 0 k)) k := by
  unfold val_main_v69 val_main_v68 val_main_v66 val_main_v63 val_main_v62 val_main_v61 val_main_v60 val_main_v58 val_main_v56 val_main_v55 val_main_v54
  generalize val_main_v20 x0 x1 x2 x3 x7 x10 = u
  generalize val_main_v51 x0 x1 x2 x3 x4 x5 x7 x8 x10 x11 x12 = v
  pointwise [val_main_v67, val_main_v65, val_main_v64, val_main_v59, val_main_v57, val_main_v53, val_main_v52, val_main_cst_6, val_main_cst_7, val_main_cst_8]
  rfl

/-- The reference's result at an index is the row function of its arguments. -/
theorem out_at (r : Fin 16384) (j : Fin 1024) : val_main_v70 x0 x1 x2 x3 x4 x5 x6 x7 x8 x9 x10 x11 x12 (ix2 r j) =
    out (fun k => x0 (ix3 ⟨r / 2048, by omega⟩ ⟨r % 2048, by omega⟩ k))
      (att (fun n => x1 (ix3 ⟨r / 2048, by omega⟩ ⟨r % 2048, by omega⟩ n)) (fun n => x2 (ix3 ⟨r / 2048, by omega⟩ ⟨r % 2048, by omega⟩ n)) fun n k => x10 (ix3 0 n k))
      (fun k => x3 (ix3 ⟨r / 2048, by omega⟩ 0 k)) (fun k => x7 (ix2 0 k)) (fun k => x8 (ix2 0 k)) (fun k => x4 (ix3 ⟨r / 2048, by omega⟩ 0 k))
      (fun k => x5 (ix3 ⟨r / 2048, by omega⟩ 0 k)) (fun k => x6 (ix3 ⟨r / 2048, by omega⟩ 0 k)) (fun k => x9 (ix2 0 k))
      (fun n k => x11 (ix3 0 n k)) (fun n k => x12 (ix3 0 n k)) j := by
  have e := x2_at x0 x1 x2 x3 x4 x5 x6 x7 x8 x9 x10 x11 x12 ⟨r / 2048, by omega⟩ ⟨r % 2048, by omega⟩ j
  simp only [ffn_at, h2_at, x1_at, mix_at] at e
  refine Eq.trans ?_ e
  unfold val_main_v70
  generalize val_main_v69 x0 x1 x2 x3 x4 x5 x6 x7 x8 x9 x10 x11 x12 = u
  pointwise []

end Cert.Reference3Ideal.PostRef
-- ==== Proof.PostAEq.lean ====
/-
  The attention layer's second half: the array that the call returns is the reference's result on the same arguments.
-/
module

public import proofs.«01_k».proof.Proof.PostARead
public import proofs.«01_k».proof.Proof.PostARef

@[expose] public section

set_option maxRecDepth 16384

noncomputable section

open Idealize.ShloMosaic Idealize.ShloMosaic.TcCoe Idealize.SL.Sem

namespace Cert.PostAEq

open Cert.Kernel3Ideal Cert.Kernel3Ideal.Gen Cert.Kernel3Ideal.PostRead

variable (m : (ℓ : Loc nD τ sig) → Buf (Elt Ideal) ℓ) (c : Dev nD)

/-- One entry of what a grid point leaves, as the row function of the arguments at the row it belongs to. -/
theorem val (t : Fin cfg0.N) (r : Fin 512) (j : Fin 1024) :
    ((dats m 0 c).arrAt 13 cfg0.N : Vec Ideal S16384x1024 .f32) (ix2 (row t r) j) =
      Cert.Reference3Ideal.Read.val_main_v70 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (ix2 (row t r) j) := by
  rw [arr13, Cert.Kernel3Ideal.Out.out_at, Cert.Reference3Ideal.PostRef.out_at]
  simp only [in0, in1, in2, in3, in4 m c t r, in5, in6, in7 m c t r, in8 m c t r, in9 m c t r, in10, in11, in12]

/-- The kernel's result array is the reference's. -/
theorem eq : (dats m 0 c).arrAt 13 cfg0.N =
      Cert.Reference3Ideal.Read.val_main_v70 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) := by
  funext i
  obtain ⟨r, j, rfl⟩ : ∃ (r : Fin 16384) (j : Fin 1024), i = ix2 r j := ⟨i 0, i 1, by funext a; fin_cases a <;> rfl⟩
  have ht : r.val / 512 < grid0.N := by show r.val / 512 < 32; omega
  have e := val m c ⟨r.val / 512, ht⟩ ⟨r.val % 512, by omega⟩ j
  have hr : row ⟨r.val / 512, ht⟩ ⟨r.val % 512, by omega⟩ = r := Fin.ext (by show r.val / 512 * 512 + r.val % 512 = r.val; omega)
  rwa [hr] at e

end Cert.PostAEq
-- ==== Proof.PostBBlock.lean ====
/-
  What one block of the recurrent layer's second half computes, at an index, as the row functions of the blocks that
  its steps read.
-/
module

public import proofs.«01_k».proof.Proof.Gen.Kernel2Ideal.Skeleton
public import proofs.«01_k».proof.Proof.PostSpec

@[expose] public section

set_option maxRecDepth 16384

noncomputable section

open Idealize.ShloMosaic

namespace Cert.Kernel2Ideal.Block

open Cert.Kernel2Ideal Cert.Kernel2Ideal.Gen Cert.PostSpec

theorem pay2_at (v0 v2 : Vec Ideal S512x2048 .f32) (r : Fin 512) (n : Fin 2048) :
    k0_pay2 (F := Ideal) v0 v2 (ix2 r n) = gated (fun n => v0 (ix2 r n)) (fun n => v2 (ix2 r n)) n := by
  pointwise [k0_pay2]
  rfl

theorem pay3_at (v0 v2 : Vec Ideal S512x2048 .f32) (r : Fin 512) (k : Fin 512) :
    k0_pay3 (F := Ideal) v0 v2 (ix2 r k) = gnorm (fun n => v0 (ix2 r n)) (fun n => v2 (ix2 r n)) ⟨k, by omega⟩ := by
  rw [gnorm_at _ _ 0 rfl (fun k => ⟨k, by omega⟩) (fun k => (Nat.zero_add _).symm)]
  simp only [← pay2_at]
  unfold k0_pay3
  generalize k0_pay2 v0 v2 = u
  pointwise []
  rfl
theorem pay4_at (v0 v2 : Vec Ideal S512x2048 .f32) (r : Fin 512) (k : Fin 512) :
    k0_pay4 (F := Ideal) v0 v2 (ix2 r k) = gnorm (fun n => v0 (ix2 r n)) (fun n => v2 (ix2 r n)) ⟨512 + k, by omega⟩ := by
  rw [gnorm_at _ _ 512 rfl (fun k => ⟨512 + k, by omega⟩) (fun k => rfl)]
  simp only [← pay2_at]
  unfold k0_pay4
  generalize k0_pay2 v0 v2 = u
  pointwise []
  rfl
theorem pay5_at (v0 v2 : Vec Ideal S512x2048 .f32) (r : Fin 512) (k : Fin 512) :
    k0_pay5 (F := Ideal) v0 v2 (ix2 r k) = gnorm (fun n => v0 (ix2 r n)) (fun n => v2 (ix2 r n)) ⟨1024 + k, by omega⟩ := by
  rw [gnorm_at _ _ 1024 rfl (fun k => ⟨1024 + k, by omega⟩) (fun k => rfl)]
  simp only [← pay2_at]
  unfold k0_pay5
  generalize k0_pay2 v0 v2 = u
  pointwise []
  rfl
/-- The last group, normalised in the next part of the body from its channels and the sum of their squares. -/
theorem pay67_at (v0 v2 : Vec Ideal S512x2048 .f32) (r : Fin 512) (k : Fin 512) :
    k0_pay6 (F := Ideal) v0 v2 (ix2 r k) * Ideal.rsqrt (Ideal.div (k0_pay7 (F := Ideal) v0 v2 (ix2 r 0)) group + eps) =
      gnorm (fun n => v0 (ix2 r n)) (fun n => v2 (ix2 r n)) ⟨1536 + k, by omega⟩ := by
  rw [gnorm_at _ _ 1536 rfl (fun k => ⟨1536 + k, by omega⟩) (fun k => rfl)]
  simp only [← pay2_at]
  unfold k0_pay7 k0_pay6
  generalize k0_pay2 v0 v2 = u
  pointwise []

theorem pay8_at (v17 v28 v39 v40 : FVec Ideal S512x512 .f32) (v43 : FVec Ideal S512x1 .f32) (v52 : Vec Ideal S1x2048 .f32)
    (v57 : Vec Ideal S2048x1024 .bf16) (v60 : Vec Ideal S512x1024 .f32) (v62 : Vec Ideal S1x1x1024 .f32)
    (v64 : Vec Ideal S1x1024 .f32) (r : Fin 512) (j : Fin 1024) :
    k0_pay8 (F := Ideal) v17 v28 v39 v40 v43 (Scalar.ofBits .f32 0x44000000#32) v52 v57 v60 v62 v64 (ix2 r j) =
      resid (fun k => v60 (ix2 r k)) (fun j => ∑ n, pick (fun k => v17 (ix2 r k)) (fun k => v28 (ix2 r k)) (fun k => v39 (ix2 r k))
        (fun k => v40 (ix2 r k) * Ideal.rsqrt (Ideal.div (v43 (ix2 r 0)) group + eps)) n * v52 (ix2 0 n) * v57 (ix2 n j))
        (fun k => v64 (ix2 0 k)) (fun k => v62 (ix3 0 0 k)) j := by
  pointwise [k0_pay8]
  rfl

theorem pay10_at (v17 v28 v39 v40 : FVec Ideal S512x512 .f32) (v43 : FVec Ideal S512x1 .f32) (q : Ideal .f32) (v52 : Vec Ideal S1x2048 .f32)
    (v57 : Vec Ideal S2048x1024 .bf16) (v60 : Vec Ideal S512x1024 .f32) (v62 : Vec Ideal S1x1x1024 .f32)
    (v64 : Vec Ideal S1x1024 .f32) (r : Fin 512) :
    k0_pay10 (F := Ideal) v17 v28 v39 v40 v43 q v52 v57 v60 v62 v64 (ix1 r) = ∑ k : Fin 1024,
      k0_pay8 (F := Ideal) v17 v28 v39 v40 v43 q v52 v57 v60 v62 v64 (ix2 r k) * k0_pay8 (F := Ideal) v17 v28 v39 v40 v43 q v52 v57 v60 v62 v64 (ix2 r k) := by
  unfold k0_pay10
  generalize k0_pay8 v17 v28 v39 v40 v43 q v52 v57 v60 v62 v64 = u
  pointwise []

theorem pay9_at (v34 : Vec Ideal S1x1024 .f32) (j : Fin 1024) : k0_pay9 (F := Ideal) v34 (ix2 0 j) = v34 (ix2 0 j) := by
  pointwise [k0_pay9]

theorem pay11_at (v33 : FVec Ideal S512x1024 .f32) (v35 : FVec Ideal S1x1024 .f32) (v36 : FVec Ideal S512 .f32)
    (v48 v54 : Vec Ideal S1x1x1024 .f32) (r : Fin 512) (hs : v36 (ix1 r) = ∑ k : Fin 1024, v33 (ix2 r k) * v33 (ix2 r k)) (j : Fin 1024) :
    k0_pay11 (F := Ideal) v33 v35 v36 v48 v54 (ix2 r j) = modul (fun k => v33 (ix2 r k)) (fun k => v35 (ix2 0 k))
      (fun k => v48 (ix3 0 0 k)) (fun k => v54 (ix3 0 0 k)) j := by
  pointwise [k0_pay11]
  rw [hs]
  rfl

/-- The first part of the hidden width: the sum over its columns. -/
theorem pay12_at (v33 : FVec Ideal S512x1024 .f32) (v35 : FVec Ideal S1x1024 .f32) (v36 : FVec Ideal S512 .f32)
    (v48 v54 : Vec Ideal S1x1x1024 .f32) (v59 v62 : Vec Ideal S1024x1536 .bf16) (v69 : Vec Ideal S1536x1024 .bf16)
    (r : Fin 512) (j : Fin 1024) :
    k0_pay12 (F := Ideal) v33 v35 v36 v48 v54 v59 v62 v69 (ix2 r j) = ∑ k : Fin 1536,
      glu (∑ n : Fin 1024, k0_pay11 (F := Ideal) v33 v35 v36 v48 v54 (ix2 r n) * v59 (ix2 n k))
        (∑ n : Fin 1024, k0_pay11 (F := Ideal) v33 v35 v36 v48 v54 (ix2 r n) * v62 (ix2 n k)) * v69 (ix2 k j) := by
  unfold k0_pay12
  generalize k0_pay11 (F := Ideal) v33 v35 v36 v48 v54 = h
  pointwise []
  rfl

theorem pay13_at (v33 : FVec Ideal S512x1024 .f32) (v35 : FVec Ideal S1x1024 .f32) (v36 : FVec Ideal S512 .f32)
    (v48 v54 : Vec Ideal S1x1x1024 .f32) (v72 : Vec Ideal S1024x1280 .bf16) (r : Fin 512) (k : Fin 1280) :
    k0_pay13 (F := Ideal) v33 v35 v36 v48 v54 v72 (ix2 r k) =
      ∑ n : Fin 1024, k0_pay11 (F := Ideal) v33 v35 v36 v48 v54 (ix2 r n) * v72 (ix2 n k) := by
  unfold k0_pay13
  generalize k0_pay11 (F := Ideal) v33 v35 v36 v48 v54 = h
  pointwise []

theorem pay1_at (v33 : FVec Ideal S512x1024 .f32) (v58 : FVec Ideal S512x1024 .bf16) (v71 : FVec Ideal S512x1024 .f32)
    (v74 : FVec Ideal S512x1280 .f32) (v75 : Vec Ideal S1024x1280 .bf16) (v82 : Vec Ideal S1280x1024 .bf16)
    (v86 : Vec Ideal S1x1x1024 .f32) (v88 : Vec Ideal S1x1024 .f32) (r : Fin 512) (j : Fin 1024) :
    k0_pay1 (F := Ideal) v33 v58 v71 v74 v75 v82 v86 v88 (ix2 r j) = resid (fun k => v33 (ix2 r k))
      (fun k => v71 (ix2 r k) + ∑ m : Fin 1280, glu (v74 (ix2 r m)) (∑ n : Fin 1024, v58 (ix2 r n) * v75 (ix2 n m)) * v82 (ix2 m k))
      (fun k => v88 (ix2 0 k)) (fun k => v86 (ix3 0 0 k)) j := by
  pointwise [k0_pay1]
  rfl

end Cert.Kernel2Ideal.Block
-- ==== Proof.PostBOut.lean ====
/-
  What one grid point of the recurrent layer's second half leaves in its block of the result, at an index: the row
  function of the blocks it reads, its two parts of the hidden width put together.
-/
module

public import proofs.«01_k».proof.Proof.PostBBlock
public import proofs.«01_k».proof.Proof.Gen.Kernel2Ideal.Value
public import Idealize.ShloMosaic.Lib.Pipeline.Value

@[expose] public section

set_option maxRecDepth 16384

noncomputable section

open Idealize.ShloMosaic

namespace Cert.Kernel2Ideal.Out

open Cert.Kernel2Ideal Cert.Kernel2Ideal.Gen Cert.Kernel2Ideal.Block Cert.PostSpec

theorem hz3 : (![0, 0, 0] : Fin 3 → Nat) = fun _ => 0 := funext fun a => by fin_cases a <;> rfl
theorem hz2 : (![0, 0] : Fin 2 → Nat) = fun _ => 0 := funext fun a => by fin_cases a <;> rfl

theorem ld6 (x : Vec Ideal S1024x5632 .bf16) (n : Fin 1024) (k : Fin 1536) : (View.ld x r0_6 : Vec Ideal S1024x1536 .bf16) (ix2 n k) = x (ix2 n (lo ⟨k, by omega⟩)) := by
  show x _ = x _
  congr 1; funext ax; apply Fin.ext
  match ax with
  | ⟨0, _⟩ => show 0 + 1 * n.val = n.val; omega
  | ⟨1, _⟩ => show 0 + 1 * k.val = k.val; omega
theorem ld7 (x : Vec Ideal S1024x5632 .bf16) (n : Fin 1024) (k : Fin 1536) : (View.ld x r0_7 : Vec Ideal S1024x1536 .bf16) (ix2 n k) = x (ix2 n (hi ⟨k, by omega⟩)) := by
  show x _ = x _
  congr 1; funext ax; apply Fin.ext
  match ax with
  | ⟨0, _⟩ => show 0 + 1 * n.val = n.val; omega
  | ⟨1, _⟩ => show 2816 + 1 * k.val = 2816 + k.val; omega
theorem ld8 (x : Vec Ideal S2816x1024 .bf16) (n : Fin 1536) (k : Fin 1024) : (View.ld x r0_8 : Vec Ideal S1536x1024 .bf16) (ix2 n k) = x (ix2 ⟨n, by omega⟩ k) := by
  show x _ = x _
  congr 1; funext ax; apply Fin.ext
  match ax with
  | ⟨0, _⟩ => show 0 + 1 * n.val = n.val; omega
  | ⟨1, _⟩ => show 0 + 1 * k.val = k.val; omega
theorem ld9 (x : Vec Ideal S1024x5632 .bf16) (n : Fin 1024) (k : Fin 1280) : (View.ld x r0_9 : Vec Ideal S1024x1280 .bf16) (ix2 n k) = x (ix2 n (lo ⟨1536 + k, by omega⟩)) := by
  show x _ = x _
  congr 1; funext ax; apply Fin.ext
  match ax with
  | ⟨0, _⟩ => show 0 + 1 * n.val = n.val; omega
  | ⟨1, _⟩ => show 1536 + 1 * k.val = 1536 + k.val; omega
theorem ld10 (x : Vec Ideal S1024x5632 .bf16) (n : Fin 1024) (k : Fin 1280) : (View.ld x r0_10 : Vec Ideal S1024x1280 .bf16) (ix2 n k) = x (ix2 n (hi ⟨1536 + k, by omega⟩)) := by
  show x _ = x _
  congr 1; funext ax; apply Fin.ext
  match ax with
  | ⟨0, _⟩ => show 0 + 1 * n.val = n.val; omega
  | ⟨1, _⟩ => show 4352 + 1 * k.val = 2816 + (1536 + k.val); omega
theorem ld11 (x : Vec Ideal S2816x1024 .bf16) (n : Fin 1280) (k : Fin 1024) : (View.ld x r0_11 : Vec Ideal S1280x1024 .bf16) (ix2 n k) = x (ix2 ⟨1536 + n, by omega⟩ k) := by
  show x _ = x _
  congr 1; funext ax; apply Fin.ext
  match ax with
  | ⟨0, _⟩ => show 1536 + 1 * n.val = 1536 + n.val; omega
  | ⟨1, _⟩ => show 0 + 1 * k.val = k.val; omega

/-- A grid point's block of the result at an index is the row function of the blocks it reads. -/
theorem out_at (x0 : Vec Ideal S512x1024 .f32) (x1 x2 : Vec Ideal S512x2048 .f32) (x3 : Vec Ideal S1x2048 .f32) (x4 : Vec Ideal S2048x1024 .bf16)
    (x5 : Vec Ideal S1x1x1024 .f32) (x6 x7 : Vec Ideal S1x1024 .f32) (x8 x9 x10 : Vec Ideal S1x1x1024 .f32)
    (x11 : Vec Ideal S1x1024 .f32) (x12 : Vec Ideal S1024x5632 .bf16) (x13 : Vec Ideal S2816x1024 .bf16)
    (r : Fin 512) (j : Fin 1024) :
    out0_14 x0 x1 x2 x3 x4 x5 x6 x7 x8 x9 x10 x11 x12 x13 (ix2 r j) =
      out (fun k => x0 (ix2 r k)) (ssm (fun n => x1 (ix2 r n)) (fun n => x2 (ix2 r n)) (fun n => x3 (ix2 0 n)) fun n k => x4 (ix2 n k))
        (fun k => x5 (ix3 0 0 k)) (fun k => x6 (ix2 0 k)) (fun k => x7 (ix2 0 k)) (fun k => x8 (ix3 0 0 k))
        (fun k => x9 (ix3 0 0 k)) (fun k => x10 (ix3 0 0 k)) (fun k => x11 (ix2 0 k)) (fun n k => x12 (ix2 n k))
        (fun n k => x13 (ix2 n k)) j := by
  have e0 : View.ld x0 r0_3 = x0 := View.ld_unit_zero hz2 _ _
  have e1 : View.ld x1 r0_0 = x1 := View.ld_unit_zero hz2 _ _
  have e2 : View.ld x2 r0_0 = x2 := View.ld_unit_zero hz2 _ _
  have e3 : View.ld x3 r0_1 = x3 := View.ld_unit_zero hz2 _ _
  have e4 : View.ld x4 r0_2 = x4 := View.ld_unit_zero hz2 _ _
  have e5 : View.ld x5 r0_4 = x5 := View.ld_unit_zero hz3 _ _
  have e6 : View.ld x6 r0_5 = x6 := View.ld_unit_zero hz2 _ _
  have e7 : View.ld x7 r0_5 = x7 := View.ld_unit_zero hz2 _ _
  have e8 : View.ld x8 r0_4 = x8 := View.ld_unit_zero hz3 _ _
  have e9 : View.ld x9 r0_4 = x9 := View.ld_unit_zero hz3 _ _
  have e10 : View.ld x10 r0_4 = x10 := View.ld_unit_zero hz3 _ _
  have e11 : View.ld x11 r0_5 = x11 := View.ld_unit_zero hz2 _ _
  unfold out0_14
  rw [View.canon_unit_zero hz2, e8, e9, e10, e11]
  have h8 : ∀ k, k0_pay19 x0 x1 x2 x3 x4 x5 x6 x7 x8 x9 x10 x11 x12 x13 (ix2 r k) = resid (fun k => x0 (ix2 r k))
      (ssm (fun n => x1 (ix2 r n)) (fun n => x2 (ix2 r n)) (fun n => x3 (ix2 0 n)) fun n k => x4 (ix2 n k)) (fun k => x6 (ix2 0 k)) (fun k => x5 (ix3 0 0 k)) k := by
    intro k
    unfold k0_pay19 k0_pay14 k0_pay15 k0_pay16 k0_pay17 k0_pay18
    rw [e0, e1, e2, e3, e4, e5, e6, pay8_at, pick_eq (gnorm (fun n => x1 (ix2 r n)) (fun n => x2 (ix2 r n))) _ _ _ _
      (pay3_at x1 x2 r) (pay4_at x1 x2 r) (pay5_at x1 x2 r) (pay67_at x1 x2 r)]
    rfl
  have h9 : ∀ k, k0_pay20 x0 x1 x2 x3 x4 x5 x6 x7 x8 x9 x10 x11 x12 x13 (ix2 0 k) = x7 (ix2 0 k) := by
    intro k
    unfold k0_pay20
    rw [e7, pay9_at]
  have h10 : k0_pay21 x0 x1 x2 x3 x4 x5 x6 x7 x8 x9 x10 x11 x12 x13 (ix1 r) = ∑ k : Fin 1024,
      k0_pay19 x0 x1 x2 x3 x4 x5 x6 x7 x8 x9 x10 x11 x12 x13 (ix2 r k) * k0_pay19 x0 x1 x2 x3 x4 x5 x6 x7 x8 x9 x10 x11 x12 x13 (ix2 r k) :=
    pay10_at _ _ _ _ _ _ _ _ _ _ _ _
  generalize k0_pay19 x0 x1 x2 x3 x4 x5 x6 x7 x8 x9 x10 x11 x12 x13 = p8 at *
  generalize k0_pay20 x0 x1 x2 x3 x4 x5 x6 x7 x8 x9 x10 x11 x12 x13 = p9 at *
  generalize k0_pay21 x0 x1 x2 x3 x4 x5 x6 x7 x8 x9 x10 x11 x12 x13 = p10 at *
  have h5 : ∀ k, k0_pay11 p8 p9 p10 x8 x9 (ix2 r k) = modul (fun k => p8 (ix2 r k)) (fun k => x7 (ix2 0 k))
      (fun k => x8 (ix3 0 0 k)) (fun k => x9 (ix3 0 0 k)) k := by
    intro k
    rw [pay11_at _ _ _ _ _ _ h10]
    simp only [h9]
  have l6 := ld6 x12
  have l7 := ld7 x12
  have l8 := ld8 x13
  have l9 := ld9 x12
  have l10 := ld10 x12
  have l11 := ld11 x13
  generalize View.ld x12 r0_6 = y6 at *
  generalize View.ld x12 r0_7 = y7 at *
  generalize View.ld x13 r0_8 = y8 at *
  generalize View.ld x12 r0_9 = y9 at *
  generalize View.ld x12 r0_10 = y10 at *
  generalize View.ld x13 r0_11 = y11 at *
  rw [pay1_at]
  simp only [pay12_at, pay13_at, h5, h8, l6, l7, l8, l9, l10, l11]
  unfold out
  congr 1
  funext k
  unfold ffn
  rw [split]
  rfl

end Cert.Kernel2Ideal.Out
-- ==== Proof.PostBRead.lean ====
/-
  What the arrays hold that the recurrent layer's second half works on: what the host's operations leave for the call to
  read, what each grid point's blocks hold of that, and what the result array holds after the run.
-/
module

public import proofs.«01_k».proof.Proof.PostBOut
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel2Ideal.PostRead

open Cert.Kernel2Ideal Cert.Kernel2Ideal.Gen

variable (m : (ℓ : Loc nD τ sig) → Buf (Elt Ideal) ℓ) (c : Dev nD) (t : Fin cfg0.N)

/-- A row of the flattened batch as a sequence and a token of it. -/
abbrev sq (r : Fin 16384) : Fin 8 := ⟨r / 2048, by omega⟩
abbrev tok (r : Fin 16384) : Fin 2048 := ⟨r % 2048, by omega⟩
/-- A grid point's block's row as a row of the flattened batch, and the sequence that the block is cut from. -/
def row (t : Fin cfg0.N) (r : Fin 512) : Fin 16384 := ⟨t.val * 512 + r.val, by have h : t.val < 32 := t.isLt; omega⟩
def bat (t : Fin cfg0.N) : Fin 8 := ⟨t.val / 4, by have h : t.val < 32 := t.isLt; omega⟩

/-! What the host's operations leave, in terms of the arguments. -/

theorem V0 (r : Fin 16384) (k : Fin 1024) : V m c main_v0 (ix2 r k) = m ((c : Thread nD τ).loc main_arg0) (ix3 (sq r) (tok r) k) := by
  unfold V
  after_reads_at
theorem V1 (r : Fin 16384) (k : Fin 2048) : V m c main_v1 (ix2 r k) = m ((c : Thread nD τ).loc main_arg1) (ix3 (sq r) (tok r) k) := by
  unfold V
  after_reads_at
theorem V2 (r : Fin 16384) (k : Fin 2048) : V m c main_v2 (ix2 r k) = m ((c : Thread nD τ).loc main_arg2) (ix3 (sq r) (tok r) k) := by
  unfold V
  after_reads_at
theorem V4 (n : Fin 2048) (k : Fin 1024) : V m c main_v4 (ix2 n k) = m ((c : Thread nD τ).loc main_arg11) (ix3 0 n k) := by
  unfold V
  after_reads_at
theorem V7 (k : Fin 1024) : V m c main_v7 (ix2 0 k) = m ((c : Thread nD τ).loc main_arg7) (ix2 1 k) := by
  unfold V
  after_reads_at
theorem V10 (k : Fin 1024) : V m c main_v10 (ix2 0 k) = m ((c : Thread nD τ).loc main_arg8) (ix2 1 k) := by
  unfold V
  after_reads_at
theorem V13 (k : Fin 1024) : V m c main_v13 (ix2 0 k) = m ((c : Thread nD τ).loc main_arg9) (ix2 1 k) := by
  unfold V
  after_reads_at
theorem V16 (n : Fin 1024) (k : Fin 5632) : V m c main_v16 (ix2 n k) = m ((c : Thread nD τ).loc main_arg12) (ix3 1 n k) := by
  unfold V
  after_reads_at
theorem V19 (n : Fin 2816) (k : Fin 1024) : V m c main_v19 (ix2 n k) = m ((c : Thread nD τ).loc main_arg13) (ix3 1 n k) := by
  unfold V
  after_reads_at
theorem V21 (k : Fin 2048) : V m c main_v21 (ix2 0 k) = m ((c : Thread nD τ).loc main_arg10) (ix2 0 k) := by
  unfold V
  after_reads_at

/-- Where each window's block starts at a grid point. -/
theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = t.val / 4 ∧ win0_5.index t 1 = 0 ∧ win0_5.index t 2 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = t.val / 4 ∧ win0_8.index t 1 = 0 ∧ win0_8.index t 2 = 0 := by decide +kernel
theorem idx9 : ∀ t : Fin grid0.N, win0_9.index t 0 = t.val / 4 ∧ win0_9.index t 1 = 0 ∧ win0_9.index t 2 = 0 := by decide +kernel
theorem idx10 : ∀ t : Fin grid0.N, win0_10.index t 0 = t.val / 4 ∧ win0_10.index t 1 = 0 ∧ win0_10.index t 2 = 0 := by decide +kernel
theorem idx11 : ∀ t : Fin grid0.N, win0_11.index t 0 = 0 ∧ win0_11.index t 1 = 0 := by decide +kernel
theorem idx12 : ∀ t : Fin grid0.N, win0_12.index t 0 = 0 ∧ win0_12.index t 1 = 0 := by decide +kernel
theorem idx13 : ∀ t : Fin grid0.N, win0_13.index t 0 = 0 ∧ win0_13.index t 1 = 0 := by decide +kernel
theorem idx14 : ∀ t : Fin grid0.N, win0_14.index t 0 = t.val ∧ win0_14.index t 1 = 0 := by decide +kernel

/-- What window 0's block holds, in terms of the array it is cut from. -/
theorem blk0 (r : Fin 512) (k : Fin 1024) : (iblk m c 0 t : Vec Ideal S512x1024 .f32) (ix2 r k) = V m c main_v0 (ix2 (row t r) k) := by
  unfold iblk
  rw [View.read_apply]
  show V m c main_v0 _ = _
  congr 1
  funext ax
  apply Fin.ext
  match ax with
  | ⟨0, _⟩ => show win0_0.index t 0 * 512 + 1 * r.val = t.val * 512 + r.val; rw [(idx0 t).1] <;> omega
  | ⟨1, _⟩ => show win0_0.index t 1 * 1024 + 1 * k.val = k.val; rw [(idx0 t).2] <;> omega

/-- What window 1's block holds, in terms of the array it is cut from. -/
theorem blk1 (r : Fin 512) (k : Fin 2048) : (iblk m c 1 t : Vec Ideal S512x2048 .f32) (ix2 r k) = V m c main_v1 (ix2 (row t r) k) := by
  unfold iblk
  rw [View.read_apply]
  show V m c main_v1 _ = _
  congr 1
  funext ax
  apply Fin.ext
  match ax with
  | ⟨0, _⟩ => show win0_1.index t 0 * 512 + 1 * r.val = t.val * 512 + r.val; rw [(idx1 t).1] <;> omega
  | ⟨1, _⟩ => show win0_1.index t 1 * 2048 + 1 * k.val = k.val; rw [(idx1 t).2] <;> omega

/-- What window 2's block holds, in terms of the array it is cut from. -/
theorem blk2 (r : Fin 512) (k : Fin 2048) : (iblk m c 2 t : Vec Ideal S512x2048 .f32) (ix2 r k) = V m c main_v2 (ix2 (row t r) k) := by
  unfold iblk
  rw [View.read_apply]
  show V m c main_v2 _ = _
  congr 1
  funext ax
  apply Fin.ext
  match ax with
  | ⟨0, _⟩ => show win0_2.index t 0 * 512 + 1 * r.val = t.val * 512 + r.val; rw [(idx2 t).1] <;> omega
  | ⟨1, _⟩ => show win0_2.index t 1 * 2048 + 1 * k.val = k.val; rw [(idx2 t).2] <;> omega

/-- What window 3's block holds, in terms of the array it is cut from. -/
theorem blk3 (k : Fin 2048) : (iblk m c 3 t : Vec Ideal S1x2048 .f32) (ix2 0 k) = V m c main_v21 (ix2 0 k) := by
  unfold iblk
  rw [View.read_apply]
  show V m c main_v21 _ = _
  congr 1
  funext ax
  apply Fin.ext
  match ax with
  | ⟨0, _⟩ => show win0_3.index t 0 * 1 + 1 * 0 = 0; rw [(idx3 t).1] <;> omega
  | ⟨1, _⟩ => show win0_3.index t 1 * 2048 + 1 * k.val = k.val; rw [(idx3 t).2] <;> omega

/-- What window 4's block holds, in terms of the array it is cut from. -/
theorem blk4 (n : Fin 2048) (k : Fin 1024) : (iblk m c 4 t : Vec Ideal S2048x1024 .bf16) (ix2 n k) = V m c main_v4 (ix2 n k) := by
  unfold iblk
  rw [View.read_apply]
  show V m c main_v4 _ = _
  congr 1
  funext ax
  apply Fin.ext
  match ax with
  | ⟨0, _⟩ => show win0_4.index t 0 * 2048 + 1 * n.val = n.val; rw [(idx4 t).1] <;> omega
  | ⟨1, _⟩ => show win0_4.index t 1 * 1024 + 1 * k.val = k.val; rw [(idx4 t).2] <;> omega

/-- What window 5's block holds, in terms of the array it is cut from. -/
theorem blk5 (k : Fin 1024) : (iblk m c 5 t : Vec Ideal S1x1x1024 .f32) (ix3 0 0 k) = V m c main_arg3 (ix3 (bat t) 0 k) := by
  unfold iblk
  rw [View.read_apply]
  show V m c main_arg3 _ = _
  congr 1
  funext ax
  apply Fin.ext
  match ax with
  | ⟨0, _⟩ => show win0_5.index t 0 * 1 + 1 * 0 = t.val / 4; rw [(idx5 t).1] <;> omega
  | ⟨1, _⟩ => show win0_5.index t 1 * 1 + 1 * 0 = 0; rw [(idx5 t).2.1] <;> omega
  | ⟨2, _⟩ => show win0_5.index t 2 * 1024 + 1 * k.val = k.val; rw [(idx5 t).2.2] <;> omega

/-- What window 6's block holds, in terms of the array it is cut from. -/
theorem blk6 (k : Fin 1024) : (iblk m c 6 t : Vec Ideal S1x1024 .f32) (ix2 0 k) = V m c main_v7 (ix2 0 k) := by
  unfold iblk
  rw [View.read_apply]
  show V m c main_v7 _ = _
  congr 1
  funext ax
  apply Fin.ext
  match ax with
  | ⟨0, _⟩ => show win0_6.index t 0 * 1 + 1 * 0 = 0; rw [(idx6 t).1] <;> omega
  | ⟨1, _⟩ => show win0_6.index t 1 * 1024 + 1 * k.val = k.val; rw [(idx6 t).2] <;> omega

/-- What window 7's block holds, in terms of the array it is cut from. -/
theorem blk7 (k : Fin 1024) : (iblk m c 7 t : Vec Ideal S1x1024 .f32) (ix2 0 k) = V m c main_v10 (ix2 0 k) := by
  unfold iblk
  rw [View.read_apply]
  show V m c main_v10 _ = _
  congr 1
  funext ax
  apply Fin.ext
  match ax with
  | ⟨0, _⟩ => show win0_7.index t 0 * 1 + 1 * 0 = 0; rw [(idx7 t).1] <;> omega
  | ⟨1, _⟩ => show win0_7.index t 1 * 1024 + 1 * k.val = k.val; rw [(idx7 t).2] <;> omega

/-- What window 8's block holds, in terms of the array it is cut from. -/
theorem blk8 (k : Fin 1024) : (iblk m c 8 t : Vec Ideal S1x1x1024 .f32) (ix3 0 0 k) = V m c main_arg4 (ix3 (bat t) 0 k) := by
  unfold iblk
  rw [View.read_apply]
  show V m c main_arg4 _ = _
  congr 1
  funext ax
  apply Fin.ext
  match ax with
  | ⟨0, _⟩ => show win0_8.index t 0 * 1 + 1 * 0 = t.val / 4; rw [(idx8 t).1] <;> omega
  | ⟨1, _⟩ => show win0_8.index t 1 * 1 + 1 * 0 = 0; rw [(idx8 t).2.1] <;> omega
  | ⟨2, _⟩ => show win0_8.index t 2 * 1024 + 1 * k.val = k.val; rw [(idx8 t).2.2] <;> omega

/-- What window 9's block holds, in terms of the array it is cut from. -/
theorem blk9 (k : Fin 1024) : (iblk m c 9 t : Vec Ideal S1x1x1024 .f32) (ix3 0 0 k) = V m c main_arg5 (ix3 (bat t) 0 k) := by
  unfold iblk
  rw [View.read_apply]
  show V m c main_arg5 _ = _
  congr 1
  funext ax
  apply Fin.ext
  match ax with
  | ⟨0, _⟩ => show win0_9.index t 0 * 1 + 1 * 0 = t.val / 4; rw [(idx9 t).1] <;> omega
  | ⟨1, _⟩ => show win0_9.index t 1 * 1 + 1 * 0 = 0; rw [(idx9 t).2.1] <;> omega
  | ⟨2, _⟩ => show win0_9.index t 2 * 1024 + 1 * k.val = k.val; rw [(idx9 t).2.2] <;> omega

/-- What window 10's block holds, in terms of the array it is cut from. -/
theorem blk10 (k : Fin 1024) : (iblk m c 10 t : Vec Ideal S1x1x1024 .f32) (ix3 0 0 k) = V m c main_arg6 (ix3 (bat t) 0 k) := by
  unfold iblk
  rw [View.read_apply]
  show V m c main_arg6 _ = _
  congr 1
  funext ax
  apply Fin.ext
  match ax with
  | ⟨0, _⟩ => show win0_10.index t 0 * 1 + 1 * 0 = t.val / 4; rw [(idx10 t).1] <;> omega
  | ⟨1, _⟩ => show win0_10.index t 1 * 1 + 1 * 0 = 0; rw [(idx10 t).2.1] <;> omega
  | ⟨2, _⟩ => show win0_10.index t 2 * 1024 + 1 * k.val = k.val; rw [(idx10 t).2.2] <;> omega

/-- What window 11's block holds, in terms of the array it is cut from. -/
theorem blk11 (k : Fin 1024) : (iblk m c 11 t : Vec Ideal S1x1024 .f32) (ix2 0 k) = V m c main_v13 (ix2 0 k) := by
  unfold iblk
  rw [View.read_apply]
  show V m c main_v13 _ = _
  congr 1
  funext ax
  apply Fin.ext
  match ax with
  | ⟨0, _⟩ => show win0_11.index t 0 * 1 + 1 * 0 = 0; rw [(idx11 t).1] <;> omega
  | ⟨1, _⟩ => show win0_11.index t 1 * 1024 + 1 * k.val = k.val; rw [(idx11 t).2] <;> omega

/-- What window 12's block holds, in terms of the array it is cut from. -/
theorem blk12 (n : Fin 1024) (k : Fin 5632) : (iblk m c 12 t : Vec Ideal S1024x5632 .bf16) (ix2 n k) = V m c main_v16 (ix2 n k) := by
  unfold iblk
  rw [View.read_apply]
  show V m c main_v16 _ = _
  congr 1
  funext ax
  apply Fin.ext
  match ax with
  | ⟨0, _⟩ => show win0_12.index t 0 * 1024 + 1 * n.val = n.val; rw [(idx12 t).1] <;> omega
  | ⟨1, _⟩ => show win0_12.index t 1 * 5632 + 1 * k.val = k.val; rw [(idx12 t).2] <;> omega

/-- What window 13's block holds, in terms of the array it is cut from. -/
theorem blk13 (n : Fin 2816) (k : Fin 1024) : (iblk m c 13 t : Vec Ideal S2816x1024 .bf16) (ix2 n k) = V m c main_v19 (ix2 n k) := by
  unfold iblk
  rw [View.read_apply]
  show V m c main_v19 _ = _
  congr 1
  funext ax
  apply Fin.ext
  match ax with
  | ⟨0, _⟩ => show win0_13.index t 0 * 2816 + 1 * n.val = n.val; rw [(idx13 t).1] <;> omega
  | ⟨1, _⟩ => show win0_13.index t 1 * 1024 + 1 * k.val = k.val; rw [(idx13 t).2] <;> omega

/-- A run's result array, at one index: the grid point whose block holds it left it there. -/
theorem arr14 (r : Fin 512) (k : Fin 1024) : ((dats m 0 c).arrAt 14 cfg0.N : Vec Ideal S16384x1024 .f32) (ix2 (row t r) k) = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r k) := by
  have h := congrFun ((Value.blocks14 m c t (flush0_14 t)).trans (Value.flushed14 m c t)) (ix2 r k : S512x1024.Idx)
  rw [View.read_apply] at h
  refine Eq.trans ?_ (h.trans rfl)
  show (dats m 0 c).arrAt 14 cfg0.N _ = (dats m 0 c).arrAt 14 cfg0.N _
  congr 1
  funext ax
  apply Fin.ext
  match ax with
  | ⟨0, _⟩ => show t.val * 512 + r.val = win0_14.index t 0 * 512 + 1 * r.val; rw [(idx14 t).1] <;> omega
  | ⟨1, _⟩ => show k.val = win0_14.index t 1 * 1024 + 1 * k.val; rw [(idx14 t).2] <;> omega

/-! What each window's block holds, in terms of the arguments. -/

theorem bat_eq (r : Fin 512) : bat t = sq (row t r) := Fin.ext (by show t.val / 4 = (t.val * 512 + r.val) / 2048; omega)

theorem in0 (r : Fin 512) (k : Fin 1024) : (iblk m c 0 t : Vec Ideal S512x1024 .f32) (ix2 r k) = m ((c : Thread nD τ).loc main_arg0) (ix3 (sq (row t r)) (tok (row t r)) k) :=
  (blk0 m c t r k).trans (V0 m c (row t r) k)
theorem in1 (r : Fin 512) (k : Fin 2048) : (iblk m c 1 t : Vec Ideal S512x2048 .f32) (ix2 r k) = m ((c : Thread nD τ).loc main_arg1) (ix3 (sq (row t r)) (tok (row t r)) k) :=
  (blk1 m c t r k).trans (V1 m c (row t r) k)
theorem in2 (r : Fin 512) (k : Fin 2048) : (iblk m c 2 t : Vec Ideal S512x2048 .f32) (ix2 r k) = m ((c : Thread nD τ).loc main_arg2) (ix3 (sq (row t r)) (tok (row t r)) k) :=
  (blk2 m c t r k).trans (V2 m c (row t r) k)
theorem in3 (k : Fin 2048) : (iblk m c 3 t : Vec Ideal S1x2048 .f32) (ix2 0 k) = m ((c : Thread nD τ).loc main_arg10) (ix2 0 k) :=
  (blk3 m c t k).trans (V21 m c k)
theorem in4 (n : Fin 2048) (k : Fin 1024) : (iblk m c 4 t : Vec Ideal S2048x1024 .bf16) (ix2 n k) = m ((c : Thread nD τ).loc main_arg11) (ix3 0 n k) :=
  (blk4 m c t n k).trans (V4 m c n k)
theorem in5 (r : Fin 512) (k : Fin 1024) : (iblk m c 5 t : Vec Ideal S1x1x1024 .f32) (ix3 0 0 k) = m ((c : Thread nD τ).loc main_arg3) (ix3 (sq (row t r)) 0 k) := by
  rw [blk5, V_main_arg3, bat_eq t r]
theorem in6 (k : Fin 1024) : (iblk m c 6 t : Vec Ideal S1x1024 .f32) (ix2 0 k) = m ((c : Thread nD τ).loc main_arg7) (ix2 1 k) :=
  (blk6 m c t k).trans (V7 m c k)
theorem in7 (k : Fin 1024) : (iblk m c 7 t : Vec Ideal S1x1024 .f32) (ix2 0 k) = m ((c : Thread nD τ).loc main_arg8) (ix2 1 k) :=
  (blk7 m c t k).trans (V10 m c k)
theorem in8 (r : Fin 512) (k : Fin 1024) : (iblk m c 8 t : Vec Ideal S1x1x1024 .f32) (ix3 0 0 k) = m ((c : Thread nD τ).loc main_arg4) (ix3 (sq (row t r)) 0 k) := by
  rw [blk8, V_main_arg4, bat_eq t r]
theorem in9 (r : Fin 512) (k : Fin 1024) : (iblk m c 9 t : Vec Ideal S1x1x1024 .f32) (ix3 0 0 k) = m ((c : Thread nD τ).loc main_arg5) (ix3 (sq (row t r)) 0 k) := by
  rw [blk9, V_main_arg5, bat_eq t r]
theorem in10 (r : Fin 512) (k : Fin 1024) : (iblk m c 10 t : Vec Ideal S1x1x1024 .f32) (ix3 0 0 k) = m ((c : Thread nD τ).loc main_arg6) (ix3 (sq (row t r)) 0 k) := by
  rw [blk10, V_main_arg6, bat_eq t r]
theorem in11 (k : Fin 1024) : (iblk m c 11 t : Vec Ideal S1x1024 .f32) (ix2 0 k) = m ((c : Thread nD τ).loc main_arg9) (ix2 1 k) :=
  (blk11 m c t k).trans (V13 m c k)
theorem in12 (n : Fin 1024) (k : Fin 5632) : (iblk m c 12 t : Vec Ideal S1024x5632 .bf16) (ix2 n k) = m ((c : Thread nD τ).loc main_arg12) (ix3 1 n k) :=
  (blk12 m c t n k).trans (V16 m c n k)
theorem in13 (n : Fin 2816) (k : Fin 1024) : (iblk m c 13 t : Vec Ideal S2816x1024 .bf16) (ix2 n k) = m ((c : Thread nD τ).loc main_arg13) (ix3 1 n k) :=
  (blk13 m c t n k).trans (V19 m c n k)

end Cert.Kernel2Ideal.PostRead
-- ==== Proof.PostBRef.lean ====
/-
  What the recurrent layer's second half is in the reference, at an index: the row functions of the reference's
  arguments.
-/
module

public import proofs.«01_k».proof.Proof.Gen.Reference2Ideal.Read
public import proofs.«01_k».proof.Proof.PostSpec

@[expose] public section

set_option maxRecDepth 16384

noncomputable section

open Idealize.ShloMosaic Idealize.ShloMosaic.TcCoe Idealize.SL.Sem

namespace Cert.Reference2Ideal.PostRef

open Cert.Reference2Ideal Cert.Reference2Ideal.Read Cert.PostSpec

variable (x0 : Vec Ideal S8x2048x1024 .f32) (x1 x2 : Vec Ideal S8x2048x2048 .f32) (x3 x4 x5 x6 : Vec Ideal S8x1x1024 .f32)
  (x7 x8 x9 : Vec Ideal S2x1024 .f32) (x10 : Vec Ideal S1x2048 .f32) (x11 : Vec Ideal S1x2048x1024 .f32)
  (x12 : Vec Ideal S2x1024x5632 .f32) (x13 : Vec Ideal S2x2816x1024 .f32) (b : Fin 8) (s : Fin 2048)

/-- The gated output of the recurrence, its channels in their groups. -/
theorem gate_at (q : Fin 4) (k : Fin 512) : val_main_v3 x1 x2 (ix4 b s q k) =
    gated (fun n => x1 (ix3 b s n)) (fun n => x2 (ix3 b s n)) ⟨q * 512 + k, by omega⟩ := by
  pointwise [val_main_v3, val_main_v2, val_main_v1, val_main_v0, val_main_call0_v0, val_main_call0_v1, val_main_call0_v2, val_main_call0_v3,
    val_main_call0_v4, val_main_call0_v5, val_main_call0_cst, val_main_call0_cst_0]
  rfl

/-- The gated output with each group brought to root mean square one. -/
theorem norm_at (n : Fin 2048) : val_main_v14 x1 x2 (ix3 b s n) = gnorm (fun n => x1 (ix3 b s n)) (fun n => x2 (ix3 b s n)) n := by
  have g := gate_at x1 x2 b s
  unfold val_main_v14 val_main_v13 val_main_v12 val_main_v11 val_main_v10 val_main_v8 val_main_v6 val_main_v5 val_main_v4
  generalize val_main_v3 x1 x2 = u at *
  pointwise [val_main_v7, val_main_v9, val_main_cst, val_main_cst_0, val_main_cst_1]
  simp only [g]
  have e : (⟨n.val / 512 * 512 + n.val % 512, by omega⟩ : Fin 2048) = n := Fin.ext (by show n.val / 512 * 512 + n.val % 512 = n.val; omega)
  rw [e]
  rfl

/-- The projection of the recurrence's output. -/
theorem mix_at (k : Fin 1024) : val_main_v20 x1 x2 x10 x11 (ix3 b s k) =
    ssm (fun n => x1 (ix3 b s n)) (fun n => x2 (ix3 b s n)) (fun n => x10 (ix2 0 n)) (fun n k => x11 (ix3 0 n k)) k := by
  have g := norm_at x1 x2 b s
  unfold val_main_v20 val_main_v18
  generalize val_main_v14 x1 x2 = u at *
  pointwise [val_main_v19, val_main_v17, val_main_v16, val_main_v15]
  simp only [g]
  rfl

/-- The row after the first residual. -/
theorem x1_at (k : Fin 1024) : val_main_v38 x0 x1 x2 x3 x7 x10 x11 (ix3 b s k) =
    resid (fun k => x0 (ix3 b s k)) (fun k => val_main_v20 x1 x2 x10 x11 (ix3 b s k)) (fun k => x7 (ix2 1 k)) (fun k => x3 (ix3 b 0 k)) k := by
  unfold val_main_v38 val_main_v37 val_main_v36 val_main_v35 val_main_v34 val_main_v33 val_main_v32 val_main_v31 val_main_v30
    val_main_v29 val_main_v27 val_main_v25 val_main_v24 val_main_v23
  generalize val_main_v20 x1 x2 x10 x11 = u
  pointwise [val_main_v28, val_main_v26, val_main_v22, val_main_v21, val_main_cst_2, val_main_cst_3, val_main_cst_4]
  rfl

/-- The feed-forward's input. -/
theorem h2_at (k : Fin 1024) : val_main_v59 x0 x1 x2 x3 x4 x5 x7 x8 x10 x11 (ix3 b s k) =
    modul (fun k => val_main_v38 x0 x1 x2 x3 x7 x10 x11 (ix3 b s k)) (fun k => x8 (ix2 1 k)) (fun k => x4 (ix3 b 0 k)) (fun k => x5 (ix3 b 0 k)) k := by
  unfold val_main_v59 val_main_v57 val_main_v53 val_main_v50 val_main_v49 val_main_v48 val_main_v47 val_main_v45 val_main_v43
    val_main_v42 val_main_v41
  generalize val_main_v38 x0 x1 x2 x3 x7 x10 x11 = u
  pointwise [val_main_v58, val_main_v56, val_main_v55, val_main_v54, val_main_v52, val_main_v51, val_main_v46, val_main_v44,
    val_main_v40, val_main_v39, val_main_cst_5, val_main_cst_6, val_main_cst_7, val_main_cst_8]
  rfl

/-- The two projections of the feed-forward's input, gate and up side by side. -/
theorem gu_at (k : Fin 5632) : val_main_v64 x0 x1 x2 x3 x4 x5 x7 x8 x10 x11 x12 (ix3 b s k) =
    lin (fun k => val_main_v59 x0 x1 x2 x3 x4 x5 x7 x8 x10 x11 (ix3 b s k)) (fun n k => x12 (ix3 1 n k)) k := by
  unfold val_main_v64
  generalize val_main_v59 x0 x1 x2 x3 x4 x5 x7 x8 x10 x11 = u
  pointwise [val_main_v61, val_main_v60]
  rfl

/-- The feed-forward. -/
theorem ffn_at (j : Fin 1024) : val_main_v69 x0 x1 x2 x3 x4 x5 x7 x8 x10 x11 x12 x13 (ix3 b s j) =
    ffn (fun k => val_main_v59 x0 x1 x2 x3 x4 x5 x7 x8 x10 x11 (ix3 b s k)) (fun n k => x12 (ix3 1 n k)) (fun n k => x13 (ix3 1 n k)) j := by
  have g := gu_at x0 x1 x2 x3 x4 x5 x7 x8 x10 x11 x12 b s
  unfold val_main_v69 val_main_v68 val_main_v67 val_main_call1_v5 val_main_call1_v3 val_main_call1_v1 val_main_call1_v0 val_main_v66 val_main_v65
  generalize val_main_v64 x0 x1 x2 x3 x4 x5 x7 x8 x10 x11 x12 = u at *
  pointwise [val_main_v63, val_main_v62, val_main_call1_v4, val_main_call1_v2, val_main_call1_cst, val_main_call1_cst_0]
  unfold ffn glu
  simp only [← g]
  rfl

/-- The row after the second residual, from the row before it and its update. -/
theorem x2_at (k : Fin 1024) : val_main_v87 x0 x1 x2 x3 x4 x5 x6 x7 x8 x9 x10 x11 x12 x13 (ix3 b s k) =
    resid (fun k => val_main_v38 x0 x1 x2 x3 x7 x10 x11 (ix3 b s k)) (fun k => val_main_v69 x0 x1 x2 x3 x4 x5 x7 x8 x10 x11 x12 x13 (ix3 b s k))
      (fun k => x9 (ix2 1 k)) (fun k => x6 (ix3 b 0 k)) k := by
  unfold val_main_v87 val_main_v86 val_main_v84 val_main_v81 val_main_v80 val_main_v79 val_main_v78 val_main_v76 val_main_v74 val_main_v73 val_main_v72
  generalize val_main_v38 x0 x1 x2 x3 x7 x10 x11 = u
  generalize val_main_v69 x0 x1 x2 x3 x4 x5 x7 x8 x10 x11 x12 x13 = v
  pointwise [val_main_v85, val_main_v83, val_main_v82, val_main_v77, val_main_v75, val_main_v71, val_main_v70, val_main_cst_9, val_main_cst_10, val_main_cst_11]
  rfl

/-- The reference's result at an index is the row function of its arguments. -/
theorem out_at (r : Fin 16384) (j : Fin 1024) : val_main_v88 x0 x1 x2 x3 x4 x5 x6 x7 x8 x9 x10 x11 x12 x13 (ix2 r j) =
    out (fun k => x0 (ix3 ⟨r / 2048, by omega⟩ ⟨r % 2048, by omega⟩ k))
      (ssm (fun n => x1 (ix3 ⟨r / 2048, by omega⟩ ⟨r % 2048, by omega⟩ n)) (fun n => x2 (ix3 ⟨r / 2048, by omega⟩ ⟨r % 2048, by omega⟩ n)) (fun n => x10 (ix2 0 n)) fun n k => x11 (ix3 0 n k))
      (fun k => x3 (ix3 ⟨r / 2048, by omega⟩ 0 k)) (fun k => x7 (ix2 1 k)) (fun k => x8 (ix2 1 k)) (fun k => x4 (ix3 ⟨r / 2048, by omega⟩ 0 k))
      (fun k => x5 (ix3 ⟨r / 2048, by omega⟩ 0 k)) (fun k => x6 (ix3 ⟨r / 2048, by omega⟩ 0 k)) (fun k => x9 (ix2 1 k))
      (fun n k => x12 (ix3 1 n k)) (fun n k => x13 (ix3 1 n k)) j := by
  have e := x2_at x0 x1 x2 x3 x4 x5 x6 x7 x8 x9 x10 x11 x12 x13 ⟨r / 2048, by omega⟩ ⟨r % 2048, by omega⟩ j
  simp only [ffn_at, h2_at, x1_at, mix_at] at e
  refine Eq.trans ?_ e
  unfold val_main_v88
  generalize val_main_v87 x0 x1 x2 x3 x4 x5 x6 x7 x8 x9 x10 x11 x12 x13 = u
  pointwise []

end Cert.Reference2Ideal.PostRef
-- ==== Proof.PostBEq.lean ====
/-
  The recurrent layer's second half: the array that the call returns is the reference's result on the same arguments.
-/
module

public import proofs.«01_k».proof.Proof.PostBRead
public import proofs.«01_k».proof.Proof.PostBRef

@[expose] public section

set_option maxRecDepth 16384

noncomputable section

open Idealize.ShloMosaic Idealize.ShloMosaic.TcCoe Idealize.SL.Sem

namespace Cert.PostBEq

open Cert.Kernel2Ideal Cert.Kernel2Ideal.Gen Cert.Kernel2Ideal.PostRead

variable (m : (ℓ : Loc nD τ sig) → Buf (Elt Ideal) ℓ) (c : Dev nD)

/-- One entry of what a grid point leaves, as the row function of the arguments at the row it belongs to. -/
theorem val (t : Fin cfg0.N) (r : Fin 512) (j : Fin 1024) :
    ((dats m 0 c).arrAt 14 cfg0.N : Vec Ideal S16384x1024 .f32) (ix2 (row t r) j) =
      Cert.Reference2Ideal.Read.val_main_v88 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (ix2 (row t r) j) := by
  rw [arr14, Cert.Kernel2Ideal.Out.out_at, Cert.Reference2Ideal.PostRef.out_at]
  simp only [in0, in1, in2, in3, in4, in5 m c t r, in6, in7, in8 m c t r, in9 m c t r, in10 m c t r, in11, in12, in13]

/-- The kernel's result array is the reference's. -/
theorem eq : (dats m 0 c).arrAt 14 cfg0.N =
      Cert.Reference2Ideal.Read.val_main_v88 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) := by
  funext i
  obtain ⟨r, j, rfl⟩ : ∃ (r : Fin 16384) (j : Fin 1024), i = ix2 r j := ⟨i 0, i 1, by funext a; fin_cases a <;> rfl⟩
  have ht : r.val / 512 < grid0.N := by show r.val / 512 < 32; omega
  have e := val m c ⟨r.val / 512, ht⟩ ⟨r.val % 512, by omega⟩ j
  have hr : row ⟨r.val / 512, ht⟩ ⟨r.val % 512, by omega⟩ = r := Fin.ext (by show r.val / 512 * 512 + r.val % 512 = r.val; omega)
  rwa [hr] at e

end Cert.PostBEq
-- ==== Proof.ProjSpec.lean ====
/-
  One row of a layer's input projection as scalar arithmetic: the positive step size, the gate unit, and the short
  causal convolution of a channel's last four values.
-/
module

public import Idealize.ShloMosaic.Lib.Pointwise
public import proofs.«01_k».proof.Proof.PostSpec

@[expose] public section

noncomputable section

open Idealize.ShloMosaic

namespace Cert.ProjSpec

/-- The logarithm of one plus the exponential, in the form that does not overflow. -/
def softplus (a : EReal) : EReal := max a 0 + Ideal.log1p (Ideal.exp (-(FloatOps.absf (F := Ideal) (φ := .f32) a)))
/-- A number times its logistic. -/
def silu (a : EReal) : EReal := a * Ideal.logistic a
/-- Four values of a channel, the oldest first, weighed and shifted. -/
def conv (p0 p1 p2 u w0 w1 w2 w3 b : EReal) : EReal := b + w3 * u + w2 * p2 + w1 * p1 + w0 * p0
/-- The same sum taken from the oldest value on, the shift last. -/
theorem conv_eq (p0 p1 p2 u w0 w1 w2 w3 b : EReal) : p0 * w0 + p1 * w1 + p2 * w2 + u * w3 + b = conv p0 p1 p2 u w0 w1 w2 w3 b := by
  unfold conv
  rw [mul_comm p0, mul_comm p1, mul_comm p2, mul_comm u]
  ac_rfl

/-! The rotation of the first sixteen of every head's sixty-four lanes. -/

/-- A lane of the rotated row: the first eight of a head's lanes turn with the next eight, the rest stay. -/
def rope (z : Fin 512 → EReal) (cs sn : Fin 8 → EReal) (n : Fin 512) : EReal :=
  if h : n.val % 64 < 8 then z n * cs ⟨n.val % 64, h⟩ - z ⟨n.val + 8, by omega⟩ * sn ⟨n.val % 64, h⟩
  else if h2 : n.val % 64 < 16 then z ⟨n.val - 8, by omega⟩ * sn ⟨n.val % 64 - 8, by omega⟩ + z n * cs ⟨n.val % 64 - 8, by omega⟩
  else z n

/-- What a lane is weighed with, what its later neighbour is, and what its earlier one is. -/
def tabC (cs : Fin 8 → EReal) (d : ℕ) : EReal := if h : d < 8 then cs ⟨d, h⟩ else if h2 : d < 16 then cs ⟨d - 8, by omega⟩ else 1
def tabP (sn : Fin 8 → EReal) (d : ℕ) : EReal := if h : d < 8 then -sn ⟨d, h⟩ else 0
def tabM (sn : Fin 8 → EReal) (d : ℕ) : EReal := if _h : d < 8 then 0 else if h2 : d < 16 then sn ⟨d - 8, by omega⟩ else 0

theorem sub_of (a b c : EReal) : a + b * -c = a - b * c := by
  rw [mul_neg, sub_eq_add_neg]

theorem rope_of (z : Fin 512 → EReal) (cs sn : Fin 8 → EReal) (n : Fin 512) (a p q c s1 s2 : EReal) (d : ℕ) (hd : d = n.val % 64) (ha : a = z n)
    (hp : ∀ h : n.val % 64 < 8, p = z ⟨n.val + 8, by omega⟩) (hq : ∀ h : 8 ≤ n.val % 64, q = z ⟨n.val - 8, by omega⟩)
    (hc : c = tabC cs d) (h1 : s1 = tabP sn d) (h2 : s2 = tabM sn d) : a * c + p * s1 + q * s2 = rope z cs sn n := by
  subst hd hc h1 h2 ha
  unfold tabC tabP tabM rope
  by_cases h : n.val % 64 < 8
  · simp only [dif_pos h, mul_zero, add_zero]
    rw [hp h, sub_of]
  · by_cases h' : n.val % 64 < 16
    · simp only [dif_neg h, dif_pos h', mul_zero, add_zero]
      rw [hq (by omega), add_comm]
    · simp only [dif_neg h, dif_neg h', mul_zero, add_zero, mul_one]

/-! The logarithm of the logistic. -/

/-- The logarithm of the logistic, in the form that does not overflow. -/
def logSigmoid (a : EReal) : EReal := min a 0 - Ideal.log1p (Ideal.exp (-(FloatOps.absf (F := Ideal) (φ := .f32) a)))

theorem log1p_exp_ne_bot (y : EReal) : Ideal.log1p (Ideal.exp y) ≠ ⊥ := by
  unfold Ideal.log1p
  induction y with
  | bot =>
    have e : (1 : EReal) + Ideal.exp ⊥ = ((1 : ℝ) : EReal) := by show (1 : EReal) + 0 = _; rw [add_zero]; rfl
    rw [e]
    show (if (1 : ℝ) ≤ 0 then ⊥ else ((Real.log 1 : ℝ) : EReal)) ≠ ⊥
    rw [if_neg (by norm_num)]
    exact EReal.coe_ne_bot _
  | top =>
    have e : (1 : EReal) + Ideal.exp ⊤ = ⊤ := EReal.add_top_of_ne_bot (EReal.coe_ne_bot 1)
    rw [e]
    exact top_ne_bot
  | coe r =>
    have e : (1 : EReal) + Ideal.exp (r : EReal) = ((1 + Real.exp r : ℝ) : EReal) := by rw [EReal.coe_add]; rfl
    rw [e]
    show (if 1 + Real.exp r ≤ 0 then ⊥ else ((Real.log (1 + Real.exp r) : ℝ) : EReal)) ≠ ⊥
    rw [if_neg (by have := Real.exp_pos r; linarith)]
    exact EReal.coe_ne_bot _

theorem neg_max_neg (a : EReal) : -max (-a) 0 = min a 0 := by
  rcases le_total a 0 with h | h
  · rw [max_eq_left (by simpa using h), min_eq_left h, neg_neg]
  · rw [max_eq_right (by simpa using h), min_eq_right h, neg_zero]

theorem logSigmoid_eq (a : EReal) : -softplus (-a) = logSigmoid a := by
  have e : FloatOps.absf (F := Ideal) (φ := .f32) (-a) = FloatOps.absf (F := Ideal) (φ := .f32) a := by
    show max (-a) (- -a) = max a (-a)
    rw [neg_neg, max_comm]
  unfold softplus logSigmoid
  rw [e, EReal.neg_add (.inl fun h => ?_) (.inr (log1p_exp_ne_bot _)), neg_max_neg]
  have : (0 : EReal) ≤ ⊥ := h ▸ le_max_right (-a) 0
  exact absurd (le_bot_iff.1 this) (EReal.coe_ne_bot 0)

end Cert.ProjSpec

end
-- ==== Proof.ProjSBlock.lean ====
/-
  What the recurrent layer's input projection computes for the prompt, at an index, as the row functions of the blocks
  that a grid point reads and of the rows that the point before it left.
-/
module

public import proofs.«01_k».proof.Proof.Gen.Kernel7Ideal.Frame
public import Idealize.ShloMosaic.Lib.Pipeline.Value
public import Idealize.ShloMosaic.Lib.Pipeline.ValueKit.Acc
public import Idealize.ShloMosaic.Lib.Pipeline.ReadBack
public import Idealize.ShloMosaic.Lib.WritesUnit
public import proofs.«01_k».proof.Proof.ProjSpec

@[expose] public section

set_option maxRecDepth 16384

noncomputable section

open Idealize.ShloMosaic

namespace Cert.Kernel7Ideal.Block

open Cert.Kernel7Ideal Cert.Kernel7Ideal.Gen Cert.PostSpec Cert.ProjSpec

/-! The values that are stored, at an index. -/

theorem pay1_at (v0 : Vec Ideal S512x1024 .f32) (v2 : Vec Ideal S1x1024 .f32) (v16 v22 : Vec Ideal S1x1x1024 .f32) (r : Fin 512) (k : Fin 1024) :
    k0_pay1 (F := Ideal) v0 v2 v16 v22 (ix2 r k) = modul (fun k => v0 (ix2 r k)) (fun k => v2 (ix2 0 k)) (fun k => v16 (ix3 0 0 k)) (fun k => v22 (ix3 0 0 k)) k := by
  pointwise [k0_pay1]
  rfl

theorem pay2_at (v0 : Vec Ideal S512x1024 .f32) (v2 : Vec Ideal S1x1024 .f32) (v16 v22 : Vec Ideal S1x1x1024 .f32) (v27 : Vec Ideal S2048x1024 .bf16) (r : Fin 512) (n : Fin 2048) :
    k0_pay2 (F := Ideal) v0 v2 v16 v22 v27 (ix2 r n) = ∑ k, k0_pay1 (F := Ideal) v0 v2 v16 v22 (ix2 r k) * v27 (ix2 n k) := by
  unfold k0_pay2
  generalize k0_pay1 v0 v2 v16 v22 = u
  pointwise []

theorem pay3_at (v0 : Vec Ideal S512x1024 .f32) (v2 : Vec Ideal S1x1024 .f32) (v16 v22 : Vec Ideal S1x1x1024 .f32) (v31 : Vec Ideal S128x1024 .bf16) (r : Fin 512) (n : Fin 128) :
    k0_pay3 (F := Ideal) v0 v2 v16 v22 v31 (ix2 r n) = ∑ k, k0_pay1 (F := Ideal) v0 v2 v16 v22 (ix2 r k) * v31 (ix2 n k) := by
  unfold k0_pay3
  generalize k0_pay1 v0 v2 v16 v22 = u
  pointwise []

theorem pay4_at (v33 : FVec Ideal S512x128 .f32) (v34 : Vec Ideal S1x128 .f32) (r : Fin 512) (j : Fin 128) :
    k0_pay4 (F := Ideal) v33 v34 (ix2 r j) = softplus (v33 (ix2 r j) + v34 (ix2 0 j)) := by
  pointwise [k0_pay4]
  unfold softplus
  rw [show ∀ x : EReal, 0 - x = -x from fun x => by rw [sub_eq_add_neg]; exact zero_add _]

theorem pay5_at (i : Fin 8) (n : Fin 3072) : k0_pay5 (F := Ideal) (ix2 i n) = (0 : EReal) := by
  pointwise [k0_pay5]

theorem pay36_at (v : Vec Ideal S3x3072 .f32) (s : Fin 3) (n : Fin 3072) : k0_pay36 (F := Ideal) v (ix4 s 0 0 n) = v (ix2 s n) := by
  pointwise [k0_pay36]

theorem pay37_at (v : Vec Ideal S8x3072 .f32) (s : Fin 8) (n : Fin 3072) : k0_pay37 (F := Ideal) v (ix2 s n) = v (ix2 s n) := by
  pointwise [k0_pay37]

/-- The same sum with the products of the earlier rows first. -/
theorem conv_of (p0 p1 p2 u w0 w1 w2 w3 b : EReal) : b + w3 * u + w0 * p0 + w1 * p1 + w2 * p2 = conv p0 p1 p2 u w0 w1 w2 w3 b := by
  unfold conv
  ac_rfl

/-! Channels 0 to 511. -/

theorem pay6_at (v26 : FVec Ideal S512x1024 .bf16) (v60 : Vec Ideal S512x1024 .bf16) (r k : Fin 512) :
    k0_pay6 (F := Ideal) v26 v60 (ix2 r k) = ∑ j, v26 (ix2 r j) * v60 (ix2 k j) := by
  pointwise [k0_pay6]

theorem pay7_at (v26 : FVec Ideal S512x1024 .bf16) (v60 : Vec Ideal S512x1024 .bf16) (r k : Fin 512) :
    k0_pay7 (F := Ideal) v26 v60 (ix2 r k) = ∑ j, v26 (ix2 r j) * v60 (ix2 k j) := by
  pointwise [k0_pay7, k0_pay6]

theorem pay10_at (v62 : FVec Ideal S512x512 .f32) (vb vw w0 w1 w2 : Vec Ideal S1x512 .f32) (p0 p1 p2 : Vec Ideal S512x512 .f32) (r k : Fin 512) :
    k0_pay10 (F := Ideal) v62 (k0_pay8 vb) (k0_pay9 vw) w0 p0 w1 p1 w2 p2 (ix2 r k) =
      silu (conv (p0 (ix2 r k)) (p1 (ix2 r k)) (p2 (ix2 r k)) (v62 (ix2 r k)) (w0 (ix2 0 k)) (w1 (ix2 0 k)) (w2 (ix2 0 k)) (vw (ix2 0 k)) (vb (ix2 0 k))) := by
  rw [← conv_of]
  pointwise [k0_pay10, k0_pay8, k0_pay9]
  rfl

/-! Channels 512 to 1023. -/

theorem pay11_at (v26 : FVec Ideal S512x1024 .bf16) (v60 : Vec Ideal S512x1024 .bf16) (r k : Fin 512) :
    k0_pay11 (F := Ideal) v26 v60 (ix2 r k) = ∑ j, v26 (ix2 r j) * v60 (ix2 k j) := by
  pointwise [k0_pay11]

theorem pay12_at (v26 : FVec Ideal S512x1024 .bf16) (v60 : Vec Ideal S512x1024 .bf16) (r k : Fin 512) :
    k0_pay12 (F := Ideal) v26 v60 (ix2 r k) = ∑ j, v26 (ix2 r j) * v60 (ix2 k j) := by
  pointwise [k0_pay12, k0_pay11]

theorem pay15_at (v62 : FVec Ideal S512x512 .f32) (vb vw w0 w1 w2 : Vec Ideal S1x512 .f32) (p0 p1 p2 : Vec Ideal S512x512 .f32) (r k : Fin 512) :
    k0_pay15 (F := Ideal) v62 (k0_pay13 vb) (k0_pay14 vw) w0 p0 w1 p1 w2 p2 (ix2 r k) =
      silu (conv (p0 (ix2 r k)) (p1 (ix2 r k)) (p2 (ix2 r k)) (v62 (ix2 r k)) (w0 (ix2 0 k)) (w1 (ix2 0 k)) (w2 (ix2 0 k)) (vw (ix2 0 k)) (vb (ix2 0 k))) := by
  rw [← conv_of]
  pointwise [k0_pay15, k0_pay13, k0_pay14]
  rfl

/-! Channels 1024 to 1535. -/

theorem pay16_at (v26 : FVec Ideal S512x1024 .bf16) (v60 : Vec Ideal S512x1024 .bf16) (r k : Fin 512) :
    k0_pay16 (F := Ideal) v26 v60 (ix2 r k) = ∑ j, v26 (ix2 r j) * v60 (ix2 k j) := by
  pointwise [k0_pay16]

theorem pay17_at (v26 : FVec Ideal S512x1024 .bf16) (v60 : Vec Ideal S512x1024 .bf16) (r k : Fin 512) :
    k0_pay17 (F := Ideal) v26 v60 (ix2 r k) = ∑ j, v26 (ix2 r j) * v60 (ix2 k j) := by
  pointwise [k0_pay17, k0_pay16]

theorem pay20_at (v62 : FVec Ideal S512x512 .f32) (vb vw w0 w1 w2 : Vec Ideal S1x512 .f32) (p0 p1 p2 : Vec Ideal S512x512 .f32) (r k : Fin 512) :
    k0_pay20 (F := Ideal) v62 (k0_pay18 vb) (k0_pay19 vw) w0 p0 w1 p1 w2 p2 (ix2 r k) =
      silu (conv (p0 (ix2 r k)) (p1 (ix2 r k)) (p2 (ix2 r k)) (v62 (ix2 r k)) (w0 (ix2 0 k)) (w1 (ix2 0 k)) (w2 (ix2 0 k)) (vw (ix2 0 k)) (vb (ix2 0 k))) := by
  rw [← conv_of]
  pointwise [k0_pay20, k0_pay18, k0_pay19]
  rfl

/-! Channels 1536 to 2047. -/

theorem pay21_at (v26 : FVec Ideal S512x1024 .bf16) (v60 : Vec Ideal S512x1024 .bf16) (r k : Fin 512) :
    k0_pay21 (F := Ideal) v26 v60 (ix2 r k) = ∑ j, v26 (ix2 r j) * v60 (ix2 k j) := by
  pointwise [k0_pay21]

theorem pay22_at (v26 : FVec Ideal S512x1024 .bf16) (v60 : Vec Ideal S512x1024 .bf16) (r k : Fin 512) :
    k0_pay22 (F := Ideal) v26 v60 (ix2 r k) = ∑ j, v26 (ix2 r j) * v60 (ix2 k j) := by
  pointwise [k0_pay22, k0_pay21]

theorem pay25_at (v62 : FVec Ideal S512x512 .f32) (vb vw w0 w1 w2 : Vec Ideal S1x512 .f32) (p0 p1 p2 : Vec Ideal S512x512 .f32) (r k : Fin 512) :
    k0_pay25 (F := Ideal) v62 (k0_pay23 vb) (k0_pay24 vw) w0 p0 w1 p1 w2 p2 (ix2 r k) =
      silu (conv (p0 (ix2 r k)) (p1 (ix2 r k)) (p2 (ix2 r k)) (v62 (ix2 r k)) (w0 (ix2 0 k)) (w1 (ix2 0 k)) (w2 (ix2 0 k)) (vw (ix2 0 k)) (vb (ix2 0 k))) := by
  rw [← conv_of]
  pointwise [k0_pay25, k0_pay23, k0_pay24]
  rfl

/-! Channels 2048 to 2559. -/

theorem pay26_at (v26 : FVec Ideal S512x1024 .bf16) (v60 : Vec Ideal S512x1024 .bf16) (r k : Fin 512) :
    k0_pay26 (F := Ideal) v26 v60 (ix2 r k) = ∑ j, v26 (ix2 r j) * v60 (ix2 k j) := by
  pointwise [k0_pay26]

theorem pay27_at (v26 : FVec Ideal S512x1024 .bf16) (v60 : Vec Ideal S512x1024 .bf16) (r k : Fin 512) :
    k0_pay27 (F := Ideal) v26 v60 (ix2 r k) = ∑ j, v26 (ix2 r j) * v60 (ix2 k j) := by
  pointwise [k0_pay27, k0_pay26]

theorem pay30_at (v62 : FVec Ideal S512x512 .f32) (vb vw w0 w1 w2 : Vec Ideal S1x512 .f32) (p0 p1 p2 : Vec Ideal S512x512 .f32) (r k : Fin 512) :
    k0_pay30 (F := Ideal) v62 (k0_pay28 vb) (k0_pay29 vw) w0 p0 w1 p1 w2 p2 (ix2 r k) =
      silu (conv (p0 (ix2 r k)) (p1 (ix2 r k)) (p2 (ix2 r k)) (v62 (ix2 r k)) (w0 (ix2 0 k)) (w1 (ix2 0 k)) (w2 (ix2 0 k)) (vw (ix2 0 k)) (vb (ix2 0 k))) := by
  rw [← conv_of]
  pointwise [k0_pay30, k0_pay28, k0_pay29]
  rfl

/-! Channels 2560 to 3071. -/

theorem pay31_at (v26 : FVec Ideal S512x1024 .bf16) (v60 : Vec Ideal S512x1024 .bf16) (r k : Fin 512) :
    k0_pay31 (F := Ideal) v26 v60 (ix2 r k) = ∑ j, v26 (ix2 r j) * v60 (ix2 k j) := by
  pointwise [k0_pay31]

theorem pay32_at (v26 : FVec Ideal S512x1024 .bf16) (v60 : Vec Ideal S512x1024 .bf16) (r k : Fin 512) :
    k0_pay32 (F := Ideal) v26 v60 (ix2 r k) = ∑ j, v26 (ix2 r j) * v60 (ix2 k j) := by
  pointwise [k0_pay32, k0_pay31]

theorem pay35_at (v62 : FVec Ideal S512x512 .f32) (vb vw w0 w1 w2 : Vec Ideal S1x512 .f32) (p0 p1 p2 : Vec Ideal S512x512 .f32) (r k : Fin 512) :
    k0_pay35 (F := Ideal) v62 (k0_pay33 vb) (k0_pay34 vw) w0 p0 w1 p1 w2 p2 (ix2 r k) =
      silu (conv (p0 (ix2 r k)) (p1 (ix2 r k)) (p2 (ix2 r k)) (v62 (ix2 r k)) (w0 (ix2 0 k)) (w1 (ix2 0 k)) (w2 (ix2 0 k)) (vw (ix2 0 k)) (vb (ix2 0 k))) := by
  rw [← conv_of]
  pointwise [k0_pay35, k0_pay33, k0_pay34]
  rfl

/-! The rows kept between the points: the first eight hold what the point before left, the rest the point's own. -/

end Cert.Kernel7Ideal.Block

end
-- ==== Proof.ProjSRows.lean ====
/-
  The rows that the recurrent layer's input projection keeps from one grid point of a sequence to the next: the store
  holds eight rows of the point before and the point's own, and a load of it that starts among the eight reads both.
-/
module

public import proofs.«01_k».proof.Proof.ProjSBlock
public import Idealize.ShloMosaic.Lib.Pipeline.ValueKit.Tiles

@[expose] public section

set_option maxRecDepth 16384

noncomputable section

open Idealize.ShloMosaic

namespace Cert.Kernel7Ideal.Rows

open Cert.Kernel7Ideal Cert.Kernel7Ideal.Gen Cert.PostSpec Cert.ProjSpec Cert.Kernel7Ideal.Block

/-- The store's contents, and the stores into it. -/
abbrev Cont := (View.whole cc0_scratch0).ty.Contents (Elt Ideal)
abbrev Stores := List (View.Piece (Elt Ideal) S520x3072 .f32)
/-- What the store holds at an index after a list of stores. -/
abbrev held (f : Cont) (L : Stores) (i : Fin 520) (n : Fin 3072) : EReal := (View.whole cc0_scratch0).read (Elt Ideal) ((View.whole cc0_scratch0).writes (Elt Ideal) f L) (ix2 i n)

variable (f : Cont) (L : Stores) (o : ℕ) (inb : ∀ a, (![8, o] : Fin 2 → ℕ) a + S512x512.size a ≤ S520x3072.size a) (w : Vec Ideal S512x512 .f32)

/-- A tile of the point's own rows leaves the eight rows above as they were. -/
theorem held_above (i : Fin 520) (n : Fin 3072) (hi : i.val < 8) : held f (⟨Rect.unit ![8, o] S512x512.size inb, w⟩ :: L) i n = held f L i n :=
  View.read_writes_cons_unit_of_not_mem (View.whole cc0_scratch0) f inb w L (ix2 i n) rfl 0 (.inl hi)

/-- A tile of the point's own rows leaves the other columns as they were. -/
theorem held_beside (i : Fin 520) (n : Fin 3072) (hn : ¬ (o ≤ n.val ∧ n.val < o + 512)) : held f (⟨Rect.unit ![8, o] S512x512.size inb, w⟩ :: L) i n = held f L i n :=
  View.read_writes_cons_unit_of_not_mem (View.whole cc0_scratch0) f inb w L (ix2 i n) rfl 1 (by
    show n.val < o ∨ o + 512 ≤ n.val
    omega)

/-- The rows and columns of a tile hold it. -/
theorem held_tile (i : Fin 520) (n : Fin 3072) (r k : Fin 512) (hi : i.val = 8 + r.val) (hn : n.val = o + k.val) :
    held f (⟨Rect.unit ![8, o] S512x512.size inb, w⟩ :: L) i n = w (ix2 r k) :=
  View.read_writes_cons_unit_of_mem (View.whole cc0_scratch0) f inb w L (ix2 i n) (ix2 r k) rfl fun a => by
    match a with
    | ⟨0, _⟩ => exact hi
    | ⟨1, _⟩ => exact hn

/-- One tile of a list of them, where the payloads are the columns of `U`. -/
theorem held_step (U : Fin 512 → Fin 3072 → EReal) (hw : ∀ (r k : Fin 512) (n : Fin 3072), n.val = o + k.val → w (ix2 r k) = U r n)
    (i : Fin 520) (n : Fin 3072) (r : Fin 512) (hi : i.val = 8 + r.val) (rest : ¬ (o ≤ n.val ∧ n.val < o + 512) → held f L i n = U r n) :
    held f (⟨Rect.unit ![8, o] S512x512.size inb, w⟩ :: L) i n = U r n := by
  by_cases h : o ≤ n.val ∧ n.val < o + 512
  · rw [held_tile f L o inb w i n r ⟨n.val - o, by omega⟩ hi (by show n.val = o + (n.val - o); omega)]
    exact hw _ _ _ (by show n.val = o + (n.val - o); omega)
  · rw [held_beside f L o inb w i n h]
    exact rest h

/-- The eight rows of zeros that a sequence starts with. -/
theorem held_zero (inb0 : ∀ a, (![0, 0] : Fin 2 → ℕ) a + S8x3072.size a ≤ S520x3072.size a) (i : Fin 520) (n : Fin 3072) (hi : i.val < 8) :
    held f [⟨Rect.unit ![0, 0] S8x3072.size inb0, k0_pay5 (F := Ideal)⟩] i n = 0 :=
  (View.read_writes_cons_unit_of_mem (View.whole cc0_scratch0) f inb0 (k0_pay5 (F := Ideal)) [] (ix2 i n) (ix2 ⟨i.val, hi⟩ n) rfl fun a => by
    match a with
    | ⟨0, _⟩ => exact (Nat.zero_add _).symm
    | ⟨1, _⟩ => exact (Nat.zero_add _).symm).trans (pay5_at _ _)

/-- Row `s + r` of the eight earlier rows and the point's own. -/
def seam (P : Fin 8 → Fin 3072 → EReal) (U : Fin 512 → Fin 3072 → EReal) (s : ℕ) (hs : s ≤ 8) (r : Fin 512) (n : Fin 3072) : EReal :=
  if h : s + r.val < 8 then P ⟨s + r.val, h⟩ n else U ⟨s + r.val - 8, by omega⟩ n

/-- What is held at row `s + r` of a tile's columns just after the tile is stored. -/
theorem held_seam (P : Fin 8 → Fin 3072 → EReal) (U : Fin 512 → Fin 3072 → EReal) (hw : ∀ (r k : Fin 512) (n : Fin 3072), n.val = o + k.val → w (ix2 r k) = U r n)
    (hL : ∀ (i : Fin 520) (n : Fin 3072) (h : i.val < 8), held f L i n = P ⟨i.val, h⟩ n) (s : ℕ) (hs : s ≤ 8) (r k : Fin 512) (n : Fin 3072) (hn : n.val = o + k.val) :
    held f (⟨Rect.unit ![8, o] S512x512.size inb, w⟩ :: L) ⟨s + r.val, by omega⟩ n = seam P U s hs r n := by
  unfold seam
  split_ifs with h
  · rw [held_above f L o inb w _ n h]
    exact hL _ n h
  · rw [held_tile f L o inb w ⟨s + r.val, by omega⟩ n ⟨s + r.val - 8, by omega⟩ k (by show s + r.val = 8 + (s + r.val - 8); omega) hn]
    exact hw _ _ _ hn

theorem above_step (P : Fin 8 → Fin 3072 → EReal) (hL : ∀ (i : Fin 520) (n : Fin 3072) (h : i.val < 8), held f L i n = P ⟨i.val, h⟩ n) :
    ∀ (i : Fin 520) (n : Fin 3072) (h : i.val < 8), held f (⟨Rect.unit ![8, o] S512x512.size inb, w⟩ :: L) i n = P ⟨i.val, h⟩ n :=
  fun i n h => (held_above f L o inb w i n h).trans (hL i n h)

/-! A load from the store, at an index. -/

theorem cov_at (s : ℕ) (inb' : ∀ a, (![s, o] : Fin 2 → ℕ) a + S512x512.size a ≤ S520x3072.size a) (r k : Fin 512) (i : Fin 520) (n : Fin 3072) (hi : i.val = s + r.val) (hn : n.val = o + k.val) :
    (View.whole cc0_scratch0).readCov (Val := Elt Ideal) L (Rect.unit (s := S520x3072) ![s, o] S512x512.size inb').toLoadRect (ix2 r k) = held (View.whole cc0_scratch0).junk L i n := by
  show (View.whole cc0_scratch0).read (Elt Ideal) _ _ = _
  unfold held
  congr 1
  funext a
  apply Fin.ext
  match a with
  | ⟨0, _⟩ => show s + 1 * r.val = i.val; omega
  | ⟨1, _⟩ => show o + 1 * k.val = n.val; omega

theorem ld_at (s : ℕ) (inb' : ∀ a, (![s, o] : Fin 2 → ℕ) a + S512x512.size a ≤ S520x3072.size a) (r k : Fin 512) (i : Fin 520) (n : Fin 3072) (hi : i.val = s + r.val) (hn : n.val = o + k.val) :
    View.ld (Val := Elt Ideal) (e' := .f32) ((View.whole cc0_scratch0).read (Elt Ideal) ((View.whole cc0_scratch0).writes (Elt Ideal) f L)) (Rect.unit ![s, o] S512x512.size inb') (ix2 r k) = held f L i n :=
  View.ld_unit_apply_of _ _ _ inb' (ix2 r k) (ix2 i n) fun a => by
    match a with
    | ⟨0, _⟩ => exact hi
    | ⟨1, _⟩ => exact hn

theorem cov3_at (inb' : ∀ a, (![517, 0] : Fin 2 → ℕ) a + S3x3072.size a ≤ S520x3072.size a) (s : Fin 3) (n : Fin 3072) :
    (View.whole cc0_scratch0).readCov (Val := Elt Ideal) L (Rect.unit (s := S520x3072) ![517, 0] S3x3072.size inb').toLoadRect (ix2 s n) = held (View.whole cc0_scratch0).junk L ⟨517 + s.val, by omega⟩ n := by
  show (View.whole cc0_scratch0).read (Elt Ideal) _ _ = _
  unfold held
  congr 1
  funext a
  apply Fin.ext
  match a with
  | ⟨0, _⟩ => show 517 + 1 * s.val = 517 + s.val; omega
  | ⟨1, _⟩ => show 0 + 1 * n.val = n.val; omega

theorem cov8_at (inb' : ∀ a, (![512, 0] : Fin 2 → ℕ) a + S8x3072.size a ≤ S520x3072.size a) (s : Fin 8) (n : Fin 3072) :
    (View.whole cc0_scratch0).readCov (Val := Elt Ideal) L (Rect.unit (s := S520x3072) ![512, 0] S8x3072.size inb').toLoadRect (ix2 s n) = held (View.whole cc0_scratch0).junk L ⟨512 + s.val, by omega⟩ n := by
  show (View.whole cc0_scratch0).read (Elt Ideal) _ _ = _
  unfold held
  congr 1
  funext a
  apply Fin.ext
  match a with
  | ⟨0, _⟩ => show 512 + 1 * s.val = 512 + s.val; omega
  | ⟨1, _⟩ => show 0 + 1 * n.val = n.val; omega

/-- The eight rows that are written over at the point's end. -/
theorem canon8_at (inb0 : ∀ a, (![0, 0] : Fin 2 → ℕ) a + S8x3072.size a ≤ S520x3072.size a) (v : Vec Ideal S8x3072 .f32) (i : Fin 520) (s : Fin 8) (n : Fin 3072) (hi : i.val = s.val) :
    View.canon (Val := Elt Ideal) (⟨Rect.unit ![0, 0] S8x3072.size inb0, v⟩ :: L : Stores) (ix2 i n) = v (ix2 s n) := by
  have e : (ix2 i n : S520x3072.Idx) = (Rect.unit (s := S520x3072) ![0, 0] S8x3072.size inb0).emb (ix2 s n) := by
    funext a
    apply Fin.ext
    match a with
    | ⟨0, _⟩ => show i.val = 0 + 1 * s.val; omega
    | ⟨1, _⟩ => show n.val = 0 + 1 * n.val; omega
  rw [e]
  exact View.canon_cons_emb _ _ _ _

/-! Loads from the blocks, at an index. -/

theorem ldw_at (x : Vec Ideal S3072x1024 .bf16) (inb' : ∀ a, (![o, 0] : Fin 2 → ℕ) a + S512x1024.size a ≤ S3072x1024.size a) (k : Fin 512) (j : Fin 1024) (n : Fin 3072) (hn : n.val = o + k.val) :
    View.ld (Val := Elt Ideal) (e' := .bf16) x (Rect.unit ![o, 0] S512x1024.size inb') (ix2 k j) = x (ix2 n j) :=
  View.ld_unit_apply_of _ _ _ inb' (ix2 k j) (ix2 n j) fun a => by
    match a with
    | ⟨0, _⟩ => exact hn
    | ⟨1, _⟩ => exact (Nat.zero_add _).symm

theorem ldb_at (x : Vec Ideal S1x3072 .f32) (inb' : ∀ a, (![0, o] : Fin 2 → ℕ) a + S1x512.size a ≤ S1x3072.size a) (k : Fin 512) (n : Fin 3072) (hn : n.val = o + k.val) :
    View.ld (Val := Elt Ideal) (e' := .f32) x (Rect.unit ![0, o] S1x512.size inb') (ix2 0 k) = x (ix2 0 n) :=
  View.ld_unit_apply_of _ _ _ inb' (ix2 0 k) (ix2 0 n) fun a => by
    match a with
    | ⟨0, _⟩ => rfl
    | ⟨1, _⟩ => exact hn

theorem ldc_at (x : Vec Ideal S4x3072 .f32) (s : ℕ) (inb' : ∀ a, (![s, o] : Fin 2 → ℕ) a + S1x512.size a ≤ S4x3072.size a) (k : Fin 512) (s' : Fin 4) (n : Fin 3072) (hs : s'.val = s) (hn : n.val = o + k.val) :
    View.ld (Val := Elt Ideal) (e' := .f32) x (Rect.unit ![s, o] S1x512.size inb') (ix2 0 k) = x (ix2 s' n) :=
  View.ld_unit_apply_of _ _ _ inb' (ix2 0 k) (ix2 s' n) fun a => by
    match a with
    | ⟨0, _⟩ => exact hs
    | ⟨1, _⟩ => exact hn

/-- A tile's dot product with the rows loaded for it. -/
theorem dot_of (h : Vec Ideal S512x1024 .bf16) (x : Vec Ideal S3072x1024 .bf16) (inb' : ∀ a, (![o, 0] : Fin 2 → ℕ) a + S512x1024.size a ≤ S3072x1024.size a) (r k : Fin 512) (n : Fin 3072) (hn : n.val = o + k.val) :
    ∑ j : Fin 1024, (h (ix2 r j) * View.ld (Val := Elt Ideal) (e' := .bf16) x (Rect.unit ![o, 0] S512x1024.size inb') (ix2 k j) : EReal) = ∑ j : Fin 1024, (h (ix2 r j) * x (ix2 n j) : EReal) :=
  Finset.sum_congr rfl fun j _ => by rw [ldw_at o x inb' k j n hn]

theorem silu_conv_congr {p0 p1 p2 u w0 w1 w2 w3 b p0' p1' p2' u' w0' w1' w2' w3' b' : EReal} (e0 : p0 = p0') (e1 : p1 = p1') (e2 : p2 = p2') (e3 : u = u')
    (e4 : w0 = w0') (e5 : w1 = w1') (e6 : w2 = w2') (e7 : w3 = w3') (e8 : b = b') : silu (conv p0 p1 p2 u w0 w1 w2 w3 b) = silu (conv p0' p1' p2' u' w0' w1' w2' w3' b') := by
  rw [e0, e1, e2, e3, e4, e5, e6, e7, e8]

end Cert.Kernel7Ideal.Rows

end
-- ==== Proof.ProjSPoint.lean ====
/-
  What a grid point of the recurrent layer's input projection leaves for the prompt, at an index, as the row functions of
  its blocks and of the point before it.
-/
module

public import proofs.«01_k».proof.Proof.ProjSRows

@[expose] public section

set_option maxRecDepth 16384

noncomputable section

open Idealize.ShloMosaic Idealize.ShloMosaic.TcCoe Idealize.SL.Sem

namespace Cert.Kernel7Ideal.Point

open Cert.Kernel7Ideal Cert.Kernel7Ideal.Gen Cert.PostSpec Cert.ProjSpec Cert.Kernel7Ideal.Block Cert.Kernel7Ideal.Rows

variable (m : (ℓ : Loc nD τ sig) → Buf (Elt Ideal) ℓ) (c : Dev nD) (t : Fin cfg0.N)

/-- The modulated norm of a row of the point's block. -/
abbrev hrow (r : Fin 512) (k : Fin 1024) : EReal :=
  modul (fun k => (iblk m c 0 t : Vec Ideal S512x1024 .f32) (ix2 r k)) (fun k => (iblk m c 3 t : Vec Ideal S1x1024 .f32) (ix2 0 k)) (fun k => (iblk m c 1 t : Vec Ideal S1x1x1024 .f32) (ix3 0 0 k)) (fun k => (iblk m c 2 t : Vec Ideal S1x1x1024 .f32) (ix3 0 0 k)) k

/-- The norms of the point's rows, as they are stored. -/
abbrev norm : Vec Ideal S512x1024 .bf16 := k0_pay1 (F := Ideal) (iblk m c 0 t) (iblk m c 3 t) (iblk m c 1 t) (iblk m c 2 t)

theorem norm_at (r : Fin 512) (k : Fin 1024) : norm m c t (ix2 r k) = hrow m c t r k := pay1_at _ _ _ _ r k

/-- A channel of a projected row, before the convolution. -/
def urow (r : Fin 512) (n : Fin 3072) : EReal := ∑ k : Fin 1024, (norm m c t (ix2 r k) * (iblk m c 5 t : Vec Ideal S3072x1024 .bf16) (ix2 n k) : EReal)

/-- The rows that the point before a point leaves for it; a sequence starts with zeros. -/
def prev (i : Fin 8) (n : Fin 3072) : EReal :=
  if h : t.val % 4 = 0 then 0 else urow m c ⟨t.val - 1, by have := t.isLt; omega⟩ ⟨504 + i.val, by omega⟩ n

theorem tile0 (r k : Fin 512) (n : Fin 3072) (hn : n.val = 0 + k.val) :
    k0_pay7 (F := Ideal) (norm m c t) (View.ld (Val := Elt Ideal) (e' := .bf16) (iblk m c 5 t : Vec Ideal S3072x1024 .bf16) (Rect.unit ![0, 0] S512x1024.size inb_S3072x1024_S512x1024_0_0)) (ix2 r k) = urow m c t r n :=
  (pay7_at _ _ r k).trans (dot_of 0 _ _ _ r k n hn)
theorem dot0 (r k : Fin 512) (n : Fin 3072) (hn : n.val = 0 + k.val) :
    k0_pay6 (F := Ideal) (norm m c t) (View.ld (Val := Elt Ideal) (e' := .bf16) (iblk m c 5 t : Vec Ideal S3072x1024 .bf16) (Rect.unit ![0, 0] S512x1024.size inb_S3072x1024_S512x1024_0_0)) (ix2 r k) = urow m c t r n :=
  (pay6_at _ _ r k).trans (dot_of 0 _ _ _ r k n hn)

theorem tile1 (r k : Fin 512) (n : Fin 3072) (hn : n.val = 512 + k.val) :
    k0_pay12 (F := Ideal) (norm m c t) (View.ld (Val := Elt Ideal) (e' := .bf16) (iblk m c 5 t : Vec Ideal S3072x1024 .bf16) (Rect.unit ![512, 0] S512x1024.size inb_S3072x1024_S512x1024_512_0)) (ix2 r k) = urow m c t r n :=
  (pay12_at _ _ r k).trans (dot_of 512 _ _ _ r k n hn)
theorem dot1 (r k : Fin 512) (n : Fin 3072) (hn : n.val = 512 + k.val) :
    k0_pay11 (F := Ideal) (norm m c t) (View.ld (Val := Elt Ideal) (e' := .bf16) (iblk m c 5 t : Vec Ideal S3072x1024 .bf16) (Rect.unit ![512, 0] S512x1024.size inb_S3072x1024_S512x1024_512_0)) (ix2 r k) = urow m c t r n :=
  (pay11_at _ _ r k).trans (dot_of 512 _ _ _ r k n hn)

theorem tile2 (r k : Fin 512) (n : Fin 3072) (hn : n.val = 1024 + k.val) :
    k0_pay17 (F := Ideal) (norm m c t) (View.ld (Val := Elt Ideal) (e' := .bf16) (iblk m c 5 t : Vec Ideal S3072x1024 .bf16) (Rect.unit ![1024, 0] S512x1024.size inb_S3072x1024_S512x1024_1024_0)) (ix2 r k) = urow m c t r n :=
  (pay17_at _ _ r k).trans (dot_of 1024 _ _ _ r k n hn)
theorem dot2 (r k : Fin 512) (n : Fin 3072) (hn : n.val = 1024 + k.val) :
    k0_pay16 (F := Ideal) (norm m c t) (View.ld (Val := Elt Ideal) (e' := .bf16) (iblk m c 5 t : Vec Ideal S3072x1024 .bf16) (Rect.unit ![1024, 0] S512x1024.size inb_S3072x1024_S512x1024_1024_0)) (ix2 r k) = urow m c t r n :=
  (pay16_at _ _ r k).trans (dot_of 1024 _ _ _ r k n hn)

theorem tile3 (r k : Fin 512) (n : Fin 3072) (hn : n.val = 1536 + k.val) :
    k0_pay22 (F := Ideal) (norm m c t) (View.ld (Val := Elt Ideal) (e' := .bf16) (iblk m c 5 t : Vec Ideal S3072x1024 .bf16) (Rect.unit ![1536, 0] S512x1024.size inb_S3072x1024_S512x1024_1536_0)) (ix2 r k) = urow m c t r n :=
  (pay22_at _ _ r k).trans (dot_of 1536 _ _ _ r k n hn)
theorem dot3 (r k : Fin 512) (n : Fin 3072) (hn : n.val = 1536 + k.val) :
    k0_pay21 (F := Ideal) (norm m c t) (View.ld (Val := Elt Ideal) (e' := .bf16) (iblk m c 5 t : Vec Ideal S3072x1024 .bf16) (Rect.unit ![1536, 0] S512x1024.size inb_S3072x1024_S512x1024_1536_0)) (ix2 r k) = urow m c t r n :=
  (pay21_at _ _ r k).trans (dot_of 1536 _ _ _ r k n hn)

theorem tile4 (r k : Fin 512) (n : Fin 3072) (hn : n.val = 2048 + k.val) :
    k0_pay27 (F := Ideal) (norm m c t) (View.ld (Val := Elt Ideal) (e' := .bf16) (iblk m c 5 t : Vec Ideal S3072x1024 .bf16) (Rect.unit ![2048, 0] S512x1024.size inb_S3072x1024_S512x1024_2048_0)) (ix2 r k) = urow m c t r n :=
  (pay27_at _ _ r k).trans (dot_of 2048 _ _ _ r k n hn)
theorem dot4 (r k : Fin 512) (n : Fin 3072) (hn : n.val = 2048 + k.val) :
    k0_pay26 (F := Ideal) (norm m c t) (View.ld (Val := Elt Ideal) (e' := .bf16) (iblk m c 5 t : Vec Ideal S3072x1024 .bf16) (Rect.unit ![2048, 0] S512x1024.size inb_S3072x1024_S512x1024_2048_0)) (ix2 r k) = urow m c t r n :=
  (pay26_at _ _ r k).trans (dot_of 2048 _ _ _ r k n hn)

theorem tile5 (r k : Fin 512) (n : Fin 3072) (hn : n.val = 2560 + k.val) :
    k0_pay32 (F := Ideal) (norm m c t) (View.ld (Val := Elt Ideal) (e' := .bf16) (iblk m c 5 t : Vec Ideal S3072x1024 .bf16) (Rect.unit ![2560, 0] S512x1024.size inb_S3072x1024_S512x1024_2560_0)) (ix2 r k) = urow m c t r n :=
  (pay32_at _ _ r k).trans (dot_of 2560 _ _ _ r k n hn)
theorem dot5 (r k : Fin 512) (n : Fin 3072) (hn : n.val = 2560 + k.val) :
    k0_pay31 (F := Ideal) (norm m c t) (View.ld (Val := Elt Ideal) (e' := .bf16) (iblk m c 5 t : Vec Ideal S3072x1024 .bf16) (Rect.unit ![2560, 0] S512x1024.size inb_S3072x1024_S512x1024_2560_0)) (ix2 r k) = urow m c t r n :=
  (pay31_at _ _ r k).trans (dot_of 2560 _ _ _ r k n hn)

/-- The rows a point leaves for the next one. -/
theorem carryA (h0 : t.val % 4 = 0) (i : Fin 520) (n : Fin 3072) (hi8 : i.val < 8) :
    ((outsAt0 m c t.val t.isLt).2.2.2.2 : Vec Ideal S520x3072 .f32) (ix2 i n) = urow m c t ⟨504 + i.val, by omega⟩ n := by
  rw [outsAt0_A m c t h0]
  frame_out
  refine (canon8_at _ _ _ i ⟨i.val, hi8⟩ n rfl).trans ((pay37_at _ _ n).trans ((cov8_at _ _ ⟨i.val, hi8⟩ n).trans ?_))
  exact held_step _ _ 2560 _ _ (urow m c t) (tile5 m c t) _ n ⟨504 + i.val, by omega⟩ (by show 512 + i.val = 8 + (504 + i.val); omega) fun h5 => held_step _ _ 2048 _ _ (urow m c t) (tile4 m c t) _ n ⟨504 + i.val, by omega⟩ (by show 512 + i.val = 8 + (504 + i.val); omega) fun h4 => held_step _ _ 1536 _ _ (urow m c t) (tile3 m c t) _ n ⟨504 + i.val, by omega⟩ (by show 512 + i.val = 8 + (504 + i.val); omega) fun h3 => held_step _ _ 1024 _ _ (urow m c t) (tile2 m c t) _ n ⟨504 + i.val, by omega⟩ (by show 512 + i.val = 8 + (504 + i.val); omega) fun h2 => held_step _ _ 512 _ _ (urow m c t) (tile1 m c t) _ n ⟨504 + i.val, by omega⟩ (by show 512 + i.val = 8 + (504 + i.val); omega) fun h1 => held_step _ _ 0 _ _ (urow m c t) (tile0 m c t) _ n ⟨504 + i.val, by omega⟩ (by show 512 + i.val = 8 + (504 + i.val); omega) fun h0 => absurd n.isLt (by omega)

/-- The rows that the sequence's state keeps, as a point has them. -/
theorem csA (h0 : t.val % 4 = 0) (s : Fin 3) (n : Fin 3072) :
    ((outsAt0 m c t.val t.isLt).2.2.2.1 : Vec Ideal S3x1x1x3072 .f32) (ix4 s 0 0 n) = urow m c t ⟨509 + s.val, by omega⟩ n := by
  rw [outsAt0_A m c t h0]
  frame_out
  refine (pay36_at _ s n).trans ((cov3_at _ _ s n).trans ?_)
  exact held_step _ _ 2560 _ _ (urow m c t) (tile5 m c t) _ n ⟨509 + s.val, by omega⟩ (by show 517 + s.val = 8 + (509 + s.val); omega) fun h5 => held_step _ _ 2048 _ _ (urow m c t) (tile4 m c t) _ n ⟨509 + s.val, by omega⟩ (by show 517 + s.val = 8 + (509 + s.val); omega) fun h4 => held_step _ _ 1536 _ _ (urow m c t) (tile3 m c t) _ n ⟨509 + s.val, by omega⟩ (by show 517 + s.val = 8 + (509 + s.val); omega) fun h3 => held_step _ _ 1024 _ _ (urow m c t) (tile2 m c t) _ n ⟨509 + s.val, by omega⟩ (by show 517 + s.val = 8 + (509 + s.val); omega) fun h2 => held_step _ _ 512 _ _ (urow m c t) (tile1 m c t) _ n ⟨509 + s.val, by omega⟩ (by show 517 + s.val = 8 + (509 + s.val); omega) fun h1 => held_step _ _ 0 _ _ (urow m c t) (tile0 m c t) _ n ⟨509 + s.val, by omega⟩ (by show 517 + s.val = 8 + (509 + s.val); omega) fun h0 => absurd n.isLt (by omega)

/-- The gate columns. -/
theorem zA (h0 : t.val % 4 = 0) (r : Fin 512) (n : Fin 2048) :
    ((outsAt0 m c t.val t.isLt).1 : Vec Ideal S512x2048 .f32) (ix2 r n) = ∑ k, hrow m c t r k * (iblk m c 4 t : Vec Ideal S2048x1024 .bf16) (ix2 n k) := by
  rw [outsAt0_A m c t h0]
  frame_out
  rw [pay2_at]
  simp only [pay1_at]

/-- The step sizes. -/
theorem dtA (h0 : t.val % 4 = 0) (r : Fin 512) (n : Fin 128) :
    ((outsAt0 m c t.val t.isLt).2.2.1 : Vec Ideal S512x128 .f32) (ix2 r n) = softplus ((∑ k, hrow m c t r k * (iblk m c 6 t : Vec Ideal S128x1024 .bf16) (ix2 n k)) + (iblk m c 7 t : Vec Ideal S1x128 .f32) (ix2 0 n)) := by
  rw [outsAt0_A m c t h0]
  frame_out
  rw [pay4_at, pay3_at]
  simp only [pay1_at]

/-- The rows a point leaves for the next one. -/
theorem carryB (h0 : ¬ t.val % 4 = 0) (i : Fin 520) (n : Fin 3072) (hi8 : i.val < 8) :
    ((outsAt0 m c t.val t.isLt).2.2.2.2 : Vec Ideal S520x3072 .f32) (ix2 i n) = urow m c t ⟨504 + i.val, by omega⟩ n := by
  rw [outsAt0_B m c t h0]
  frame_out
  refine (canon8_at _ _ _ i ⟨i.val, hi8⟩ n rfl).trans ((pay37_at _ _ n).trans ((cov8_at _ _ ⟨i.val, hi8⟩ n).trans ?_))
  exact held_step _ _ 2560 _ _ (urow m c t) (tile5 m c t) _ n ⟨504 + i.val, by omega⟩ (by show 512 + i.val = 8 + (504 + i.val); omega) fun h5 => held_step _ _ 2048 _ _ (urow m c t) (tile4 m c t) _ n ⟨504 + i.val, by omega⟩ (by show 512 + i.val = 8 + (504 + i.val); omega) fun h4 => held_step _ _ 1536 _ _ (urow m c t) (tile3 m c t) _ n ⟨504 + i.val, by omega⟩ (by show 512 + i.val = 8 + (504 + i.val); omega) fun h3 => held_step _ _ 1024 _ _ (urow m c t) (tile2 m c t) _ n ⟨504 + i.val, by omega⟩ (by show 512 + i.val = 8 + (504 + i.val); omega) fun h2 => held_step _ _ 512 _ _ (urow m c t) (tile1 m c t) _ n ⟨504 + i.val, by omega⟩ (by show 512 + i.val = 8 + (504 + i.val); omega) fun h1 => held_step _ _ 0 _ _ (urow m c t) (tile0 m c t) _ n ⟨504 + i.val, by omega⟩ (by show 512 + i.val = 8 + (504 + i.val); omega) fun h0 => absurd n.isLt (by omega)

/-- The rows that the sequence's state keeps, as a point has them. -/
theorem csB (h0 : ¬ t.val % 4 = 0) (s : Fin 3) (n : Fin 3072) :
    ((outsAt0 m c t.val t.isLt).2.2.2.1 : Vec Ideal S3x1x1x3072 .f32) (ix4 s 0 0 n) = urow m c t ⟨509 + s.val, by omega⟩ n := by
  rw [outsAt0_B m c t h0]
  frame_out
  refine (pay36_at _ s n).trans ((cov3_at _ _ s n).trans ?_)
  exact held_step _ _ 2560 _ _ (urow m c t) (tile5 m c t) _ n ⟨509 + s.val, by omega⟩ (by show 517 + s.val = 8 + (509 + s.val); omega) fun h5 => held_step _ _ 2048 _ _ (urow m c t) (tile4 m c t) _ n ⟨509 + s.val, by omega⟩ (by show 517 + s.val = 8 + (509 + s.val); omega) fun h4 => held_step _ _ 1536 _ _ (urow m c t) (tile3 m c t) _ n ⟨509 + s.val, by omega⟩ (by show 517 + s.val = 8 + (509 + s.val); omega) fun h3 => held_step _ _ 1024 _ _ (urow m c t) (tile2 m c t) _ n ⟨509 + s.val, by omega⟩ (by show 517 + s.val = 8 + (509 + s.val); omega) fun h2 => held_step _ _ 512 _ _ (urow m c t) (tile1 m c t) _ n ⟨509 + s.val, by omega⟩ (by show 517 + s.val = 8 + (509 + s.val); omega) fun h1 => held_step _ _ 0 _ _ (urow m c t) (tile0 m c t) _ n ⟨509 + s.val, by omega⟩ (by show 517 + s.val = 8 + (509 + s.val); omega) fun h0 => absurd n.isLt (by omega)

/-- The gate columns. -/
theorem zB (h0 : ¬ t.val % 4 = 0) (r : Fin 512) (n : Fin 2048) :
    ((outsAt0 m c t.val t.isLt).1 : Vec Ideal S512x2048 .f32) (ix2 r n) = ∑ k, hrow m c t r k * (iblk m c 4 t : Vec Ideal S2048x1024 .bf16) (ix2 n k) := by
  rw [outsAt0_B m c t h0]
  frame_out
  rw [pay2_at]
  simp only [pay1_at]

/-- The step sizes. -/
theorem dtB (h0 : ¬ t.val % 4 = 0) (r : Fin 512) (n : Fin 128) :
    ((outsAt0 m c t.val t.isLt).2.2.1 : Vec Ideal S512x128 .f32) (ix2 r n) = softplus ((∑ k, hrow m c t r k * (iblk m c 6 t : Vec Ideal S128x1024 .bf16) (ix2 n k)) + (iblk m c 7 t : Vec Ideal S1x128 .f32) (ix2 0 n)) := by
  rw [outsAt0_B m c t h0]
  frame_out
  rw [pay4_at, pay3_at]
  simp only [pay1_at]

/-- The rows a point leaves for the next one. -/
theorem carry_at (i : Fin 520) (n : Fin 3072) (hi8 : i.val < 8) :
    ((outsAt0 m c t.val t.isLt).2.2.2.2 : Vec Ideal S520x3072 .f32) (ix2 i n) = urow m c t ⟨504 + i.val, by omega⟩ n := by
  by_cases h0 : t.val % 4 = 0
  · exact carryA m c t h0 i n hi8
  · exact carryB m c t h0 i n hi8
theorem cs_at (s : Fin 3) (n : Fin 3072) :
    ((outsAt0 m c t.val t.isLt).2.2.2.1 : Vec Ideal S3x1x1x3072 .f32) (ix4 s 0 0 n) = urow m c t ⟨509 + s.val, by omega⟩ n := by
  by_cases h0 : t.val % 4 = 0
  · exact csA m c t h0 s n
  · exact csB m c t h0 s n
theorem z_at (r : Fin 512) (n : Fin 2048) :
    ((outsAt0 m c t.val t.isLt).1 : Vec Ideal S512x2048 .f32) (ix2 r n) = ∑ k, hrow m c t r k * (iblk m c 4 t : Vec Ideal S2048x1024 .bf16) (ix2 n k) := by
  by_cases h0 : t.val % 4 = 0
  · exact zA m c t h0 r n
  · exact zB m c t h0 r n
theorem dt_at (r : Fin 512) (n : Fin 128) :
    ((outsAt0 m c t.val t.isLt).2.2.1 : Vec Ideal S512x128 .f32) (ix2 r n) = softplus ((∑ k, hrow m c t r k * (iblk m c 6 t : Vec Ideal S128x1024 .bf16) (ix2 n k)) + (iblk m c 7 t : Vec Ideal S1x128 .f32) (ix2 0 n)) := by
  by_cases h0 : t.val % 4 = 0
  · exact dtA m c t h0 r n
  · exact dtB m c t h0 r n

end Cert.Kernel7Ideal.Point

end
-- ==== Proof.ProjSConv.lean ====
/-
  The convolved channels that a grid point of the recurrent layer's input projection leaves for the prompt.
-/
module

public import proofs.«01_k».proof.Proof.ProjSPoint

@[expose] public section

set_option maxRecDepth 16384

noncomputable section

open Idealize.ShloMosaic Idealize.ShloMosaic.TcCoe Idealize.SL.Sem

namespace Cert.Kernel7Ideal.Point

open Cert.Kernel7Ideal Cert.Kernel7Ideal.Gen Cert.PostSpec Cert.ProjSpec Cert.Kernel7Ideal.Block Cert.Kernel7Ideal.Rows

variable (m : (ℓ : Loc nD τ sig) → Buf (Elt Ideal) ℓ) (c : Dev nD) (t : Fin cfg0.N)

/-- The convolved channel, as the blocks and the rows before give it. -/
abbrev xcrow (r : Fin 512) (n : Fin 3072) : EReal :=
  silu (conv (seam (prev m c t) (urow m c t) 5 (by omega) r n) (seam (prev m c t) (urow m c t) 6 (by omega) r n) (seam (prev m c t) (urow m c t) 7 (by omega) r n) (urow m c t r n)
    ((iblk m c 8 t : Vec Ideal S4x3072 .f32) (ix2 0 n)) ((iblk m c 8 t : Vec Ideal S4x3072 .f32) (ix2 1 n)) ((iblk m c 8 t : Vec Ideal S4x3072 .f32) (ix2 2 n)) ((iblk m c 8 t : Vec Ideal S4x3072 .f32) (ix2 3 n))
    ((iblk m c 9 t : Vec Ideal S1x3072 .f32) (ix2 0 n)))

theorem zero_above (h0 : t.val % 4 = 0) (f : Cont) (inb0 : ∀ a, (![0, 0] : Fin 2 → ℕ) a + S8x3072.size a ≤ S520x3072.size a) :
    ∀ (i : Fin 520) (n : Fin 3072) (h : i.val < 8), held f [⟨Rect.unit ![0, 0] S8x3072.size inb0, k0_pay5 (F := Ideal)⟩] i n = prev m c t ⟨i.val, h⟩ n := by
  intro i n h
  rw [held_zero f inb0 i n h]
  unfold prev
  rw [dif_pos h0]

theorem prev_above (h0 : ¬ t.val % 4 = 0) (h : (Memref.whole cc0_scratch0).IsWhole) (hp : t.val - 1 < cfg0.N) :
    ∀ (i : Fin 520) (n : Fin 3072) (hi : i.val < 8), held (h.unread (outsAt0 m c (t.val - 1) hp).2.2.2.2) [] i n = prev m c t ⟨i.val, hi⟩ n := by
  intro i n hi
  unfold held
  rw [View.writes_nil, read_unread_whole]
  unfold prev
  rw [dif_neg h0]
  exact carry_at m c ⟨t.val - 1, hp⟩ i n hi

set_option maxHeartbeats 4000000 in
theorem xcA (hz : t.val % 4 = 0) (r : Fin 512) (n : Fin 3072) :
    ((outsAt0 m c t.val t.isLt).2.1 : Vec Ideal S512x3072 .f32) (ix2 r n) = xcrow m c t r n := by
  rw [outsAt0_A m c t hz]
  frame_out
  canon_tiles x h
  · obtain ⟨p, k, rfl⟩ : ∃ (p k : Fin 512), x = ix2 p k := ⟨x 0, x 1, by funext a; fin_cases a <;> rfl⟩
    obtain rfl : r = p := Fin.ext h0
    have hn : n.val = 2560 + k.val := h1
    refine (pay35_at _ _ _ _ _ _ _ _ _ r k).trans ?_
    refine silu_conv_congr ?_ ?_ ?_ (dot5 m c t r k n hn) (ldc_at 2560 _ 0 _ k 0 n rfl hn) (ldc_at 2560 _ 1 _ k 1 n rfl hn) (ldc_at 2560 _ 2 _ k 2 n rfl hn) (ldc_at 2560 _ 3 _ k 3 n rfl hn) (ldb_at 2560 _ _ k n hn)
    · exact (cov_at _ 2560 5 _ r k ⟨5 + r.val, by omega⟩ n rfl hn).trans (held_seam _ _ 2560 _ _ (prev m c t) (urow m c t) (tile5 m c t) (above_step _ _ 2048 _ _ (prev m c t) (above_step _ _ 1536 _ _ (prev m c t) (above_step _ _ 1024 _ _ (prev m c t) (above_step _ _ 512 _ _ (prev m c t) (above_step _ _ 0 _ _ (prev m c t) (zero_above m c t hz _ _)))))) 5 (by omega) r k n hn)
    · exact (cov_at _ 2560 6 _ r k ⟨6 + r.val, by omega⟩ n rfl hn).trans (held_seam _ _ 2560 _ _ (prev m c t) (urow m c t) (tile5 m c t) (above_step _ _ 2048 _ _ (prev m c t) (above_step _ _ 1536 _ _ (prev m c t) (above_step _ _ 1024 _ _ (prev m c t) (above_step _ _ 512 _ _ (prev m c t) (above_step _ _ 0 _ _ (prev m c t) (zero_above m c t hz _ _)))))) 6 (by omega) r k n hn)
    · exact (cov_at _ 2560 7 _ r k ⟨7 + r.val, by omega⟩ n rfl hn).trans (held_seam _ _ 2560 _ _ (prev m c t) (urow m c t) (tile5 m c t) (above_step _ _ 2048 _ _ (prev m c t) (above_step _ _ 1536 _ _ (prev m c t) (above_step _ _ 1024 _ _ (prev m c t) (above_step _ _ 512 _ _ (prev m c t) (above_step _ _ 0 _ _ (prev m c t) (zero_above m c t hz _ _)))))) 7 (by omega) r k n hn)
  · obtain ⟨p, k, rfl⟩ : ∃ (p k : Fin 512), x = ix2 p k := ⟨x 0, x 1, by funext a; fin_cases a <;> rfl⟩
    obtain rfl : r = p := Fin.ext h0
    have hn : n.val = 2048 + k.val := h1
    refine (pay30_at _ _ _ _ _ _ _ _ _ r k).trans ?_
    refine silu_conv_congr ?_ ?_ ?_ (dot4 m c t r k n hn) (ldc_at 2048 _ 0 _ k 0 n rfl hn) (ldc_at 2048 _ 1 _ k 1 n rfl hn) (ldc_at 2048 _ 2 _ k 2 n rfl hn) (ldc_at 2048 _ 3 _ k 3 n rfl hn) (ldb_at 2048 _ _ k n hn)
    · exact (cov_at _ 2048 5 _ r k ⟨5 + r.val, by omega⟩ n rfl hn).trans (held_seam _ _ 2048 _ _ (prev m c t) (urow m c t) (tile4 m c t) (above_step _ _ 1536 _ _ (prev m c t) (above_step _ _ 1024 _ _ (prev m c t) (above_step _ _ 512 _ _ (prev m c t) (above_step _ _ 0 _ _ (prev m c t) (zero_above m c t hz _ _))))) 5 (by omega) r k n hn)
    · exact (cov_at _ 2048 6 _ r k ⟨6 + r.val, by omega⟩ n rfl hn).trans (held_seam _ _ 2048 _ _ (prev m c t) (urow m c t) (tile4 m c t) (above_step _ _ 1536 _ _ (prev m c t) (above_step _ _ 1024 _ _ (prev m c t) (above_step _ _ 512 _ _ (prev m c t) (above_step _ _ 0 _ _ (prev m c t) (zero_above m c t hz _ _))))) 6 (by omega) r k n hn)
    · exact (cov_at _ 2048 7 _ r k ⟨7 + r.val, by omega⟩ n rfl hn).trans (held_seam _ _ 2048 _ _ (prev m c t) (urow m c t) (tile4 m c t) (above_step _ _ 1536 _ _ (prev m c t) (above_step _ _ 1024 _ _ (prev m c t) (above_step _ _ 512 _ _ (prev m c t) (above_step _ _ 0 _ _ (prev m c t) (zero_above m c t hz _ _))))) 7 (by omega) r k n hn)
  · obtain ⟨p, k, rfl⟩ : ∃ (p k : Fin 512), x = ix2 p k := ⟨x 0, x 1, by funext a; fin_cases a <;> rfl⟩
    obtain rfl : r = p := Fin.ext h0
    have hn : n.val = 1536 + k.val := h1
    refine (pay25_at _ _ _ _ _ _ _ _ _ r k).trans ?_
    refine silu_conv_congr ?_ ?_ ?_ (dot3 m c t r k n hn) (ldc_at 1536 _ 0 _ k 0 n rfl hn) (ldc_at 1536 _ 1 _ k 1 n rfl hn) (ldc_at 1536 _ 2 _ k 2 n rfl hn) (ldc_at 1536 _ 3 _ k 3 n rfl hn) (ldb_at 1536 _ _ k n hn)
    · exact (cov_at _ 1536 5 _ r k ⟨5 + r.val, by omega⟩ n rfl hn).trans (held_seam _ _ 1536 _ _ (prev m c t) (urow m c t) (tile3 m c t) (above_step _ _ 1024 _ _ (prev m c t) (above_step _ _ 512 _ _ (prev m c t) (above_step _ _ 0 _ _ (prev m c t) (zero_above m c t hz _ _)))) 5 (by omega) r k n hn)
    · exact (cov_at _ 1536 6 _ r k ⟨6 + r.val, by omega⟩ n rfl hn).trans (held_seam _ _ 1536 _ _ (prev m c t) (urow m c t) (tile3 m c t) (above_step _ _ 1024 _ _ (prev m c t) (above_step _ _ 512 _ _ (prev m c t) (above_step _ _ 0 _ _ (prev m c t) (zero_above m c t hz _ _)))) 6 (by omega) r k n hn)
    · exact (cov_at _ 1536 7 _ r k ⟨7 + r.val, by omega⟩ n rfl hn).trans (held_seam _ _ 1536 _ _ (prev m c t) (urow m c t) (tile3 m c t) (above_step _ _ 1024 _ _ (prev m c t) (above_step _ _ 512 _ _ (prev m c t) (above_step _ _ 0 _ _ (prev m c t) (zero_above m c t hz _ _)))) 7 (by omega) r k n hn)
  · obtain ⟨p, k, rfl⟩ : ∃ (p k : Fin 512), x = ix2 p k := ⟨x 0, x 1, by funext a; fin_cases a <;> rfl⟩
    obtain rfl : r = p := Fin.ext h0
    have hn : n.val = 1024 + k.val := h1
    refine (pay20_at _ _ _ _ _ _ _ _ _ r k).trans ?_
    refine silu_conv_congr ?_ ?_ ?_ (dot2 m c t r k n hn) (ldc_at 1024 _ 0 _ k 0 n rfl hn) (ldc_at 1024 _ 1 _ k 1 n rfl hn) (ldc_at 1024 _ 2 _ k 2 n rfl hn) (ldc_at 1024 _ 3 _ k 3 n rfl hn) (ldb_at 1024 _ _ k n hn)
    · exact (cov_at _ 1024 5 _ r k ⟨5 + r.val, by omega⟩ n rfl hn).trans (held_seam _ _ 1024 _ _ (prev m c t) (urow m c t) (tile2 m c t) (above_step _ _ 512 _ _ (prev m c t) (above_step _ _ 0 _ _ (prev m c t) (zero_above m c t hz _ _))) 5 (by omega) r k n hn)
    · exact (cov_at _ 1024 6 _ r k ⟨6 + r.val, by omega⟩ n rfl hn).trans (held_seam _ _ 1024 _ _ (prev m c t) (urow m c t) (tile2 m c t) (above_step _ _ 512 _ _ (prev m c t) (above_step _ _ 0 _ _ (prev m c t) (zero_above m c t hz _ _))) 6 (by omega) r k n hn)
    · exact (cov_at _ 1024 7 _ r k ⟨7 + r.val, by omega⟩ n rfl hn).trans (held_seam _ _ 1024 _ _ (prev m c t) (urow m c t) (tile2 m c t) (above_step _ _ 512 _ _ (prev m c t) (above_step _ _ 0 _ _ (prev m c t) (zero_above m c t hz _ _))) 7 (by omega) r k n hn)
  · obtain ⟨p, k, rfl⟩ : ∃ (p k : Fin 512), x = ix2 p k := ⟨x 0, x 1, by funext a; fin_cases a <;> rfl⟩
    obtain rfl : r = p := Fin.ext h0
    have hn : n.val = 512 + k.val := h1
    refine (pay15_at _ _ _ _ _ _ _ _ _ r k).trans ?_
    refine silu_conv_congr ?_ ?_ ?_ (dot1 m c t r k n hn) (ldc_at 512 _ 0 _ k 0 n rfl hn) (ldc_at 512 _ 1 _ k 1 n rfl hn) (ldc_at 512 _ 2 _ k 2 n rfl hn) (ldc_at 512 _ 3 _ k 3 n rfl hn) (ldb_at 512 _ _ k n hn)
    · exact (cov_at _ 512 5 _ r k ⟨5 + r.val, by omega⟩ n rfl hn).trans (held_seam _ _ 512 _ _ (prev m c t) (urow m c t) (tile1 m c t) (above_step _ _ 0 _ _ (prev m c t) (zero_above m c t hz _ _)) 5 (by omega) r k n hn)
    · exact (cov_at _ 512 6 _ r k ⟨6 + r.val, by omega⟩ n rfl hn).trans (held_seam _ _ 512 _ _ (prev m c t) (urow m c t) (tile1 m c t) (above_step _ _ 0 _ _ (prev m c t) (zero_above m c t hz _ _)) 6 (by omega) r k n hn)
    · exact (cov_at _ 512 7 _ r k ⟨7 + r.val, by omega⟩ n rfl hn).trans (held_seam _ _ 512 _ _ (prev m c t) (urow m c t) (tile1 m c t) (above_step _ _ 0 _ _ (prev m c t) (zero_above m c t hz _ _)) 7 (by omega) r k n hn)
  · obtain ⟨p, k, rfl⟩ : ∃ (p k : Fin 512), x = ix2 p k := ⟨x 0, x 1, by funext a; fin_cases a <;> rfl⟩
    obtain rfl : r = p := Fin.ext h0
    have hn : n.val = 0 + k.val := h1.trans (Nat.zero_add _).symm
    refine (pay10_at _ _ _ _ _ _ _ _ _ r k).trans ?_
    refine silu_conv_congr ?_ ?_ ?_ (dot0 m c t r k n hn) (ldc_at 0 _ 0 _ k 0 n rfl hn) (ldc_at 0 _ 1 _ k 1 n rfl hn) (ldc_at 0 _ 2 _ k 2 n rfl hn) (ldc_at 0 _ 3 _ k 3 n rfl hn) (ldb_at 0 _ _ k n hn)
    · exact (cov_at _ 0 5 _ r k ⟨5 + r.val, by omega⟩ n rfl hn).trans (held_seam _ _ 0 _ _ (prev m c t) (urow m c t) (tile0 m c t) (zero_above m c t hz _ _) 5 (by omega) r k n hn)
    · exact (cov_at _ 0 6 _ r k ⟨6 + r.val, by omega⟩ n rfl hn).trans (held_seam _ _ 0 _ _ (prev m c t) (urow m c t) (tile0 m c t) (zero_above m c t hz _ _) 6 (by omega) r k n hn)
    · exact (cov_at _ 0 7 _ r k ⟨7 + r.val, by omega⟩ n rfl hn).trans (held_seam _ _ 0 _ _ (prev m c t) (urow m c t) (tile0 m c t) (zero_above m c t hz _ _) 7 (by omega) r k n hn)

set_option maxHeartbeats 4000000 in
theorem xcB (hz : ¬ t.val % 4 = 0) (r : Fin 512) (n : Fin 3072) :
    ((outsAt0 m c t.val t.isLt).2.1 : Vec Ideal S512x3072 .f32) (ix2 r n) = xcrow m c t r n := by
  rw [outsAt0_B m c t hz]
  frame_out
  canon_tiles x h
  · obtain ⟨p, k, rfl⟩ : ∃ (p k : Fin 512), x = ix2 p k := ⟨x 0, x 1, by funext a; fin_cases a <;> rfl⟩
    obtain rfl : r = p := Fin.ext h0
    have hn : n.val = 2560 + k.val := h1
    refine (pay35_at _ _ _ _ _ _ _ _ _ r k).trans ?_
    refine silu_conv_congr ?_ ?_ ?_ (dot5 m c t r k n hn) (ldc_at 2560 _ 0 _ k 0 n rfl hn) (ldc_at 2560 _ 1 _ k 1 n rfl hn) (ldc_at 2560 _ 2 _ k 2 n rfl hn) (ldc_at 2560 _ 3 _ k 3 n rfl hn) (ldb_at 2560 _ _ k n hn)
    · exact (ld_at _ _ 2560 5 _ r k ⟨5 + r.val, by omega⟩ n rfl hn).trans (held_seam _ _ 2560 _ _ (prev m c t) (urow m c t) (tile5 m c t) (above_step _ _ 2048 _ _ (prev m c t) (above_step _ _ 1536 _ _ (prev m c t) (above_step _ _ 1024 _ _ (prev m c t) (above_step _ _ 512 _ _ (prev m c t) (above_step _ _ 0 _ _ (prev m c t) (prev_above m c t hz _ _)))))) 5 (by omega) r k n hn)
    · exact (ld_at _ _ 2560 6 _ r k ⟨6 + r.val, by omega⟩ n rfl hn).trans (held_seam _ _ 2560 _ _ (prev m c t) (urow m c t) (tile5 m c t) (above_step _ _ 2048 _ _ (prev m c t) (above_step _ _ 1536 _ _ (prev m c t) (above_step _ _ 1024 _ _ (prev m c t) (above_step _ _ 512 _ _ (prev m c t) (above_step _ _ 0 _ _ (prev m c t) (prev_above m c t hz _ _)))))) 6 (by omega) r k n hn)
    · exact (ld_at _ _ 2560 7 _ r k ⟨7 + r.val, by omega⟩ n rfl hn).trans (held_seam _ _ 2560 _ _ (prev m c t) (urow m c t) (tile5 m c t) (above_step _ _ 2048 _ _ (prev m c t) (above_step _ _ 1536 _ _ (prev m c t) (above_step _ _ 1024 _ _ (prev m c t) (above_step _ _ 512 _ _ (prev m c t) (above_step _ _ 0 _ _ (prev m c t) (prev_above m c t hz _ _)))))) 7 (by omega) r k n hn)
  · obtain ⟨p, k, rfl⟩ : ∃ (p k : Fin 512), x = ix2 p k := ⟨x 0, x 1, by funext a; fin_cases a <;> rfl⟩
    obtain rfl : r = p := Fin.ext h0
    have hn : n.val = 2048 + k.val := h1
    refine (pay30_at _ _ _ _ _ _ _ _ _ r k).trans ?_
    refine silu_conv_congr ?_ ?_ ?_ (dot4 m c t r k n hn) (ldc_at 2048 _ 0 _ k 0 n rfl hn) (ldc_at 2048 _ 1 _ k 1 n rfl hn) (ldc_at 2048 _ 2 _ k 2 n rfl hn) (ldc_at 2048 _ 3 _ k 3 n rfl hn) (ldb_at 2048 _ _ k n hn)
    · exact (ld_at _ _ 2048 5 _ r k ⟨5 + r.val, by omega⟩ n rfl hn).trans (held_seam _ _ 2048 _ _ (prev m c t) (urow m c t) (tile4 m c t) (above_step _ _ 1536 _ _ (prev m c t) (above_step _ _ 1024 _ _ (prev m c t) (above_step _ _ 512 _ _ (prev m c t) (above_step _ _ 0 _ _ (prev m c t) (prev_above m c t hz _ _))))) 5 (by omega) r k n hn)
    · exact (ld_at _ _ 2048 6 _ r k ⟨6 + r.val, by omega⟩ n rfl hn).trans (held_seam _ _ 2048 _ _ (prev m c t) (urow m c t) (tile4 m c t) (above_step _ _ 1536 _ _ (prev m c t) (above_step _ _ 1024 _ _ (prev m c t) (above_step _ _ 512 _ _ (prev m c t) (above_step _ _ 0 _ _ (prev m c t) (prev_above m c t hz _ _))))) 6 (by omega) r k n hn)
    · exact (ld_at _ _ 2048 7 _ r k ⟨7 + r.val, by omega⟩ n rfl hn).trans (held_seam _ _ 2048 _ _ (prev m c t) (urow m c t) (tile4 m c t) (above_step _ _ 1536 _ _ (prev m c t) (above_step _ _ 1024 _ _ (prev m c t) (above_step _ _ 512 _ _ (prev m c t) (above_step _ _ 0 _ _ (prev m c t) (prev_above m c t hz _ _))))) 7 (by omega) r k n hn)
  · obtain ⟨p, k, rfl⟩ : ∃ (p k : Fin 512), x = ix2 p k := ⟨x 0, x 1, by funext a; fin_cases a <;> rfl⟩
    obtain rfl : r = p := Fin.ext h0
    have hn : n.val = 1536 + k.val := h1
    refine (pay25_at _ _ _ _ _ _ _ _ _ r k).trans ?_
    refine silu_conv_congr ?_ ?_ ?_ (dot3 m c t r k n hn) (ldc_at 1536 _ 0 _ k 0 n rfl hn) (ldc_at 1536 _ 1 _ k 1 n rfl hn) (ldc_at 1536 _ 2 _ k 2 n rfl hn) (ldc_at 1536 _ 3 _ k 3 n rfl hn) (ldb_at 1536 _ _ k n hn)
    · exact (ld_at _ _ 1536 5 _ r k ⟨5 + r.val, by omega⟩ n rfl hn).trans (held_seam _ _ 1536 _ _ (prev m c t) (urow m c t) (tile3 m c t) (above_step _ _ 1024 _ _ (prev m c t) (above_step _ _ 512 _ _ (prev m c t) (above_step _ _ 0 _ _ (prev m c t) (prev_above m c t hz _ _)))) 5 (by omega) r k n hn)
    · exact (ld_at _ _ 1536 6 _ r k ⟨6 + r.val, by omega⟩ n rfl hn).trans (held_seam _ _ 1536 _ _ (prev m c t) (urow m c t) (tile3 m c t) (above_step _ _ 1024 _ _ (prev m c t) (above_step _ _ 512 _ _ (prev m c t) (above_step _ _ 0 _ _ (prev m c t) (prev_above m c t hz _ _)))) 6 (by omega) r k n hn)
    · exact (ld_at _ _ 1536 7 _ r k ⟨7 + r.val, by omega⟩ n rfl hn).trans (held_seam _ _ 1536 _ _ (prev m c t) (urow m c t) (tile3 m c t) (above_step _ _ 1024 _ _ (prev m c t) (above_step _ _ 512 _ _ (prev m c t) (above_step _ _ 0 _ _ (prev m c t) (prev_above m c t hz _ _)))) 7 (by omega) r k n hn)
  · obtain ⟨p, k, rfl⟩ : ∃ (p k : Fin 512), x = ix2 p k := ⟨x 0, x 1, by funext a; fin_cases a <;> rfl⟩
    obtain rfl : r = p := Fin.ext h0
    have hn : n.val = 1024 + k.val := h1
    refine (pay20_at _ _ _ _ _ _ _ _ _ r k).trans ?_
    refine silu_conv_congr ?_ ?_ ?_ (dot2 m c t r k n hn) (ldc_at 1024 _ 0 _ k 0 n rfl hn) (ldc_at 1024 _ 1 _ k 1 n rfl hn) (ldc_at 1024 _ 2 _ k 2 n rfl hn) (ldc_at 1024 _ 3 _ k 3 n rfl hn) (ldb_at 1024 _ _ k n hn)
    · exact (ld_at _ _ 1024 5 _ r k ⟨5 + r.val, by omega⟩ n rfl hn).trans (held_seam _ _ 1024 _ _ (prev m c t) (urow m c t) (tile2 m c t) (above_step _ _ 512 _ _ (prev m c t) (above_step _ _ 0 _ _ (prev m c t) (prev_above m c t hz _ _))) 5 (by omega) r k n hn)
    · exact (ld_at _ _ 1024 6 _ r k ⟨6 + r.val, by omega⟩ n rfl hn).trans (held_seam _ _ 1024 _ _ (prev m c t) (urow m c t) (tile2 m c t) (above_step _ _ 512 _ _ (prev m c t) (above_step _ _ 0 _ _ (prev m c t) (prev_above m c t hz _ _))) 6 (by omega) r k n hn)
    · exact (ld_at _ _ 1024 7 _ r k ⟨7 + r.val, by omega⟩ n rfl hn).trans (held_seam _ _ 1024 _ _ (prev m c t) (urow m c t) (tile2 m c t) (above_step _ _ 512 _ _ (prev m c t) (above_step _ _ 0 _ _ (prev m c t) (prev_above m c t hz _ _))) 7 (by omega) r k n hn)
  · obtain ⟨p, k, rfl⟩ : ∃ (p k : Fin 512), x = ix2 p k := ⟨x 0, x 1, by funext a; fin_cases a <;> rfl⟩
    obtain rfl : r = p := Fin.ext h0
    have hn : n.val = 512 + k.val := h1
    refine (pay15_at _ _ _ _ _ _ _ _ _ r k).trans ?_
    refine silu_conv_congr ?_ ?_ ?_ (dot1 m c t r k n hn) (ldc_at 512 _ 0 _ k 0 n rfl hn) (ldc_at 512 _ 1 _ k 1 n rfl hn) (ldc_at 512 _ 2 _ k 2 n rfl hn) (ldc_at 512 _ 3 _ k 3 n rfl hn) (ldb_at 512 _ _ k n hn)
    · exact (ld_at _ _ 512 5 _ r k ⟨5 + r.val, by omega⟩ n rfl hn).trans (held_seam _ _ 512 _ _ (prev m c t) (urow m c t) (tile1 m c t) (above_step _ _ 0 _ _ (prev m c t) (prev_above m c t hz _ _)) 5 (by omega) r k n hn)
    · exact (ld_at _ _ 512 6 _ r k ⟨6 + r.val, by omega⟩ n rfl hn).trans (held_seam _ _ 512 _ _ (prev m c t) (urow m c t) (tile1 m c t) (above_step _ _ 0 _ _ (prev m c t) (prev_above m c t hz _ _)) 6 (by omega) r k n hn)
    · exact (ld_at _ _ 512 7 _ r k ⟨7 + r.val, by omega⟩ n rfl hn).trans (held_seam _ _ 512 _ _ (prev m c t) (urow m c t) (tile1 m c t) (above_step _ _ 0 _ _ (prev m c t) (prev_above m c t hz _ _)) 7 (by omega) r k n hn)
  · obtain ⟨p, k, rfl⟩ : ∃ (p k : Fin 512), x = ix2 p k := ⟨x 0, x 1, by funext a; fin_cases a <;> rfl⟩
    obtain rfl : r = p := Fin.ext h0
    have hn : n.val = 0 + k.val := h1.trans (Nat.zero_add _).symm
    refine (pay10_at _ _ _ _ _ _ _ _ _ r k).trans ?_
    refine silu_conv_congr ?_ ?_ ?_ (dot0 m c t r k n hn) (ldc_at 0 _ 0 _ k 0 n rfl hn) (ldc_at 0 _ 1 _ k 1 n rfl hn) (ldc_at 0 _ 2 _ k 2 n rfl hn) (ldc_at 0 _ 3 _ k 3 n rfl hn) (ldb_at 0 _ _ k n hn)
    · exact (ld_at _ _ 0 5 _ r k ⟨5 + r.val, by omega⟩ n rfl hn).trans (held_seam _ _ 0 _ _ (prev m c t) (urow m c t) (tile0 m c t) (prev_above m c t hz _ _) 5 (by omega) r k n hn)
    · exact (ld_at _ _ 0 6 _ r k ⟨6 + r.val, by omega⟩ n rfl hn).trans (held_seam _ _ 0 _ _ (prev m c t) (urow m c t) (tile0 m c t) (prev_above m c t hz _ _) 6 (by omega) r k n hn)
    · exact (ld_at _ _ 0 7 _ r k ⟨7 + r.val, by omega⟩ n rfl hn).trans (held_seam _ _ 0 _ _ (prev m c t) (urow m c t) (tile0 m c t) (prev_above m c t hz _ _) 7 (by omega) r k n hn)

end Cert.Kernel7Ideal.Point

end
-- ==== Proof.ProjSRead.lean ====
/-
  What the arrays hold that the recurrent layer's input projection works on for the prompt: what the host's operations
  leave for the call to read, what the blocks hold of that, and what the result arrays hold after the run.
-/
module

public import proofs.«01_k».proof.Proof.ProjSConv
public import proofs.«01_k».proof.Proof.Gen.Kernel7Ideal.Value
public import Idealize.ShloMosaic.Lib.StableHlo.ReadAt
public import Idealize.ShloMosaic.Lib.Tactic
public import Idealize.ShloMosaic.Lib.KernelVsHost

@[expose] public section

set_option maxRecDepth 16384

noncomputable section

open Idealize.ShloMosaic Idealize.ShloMosaic.TcCoe Idealize.SL.Sem

namespace Cert.Kernel7Ideal.ProjRead

open Cert.Kernel7Ideal Cert.Kernel7Ideal.Gen Cert.ProjSpec

variable (m : (ℓ : Loc nD τ sig) → Buf (Elt Ideal) ℓ) (c : Dev nD) (t : Fin cfg0.N)

/-- A grid point's block's row as a row of the flattened batch, its sequence, and its position in the sequence. -/
def row (t : Fin cfg0.N) (r : Fin 512) : Fin 16384 := ⟨t.val * 512 + r.val, by have h : t.val < 32 := t.isLt; omega⟩
def bat (t : Fin cfg0.N) : Fin 8 := ⟨t.val / 4, by have h : t.val < 32 := t.isLt; omega⟩
def pos (t : Fin cfg0.N) (r : Fin 512) : Fin 2048 := ⟨t.val % 4 * 512 + r.val, by omega⟩

theorem row_div (r : Fin 512) : (⟨(row t r).val / 2048, by omega⟩ : Fin 8) = bat t := Fin.ext (by show (t.val * 512 + r.val) / 2048 = t.val / 4; omega)
theorem row_mod (r : Fin 512) : (⟨(row t r).val % 2048, by omega⟩ : Fin 2048) = pos t r := Fin.ext (by show (t.val * 512 + r.val) % 2048 = t.val % 4 * 512 + r.val; omega)

/-! What the host's operations leave, in terms of the arguments. -/

theorem V0 (r : Fin 16384) (k : Fin 1024) : V m c main_v0 (ix2 r k) = m ((c : Thread nD τ).loc main_arg0) (ix3 ⟨r.val / 2048, by omega⟩ ⟨r.val % 2048, by omega⟩ k) := by
  unfold V
  after_reads_at
theorem V3 (k : Fin 1024) : V m c main_v3 (ix2 0 k) = m ((c : Thread nD τ).loc main_arg3) (ix2 1 k) := by
  unfold V
  after_reads_at
theorem V7 (n : Fin 2048) (k : Fin 1024) : V m c main_v7 (ix2 n k) = m ((c : Thread nD τ).loc main_arg4) (ix3 0 k ⟨n.val, by omega⟩) := by
  unfold V
  after_reads_at
theorem V9 (n : Fin 3072) (k : Fin 1024) : V m c main_v9 (ix2 n k) = m ((c : Thread nD τ).loc main_arg4) (ix3 0 k ⟨2048 + n.val, by omega⟩) := by
  unfold V
  after_reads_at
theorem V12 (n : Fin 128) (k : Fin 1024) : V m c main_v12 (ix2 n k) = if h : n.val < 32 then (m ((c : Thread nD τ).loc main_arg4) (ix3 0 k ⟨5120 + n.val, by omega⟩) : EReal) else (0 : EReal) := by
  unfold V
  after_reads_at
  split_ifs
  · rfl
  · exact sitofp_zero (φ := .f32)
theorem V15 (n : Fin 128) : V m c main_v15 (ix2 0 n) = if h : n.val < 32 then (m ((c : Thread nD τ).loc main_arg7) (ix2 0 ⟨n.val, h⟩) : EReal) else (0 : EReal) := by
  unfold V
  after_reads_at
  split_ifs
  · rfl
  · exact sitofp_zero (φ := .f32)
theorem V16 (s : Fin 4) (n : Fin 3072) : V m c main_v16 (ix2 s n) = m ((c : Thread nD τ).loc main_arg5) (ix3 0 s n) := by
  unfold V
  after_reads_at
theorem V18 (n : Fin 3072) : V m c main_v18 (ix2 0 n) = m ((c : Thread nD τ).loc main_arg6) (ix2 0 n) := by
  unfold V
  after_reads_at

/-- Where each window's block starts at a grid point. -/
theorem idx0 : ∀ t : Fin grid0.N, win0_0.index t 0 = t.val ∧ win0_0.index t 1 = 0 := by decide +kernel
theorem idx1 : ∀ t : Fin grid0.N, win0_1.index t 0 = t.val / 4 ∧ win0_1.index t 1 = 0 ∧ win0_1.index t 2 = 0 := by decide +kernel
theorem idx2 : ∀ t : Fin grid0.N, win0_2.index t 0 = t.val / 4 ∧ win0_2.index t 1 = 0 ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx10 : ∀ t : Fin grid0.N, win0_10.index t 0 = t.val ∧ win0_10.index t 1 = 0 := by decide +kernel
theorem idx11 : ∀ t : Fin grid0.N, win0_11.index t 0 = t.val ∧ win0_11.index t 1 = 0 := by decide +kernel
theorem idx12 : ∀ t : Fin grid0.N, win0_12.index t 0 = t.val ∧ win0_12.index t 1 = 0 := by decide +kernel
theorem idx13 : ∀ t : Fin grid0.N, win0_13.index t 0 = 0 ∧ win0_13.index t 1 = t.val / 4 ∧ win0_13.index t 2 = 0 ∧ win0_13.index t 3 = 0 := by decide +kernel

/-- What window 0's block holds, in terms of the array it is cut from. -/
theorem blk0 (r : Fin 512) (k : Fin 1024) : (iblk m c 0 t : Vec Ideal S512x1024 .f32) (ix2 r k) = V m c main_v0 (ix2 (row t r) k) := by
  unfold iblk
  rw [View.read_apply]
  show V m c main_v0 _ = _
  congr 1
  funext ax
  apply Fin.ext
  match ax with
  | ⟨0, _⟩ => show win0_0.index t 0 * 512 + 1 * r.val = t.val * 512 + r.val; rw [(idx0 t).1] <;> omega
  | ⟨1, _⟩ => show win0_0.index t 1 * 1024 + 1 * k.val = k.val; rw [(idx0 t).2] <;> omega
theorem in0 (r : Fin 512) (k : Fin 1024) : (iblk m c 0 t : Vec Ideal S512x1024 .f32) (ix2 r k) = m ((c : Thread nD τ).loc main_arg0) (ix3 (bat t) (pos t r) k) := by
  rw [blk0, V0, row_div, row_mod]

/-- What window 1's block holds, in terms of the array it is cut from. -/
theorem in1 (k : Fin 1024) : (iblk m c 1 t : Vec Ideal S1x1x1024 .f32) (ix3 0 0 k) = m ((c : Thread nD τ).loc main_arg1) (ix3 (bat t) 0 k) := by
  unfold iblk
  rw [View.read_apply]
  show V m c main_arg1 _ = _
  refine Eq.trans (b := V m c main_arg1 (ix3 (bat t) 0 k)) ?_ rfl
  congr 1
  funext ax
  apply Fin.ext
  match ax with
  | ⟨0, _⟩ => show win0_1.index t 0 * 1 + 1 * 0 = t.val / 4; rw [(idx1 t).1] <;> omega
  | ⟨1, _⟩ => show win0_1.index t 1 * 1 + 1 * 0 = 0; rw [(idx1 t).2.1] <;> omega
  | ⟨2, _⟩ => show win0_1.index t 2 * 1024 + 1 * k.val = k.val; rw [(idx1 t).2.2] <;> omega

/-- What window 2's block holds, in terms of the array it is cut from. -/
theorem in2 (k : Fin 1024) : (iblk m c 2 t : Vec Ideal S1x1x1024 .f32) (ix3 0 0 k) = m ((c : Thread nD τ).loc main_arg2) (ix3 (bat t) 0 k) := by
  unfold iblk
  rw [View.read_apply]
  show V m c main_arg2 _ = _
  refine Eq.trans (b := V m c main_arg2 (ix3 (bat t) 0 k)) ?_ rfl
  congr 1
  funext ax
  apply Fin.ext
  match ax with
  | ⟨0, _⟩ => show win0_2.index t 0 * 1 + 1 * 0 = t.val / 4; rw [(idx2 t).1] <;> omega
  | ⟨1, _⟩ => show win0_2.index t 1 * 1 + 1 * 0 = 0; rw [(idx2 t).2.1] <;> omega
  | ⟨2, _⟩ => show win0_2.index t 2 * 1024 + 1 * k.val = k.val; rw [(idx2 t).2.2] <;> omega

/-- What window 3's block holds, in terms of the array it is cut from. -/
theorem blk3 (k : Fin 1024) : (iblk m c 3 t : Vec Ideal S1x1024 .f32) (ix2 0 k) = V m c main_v3 (ix2 0 k) := by
  unfold iblk
  rw [View.read_apply]
  show V m c main_v3 _ = _
  congr 1
  funext ax
  apply Fin.ext
  match ax with
  | ⟨0, _⟩ => show win0_3.index t 0 * 1 + 1 * 0 = 0; rw [(idx3 t).1] <;> omega
  | ⟨1, _⟩ => show win0_3.index t 1 * 1024 + 1 * k.val = k.val; rw [(idx3 t).2] <;> omega
theorem in3 (k : Fin 1024) : (iblk m c 3 t : Vec Ideal S1x1024 .f32) (ix2 0 k) = m ((c : Thread nD τ).loc main_arg3) (ix2 1 k) :=
  (blk3 m c t k).trans (V3 m c k)

/-- What window 4's block holds, in terms of the array it is cut from. -/
theorem blk4 (n : Fin 2048) (k : Fin 1024) : (iblk m c 4 t : Vec Ideal S2048x1024 .bf16) (ix2 n k) = V m c main_v7 (ix2 n k) := by
  unfold iblk
  rw [View.read_apply]
  show V m c main_v7 _ = _
  congr 1
  funext ax
  apply Fin.ext
  match ax with
  | ⟨0, _⟩ => show win0_4.index t 0 * 2048 + 1 * n.val = n.val; rw [(idx4 t).1] <;> omega
  | ⟨1, _⟩ => show win0_4.index t 1 * 1024 + 1 * k.val = k.val; rw [(idx4 t).2] <;> omega
theorem in4 (n : Fin 2048) (k : Fin 1024) : (iblk m c 4 t : Vec Ideal S2048x1024 .bf16) (ix2 n k) = m ((c : Thread nD τ).loc main_arg4) (ix3 0 k ⟨n.val, by omega⟩) :=
  (blk4 m c t n k).trans (V7 m c n k)

/-- What window 5's block holds, in terms of the array it is cut from. -/
theorem blk5 (n : Fin 3072) (k : Fin 1024) : (iblk m c 5 t : Vec Ideal S3072x1024 .bf16) (ix2 n k) = V m c main_v9 (ix2 n k) := by
  unfold iblk
  rw [View.read_apply]
  show V m c main_v9 _ = _
  congr 1
  funext ax
  apply Fin.ext
  match ax with
  | ⟨0, _⟩ => show win0_5.index t 0 * 3072 + 1 * n.val = n.val; rw [(idx5 t).1] <;> omega
  | ⟨1, _⟩ => show win0_5.index t 1 * 1024 + 1 * k.val = k.val; rw [(idx5 t).2] <;> omega
theorem in5 (n : Fin 3072) (k : Fin 1024) : (iblk m c 5 t : Vec Ideal S3072x1024 .bf16) (ix2 n k) = m ((c : Thread nD τ).loc main_arg4) (ix3 0 k ⟨2048 + n.val, by omega⟩) :=
  (blk5 m c t n k).trans (V9 m c n k)

/-- What window 6's block holds, in terms of the array it is cut from. -/
theorem blk6 (n : Fin 128) (k : Fin 1024) : (iblk m c 6 t : Vec Ideal S128x1024 .bf16) (ix2 n k) = V m c main_v12 (ix2 n k) := by
  unfold iblk
  rw [View.read_apply]
  show V m c main_v12 _ = _
  congr 1
  funext ax
  apply Fin.ext
  match ax with
  | ⟨0, _⟩ => show win0_6.index t 0 * 128 + 1 * n.val = n.val; rw [(idx6 t).1] <;> omega
  | ⟨1, _⟩ => show win0_6.index t 1 * 1024 + 1 * k.val = k.val; rw [(idx6 t).2] <;> omega
theorem in6 (n : Fin 128) (k : Fin 1024) : (iblk m c 6 t : Vec Ideal S128x1024 .bf16) (ix2 n k) = if h : n.val < 32 then (m ((c : Thread nD τ).loc main_arg4) (ix3 0 k ⟨5120 + n.val, by omega⟩) : EReal) else (0 : EReal) :=
  (blk6 m c t n k).trans (V12 m c n k)

/-- What window 7's block holds, in terms of the array it is cut from. -/
theorem blk7 (n : Fin 128) : (iblk m c 7 t : Vec Ideal S1x128 .f32) (ix2 0 n) = V m c main_v15 (ix2 0 n) := by
  unfold iblk
  rw [View.read_apply]
  show V m c main_v15 _ = _
  congr 1
  funext ax
  apply Fin.ext
  match ax with
  | ⟨0, _⟩ => show win0_7.index t 0 * 1 + 1 * 0 = 0; rw [(idx7 t).1] <;> omega
  | ⟨1, _⟩ => show win0_7.index t 1 * 128 + 1 * n.val = n.val; rw [(idx7 t).2] <;> omega
theorem in7 (n : Fin 128) : (iblk m c 7 t : Vec Ideal S1x128 .f32) (ix2 0 n) = if h : n.val < 32 then (m ((c : Thread nD τ).loc main_arg7) (ix2 0 ⟨n.val, h⟩) : EReal) else (0 : EReal) :=
  (blk7 m c t n).trans (V15 m c n)

/-- What window 8's block holds, in terms of the array it is cut from. -/
theorem blk8 (s : Fin 4) (n : Fin 3072) : (iblk m c 8 t : Vec Ideal S4x3072 .f32) (ix2 s n) = V m c main_v16 (ix2 s n) := by
  unfold iblk
  rw [View.read_apply]
  show V m c main_v16 _ = _
  congr 1
  funext ax
  apply Fin.ext
  match ax with
  | ⟨0, _⟩ => show win0_8.index t 0 * 4 + 1 * s.val = s.val; rw [(idx8 t).1] <;> omega
  | ⟨1, _⟩ => show win0_8.index t 1 * 3072 + 1 * n.val = n.val; rw [(idx8 t).2] <;> omega
theorem in8 (s : Fin 4) (n : Fin 3072) : (iblk m c 8 t : Vec Ideal S4x3072 .f32) (ix2 s n) = m ((c : Thread nD τ).loc main_arg5) (ix3 0 s n) :=
  (blk8 m c t s n).trans (V16 m c s n)

/-- What window 9's block holds, in terms of the array it is cut from. -/
theorem blk9 (n : Fin 3072) : (iblk m c 9 t : Vec Ideal S1x3072 .f32) (ix2 0 n) = V m c main_v18 (ix2 0 n) := by
  unfold iblk
  rw [View.read_apply]
  show V m c main_v18 _ = _
  congr 1
  funext ax
  apply Fin.ext
  match ax with
  | ⟨0, _⟩ => show win0_9.index t 0 * 1 + 1 * 0 = 0; rw [(idx9 t).1] <;> omega
  | ⟨1, _⟩ => show win0_9.index t 1 * 3072 + 1 * n.val = n.val; rw [(idx9 t).2] <;> omega
theorem in9 (n : Fin 3072) : (iblk m c 9 t : Vec Ideal S1x3072 .f32) (ix2 0 n) = m ((c : Thread nD τ).loc main_arg6) (ix2 0 n) :=
  (blk9 m c t n).trans (V18 m c n)

/-- What window 10's array holds after a run, at one index: the grid point whose block holds it left it there. -/
theorem arr10 (r : Fin 512) (n : Fin 2048) : ((dats m 0 c).arrAt 10 cfg0.N : Vec Ideal S16384x2048 .f32) (ix2 (row t r) n) = ((outsAt0 m c t.val t.isLt).1 : Vec Ideal S512x2048 .f32) (ix2 r n) := by
  have h := congrFun ((Value.blocks10 m c t (flush0_10 t)).trans (Value.flushed10 m c t)) (ix2 r n : S512x2048.Idx)
  rw [View.read_apply] at h
  refine Eq.trans ?_ (h.trans rfl)
  show (dats m 0 c).arrAt 10 cfg0.N _ = (dats m 0 c).arrAt 10 cfg0.N _
  congr 1
  funext ax
  apply Fin.ext
  match ax with
  | ⟨0, _⟩ => show t.val * 512 + r.val = win0_10.index t 0 * 512 + 1 * r.val; rw [(idx10 t).1] <;> omega
  | ⟨1, _⟩ => show n.val = win0_10.index t 1 * 2048 + 1 * n.val; rw [(idx10 t).2] <;> omega

/-- What window 11's array holds after a run, at one index: the grid point whose block holds it left it there. -/
theorem arr11 (r : Fin 512) (n : Fin 3072) : ((dats m 0 c).arrAt 11 cfg0.N : Vec Ideal S16384x3072 .f32) (ix2 (row t r) n) = ((outsAt0 m c t.val t.isLt).2.1 : Vec Ideal S512x3072 .f32) (ix2 r n) := by
  have h := congrFun ((Value.blocks11 m c t (flush0_11 t)).trans (Value.flushed11 m c t)) (ix2 r n : S512x3072.Idx)
  rw [View.read_apply] at h
  refine Eq.trans ?_ (h.trans rfl)
  show (dats m 0 c).arrAt 11 cfg0.N _ = (dats m 0 c).arrAt 11 cfg0.N _
  congr 1
  funext ax
  apply Fin.ext
  match ax with
  | ⟨0, _⟩ => show t.val * 512 + r.val = win0_11.index t 0 * 512 + 1 * r.val; rw [(idx11 t).1] <;> omega
  | ⟨1, _⟩ => show n.val = win0_11.index t 1 * 3072 + 1 * n.val; rw [(idx11 t).2] <;> omega

/-- What window 12's array holds after a run, at one index: the grid point whose block holds it left it there. -/
theorem arr12 (r : Fin 512) (n : Fin 128) : ((dats m 0 c).arrAt 12 cfg0.N : Vec Ideal S16384x128 .f32) (ix2 (row t r) n) = ((outsAt0 m c t.val t.isLt).2.2.1 : Vec Ideal S512x128 .f32) (ix2 r n) := by
  have h := congrFun ((Value.blocks12 m c t (flush0_12 t)).trans (Value.flushed12 m c t)) (ix2 r n : S512x128.Idx)
  rw [View.read_apply] at h
  refine Eq.trans ?_ (h.trans rfl)
  show (dats m 0 c).arrAt 12 cfg0.N _ = (dats m 0 c).arrAt 12 cfg0.N _
  congr 1
  funext ax
  apply Fin.ext
  match ax with
  | ⟨0, _⟩ => show t.val * 512 + r.val = win0_12.index t 0 * 512 + 1 * r.val; rw [(idx12 t).1] <;> omega
  | ⟨1, _⟩ => show n.val = win0_12.index t 1 * 128 + 1 * n.val; rw [(idx12 t).2] <;> omega

/-- A sequence's last grid point. -/
def last (b : Fin 8) : Fin cfg0.N := ⟨4 * b.val + 3, by show 4 * b.val + 3 < 32; omega⟩

/-- What window 13's array holds after a run, at one index: the last grid point of the sequence left it there. -/
theorem arr13 (s : Fin 3) (b : Fin 8) (n : Fin 3072) : ((dats m 0 c).arrAt 13 cfg0.N : Vec Ideal S3x8x1x3072 .f32) (ix4 s b 0 n) = ((outsAt0 m c (last b).val (last b).isLt).2.2.2.1 : Vec Ideal S3x1x1x3072 .f32) (ix4 s 0 0 n) := by
  have hf : (cfg0.win 13).flush (last b) = true := (flush0_13 (last b)).2 (by show (4 * b.val + 3) % 4 = 3; omega)
  have hb : ((cfg0.win 13).blk (last b)).view.read (Elt Ideal) ((dats m 0 c).arrAt 13 cfg0.N) = (dats m 0 c).flushed 13 (last b) := by
    rw [Value.final13, ← Value.flushed13_eq m c (last b) hf]
  have h := congrFun (hb.trans (Value.flushed13 m c (last b))) (ix4 s 0 0 n : S3x1x1x3072.Idx)
  rw [View.read_apply] at h
  refine Eq.trans ?_ (h.trans rfl)
  show (dats m 0 c).arrAt 13 cfg0.N _ = (dats m 0 c).arrAt 13 cfg0.N _
  congr 1
  funext ax
  apply Fin.ext
  match ax with
  | ⟨0, _⟩ => show s.val = win0_13.index (last b) 0 * 3 + 1 * s.val; rw [(idx13 (last b)).1] <;> omega
  | ⟨1, _⟩ => show b.val = win0_13.index (last b) 1 * 1 + 1 * 0; rw [(idx13 (last b)).2.1]; show b.val = (4 * b.val + 3) / 4 * 1 + 1 * 0; omega
  | ⟨2, _⟩ => show 0 = win0_13.index (last b) 2 * 1 + 1 * 0; rw [(idx13 (last b)).2.2.1]
  | ⟨3, _⟩ => show n.val = win0_13.index (last b) 3 * 3072 + 1 * n.val; rw [(idx13 (last b)).2.2.2] <;> omega

end Cert.Kernel7Ideal.ProjRead

end
-- ==== Proof.ProjSRef.lean ====
/-
  What the reference for the recurrent layer's input projection computes for the prompt, at an index, as the row functions
  of its arguments.
-/
module

public import proofs.«01_k».proof.Proof.Gen.Reference7Ideal.Read
public import proofs.«01_k».proof.Proof.ProjSpec
public import Idealize.ShloMosaic.Lib.Tactic
public import Idealize.ShloMosaic.Lib.KernelVsHost

@[expose] public section

set_option maxRecDepth 16384

noncomputable section

open Idealize.ShloMosaic

namespace Cert.Reference7Ideal.ProjRef

open Cert.Reference7Ideal Cert.Reference7Ideal.Gen Cert.Reference7Ideal.Read Cert.PostSpec Cert.ProjSpec

variable (x0 : Vec Ideal S8x2048x1024 .f32) (x1 x2 : Vec Ideal S8x1x1024 .f32) (x3 : Vec Ideal S2x1024 .f32) (x4 : Vec Ideal S1x1024x5152 .f32) (x5 : Vec Ideal S1x4x3072 .f32)
  (x6 : Vec Ideal S1x3072 .f32) (x7 : Vec Ideal S1x32 .f32) (b : Fin 8) (s : Fin 2048)

/-- The modulated norm of a row, as the arguments give it. -/
abbrev hrow (k : Fin 1024) : EReal := modul (fun k => x0 (ix3 b s k)) (fun k => x3 (ix2 1 k)) (fun k => x1 (ix3 b 0 k)) (fun k => x2 (ix3 b 0 k)) k
/-- A column of the projected row. -/
abbrev urow (j : Fin 5152) : EReal := ∑ k, hrow x0 x1 x2 x3 b s k * x4 (ix3 0 k j)

theorem h_at (k : Fin 1024) : val_main_v20 x0 x1 x2 x3 (ix3 b s k) = hrow x0 x1 x2 x3 b s k := by
  pointwise [val_main_v20, val_main_v19, val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_cst_2]
  rfl

theorem u_at (j : Fin 5152) : val_main_v22 x0 x1 x2 x3 x4 (ix3 b s j) = urow x0 x1 x2 x3 x4 b s j := by
  have h := h_at x0 x1 x2 x3 b s
  unfold val_main_v22
  generalize val_main_v20 x0 x1 x2 x3 = u at *
  pointwise [val_main_v21]
  simp only [h]

/-- The reference's gate columns. -/
theorem z_at (i : Fin 16384) (j : Fin 2048) : val_main_v70 x0 x1 x2 x3 x4 (ix2 i j) = urow x0 x1 x2 x3 x4 ⟨i.val / 2048, by omega⟩ ⟨i.val % 2048, by omega⟩ ⟨j.val, by omega⟩ := by
  have h := u_at x0 x1 x2 x3 x4 ⟨i.val / 2048, by omega⟩ ⟨i.val % 2048, by omega⟩
  unfold val_main_v70 val_main_v23
  generalize val_main_v22 x0 x1 x2 x3 x4 = u at *
  pointwise []
  exact h _

/-- A sequence's rows after the three rows of zeros that it starts with. -/
def cat (s : Fin 2051) (j : Fin 3072) : EReal := if h : s.val < 3 then 0 else urow x0 x1 x2 x3 x4 b ⟨s.val - 3, by omega⟩ ⟨2048 + j.val, by omega⟩

theorem cat_at (s : Fin 2051) (j : Fin 3072) : val_main_v29 x0 x1 x2 x3 x4 (ix3 b s j) = cat x0 x1 x2 x3 x4 b s j := by
  have h := fun s => u_at x0 x1 x2 x3 x4 b s
  unfold val_main_v29 val_main_v24
  generalize val_main_v22 x0 x1 x2 x3 x4 = u at *
  pointwise [val_main_v26, val_main_cst_3]
  unfold cat
  split_ifs with hs h1
  · rfl
  · exact h ⟨s.val - 3, by omega⟩ ⟨2048 + j.val, by omega⟩
  · exact absurd rfl h1

theorem cs_at (s : Fin 3) (j : Fin 3072) : val_main_v74 x0 x1 x2 x3 x4 (ix4 s b 0 j) = cat x0 x1 x2 x3 x4 b ⟨2048 + s.val, by omega⟩ j := by
  have h := cat_at x0 x1 x2 x3 x4 b
  unfold val_main_v74 val_main_v73 val_main_v63
  generalize val_main_v29 x0 x1 x2 x3 x4 = u at *
  pointwise []
  exact h _ _

set_option maxHeartbeats 4000000 in
theorem xc_at (i : Fin 16384) (j : Fin 3072) : val_main_v71 x0 x1 x2 x3 x4 x5 x6 (ix2 i j) =
    silu (conv (cat x0 x1 x2 x3 x4 ⟨i.val / 2048, by omega⟩ ⟨0 + i.val % 2048, by omega⟩ j) (cat x0 x1 x2 x3 x4 ⟨i.val / 2048, by omega⟩ ⟨1 + i.val % 2048, by omega⟩ j)
      (cat x0 x1 x2 x3 x4 ⟨i.val / 2048, by omega⟩ ⟨2 + i.val % 2048, by omega⟩ j) (cat x0 x1 x2 x3 x4 ⟨i.val / 2048, by omega⟩ ⟨3 + i.val % 2048, by omega⟩ j)
      (x5 (ix3 0 0 j)) (x5 (ix3 0 1 j)) (x5 (ix3 0 2 j)) (x5 (ix3 0 3 j)) (x6 (ix2 0 j))) := by
  have h := cat_at x0 x1 x2 x3 x4 ⟨i.val / 2048, by omega⟩
  rw [← h, ← h, ← h, ← h, ← conv_eq]
  clear h
  unfold val_main_v71 val_main_v62 val_main_call0_v5 val_main_call0_v3 val_main_call0_v1 val_main_call0_v0 val_main_v61 val_main_v58 val_main_v57 val_main_v52 val_main_v51 val_main_v50 val_main_v45 val_main_v44 val_main_v43 val_main_v38 val_main_v37 val_main_v35 val_main_v30
  generalize val_main_v29 x0 x1 x2 x3 x4 = u at *
  pointwise [val_main_v31, val_main_v32, val_main_v33, val_main_v34, val_main_cst_4, val_main_v36, val_main_v39, val_main_v40, val_main_v41, val_main_v42, val_main_v46, val_main_v47, val_main_v48, val_main_v49, val_main_v53, val_main_v54, val_main_v55, val_main_v56, val_main_v59, val_main_v60, val_main_call0_cst, val_main_call0_v2, val_main_call0_cst_0, val_main_call0_v4, val_main_v27, val_main_v28]
  rfl

theorem pad_at (j : Fin 128) : val_main_v68 x0 x1 x2 x3 x4 x7 (ix3 b s j) =
    if h : j.val < 32 then urow x0 x1 x2 x3 x4 b s ⟨5120 + j.val, by omega⟩ + x7 (ix2 0 ⟨j.val, h⟩) else 0 := by
  have h := u_at x0 x1 x2 x3 x4 b s
  unfold val_main_v68 val_main_v67 val_main_v25
  generalize val_main_v22 x0 x1 x2 x3 x4 = u at *
  pointwise [val_main_call1_v0, val_main_c, val_main_v66, val_main_v65, val_main_v64]
  split_ifs with hj
  · exact congrArg (· + _) (h ⟨5120 + j.val, by omega⟩)
  · exact Idealize.ShloMosaic.sitofp_zero (φ := .f32)

theorem dt_at (i : Fin 16384) (j : Fin 128) : val_main_v72 x0 x1 x2 x3 x4 x7 (ix2 i j) =
    softplus (if h : j.val < 32 then urow x0 x1 x2 x3 x4 ⟨i.val / 2048, by omega⟩ ⟨i.val % 2048, by omega⟩ ⟨5120 + j.val, by omega⟩ + x7 (ix2 0 ⟨j.val, h⟩) else 0) := by
  rw [← pad_at]
  unfold val_main_v72 val_main_v69 val_main_call2_v11 val_main_call2_v10 val_main_call2_v9 val_main_call2_v8 val_main_call2_v7 val_main_call2_v6 val_main_call2_v4
    val_main_call2_v3 val_main_call2_v1
  generalize val_main_v68 x0 x1 x2 x3 x4 x7 = u at *
  pointwise [val_main_call2_v5, val_main_call2_v2, val_main_call2_v0, val_main_call2_cst]
  unfold softplus
  simp

end Cert.Reference7Ideal.ProjRef

end
-- ==== Proof.ProjSEq.lean ====
/-
  What the recurrent layer's input projection leaves for the prompt is what its reference computes.
-/
module

public import proofs.«01_k».proof.Proof.ProjSRead
public import proofs.«01_k».proof.Proof.ProjSRef

@[expose] public section

set_option maxRecDepth 16384

noncomputable section

open Idealize.ShloMosaic Idealize.ShloMosaic.TcCoe Idealize.SL.Sem

namespace Cert.ProjSEq

open Cert.Kernel7Ideal Cert.Kernel7Ideal.Gen Cert.Kernel7Ideal.ProjRead Cert.Kernel7Ideal.Rows Cert.ProjSpec

variable (m : (ℓ : Loc nD τ sig) → Buf (Elt Ideal) ℓ) (c : Dev nD) (t : Fin cfg0.N)

/-- The reference's projected rows, and its rows after the zeros, of the arguments. -/
abbrev U (b : Fin 8) (s : Fin 2048) (j : Fin 5152) : EReal := Cert.Reference7Ideal.ProjRef.urow (m ((c : Thread nD τ).loc main_arg0)) (m ((c : Thread nD τ).loc main_arg1)) (m ((c : Thread nD τ).loc main_arg2)) (m ((c : Thread nD τ).loc main_arg3)) (m ((c : Thread nD τ).loc main_arg4)) b s j
abbrev C (b : Fin 8) (s : Fin 2051) (j : Fin 3072) : EReal := Cert.Reference7Ideal.ProjRef.cat (m ((c : Thread nD τ).loc main_arg0)) (m ((c : Thread nD τ).loc main_arg1)) (m ((c : Thread nD τ).loc main_arg2)) (m ((c : Thread nD τ).loc main_arg3)) (m ((c : Thread nD τ).loc main_arg4)) b s j

/-- A row of the flattened batch is one of a grid point's. -/
theorem row_at (i : Fin 16384) : ∃ (t : Fin cfg0.N) (r : Fin 512), i = row t r :=
  ⟨⟨i.val / 512, by show i.val / 512 < 32; omega⟩, ⟨i.val % 512, by omega⟩, Fin.ext (by show i.val = i.val / 512 * 512 + i.val % 512; omega)⟩

theorem row_lt (r : Fin 512) : (row t r).val % 2048 = (pos t r).val := congrArg Fin.val (row_mod t r)

/-- A grid point's projected rows are the reference's. -/
theorem urow_eq (r : Fin 512) (n : Fin 3072) : Cert.Kernel7Ideal.Point.urow m c t r n = U m c (bat t) (pos t r) ⟨2048 + n.val, by omega⟩ := by
  unfold Cert.Kernel7Ideal.Point.urow
  simp only [Cert.Kernel7Ideal.Point.norm_at, Cert.Kernel7Ideal.Point.hrow, Cert.Reference7Ideal.ProjRef.urow, Cert.Reference7Ideal.ProjRef.hrow, in0, in1, in2, in3, in5]

/-- The rows across a grid point's start are the reference's, three rows of zeros before the first. -/
theorem seam_eq (j : ℕ) (hj : j < 3) (r : Fin 512) (n : Fin 3072) :
    seam (Cert.Kernel7Ideal.Point.prev m c t) (Cert.Kernel7Ideal.Point.urow m c t) (5 + j) (by omega) r n = C m c (bat t) ⟨j + (pos t r).val, by omega⟩ n := by
  have hp : (pos t r).val = t.val % 4 * 512 + r.val := rfl
  unfold seam C Cert.Reference7Ideal.ProjRef.cat
  by_cases h : 5 + j + r.val < 8
  · rw [dif_pos h]
    unfold Cert.Kernel7Ideal.Point.prev
    by_cases h0 : t.val % 4 = 0
    · rw [dif_pos h0, dif_pos (by show j + (pos t r).val < 3; omega)]
    · rw [dif_neg h0, dif_neg (by show ¬ j + (pos t r).val < 3; omega), urow_eq]
      congr 1
      · exact Fin.ext (by show (t.val - 1) / 4 = t.val / 4; omega)
      · exact Fin.ext (by show (t.val - 1) % 4 * 512 + (504 + (5 + j + r.val)) = j + (pos t r).val - 3; omega)
  · rw [dif_neg h, dif_neg (by show ¬ j + (pos t r).val < 3; omega), urow_eq]
    congr 1
    exact Fin.ext (by show t.val % 4 * 512 + (5 + j + r.val - 8) = j + (pos t r).val - 3; omega)

/-- A grid point's convolved channel is the reference's. -/
theorem xcongr (r : Fin 512) (j : Fin 3072) : Cert.Kernel7Ideal.Point.xcrow m c t r j =
    silu (conv (C m c (bat t) ⟨0 + (pos t r).val, by omega⟩ j) (C m c (bat t) ⟨1 + (pos t r).val, by omega⟩ j) (C m c (bat t) ⟨2 + (pos t r).val, by omega⟩ j) (C m c (bat t) ⟨3 + (pos t r).val, by omega⟩ j)
      (m ((c : Thread nD τ).loc main_arg5) (ix3 0 0 j)) (m ((c : Thread nD τ).loc main_arg5) (ix3 0 1 j)) (m ((c : Thread nD τ).loc main_arg5) (ix3 0 2 j)) (m ((c : Thread nD τ).loc main_arg5) (ix3 0 3 j)) (m ((c : Thread nD τ).loc main_arg6) (ix2 0 j))) := by
  refine silu_conv_congr (seam_eq m c t 0 (by omega) r j) (seam_eq m c t 1 (by omega) r j) (seam_eq m c t 2 (by omega) r j) ?_ (in8 m c t 0 j) (in8 m c t 1 j) (in8 m c t 2 j) (in8 m c t 3 j) (in9 m c t j)
  rw [urow_eq]
  unfold C Cert.Reference7Ideal.ProjRef.cat
  rw [dif_neg (by show ¬ 3 + (pos t r).val < 3; omega)]
  congr 1
  exact Fin.ext (by show (pos t r).val = 3 + (pos t r).val - 3; omega)

/-- The gate columns. -/
theorem eq10 : (dats m 0 c).arrAt 10 cfg0.N = Cert.Reference7Ideal.Read.val_main_v70 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨i, j, rfl⟩ : ∃ (r : Fin 16384) (j : Fin 2048), i = ix2 r j := ⟨i 0, i 1, by funext a; fin_cases a <;> rfl⟩
  obtain ⟨t, r, rfl⟩ := row_at i
  refine (arr10 m c t r j).trans ?_
  rw [Cert.Kernel7Ideal.Point.z_at, Cert.Reference7Ideal.ProjRef.z_at, row_div, row_mod]
  simp only [Cert.Kernel7Ideal.Point.hrow, Cert.Reference7Ideal.ProjRef.urow, Cert.Reference7Ideal.ProjRef.hrow, in0, in1, in2, in3, in4]

/-- The convolved channels. -/
theorem eq11 : (dats m 0 c).arrAt 11 cfg0.N = Cert.Reference7Ideal.Read.val_main_v71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨i, j, rfl⟩ : ∃ (r : Fin 16384) (j : Fin 3072), i = ix2 r j := ⟨i 0, i 1, by funext a; fin_cases a <;> rfl⟩
  obtain ⟨t, r, rfl⟩ := row_at i
  refine (arr11 m c t r j).trans (Eq.trans ?_ (Cert.Reference7Ideal.ProjRef.xc_at _ _ _ _ _ _ _ (row t r) j).symm)
  have e (k : ℕ) (hk : k < 4) : (⟨k + (row t r).val % 2048, by omega⟩ : Fin 2051) = ⟨k + (pos t r).val, by omega⟩ := Fin.ext (congrArg (k + ·) (row_lt t r))
  rw [row_div, e 0 (by omega), e 1 (by omega), e 2 (by omega), e 3 (by omega)]
  by_cases h : t.val % 4 = 0
  · refine (Cert.Kernel7Ideal.Point.xcA m c t h r j).trans ?_
    exact xcongr m c t r j
  · refine (Cert.Kernel7Ideal.Point.xcB m c t h r j).trans ?_
    exact xcongr m c t r j

/-- The step sizes; the lanes beyond the heads hold the step size of a zero. -/
theorem eq12 : (dats m 0 c).arrAt 12 cfg0.N = Cert.Reference7Ideal.Read.val_main_v72 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  funext i
  obtain ⟨i, j, rfl⟩ : ∃ (r : Fin 16384) (j : Fin 128), i = ix2 r j := ⟨i 0, i 1, by funext a; fin_cases a <;> rfl⟩
  obtain ⟨t, r, rfl⟩ := row_at i
  refine (arr12 m c t r j).trans ?_
  rw [Cert.Kernel7Ideal.Point.dt_at, Cert.Reference7Ideal.ProjRef.dt_at, row_div, row_mod]
  simp only [Cert.Kernel7Ideal.Point.hrow, Cert.Reference7Ideal.ProjRef.urow, Cert.Reference7Ideal.ProjRef.hrow, in0, in1, in2, in3, in6, in7]
  congr 1
  split_ifs with h
  · rfl
  · simp only [mul_zero, Finset.sum_const_zero, add_zero]

/-- The rows that a sequence's state keeps. -/
theorem eq13 : (dats m 0 c).arrAt 13 cfg0.N = Cert.Reference7Ideal.Read.val_main_v74 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨s, b, j, rfl⟩ : ∃ (s : Fin 3) (b : Fin 8) (j : Fin 3072), i = ix4 s b 0 j := ⟨i 0, i 1, i 3, by
    have h2 : i 2 = (0 : Fin 1) := Subsingleton.elim (α := Fin 1) (i 2) 0
    funext a
    fin_cases a
    · rfl
    · rfl
    · exact h2
    · rfl⟩
  refine (arr13 m c s b j).trans ?_
  rw [Cert.Kernel7Ideal.Point.cs_at, Cert.Reference7Ideal.ProjRef.cs_at, urow_eq]
  unfold Cert.Reference7Ideal.ProjRef.cat
  rw [dif_neg (by show ¬ 2048 + s.val < 3; omega)]
  congr 1
  · exact Fin.ext (by show (4 * b.val + 3) / 4 = b.val; omega)
  · exact Fin.ext (by show (4 * b.val + 3) % 4 * 512 + (509 + s.val) = 2048 + s.val - 3; omega)

end Cert.ProjSEq

end
-- ==== Proof.PostCBlock.lean ====
/-
  What one block of the recurrent layer's second half on the sampled tokens computes, at an index, as the row functions of the blocks that
  its steps read.
-/
module

public import proofs.«01_k».proof.Proof.Gen.Kernel8Ideal.Skeleton
public import proofs.«01_k».proof.Proof.PostSpec

@[expose] public section

set_option maxRecDepth 16384

noncomputable section

open Idealize.ShloMosaic

namespace Cert.Kernel8Ideal.Block

open Cert.Kernel8Ideal Cert.Kernel8Ideal.Gen Cert.PostSpec

theorem pay2_at (v0 v2 : Vec Ideal S32x2048 .f32) (r : Fin 32) (n : Fin 2048) :
    k0_pay2 (F := Ideal) v0 v2 (ix2 r n) = gated (fun n => v0 (ix2 r n)) (fun n => v2 (ix2 r n)) n := by
  pointwise [k0_pay2]
  rfl

theorem pay3_at (v0 v2 : Vec Ideal S32x2048 .f32) (r : Fin 32) (k : Fin 512) :
    k0_pay3 (F := Ideal) v0 v2 (ix2 r k) = gnorm (fun n => v0 (ix2 r n)) (fun n => v2 (ix2 r n)) ⟨k, by omega⟩ := by
  rw [gnorm_at _ _ 0 rfl (fun k => ⟨k, by omega⟩) (fun k => (Nat.zero_add _).symm)]
  simp only [← pay2_at]
  unfold k0_pay3
  generalize k0_pay2 v0 v2 = u
  pointwise []
  rfl
theorem pay4_at (v0 v2 : Vec Ideal S32x2048 .f32) (r : Fin 32) (k : Fin 512) :
    k0_pay4 (F := Ideal) v0 v2 (ix2 r k) = gnorm (fun n => v0 (ix2 r n)) (fun n => v2 (ix2 r n)) ⟨512 + k, by omega⟩ := by
  rw [gnorm_at _ _ 512 rfl (fun k => ⟨512 + k, by omega⟩) (fun k => rfl)]
  simp only [← pay2_at]
  unfold k0_pay4
  generalize k0_pay2 v0 v2 = u
  pointwise []
  rfl
theorem pay5_at (v0 v2 : Vec Ideal S32x2048 .f32) (r : Fin 32) (k : Fin 512) :
    k0_pay5 (F := Ideal) v0 v2 (ix2 r k) = gnorm (fun n => v0 (ix2 r n)) (fun n => v2 (ix2 r n)) ⟨1024 + k, by omega⟩ := by
  rw [gnorm_at _ _ 1024 rfl (fun k => ⟨1024 + k, by omega⟩) (fun k => rfl)]
  simp only [← pay2_at]
  unfold k0_pay5
  generalize k0_pay2 v0 v2 = u
  pointwise []
  rfl
/-- The last group, normalised in the next part of the body from its channels and the sum of their squares. -/
theorem pay67_at (v0 v2 : Vec Ideal S32x2048 .f32) (r : Fin 32) (k : Fin 512) :
    k0_pay6 (F := Ideal) v0 v2 (ix2 r k) * Ideal.rsqrt (Ideal.div (k0_pay7 (F := Ideal) v0 v2 (ix2 r 0)) group + eps) =
      gnorm (fun n => v0 (ix2 r n)) (fun n => v2 (ix2 r n)) ⟨1536 + k, by omega⟩ := by
  rw [gnorm_at _ _ 1536 rfl (fun k => ⟨1536 + k, by omega⟩) (fun k => rfl)]
  simp only [← pay2_at]
  unfold k0_pay7 k0_pay6
  generalize k0_pay2 v0 v2 = u
  pointwise []

theorem pay8_at (v17 v28 v39 v40 : FVec Ideal S32x512 .f32) (v43 : FVec Ideal S32x1 .f32) (v52 : Vec Ideal S1x2048 .f32)
    (v57 : Vec Ideal S2048x1024 .bf16) (v60 : Vec Ideal S32x1024 .f32) (v62 : Vec Ideal S1x32x1024 .f32)
    (v64 : Vec Ideal S1x1024 .f32) (r : Fin 32) (j : Fin 1024) :
    k0_pay8 (F := Ideal) v17 v28 v39 v40 v43 (Scalar.ofBits .f32 0x44000000#32) v52 v57 v60 v62 v64 (ix2 r j) =
      resid (fun k => v60 (ix2 r k)) (fun j => ∑ n, pick (fun k => v17 (ix2 r k)) (fun k => v28 (ix2 r k)) (fun k => v39 (ix2 r k))
        (fun k => v40 (ix2 r k) * Ideal.rsqrt (Ideal.div (v43 (ix2 r 0)) group + eps)) n * v52 (ix2 0 n) * v57 (ix2 n j))
        (fun k => v64 (ix2 0 k)) (fun k => v62 (ix3 0 r k)) j := by
  pointwise [k0_pay8]
  rfl

theorem pay10_at (v17 v28 v39 v40 : FVec Ideal S32x512 .f32) (v43 : FVec Ideal S32x1 .f32) (q : Ideal .f32) (v52 : Vec Ideal S1x2048 .f32)
    (v57 : Vec Ideal S2048x1024 .bf16) (v60 : Vec Ideal S32x1024 .f32) (v62 : Vec Ideal S1x32x1024 .f32)
    (v64 : Vec Ideal S1x1024 .f32) (r : Fin 32) :
    k0_pay10 (F := Ideal) v17 v28 v39 v40 v43 q v52 v57 v60 v62 v64 (ix2 r 0) = ∑ k : Fin 1024,
      k0_pay8 (F := Ideal) v17 v28 v39 v40 v43 q v52 v57 v60 v62 v64 (ix2 r k) * k0_pay8 (F := Ideal) v17 v28 v39 v40 v43 q v52 v57 v60 v62 v64 (ix2 r k) := by
  unfold k0_pay10
  generalize k0_pay8 v17 v28 v39 v40 v43 q v52 v57 v60 v62 v64 = u
  pointwise []

theorem pay9_at (v34 : Vec Ideal S1x1024 .f32) (j : Fin 1024) : k0_pay9 (F := Ideal) v34 (ix2 0 j) = v34 (ix2 0 j) := by
  pointwise [k0_pay9]

theorem pay11_at (v33 : FVec Ideal S32x1024 .f32) (v35 : FVec Ideal S1x1024 .f32) (v36 : FVec Ideal S32x1 .f32)
    (v48 v54 : Vec Ideal S1x32x1024 .f32) (r : Fin 32) (hs : v36 (ix2 r 0) = ∑ k : Fin 1024, v33 (ix2 r k) * v33 (ix2 r k)) (j : Fin 1024) :
    k0_pay11 (F := Ideal) v33 v35 v36 v48 v54 (ix2 r j) = modul (fun k => v33 (ix2 r k)) (fun k => v35 (ix2 0 k))
      (fun k => v48 (ix3 0 r k)) (fun k => v54 (ix3 0 r k)) j := by
  pointwise [k0_pay11]
  rw [hs]
  rfl

/-- The first part of the hidden width: the sum over its columns. -/
theorem pay12_at (v33 : FVec Ideal S32x1024 .f32) (v35 : FVec Ideal S1x1024 .f32) (v36 : FVec Ideal S32x1 .f32)
    (v48 v54 : Vec Ideal S1x32x1024 .f32) (v59 v62 : Vec Ideal S1024x1536 .bf16) (v69 : Vec Ideal S1536x1024 .bf16)
    (r : Fin 32) (j : Fin 1024) :
    k0_pay12 (F := Ideal) v33 v35 v36 v48 v54 v59 v62 v69 (ix2 r j) = ∑ k : Fin 1536,
      glu (∑ n : Fin 1024, k0_pay11 (F := Ideal) v33 v35 v36 v48 v54 (ix2 r n) * v59 (ix2 n k))
        (∑ n : Fin 1024, k0_pay11 (F := Ideal) v33 v35 v36 v48 v54 (ix2 r n) * v62 (ix2 n k)) * v69 (ix2 k j) := by
  unfold k0_pay12
  generalize k0_pay11 (F := Ideal) v33 v35 v36 v48 v54 = h
  pointwise []
  rfl

theorem pay13_at (v33 : FVec Ideal S32x1024 .f32) (v35 : FVec Ideal S1x1024 .f32) (v36 : FVec Ideal S32x1 .f32)
    (v48 v54 : Vec Ideal S1x32x1024 .f32) (v72 : Vec Ideal S1024x1280 .bf16) (r : Fin 32) (k : Fin 1280) :
    k0_pay13 (F := Ideal) v33 v35 v36 v48 v54 v72 (ix2 r k) =
      ∑ n : Fin 1024, k0_pay11 (F := Ideal) v33 v35 v36 v48 v54 (ix2 r n) * v72 (ix2 n k) := by
  unfold k0_pay13
  generalize k0_pay11 (F := Ideal) v33 v35 v36 v48 v54 = h
  pointwise []

theorem pay14_at (v : Vec Ideal S1024x1280 .bf16) : k0_pay14 (F := Ideal) v = v := by
  funext i
  obtain ⟨n, k, rfl⟩ : ∃ (n : Fin 1024) (k : Fin 1280), i = ix2 n k := ⟨i 0, i 1, by funext a; fin_cases a <;> rfl⟩
  pointwise [k0_pay14]

theorem pay1_at (v33 : FVec Ideal S32x1024 .f32) (v58 : FVec Ideal S32x1024 .bf16) (v71 : FVec Ideal S32x1024 .f32)
    (v74 : FVec Ideal S32x1280 .f32) (v75 : FVec Ideal S1024x1280 .bf16) (v82 : Vec Ideal S1280x1024 .bf16)
    (v86 : Vec Ideal S1x32x1024 .f32) (v88 : Vec Ideal S1x1024 .f32) (r : Fin 32) (j : Fin 1024) :
    k0_pay1 (F := Ideal) v33 v58 v71 v74 v75 (constant S32x1280 .f32 0x00000000#32) v82 v86 v88 (ix2 r j) = resid (fun k => v33 (ix2 r k))
      (fun k => v71 (ix2 r k) + ∑ m : Fin 1280, glu (v74 (ix2 r m)) (∑ n : Fin 1024, v58 (ix2 r n) * v75 (ix2 n m)) * v82 (ix2 m k))
      (fun k => v88 (ix2 0 k)) (fun k => v86 (ix3 0 r k)) j := by
  pointwise [k0_pay1]
  rfl

end Cert.Kernel8Ideal.Block
-- ==== Proof.PostCOut.lean ====
/-
  What one grid point of the recurrent layer's second half on the sampled tokens leaves in its block of the result, at an index: the row
  function of the blocks it reads, its two parts of the hidden width put together.
-/
module

public import proofs.«01_k».proof.Proof.PostCBlock
public import proofs.«01_k».proof.Proof.Gen.Kernel8Ideal.Value
public import Idealize.ShloMosaic.Lib.Pipeline.Value

@[expose] public section

set_option maxRecDepth 16384

noncomputable section

open Idealize.ShloMosaic

namespace Cert.Kernel8Ideal.Out

open Cert.Kernel8Ideal Cert.Kernel8Ideal.Gen Cert.Kernel8Ideal.Block Cert.PostSpec

theorem hz3 : (![0, 0, 0] : Fin 3 → Nat) = fun _ => 0 := funext fun a => by fin_cases a <;> rfl
theorem hz2 : (![0, 0] : Fin 2 → Nat) = fun _ => 0 := funext fun a => by fin_cases a <;> rfl

theorem ld6 (x : Vec Ideal S1024x5632 .bf16) (n : Fin 1024) (k : Fin 1536) : (View.ld x r0_6 : Vec Ideal S1024x1536 .bf16) (ix2 n k) = x (ix2 n (lo ⟨k, by omega⟩)) := by
  show x _ = x _
  congr 1; funext ax; apply Fin.ext
  match ax with
  | ⟨0, _⟩ => show 0 + 1 * n.val = n.val; omega
  | ⟨1, _⟩ => show 0 + 1 * k.val = k.val; omega
theorem ld7 (x : Vec Ideal S1024x5632 .bf16) (n : Fin 1024) (k : Fin 1536) : (View.ld x r0_7 : Vec Ideal S1024x1536 .bf16) (ix2 n k) = x (ix2 n (hi ⟨k, by omega⟩)) := by
  show x _ = x _
  congr 1; funext ax; apply Fin.ext
  match ax with
  | ⟨0, _⟩ => show 0 + 1 * n.val = n.val; omega
  | ⟨1, _⟩ => show 2816 + 1 * k.val = 2816 + k.val; omega
theorem ld8 (x : Vec Ideal S2816x1024 .bf16) (n : Fin 1536) (k : Fin 1024) : (View.ld x r0_8 : Vec Ideal S1536x1024 .bf16) (ix2 n k) = x (ix2 ⟨n, by omega⟩ k) := by
  show x _ = x _
  congr 1; funext ax; apply Fin.ext
  match ax with
  | ⟨0, _⟩ => show 0 + 1 * n.val = n.val; omega
  | ⟨1, _⟩ => show 0 + 1 * k.val = k.val; omega
theorem ld9 (x : Vec Ideal S1024x5632 .bf16) (n : Fin 1024) (k : Fin 1280) : (View.ld x r0_9 : Vec Ideal S1024x1280 .bf16) (ix2 n k) = x (ix2 n (lo ⟨1536 + k, by omega⟩)) := by
  show x _ = x _
  congr 1; funext ax; apply Fin.ext
  match ax with
  | ⟨0, _⟩ => show 0 + 1 * n.val = n.val; omega
  | ⟨1, _⟩ => show 1536 + 1 * k.val = 1536 + k.val; omega
theorem ld10 (x : Vec Ideal S1024x5632 .bf16) (n : Fin 1024) (k : Fin 1280) : (View.ld x r0_10 : Vec Ideal S1024x1280 .bf16) (ix2 n k) = x (ix2 n (hi ⟨1536 + k, by omega⟩)) := by
  show x _ = x _
  congr 1; funext ax; apply Fin.ext
  match ax with
  | ⟨0, _⟩ => show 0 + 1 * n.val = n.val; omega
  | ⟨1, _⟩ => show 4352 + 1 * k.val = 2816 + (1536 + k.val); omega
theorem ld11 (x : Vec Ideal S2816x1024 .bf16) (n : Fin 1280) (k : Fin 1024) : (View.ld x r0_11 : Vec Ideal S1280x1024 .bf16) (ix2 n k) = x (ix2 ⟨1536 + n, by omega⟩ k) := by
  show x _ = x _
  congr 1; funext ax; apply Fin.ext
  match ax with
  | ⟨0, _⟩ => show 1536 + 1 * n.val = 1536 + n.val; omega
  | ⟨1, _⟩ => show 0 + 1 * k.val = k.val; omega

/-- A grid point's block of the result at an index is the row function of the blocks it reads. -/
theorem out_at (x0 : Vec Ideal S32x1024 .f32) (x1 x2 : Vec Ideal S32x2048 .f32) (x3 : Vec Ideal S1x2048 .f32) (x4 : Vec Ideal S2048x1024 .bf16)
    (x5 : Vec Ideal S1x32x1024 .f32) (x6 x7 : Vec Ideal S1x1024 .f32) (x8 x9 x10 : Vec Ideal S1x32x1024 .f32)
    (x11 : Vec Ideal S1x1024 .f32) (x12 : Vec Ideal S1024x5632 .bf16) (x13 : Vec Ideal S2816x1024 .bf16)
    (r : Fin 32) (j : Fin 1024) :
    out0_14 x0 x1 x2 x3 x4 x5 x6 x7 x8 x9 x10 x11 x12 x13 (ix2 r j) =
      out (fun k => x0 (ix2 r k)) (ssm (fun n => x1 (ix2 r n)) (fun n => x2 (ix2 r n)) (fun n => x3 (ix2 0 n)) fun n k => x4 (ix2 n k))
        (fun k => x5 (ix3 0 r k)) (fun k => x6 (ix2 0 k)) (fun k => x7 (ix2 0 k)) (fun k => x8 (ix3 0 r k))
        (fun k => x9 (ix3 0 r k)) (fun k => x10 (ix3 0 r k)) (fun k => x11 (ix2 0 k)) (fun n k => x12 (ix2 n k))
        (fun n k => x13 (ix2 n k)) j := by
  have e0 : View.ld x0 r0_3 = x0 := View.ld_unit_zero hz2 _ _
  have e1 : View.ld x1 r0_0 = x1 := View.ld_unit_zero hz2 _ _
  have e2 : View.ld x2 r0_0 = x2 := View.ld_unit_zero hz2 _ _
  have e3 : View.ld x3 r0_1 = x3 := View.ld_unit_zero hz2 _ _
  have e4 : View.ld x4 r0_2 = x4 := View.ld_unit_zero hz2 _ _
  have e5 : View.ld x5 r0_4 = x5 := View.ld_unit_zero hz3 _ _
  have e6 : View.ld x6 r0_5 = x6 := View.ld_unit_zero hz2 _ _
  have e7 : View.ld x7 r0_5 = x7 := View.ld_unit_zero hz2 _ _
  have e8 : View.ld x8 r0_4 = x8 := View.ld_unit_zero hz3 _ _
  have e9 : View.ld x9 r0_4 = x9 := View.ld_unit_zero hz3 _ _
  have e10 : View.ld x10 r0_4 = x10 := View.ld_unit_zero hz3 _ _
  have e11 : View.ld x11 r0_5 = x11 := View.ld_unit_zero hz2 _ _
  unfold out0_14
  rw [View.canon_unit_zero hz2, e8, e9, e10, e11, pay14_at]
  have h8 : ∀ k, k0_pay20 x0 x1 x2 x3 x4 x5 x6 x7 x8 x9 x10 x11 x12 x13 (ix2 r k) = resid (fun k => x0 (ix2 r k))
      (ssm (fun n => x1 (ix2 r n)) (fun n => x2 (ix2 r n)) (fun n => x3 (ix2 0 n)) fun n k => x4 (ix2 n k)) (fun k => x6 (ix2 0 k)) (fun k => x5 (ix3 0 r k)) k := by
    intro k
    unfold k0_pay20 k0_pay15 k0_pay16 k0_pay17 k0_pay18 k0_pay19
    rw [e0, e1, e2, e3, e4, e5, e6, pay8_at, pick_eq (gnorm (fun n => x1 (ix2 r n)) (fun n => x2 (ix2 r n))) _ _ _ _
      (pay3_at x1 x2 r) (pay4_at x1 x2 r) (pay5_at x1 x2 r) (pay67_at x1 x2 r)]
    rfl
  have h9 : ∀ k, k0_pay21 x0 x1 x2 x3 x4 x5 x6 x7 x8 x9 x10 x11 x12 x13 (ix2 0 k) = x7 (ix2 0 k) := by
    intro k
    unfold k0_pay21
    rw [e7, pay9_at]
  have h10 : k0_pay22 x0 x1 x2 x3 x4 x5 x6 x7 x8 x9 x10 x11 x12 x13 (ix2 r 0) = ∑ k : Fin 1024,
      k0_pay20 x0 x1 x2 x3 x4 x5 x6 x7 x8 x9 x10 x11 x12 x13 (ix2 r k) * k0_pay20 x0 x1 x2 x3 x4 x5 x6 x7 x8 x9 x10 x11 x12 x13 (ix2 r k) :=
    pay10_at _ _ _ _ _ _ _ _ _ _ _ _
  generalize k0_pay20 x0 x1 x2 x3 x4 x5 x6 x7 x8 x9 x10 x11 x12 x13 = p8 at *
  generalize k0_pay21 x0 x1 x2 x3 x4 x5 x6 x7 x8 x9 x10 x11 x12 x13 = p9 at *
  generalize k0_pay22 x0 x1 x2 x3 x4 x5 x6 x7 x8 x9 x10 x11 x12 x13 = p10 at *
  have h5 : ∀ k, k0_pay11 p8 p9 p10 x8 x9 (ix2 r k) = modul (fun k => p8 (ix2 r k)) (fun k => x7 (ix2 0 k))
      (fun k => x8 (ix3 0 r k)) (fun k => x9 (ix3 0 r k)) k := by
    intro k
    rw [pay11_at _ _ _ _ _ _ h10]
    simp only [h9]
  have l6 := ld6 x12
  have l7 := ld7 x12
  have l8 := ld8 x13
  have l9 := ld9 x12
  have l10 := ld10 x12
  have l11 := ld11 x13
  generalize View.ld x12 r0_6 = y6 at *
  generalize View.ld x12 r0_7 = y7 at *
  generalize View.ld x13 r0_8 = y8 at *
  generalize View.ld x12 r0_9 = y9 at *
  generalize View.ld x12 r0_10 = y10 at *
  generalize View.ld x13 r0_11 = y11 at *
  rw [pay1_at]
  simp only [pay12_at, pay13_at, h5, h8, l6, l7, l8, l9, l10, l11]
  unfold out
  congr 1
  funext k
  unfold ffn
  rw [split]
  rfl

end Cert.Kernel8Ideal.Out
-- ==== Proof.PostCRead.lean ====
/-
  What the arrays hold that the recurrent layer's second half on the sampled tokens works on: what the host's operations leave for the call to
  read, what each grid point's blocks hold of that, and what the result array holds after the run.
-/
module

public import proofs.«01_k».proof.Proof.PostCOut
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel8Ideal.PostRead

open Cert.Kernel8Ideal Cert.Kernel8Ideal.Gen

variable (m : (ℓ : Loc nD τ sig) → Buf (Elt Ideal) ℓ) (c : Dev nD) (t : Fin cfg0.N)

/-! What the host's operations leave, in terms of the arguments. -/

theorem V0 (r : Fin 32) (k : Fin 1024) : V m c main_v0 (ix2 r k) = m ((c : Thread nD τ).loc main_arg0) (ix3 r 0 k) := by
  unfold V
  after_reads_at
theorem V1 (r : Fin 32) (k : Fin 2048) : V m c main_v1 (ix2 r k) = m ((c : Thread nD τ).loc main_arg1) (ix3 r 0 k) := by
  unfold V
  after_reads_at
theorem V2 (r : Fin 32) (k : Fin 2048) : V m c main_v2 (ix2 r k) = m ((c : Thread nD τ).loc main_arg2) (ix3 r 0 k) := by
  unfold V
  after_reads_at
theorem V4 (n : Fin 2048) (k : Fin 1024) : V m c main_v4 (ix2 n k) = m ((c : Thread nD τ).loc main_arg11) (ix3 0 n k) := by
  unfold V
  after_reads_at
theorem V11 (k : Fin 1024) : V m c main_v11 (ix2 0 k) = m ((c : Thread nD τ).loc main_arg7) (ix2 1 k) := by
  unfold V
  after_reads_at
theorem V14 (k : Fin 1024) : V m c main_v14 (ix2 0 k) = m ((c : Thread nD τ).loc main_arg8) (ix2 1 k) := by
  unfold V
  after_reads_at
theorem V17 (k : Fin 1024) : V m c main_v17 (ix2 0 k) = m ((c : Thread nD τ).loc main_arg9) (ix2 1 k) := by
  unfold V
  after_reads_at
theorem V20 (n : Fin 1024) (k : Fin 5632) : V m c main_v20 (ix2 n k) = m ((c : Thread nD τ).loc main_arg12) (ix3 1 n k) := by
  unfold V
  after_reads_at
theorem V23 (n : Fin 2816) (k : Fin 1024) : V m c main_v23 (ix2 n k) = m ((c : Thread nD τ).loc main_arg13) (ix3 1 n k) := by
  unfold V
  after_reads_at
theorem V25 (k : Fin 2048) : V m c main_v25 (ix2 0 k) = m ((c : Thread nD τ).loc main_arg10) (ix2 0 k) := by
  unfold V
  after_reads_at

theorem V5 (r : Fin 32) (k : Fin 1024) : V m c main_v5 (ix3 0 r k) = m ((c : Thread nD τ).loc main_arg3) (ix3 r 0 k) := by
  unfold V
  after_reads_at
theorem V6 (r : Fin 32) (k : Fin 1024) : V m c main_v6 (ix3 0 r k) = m ((c : Thread nD τ).loc main_arg4) (ix3 r 0 k) := by
  unfold V
  after_reads_at
theorem V7 (r : Fin 32) (k : Fin 1024) : V m c main_v7 (ix3 0 r k) = m ((c : Thread nD τ).loc main_arg5) (ix3 r 0 k) := by
  unfold V
  after_reads_at
theorem V8 (r : Fin 32) (k : Fin 1024) : V m c main_v8 (ix3 0 r k) = m ((c : Thread nD τ).loc main_arg6) (ix3 r 0 k) := by
  unfold V
  after_reads_at
/-- Where each window's block starts at a grid point. -/
theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 ∧ win0_5.index t 2 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 ∧ win0_8.index t 2 = 0 := by decide +kernel
theorem idx9 : ∀ t : Fin grid0.N, win0_9.index t 0 = 0 ∧ win0_9.index t 1 = 0 ∧ win0_9.index t 2 = 0 := by decide +kernel
theorem idx10 : ∀ t : Fin grid0.N, win0_10.index t 0 = 0 ∧ win0_10.index t 1 = 0 ∧ win0_10.index t 2 = 0 := by decide +kernel
theorem idx11 : ∀ t : Fin grid0.N, win0_11.index t 0 = 0 ∧ win0_11.index t 1 = 0 := by decide +kernel
theorem idx12 : ∀ t : Fin grid0.N, win0_12.index t 0 = 0 ∧ win0_12.index t 1 = 0 := by decide +kernel
theorem idx13 : ∀ t : Fin grid0.N, win0_13.index t 0 = 0 ∧ win0_13.index t 1 = 0 := by decide +kernel
theorem idx14 : ∀ t : Fin grid0.N, win0_14.index t 0 = 0 ∧ win0_14.index t 1 = 0 := by decide +kernel

/-- What window 0's block holds, in terms of the array it is cut from. -/
theorem blk0 (r : Fin 32) (k : Fin 1024) : (iblk m c 0 t : Vec Ideal S32x1024 .f32) (ix2 r k) = V m c main_v0 (ix2 r k) := by
  unfold iblk
  rw [View.read_apply]
  show V m c main_v0 _ = _
  congr 1
  funext ax
  apply Fin.ext
  match ax with
  | ⟨0, _⟩ => show win0_0.index t 0 * 32 + 1 * r.val = r.val; rw [(idx0 t).1] <;> omega
  | ⟨1, _⟩ => show win0_0.index t 1 * 1024 + 1 * k.val = k.val; rw [(idx0 t).2] <;> omega

/-- What window 1's block holds, in terms of the array it is cut from. -/
theorem blk1 (r : Fin 32) (k : Fin 2048) : (iblk m c 1 t : Vec Ideal S32x2048 .f32) (ix2 r k) = V m c main_v1 (ix2 r k) := by
  unfold iblk
  rw [View.read_apply]
  show V m c main_v1 _ = _
  congr 1
  funext ax
  apply Fin.ext
  match ax with
  | ⟨0, _⟩ => show win0_1.index t 0 * 32 + 1 * r.val = r.val; rw [(idx1 t).1] <;> omega
  | ⟨1, _⟩ => show win0_1.index t 1 * 2048 + 1 * k.val = k.val; rw [(idx1 t).2] <;> omega

/-- What window 2's block holds, in terms of the array it is cut from. -/
theorem blk2 (r : Fin 32) (k : Fin 2048) : (iblk m c 2 t : Vec Ideal S32x2048 .f32) (ix2 r k) = V m c main_v2 (ix2 r k) := by
  unfold iblk
  rw [View.read_apply]
  show V m c main_v2 _ = _
  congr 1
  funext ax
  apply Fin.ext
  match ax with
  | ⟨0, _⟩ => show win0_2.index t 0 * 32 + 1 * r.val = r.val; rw [(idx2 t).1] <;> omega
  | ⟨1, _⟩ => show win0_2.index t 1 * 2048 + 1 * k.val = k.val; rw [(idx2 t).2] <;> omega

/-- What window 3's block holds, in terms of the array it is cut from. -/
theorem blk3 (k : Fin 2048) : (iblk m c 3 t : Vec Ideal S1x2048 .f32) (ix2 0 k) = V m c main_v25 (ix2 0 k) := by
  unfold iblk
  rw [View.read_apply]
  show V m c main_v25 _ = _
  congr 1
  funext ax
  apply Fin.ext
  match ax with
  | ⟨0, _⟩ => show win0_3.index t 0 * 1 + 1 * 0 = 0; rw [(idx3 t).1] <;> omega
  | ⟨1, _⟩ => show win0_3.index t 1 * 2048 + 1 * k.val = k.val; rw [(idx3 t).2] <;> omega

/-- What window 4's block holds, in terms of the array it is cut from. -/
theorem blk4 (n : Fin 2048) (k : Fin 1024) : (iblk m c 4 t : Vec Ideal S2048x1024 .bf16) (ix2 n k) = V m c main_v4 (ix2 n k) := by
  unfold iblk
  rw [View.read_apply]
  show V m c main_v4 _ = _
  congr 1
  funext ax
  apply Fin.ext
  match ax with
  | ⟨0, _⟩ => show win0_4.index t 0 * 2048 + 1 * n.val = n.val; rw [(idx4 t).1] <;> omega
  | ⟨1, _⟩ => show win0_4.index t 1 * 1024 + 1 * k.val = k.val; rw [(idx4 t).2] <;> omega

/-- What window 5's block holds, in terms of the array it is cut from. -/
theorem blk5 (r : Fin 32) (k : Fin 1024) : (iblk m c 5 t : Vec Ideal S1x32x1024 .f32) (ix3 0 r k) = V m c main_v5 (ix3 0 r k) := by
  unfold iblk
  rw [View.read_apply]
  show V m c main_v5 _ = _
  congr 1
  funext ax
  apply Fin.ext
  match ax with
  | ⟨0, _⟩ => show win0_5.index t 0 * 1 + 1 * 0 = 0; rw [(idx5 t).1] <;> omega
  | ⟨1, _⟩ => show win0_5.index t 1 * 32 + 1 * r.val = r.val; rw [(idx5 t).2.1] <;> omega
  | ⟨2, _⟩ => show win0_5.index t 2 * 1024 + 1 * k.val = k.val; rw [(idx5 t).2.2] <;> omega

/-- What window 6's block holds, in terms of the array it is cut from. -/
theorem blk6 (k : Fin 1024) : (iblk m c 6 t : Vec Ideal S1x1024 .f32) (ix2 0 k) = V m c main_v11 (ix2 0 k) := by
  unfold iblk
  rw [View.read_apply]
  show V m c main_v11 _ = _
  congr 1
  funext ax
  apply Fin.ext
  match ax with
  | ⟨0, _⟩ => show win0_6.index t 0 * 1 + 1 * 0 = 0; rw [(idx6 t).1] <;> omega
  | ⟨1, _⟩ => show win0_6.index t 1 * 1024 + 1 * k.val = k.val; rw [(idx6 t).2] <;> omega

/-- What window 7's block holds, in terms of the array it is cut from. -/
theorem blk7 (k : Fin 1024) : (iblk m c 7 t : Vec Ideal S1x1024 .f32) (ix2 0 k) = V m c main_v14 (ix2 0 k) := by
  unfold iblk
  rw [View.read_apply]
  show V m c main_v14 _ = _
  congr 1
  funext ax
  apply Fin.ext
  match ax with
  | ⟨0, _⟩ => show win0_7.index t 0 * 1 + 1 * 0 = 0; rw [(idx7 t).1] <;> omega
  | ⟨1, _⟩ => show win0_7.index t 1 * 1024 + 1 * k.val = k.val; rw [(idx7 t).2] <;> omega

/-- What window 8's block holds, in terms of the array it is cut from. -/
theorem blk8 (r : Fin 32) (k : Fin 1024) : (iblk m c 8 t : Vec Ideal S1x32x1024 .f32) (ix3 0 r k) = V m c main_v6 (ix3 0 r k) := by
  unfold iblk
  rw [View.read_apply]
  show V m c main_v6 _ = _
  congr 1
  funext ax
  apply Fin.ext
  match ax with
  | ⟨0, _⟩ => show win0_8.index t 0 * 1 + 1 * 0 = 0; rw [(idx8 t).1] <;> omega
  | ⟨1, _⟩ => show win0_8.index t 1 * 32 + 1 * r.val = r.val; rw [(idx8 t).2.1] <;> omega
  | ⟨2, _⟩ => show win0_8.index t 2 * 1024 + 1 * k.val = k.val; rw [(idx8 t).2.2] <;> omega

/-- What window 9's block holds, in terms of the array it is cut from. -/
theorem blk9 (r : Fin 32) (k : Fin 1024) : (iblk m c 9 t : Vec Ideal S1x32x1024 .f32) (ix3 0 r k) = V m c main_v7 (ix3 0 r k) := by
  unfold iblk
  rw [View.read_apply]
  show V m c main_v7 _ = _
  congr 1
  funext ax
  apply Fin.ext
  match ax with
  | ⟨0, _⟩ => show win0_9.index t 0 * 1 + 1 * 0 = 0; rw [(idx9 t).1] <;> omega
  | ⟨1, _⟩ => show win0_9.index t 1 * 32 + 1 * r.val = r.val; rw [(idx9 t).2.1] <;> omega
  | ⟨2, _⟩ => show win0_9.index t 2 * 1024 + 1 * k.val = k.val; rw [(idx9 t).2.2] <;> omega

/-- What window 10's block holds, in terms of the array it is cut from. -/
theorem blk10 (r : Fin 32) (k : Fin 1024) : (iblk m c 10 t : Vec Ideal S1x32x1024 .f32) (ix3 0 r k) = V m c main_v8 (ix3 0 r k) := by
  unfold iblk
  rw [View.read_apply]
  show V m c main_v8 _ = _
  congr 1
  funext ax
  apply Fin.ext
  match ax with
  | ⟨0, _⟩ => show win0_10.index t 0 * 1 + 1 * 0 = 0; rw [(idx10 t).1] <;> omega
  | ⟨1, _⟩ => show win0_10.index t 1 * 32 + 1 * r.val = r.val; rw [(idx10 t).2.1] <;> omega
  | ⟨2, _⟩ => show win0_10.index t 2 * 1024 + 1 * k.val = k.val; rw [(idx10 t).2.2] <;> omega

/-- What window 11's block holds, in terms of the array it is cut from. -/
theorem blk11 (k : Fin 1024) : (iblk m c 11 t : Vec Ideal S1x1024 .f32) (ix2 0 k) = V m c main_v17 (ix2 0 k) := by
  unfold iblk
  rw [View.read_apply]
  show V m c main_v17 _ = _
  congr 1
  funext ax
  apply Fin.ext
  match ax with
  | ⟨0, _⟩ => show win0_11.index t 0 * 1 + 1 * 0 = 0; rw [(idx11 t).1] <;> omega
  | ⟨1, _⟩ => show win0_11.index t 1 * 1024 + 1 * k.val = k.val; rw [(idx11 t).2] <;> omega

/-- What window 12's block holds, in terms of the array it is cut from. -/
theorem blk12 (n : Fin 1024) (k : Fin 5632) : (iblk m c 12 t : Vec Ideal S1024x5632 .bf16) (ix2 n k) = V m c main_v20 (ix2 n k) := by
  unfold iblk
  rw [View.read_apply]
  show V m c main_v20 _ = _
  congr 1
  funext ax
  apply Fin.ext
  match ax with
  | ⟨0, _⟩ => show win0_12.index t 0 * 1024 + 1 * n.val = n.val; rw [(idx12 t).1] <;> omega
  | ⟨1, _⟩ => show win0_12.index t 1 * 5632 + 1 * k.val = k.val; rw [(idx12 t).2] <;> omega

/-- What window 13's block holds, in terms of the array it is cut from. -/
theorem blk13 (n : Fin 2816) (k : Fin 1024) : (iblk m c 13 t : Vec Ideal S2816x1024 .bf16) (ix2 n k) = V m c main_v23 (ix2 n k) := by
  unfold iblk
  rw [View.read_apply]
  show V m c main_v23 _ = _
  congr 1
  funext ax
  apply Fin.ext
  match ax with
  | ⟨0, _⟩ => show win0_13.index t 0 * 2816 + 1 * n.val = n.val; rw [(idx13 t).1] <;> omega
  | ⟨1, _⟩ => show win0_13.index t 1 * 1024 + 1 * k.val = k.val; rw [(idx13 t).2] <;> omega

/-- A run's result array, at one index: the grid point whose block holds it left it there. -/
theorem arr14 (r : Fin 32) (k : Fin 1024) : ((dats m 0 c).arrAt 14 cfg0.N : Vec Ideal S32x1024 .f32) (ix2 r k) = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r k) := by
  have h := congrFun ((Value.blocks14 m c t (flush0_14 t)).trans (Value.flushed14 m c t)) (ix2 r k : S32x1024.Idx)
  rw [View.read_apply] at h
  refine Eq.trans ?_ (h.trans rfl)
  show (dats m 0 c).arrAt 14 cfg0.N _ = (dats m 0 c).arrAt 14 cfg0.N _
  congr 1
  funext ax
  apply Fin.ext
  match ax with
  | ⟨0, _⟩ => show r.val = win0_14.index t 0 * 32 + 1 * r.val; rw [(idx14 t).1] <;> omega
  | ⟨1, _⟩ => show k.val = win0_14.index t 1 * 1024 + 1 * k.val; rw [(idx14 t).2] <;> omega

/-! What each window's block holds, in terms of the arguments. -/

theorem in0 (r : Fin 32) (k : Fin 1024) : (iblk m c 0 t : Vec Ideal S32x1024 .f32) (ix2 r k) = m ((c : Thread nD τ).loc main_arg0) (ix3 r 0 k) :=
  (blk0 m c t r k).trans (V0 m c r k)
theorem in1 (r : Fin 32) (k : Fin 2048) : (iblk m c 1 t : Vec Ideal S32x2048 .f32) (ix2 r k) = m ((c : Thread nD τ).loc main_arg1) (ix3 r 0 k) :=
  (blk1 m c t r k).trans (V1 m c r k)
theorem in2 (r : Fin 32) (k : Fin 2048) : (iblk m c 2 t : Vec Ideal S32x2048 .f32) (ix2 r k) = m ((c : Thread nD τ).loc main_arg2) (ix3 r 0 k) :=
  (blk2 m c t r k).trans (V2 m c r k)
theorem in3 (k : Fin 2048) : (iblk m c 3 t : Vec Ideal S1x2048 .f32) (ix2 0 k) = m ((c : Thread nD τ).loc main_arg10) (ix2 0 k) :=
  (blk3 m c t k).trans (V25 m c k)
theorem in4 (n : Fin 2048) (k : Fin 1024) : (iblk m c 4 t : Vec Ideal S2048x1024 .bf16) (ix2 n k) = m ((c : Thread nD τ).loc main_arg11) (ix3 0 n k) :=
  (blk4 m c t n k).trans (V4 m c n k)
theorem in5 (r : Fin 32) (k : Fin 1024) : (iblk m c 5 t : Vec Ideal S1x32x1024 .f32) (ix3 0 r k) = m ((c : Thread nD τ).loc main_arg3) (ix3 r 0 k) := by
  rw [blk5, V5]
theorem in6 (k : Fin 1024) : (iblk m c 6 t : Vec Ideal S1x1024 .f32) (ix2 0 k) = m ((c : Thread nD τ).loc main_arg7) (ix2 1 k) :=
  (blk6 m c t k).trans (V11 m c k)
theorem in7 (k : Fin 1024) : (iblk m c 7 t : Vec Ideal S1x1024 .f32) (ix2 0 k) = m ((c : Thread nD τ).loc main_arg8) (ix2 1 k) :=
  (blk7 m c t k).trans (V14 m c k)
theorem in8 (r : Fin 32) (k : Fin 1024) : (iblk m c 8 t : Vec Ideal S1x32x1024 .f32) (ix3 0 r k) = m ((c : Thread nD τ).loc main_arg4) (ix3 r 0 k) := by
  rw [blk8, V6]
theorem in9 (r : Fin 32) (k : Fin 1024) : (iblk m c 9 t : Vec Ideal S1x32x1024 .f32) (ix3 0 r k) = m ((c : Thread nD τ).loc main_arg5) (ix3 r 0 k) := by
  rw [blk9, V7]
theorem in10 (r : Fin 32) (k : Fin 1024) : (iblk m c 10 t : Vec Ideal S1x32x1024 .f32) (ix3 0 r k) = m ((c : Thread nD τ).loc main_arg6) (ix3 r 0 k) := by
  rw [blk10, V8]
theorem in11 (k : Fin 1024) : (iblk m c 11 t : Vec Ideal S1x1024 .f32) (ix2 0 k) = m ((c : Thread nD τ).loc main_arg9) (ix2 1 k) :=
  (blk11 m c t k).trans (V17 m c k)
theorem in12 (n : Fin 1024) (k : Fin 5632) : (iblk m c 12 t : Vec Ideal S1024x5632 .bf16) (ix2 n k) = m ((c : Thread nD τ).loc main_arg12) (ix3 1 n k) :=
  (blk12 m c t n k).trans (V20 m c n k)
theorem in13 (n : Fin 2816) (k : Fin 1024) : (iblk m c 13 t : Vec Ideal S2816x1024 .bf16) (ix2 n k) = m ((c : Thread nD τ).loc main_arg13) (ix3 1 n k) :=
  (blk13 m c t n k).trans (V23 m c n k)

end Cert.Kernel8Ideal.PostRead
-- ==== Proof.PostCRef.lean ====
/-
  What the recurrent layer's second half on the sampled tokens is in the reference, at an index: the row functions of the reference's
  arguments.
-/
module

public import proofs.«01_k».proof.Proof.Gen.Reference8Ideal.Read
public import proofs.«01_k».proof.Proof.PostSpec

@[expose] public section

set_option maxRecDepth 16384

noncomputable section

open Idealize.ShloMosaic Idealize.ShloMosaic.TcCoe Idealize.SL.Sem

namespace Cert.Reference8Ideal.PostRef

open Cert.Reference8Ideal Cert.Reference8Ideal.Read Cert.PostSpec

variable (x0 : Vec Ideal S32x1x1024 .f32) (x1 x2 : Vec Ideal S32x1x2048 .f32) (x3 x4 x5 x6 : Vec Ideal S32x1x1024 .f32)
  (x7 x8 x9 : Vec Ideal S2x1024 .f32) (x10 : Vec Ideal S1x2048 .f32) (x11 : Vec Ideal S1x2048x1024 .f32)
  (x12 : Vec Ideal S2x1024x5632 .f32) (x13 : Vec Ideal S2x2816x1024 .f32) (b : Fin 32)

/-- The gated output of the recurrence, its channels in their groups. -/
theorem gate_at (q : Fin 4) (k : Fin 512) : val_main_v3 x1 x2 (ix4 b 0 q k) =
    gated (fun n => x1 (ix3 b 0 n)) (fun n => x2 (ix3 b 0 n)) ⟨q * 512 + k, by omega⟩ := by
  pointwise [val_main_v3, val_main_v2, val_main_v1, val_main_v0, val_main_call0_v0, val_main_call0_v1, val_main_call0_v2, val_main_call0_v3,
    val_main_call0_v4, val_main_call0_v5, val_main_call0_cst, val_main_call0_cst_0]
  rfl

/-- The gated output with each group brought to root mean square one. -/
theorem norm_at (n : Fin 2048) : val_main_v14 x1 x2 (ix3 b 0 n) = gnorm (fun n => x1 (ix3 b 0 n)) (fun n => x2 (ix3 b 0 n)) n := by
  have g := gate_at x1 x2 b
  unfold val_main_v14 val_main_v13 val_main_v12 val_main_v11 val_main_v10 val_main_v8 val_main_v6 val_main_v5 val_main_v4
  generalize val_main_v3 x1 x2 = u at *
  pointwise [val_main_v7, val_main_v9, val_main_cst, val_main_cst_0, val_main_cst_1]
  simp only [g]
  have e : (⟨n.val / 512 * 512 + n.val % 512, by omega⟩ : Fin 2048) = n := Fin.ext (by show n.val / 512 * 512 + n.val % 512 = n.val; omega)
  rw [e]
  rfl

/-- The projection of the recurrence's output. -/
theorem mix_at (k : Fin 1024) : val_main_v20 x1 x2 x10 x11 (ix3 b 0 k) =
    ssm (fun n => x1 (ix3 b 0 n)) (fun n => x2 (ix3 b 0 n)) (fun n => x10 (ix2 0 n)) (fun n k => x11 (ix3 0 n k)) k := by
  have g := norm_at x1 x2 b
  unfold val_main_v20 val_main_v18
  generalize val_main_v14 x1 x2 = u at *
  pointwise [val_main_v19, val_main_v17, val_main_v16, val_main_v15]
  simp only [g]
  rfl

/-- The row after the first residual. -/
theorem x1_at (k : Fin 1024) : val_main_v37 x0 x1 x2 x3 x7 x10 x11 (ix3 b 0 k) =
    resid (fun k => x0 (ix3 b 0 k)) (fun k => val_main_v20 x1 x2 x10 x11 (ix3 b 0 k)) (fun k => x7 (ix2 1 k)) (fun k => x3 (ix3 b 0 k)) k := by
  unfold val_main_v37 val_main_v36 val_main_v35 val_main_v32 val_main_v31 val_main_v30 val_main_v29 val_main_v27 val_main_v25 val_main_v24 val_main_v23
  generalize val_main_v20 x1 x2 x10 x11 = u
  pointwise [val_main_v34, val_main_v33, val_main_v28, val_main_v26, val_main_v22, val_main_v21, val_main_cst_2, val_main_cst_3, val_main_cst_4]
  rfl

/-- The feed-forward's input. -/
theorem h2_at (k : Fin 1024) : val_main_v56 x0 x1 x2 x3 x4 x5 x7 x8 x10 x11 (ix3 b 0 k) =
    modul (fun k => val_main_v37 x0 x1 x2 x3 x7 x10 x11 (ix3 b 0 k)) (fun k => x8 (ix2 1 k)) (fun k => x4 (ix3 b 0 k)) (fun k => x5 (ix3 b 0 k)) k := by
  unfold val_main_v56 val_main_v55 val_main_v52 val_main_v49 val_main_v48 val_main_v47 val_main_v46 val_main_v44 val_main_v42 val_main_v41 val_main_v40
  generalize val_main_v37 x0 x1 x2 x3 x7 x10 x11 = u
  pointwise [val_main_v54, val_main_v53, val_main_v51, val_main_v50, val_main_v45, val_main_v43, val_main_v39, val_main_v38, val_main_cst_5, val_main_cst_6, val_main_cst_7, val_main_cst_8]
  rfl

/-- The two projections of the feed-forward's input, gate and up side by side. -/
theorem gu_at (k : Fin 5632) : val_main_v61 x0 x1 x2 x3 x4 x5 x7 x8 x10 x11 x12 (ix3 b 0 k) =
    lin (fun k => val_main_v56 x0 x1 x2 x3 x4 x5 x7 x8 x10 x11 (ix3 b 0 k)) (fun n k => x12 (ix3 1 n k)) k := by
  unfold val_main_v61
  generalize val_main_v56 x0 x1 x2 x3 x4 x5 x7 x8 x10 x11 = u
  pointwise [val_main_v58, val_main_v57]
  rfl

/-- The feed-forward. -/
theorem ffn_at (j : Fin 1024) : val_main_v66 x0 x1 x2 x3 x4 x5 x7 x8 x10 x11 x12 x13 (ix3 b 0 j) =
    ffn (fun k => val_main_v56 x0 x1 x2 x3 x4 x5 x7 x8 x10 x11 (ix3 b 0 k)) (fun n k => x12 (ix3 1 n k)) (fun n k => x13 (ix3 1 n k)) j := by
  have g := gu_at x0 x1 x2 x3 x4 x5 x7 x8 x10 x11 x12 b
  unfold val_main_v66 val_main_v65 val_main_v64 val_main_call1_v5 val_main_call1_v3 val_main_call1_v1 val_main_call1_v0 val_main_v63 val_main_v62
  generalize val_main_v61 x0 x1 x2 x3 x4 x5 x7 x8 x10 x11 x12 = u at *
  pointwise [val_main_v60, val_main_v59, val_main_call1_v4, val_main_call1_v2, val_main_call1_cst, val_main_call1_cst_0]
  unfold ffn glu
  simp only [← g]
  rfl

/-- The row after the second residual, from the row before it and its update. -/
theorem x2_at (k : Fin 1024) : val_main_v83 x0 x1 x2 x3 x4 x5 x6 x7 x8 x9 x10 x11 x12 x13 (ix3 b 0 k) =
    resid (fun k => val_main_v37 x0 x1 x2 x3 x7 x10 x11 (ix3 b 0 k)) (fun k => val_main_v66 x0 x1 x2 x3 x4 x5 x7 x8 x10 x11 x12 x13 (ix3 b 0 k))
      (fun k => x9 (ix2 1 k)) (fun k => x6 (ix3 b 0 k)) k := by
  unfold val_main_v83 val_main_v82 val_main_v81 val_main_v78 val_main_v77 val_main_v76 val_main_v75 val_main_v73 val_main_v71 val_main_v70 val_main_v69
  generalize val_main_v37 x0 x1 x2 x3 x7 x10 x11 = u
  generalize val_main_v66 x0 x1 x2 x3 x4 x5 x7 x8 x10 x11 x12 x13 = v
  pointwise [val_main_v80, val_main_v79, val_main_v74, val_main_v72, val_main_v68, val_main_v67, val_main_cst_9, val_main_cst_10, val_main_cst_11]
  rfl

/-- The reference's result at an index is the row function of its arguments. -/
theorem out_at (r : Fin 32) (j : Fin 1024) : val_main_v84 x0 x1 x2 x3 x4 x5 x6 x7 x8 x9 x10 x11 x12 x13 (ix2 r j) =
    out (fun k => x0 (ix3 r 0 k))
      (ssm (fun n => x1 (ix3 r 0 n)) (fun n => x2 (ix3 r 0 n)) (fun n => x10 (ix2 0 n)) fun n k => x11 (ix3 0 n k))
      (fun k => x3 (ix3 r 0 k)) (fun k => x7 (ix2 1 k)) (fun k => x8 (ix2 1 k)) (fun k => x4 (ix3 r 0 k))
      (fun k => x5 (ix3 r 0 k)) (fun k => x6 (ix3 r 0 k)) (fun k => x9 (ix2 1 k))
      (fun n k => x12 (ix3 1 n k)) (fun n k => x13 (ix3 1 n k)) j := by
  have e := x2_at x0 x1 x2 x3 x4 x5 x6 x7 x8 x9 x10 x11 x12 x13 r j
  simp only [ffn_at, h2_at, x1_at, mix_at] at e
  refine Eq.trans ?_ e
  unfold val_main_v84
  generalize val_main_v83 x0 x1 x2 x3 x4 x5 x6 x7 x8 x9 x10 x11 x12 x13 = u
  pointwise []

end Cert.Reference8Ideal.PostRef
-- ==== Proof.PostCEq.lean ====
/-
  The recurrent layer's second half on the sampled tokens: the array that the call returns is the reference's result on the same arguments.
-/
module

public import proofs.«01_k».proof.Proof.PostCRead
public import proofs.«01_k».proof.Proof.PostCRef

@[expose] public section

set_option maxRecDepth 16384

noncomputable section

open Idealize.ShloMosaic Idealize.ShloMosaic.TcCoe Idealize.SL.Sem

namespace Cert.PostCEq

open Cert.Kernel8Ideal Cert.Kernel8Ideal.Gen Cert.Kernel8Ideal.PostRead

variable (m : (ℓ : Loc nD τ sig) → Buf (Elt Ideal) ℓ) (c : Dev nD)

/-- One entry of what a grid point leaves, as the row function of the arguments at the row it belongs to. -/
theorem val (t : Fin cfg0.N) (r : Fin 32) (j : Fin 1024) :
    ((dats m 0 c).arrAt 14 cfg0.N : Vec Ideal S32x1024 .f32) (ix2 r j) =
      Cert.Reference8Ideal.Read.val_main_v84 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (ix2 r j) := by
  rw [arr14 m c t r j, Cert.Kernel8Ideal.Out.out_at, Cert.Reference8Ideal.PostRef.out_at]
  simp only [in0, in1, in2, in3, in4, in5 m c t r, in6, in7, in8 m c t r, in9 m c t r, in10 m c t r, in11, in12, in13]

/-- The kernel's result array is the reference's. -/
theorem eq : (dats m 0 c).arrAt 14 cfg0.N =
      Cert.Reference8Ideal.Read.val_main_v84 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) := by
  funext i
  obtain ⟨r, j, rfl⟩ : ∃ (r : Fin 32) (j : Fin 1024), i = ix2 r j := ⟨i 0, i 1, by funext a; fin_cases a <;> rfl⟩
  have ht : 0 < grid0.N := by show 0 < 1; omega
  exact val m c ⟨0, ht⟩ r j

end Cert.PostCEq
-- ==== Proof.ProjPBlock.lean ====
/-
  What the attention layer's input projection computes for the prompt, at an index, as the row functions of the
  blocks that it reads.
-/
module

public import proofs.«01_k».proof.Proof.Gen.Kernel6Ideal.Frame
public import Idealize.ShloMosaic.Lib.Pipeline.Value
public import proofs.«01_k».proof.Proof.ProjSpec

@[expose] public section

set_option maxRecDepth 16384

noncomputable section

open Idealize.ShloMosaic

namespace Cert.Kernel6Ideal.Block

open Cert.Kernel6Ideal Cert.Kernel6Ideal.Gen Cert.PostSpec Cert.ProjSpec

theorem hz3 : (![0, 0, 0] : Fin 3 → Nat) = fun _ => 0 := funext fun a => by fin_cases a <;> rfl
theorem hz2 : (![0, 0] : Fin 2 → Nat) = fun _ => 0 := funext fun a => by fin_cases a <;> rfl

theorem pay5_at (v0 : Vec Ideal S512x1024 .f32) (v2 : Vec Ideal S1x1024 .f32) (v16 v21 : Vec Ideal S1x1x1024 .f32) (r : Fin 512) (k : Fin 1024) :
    k0_pay5 (F := Ideal) v0 v2 v16 v21 (ix2 r k) = modul (fun k => v0 (ix2 r k)) (fun k => v2 (ix2 0 k)) (fun k => v16 (ix3 0 0 k)) (fun k => v21 (ix3 0 0 k)) k := by
  pointwise [k0_pay5]
  rfl

theorem pay6_at (v0 : Vec Ideal S512x1024 .f32) (v2 : Vec Ideal S1x1024 .f32) (v16 v21 : Vec Ideal S1x1x1024 .f32) (w : Vec Ideal S512x1024 .bf16) (r : Fin 512) (n : Fin 512) :
    k0_pay6 (F := Ideal) v0 v2 v16 v21 w (ix2 r n) = ∑ k, k0_pay5 (F := Ideal) v0 v2 v16 v21 (ix2 r k) * w (ix2 n k) := by
  unfold k0_pay6
  generalize k0_pay5 v0 v2 v16 v21 = u
  pointwise []

theorem pay10_at (h : FVec Ideal S512x1024 .bf16) (w : Vec Ideal S512x1024 .bf16) (r : Fin 512) (n : Fin 512) :
    k0_pay10 (F := Ideal) h w (ix2 r n) = ∑ k, h (ix2 r k) * w (ix2 n k) := by
  pointwise [k0_pay10]

theorem pay12_at (h : FVec Ideal S512x1024 .bf16) (w : Vec Ideal S512x1024 .bf16) (r : Fin 512) (n : Fin 512) :
    k0_pay12 (F := Ideal) h w (ix2 n r) = ∑ k, w (ix2 n k) * h (ix2 r k) := by
  pointwise [k0_pay12]

theorem pay23_at (h : FVec Ideal S512x1024 .bf16) (w : Vec Ideal S512x1024 .bf16) (r : Fin 512) (n : Fin 512) :
    k0_pay23 (F := Ideal) h w (ix2 n r) = ∑ k, w (ix2 n k) * h (ix2 r k) := by
  pointwise [k0_pay23]

theorem pay1_at (v : FVec Ideal S512x512 .f32) (r : Fin 512) (n : Fin 512) : k0_pay1 (F := Ideal) v (ix3 0 n r) = v (ix2 n r) := by
  pointwise [k0_pay1]

theorem pay2_at (h : FVec Ideal S512x1024 .bf16) (w : Vec Ideal S512x1024 .bf16) (r : Fin 512) (n : Fin 512) :
    k0_pay2 (F := Ideal) h w (ix3 0 n r) = ∑ k, w (ix2 n k) * h (ix2 r k) := by
  pointwise [k0_pay2]

theorem pay3_at (h : FVec Ideal S512x1024 .bf16) (w : Vec Ideal S512x1024 .bf16) (r : Fin 512) (n : Fin 512) :
    k0_pay3 (F := Ideal) h w (ix3 0 n r) = ∑ k, w (ix2 n k) * h (ix2 r k) := by
  pointwise [k0_pay3]

theorem pay9_at (z : FVec Ideal S512x512 .f32) (x7 x8 x9 : Vec Ideal S1x512x128 .f32) (cs sn : Fin 512 → Fin 8 → EReal)
    (hx7 : ∀ (r : Fin 512) (p : Fin 128), x7 (ix3 0 r p) = tabC (cs r) (p.val % 64)) (hx8 : ∀ (r : Fin 512) (p : Fin 128), x8 (ix3 0 r p) = tabP (sn r) (p.val % 64))
    (hx9 : ∀ (r : Fin 512) (p : Fin 128), x9 (ix3 0 r p) = tabM (sn r) (p.val % 64)) (r : Fin 512) (n : Fin 512) :
    k0_pay9 (F := Ideal) z (k0_pay7 x7) (k0_pay8 x8) x9 (ix2 r n) = rope (fun n => z (ix2 r n)) (cs r) (sn r) n := by
  pointwise [k0_pay9, k0_pay7, k0_pay8]
  split_ifs
  all_goals exact rope_of (fun k => z (ix2 r k)) (cs r) (sn r) n _ _ _ _ _ _ (n.val % 64) rfl (congrArg (fun k : Fin 512 => z (ix2 r k)) (Fin.ext (by dsimp only <;> omega))) (fun h => (congrArg (fun k : Fin 512 => z (ix2 r k)) (Fin.ext (by dsimp only <;> omega)))) (fun h => (congrArg (fun k : Fin 512 => z (ix2 r k)) (Fin.ext (by dsimp only <;> omega)))) ((hx7 _ _).trans (congrArg _ (by dsimp only <;> omega))) ((hx8 _ _).trans (congrArg _ (by dsimp only <;> omega))) ((hx9 _ _).trans (congrArg _ (by dsimp only <;> omega)))

theorem pay22_at (h : FVec Ideal S512x1024 .bf16) (w : Vec Ideal S512x1024 .bf16) (x10 x11 x12 : Vec Ideal S64x512 .f32) (cs sn : Fin 512 → Fin 8 → EReal)
    (hx10 : ∀ (p : Fin 64) (r : Fin 512), x10 (ix2 p r) = tabC (cs r) p.val) (hx11 : ∀ (p : Fin 64) (r : Fin 512), x11 (ix2 p r) = tabP (sn r) p.val)
    (hx12 : ∀ (p : Fin 64) (r : Fin 512), x12 (ix2 p r) = tabM (sn r) p.val) (r : Fin 512) (n : Fin 512) :
    k0_pay22 (F := Ideal) (k0_pay12 h w) (k0_pay13 x10) (k0_pay14 x11) (k0_pay15 x12) (k0_pay16 h w x10 x11 x12) (k0_pay17 h w x10 x11 x12) (k0_pay18 h w x10 x11 x12)
        (k0_pay20 h w x10 x11) (k0_pay21 h w x12) (ix3 0 n r) =
      rope (fun n => k0_pay12 (F := Ideal) h w (ix2 n r)) (cs r) (sn r) n := by
  unfold k0_pay22 k0_pay16 k0_pay17 k0_pay18 k0_pay20 k0_pay21 k0_pay19
  generalize k0_pay12 h w = z
  pointwise [k0_pay13, k0_pay14, k0_pay15]
  split_ifs
  all_goals exact rope_of (fun k => z (ix2 k r)) (cs r) (sn r) n _ _ _ _ _ _ (n.val % 64) rfl (congrArg (fun k : Fin 512 => z (ix2 k r)) (Fin.ext (by dsimp only <;> omega))) (fun h => (congrArg (fun k : Fin 512 => z (ix2 k r)) (Fin.ext (by dsimp only <;> omega)))) (fun h => (congrArg (fun k : Fin 512 => z (ix2 k r)) (Fin.ext (by dsimp only <;> omega)))) ((hx10 _ _).trans (congrArg _ (by dsimp only <;> omega))) ((hx11 _ _).trans (congrArg _ (by dsimp only <;> omega))) ((hx12 _ _).trans (congrArg _ (by dsimp only <;> omega)))

theorem pay4_at (h : FVec Ideal S512x1024 .bf16) (x5 : Vec Ideal S8x1024 .f32) (x6 : Vec Ideal S8x1 .f32) (r : Fin 512) (n : Fin 8) :
    k0_pay4 (F := Ideal) h (k0_pay11 x5) x6 (ix3 0 n r) = logSigmoid ((∑ k, x5 (ix2 n k) * h (ix2 r k)) + x6 (ix2 n 0)) := by
  pointwise [k0_pay4, k0_pay11]
  rw [show ∀ x : EReal, 0 - x = -x from fun x => by rw [sub_eq_add_neg]; exact zero_add _]
  rfl

section
variable (x0 : Vec Ideal S512x1024 .f32) (x1 x2 : Vec Ideal S1x1x1024 .f32) (x3 : Vec Ideal S1x1024 .f32) (x4 : Vec Ideal S3072x1024 .bf16) (x5 : Vec Ideal S8x1024 .f32)
  (x6 : Vec Ideal S8x1 .f32) (x7 x8 x9 : Vec Ideal S1x512x128 .f32) (x10 x11 x12 : Vec Ideal S64x512 .f32) (r : Fin 512)

/-- The modulated norm of a row, as its blocks give it. -/
abbrev hrow (k : Fin 1024) : EReal := modul (fun k => x0 (ix2 r k)) (fun k => x3 (ix2 0 k)) (fun k => x1 (ix3 0 0 k)) (fun k => x2 (ix3 0 0 k)) k
/-- A column of the projected row. -/
abbrev urow (n : Fin 3072) : EReal := ∑ k, hrow x0 x1 x2 x3 r k * x4 (ix2 n k)

theorem pay24_at (k : Fin 1024) : k0_pay24 x0 x1 x2 x3 x4 x5 x6 x7 x8 x9 x10 x11 x12 (ix2 r k) = hrow x0 x1 x2 x3 r k := by
  unfold k0_pay24
  rw [View.ld_unit_zero hz2 _ x0, View.ld_unit_zero hz2 _ x3, View.ld_unit_zero hz3 _ x1, View.ld_unit_zero hz3 _ x2, pay5_at]

/-! The loads of one of the six parts of the projection's weights. -/
theorem ldw0 (n : Fin 512) (k : Fin 1024) : View.ld x4 r0_3 (ix2 n k) = x4 (ix2 ⟨0 + n.val, by omega⟩ k) :=
  congrArg x4 (by funext a; apply Fin.ext; match a with | ⟨0, _⟩ => show 0 + 1 * n.val = 0 + n.val; omega | ⟨1, _⟩ => show 0 + 1 * k.val = k.val; omega)
theorem ldw1536 (n : Fin 512) (k : Fin 1024) : View.ld x4 r0_6 (ix2 n k) = x4 (ix2 ⟨1536 + n.val, by omega⟩ k) :=
  congrArg x4 (by funext a; apply Fin.ext; match a with | ⟨0, _⟩ => show 1536 + 1 * n.val = 1536 + n.val; omega | ⟨1, _⟩ => show 0 + 1 * k.val = k.val; omega)
theorem ldw512 (n : Fin 512) (k : Fin 1024) : View.ld x4 r0_8 (ix2 n k) = x4 (ix2 ⟨512 + n.val, by omega⟩ k) :=
  congrArg x4 (by funext a; apply Fin.ext; match a with | ⟨0, _⟩ => show 512 + 1 * n.val = 512 + n.val; omega | ⟨1, _⟩ => show 0 + 1 * k.val = k.val; omega)
theorem ldw1024 (n : Fin 512) (k : Fin 1024) : View.ld x4 r0_11 (ix2 n k) = x4 (ix2 ⟨1024 + n.val, by omega⟩ k) :=
  congrArg x4 (by funext a; apply Fin.ext; match a with | ⟨0, _⟩ => show 1024 + 1 * n.val = 1024 + n.val; omega | ⟨1, _⟩ => show 0 + 1 * k.val = k.val; omega)
theorem ldw2048 (n : Fin 512) (k : Fin 1024) : View.ld x4 r0_12 (ix2 n k) = x4 (ix2 ⟨2048 + n.val, by omega⟩ k) :=
  congrArg x4 (by funext a; apply Fin.ext; match a with | ⟨0, _⟩ => show 2048 + 1 * n.val = 2048 + n.val; omega | ⟨1, _⟩ => show 0 + 1 * k.val = k.val; omega)
theorem ldw2560 (n : Fin 512) (k : Fin 1024) : View.ld x4 r0_13 (ix2 n k) = x4 (ix2 ⟨2560 + n.val, by omega⟩ k) :=
  congrArg x4 (by funext a; apply Fin.ext; match a with | ⟨0, _⟩ => show 2560 + 1 * n.val = 2560 + n.val; omega | ⟨1, _⟩ => show 0 + 1 * k.val = k.val; omega)

theorem out13_at (cs sn : Fin 512 → Fin 8 → EReal) (hx7 : ∀ (r : Fin 512) (p : Fin 128), x7 (ix3 0 r p) = tabC (cs r) (p.val % 64)) (hx8 : ∀ (r : Fin 512) (p : Fin 128), x8 (ix3 0 r p) = tabP (sn r) (p.val % 64))
    (hx9 : ∀ (r : Fin 512) (p : Fin 128), x9 (ix3 0 r p) = tabM (sn r) (p.val % 64)) (n : Fin 512) :
    out0_13 x0 x1 x2 x3 x4 x5 x6 x7 x8 x9 x10 x11 x12 (ix2 r n) = rope (fun n => urow x0 x1 x2 x3 x4 r ⟨0 + n.val, by omega⟩) (cs r) (sn r) n := by
  unfold out0_13
  rw [View.canon_unit_zero hz2, View.ld_unit_zero hz2 _ x0, View.ld_unit_zero hz2 _ x3, View.ld_unit_zero hz3 _ x1, View.ld_unit_zero hz3 _ x2, View.ld_unit_zero hz3 _ x7,
    View.ld_unit_zero hz3 _ x8, View.ld_unit_zero hz3 _ x9, pay9_at _ _ _ _ cs sn hx7 hx8 hx9]
  congr 1
  funext n
  rw [pay6_at]
  exact Finset.sum_congr rfl fun k _ => congrArg₂ (· * ·) (pay5_at _ _ _ _ r k) (ldw0 x4 n k)

theorem out14_at (n : Fin 512) : out0_14 x0 x1 x2 x3 x4 x5 x6 x7 x8 x9 x10 x11 x12 (ix2 r n) = urow x0 x1 x2 x3 x4 r ⟨1536 + n.val, by omega⟩ := by
  unfold out0_14
  rw [View.canon_unit_zero hz2, pay10_at]
  exact Finset.sum_congr rfl fun k _ => congrArg₂ (· * ·) (pay24_at _ _ _ _ _ _ _ _ _ _ _ _ _ r k) (ldw1536 x4 n k)

theorem out15_at (cs sn : Fin 512 → Fin 8 → EReal) (hx10 : ∀ (p : Fin 64) (r : Fin 512), x10 (ix2 p r) = tabC (cs r) p.val) (hx11 : ∀ (p : Fin 64) (r : Fin 512), x11 (ix2 p r) = tabP (sn r) p.val)
    (hx12 : ∀ (p : Fin 64) (r : Fin 512), x12 (ix2 p r) = tabM (sn r) p.val) (n : Fin 512) :
    out0_15 x0 x1 x2 x3 x4 x5 x6 x7 x8 x9 x10 x11 x12 (ix3 0 n r) = rope (fun n => urow x0 x1 x2 x3 x4 r ⟨512 + n.val, by omega⟩) (cs r) (sn r) n := by
  unfold out0_15
  rw [View.canon_unit_zero hz3, View.ld_unit_zero hz2 _ x10, View.ld_unit_zero hz2 _ x11, View.ld_unit_zero hz2 _ x12, pay22_at _ _ _ _ _ cs sn hx10 hx11 hx12]
  congr 1
  funext n
  rw [pay12_at]
  exact Finset.sum_congr rfl fun k _ => (mul_comm _ _).trans (congrArg₂ (· * ·) (pay24_at _ _ _ _ _ _ _ _ _ _ _ _ _ r k) (ldw512 x4 n k))

theorem out16_at (n : Fin 512) : out0_16 x0 x1 x2 x3 x4 x5 x6 x7 x8 x9 x10 x11 x12 (ix3 0 n r) = urow x0 x1 x2 x3 x4 r ⟨1024 + n.val, by omega⟩ := by
  unfold out0_16
  rw [View.canon_unit_zero hz3, pay1_at, pay23_at]
  exact Finset.sum_congr rfl fun k _ => (mul_comm _ _).trans (congrArg₂ (· * ·) (pay24_at _ _ _ _ _ _ _ _ _ _ _ _ _ r k) (ldw1024 x4 n k))

theorem out17_at (n : Fin 512) : out0_17 x0 x1 x2 x3 x4 x5 x6 x7 x8 x9 x10 x11 x12 (ix3 0 n r) = urow x0 x1 x2 x3 x4 r ⟨2048 + n.val, by omega⟩ := by
  unfold out0_17
  rw [View.canon_unit_zero hz3, pay2_at]
  exact Finset.sum_congr rfl fun k _ => (mul_comm _ _).trans (congrArg₂ (· * ·) (pay24_at _ _ _ _ _ _ _ _ _ _ _ _ _ r k) (ldw2048 x4 n k))

theorem out18_at (n : Fin 512) : out0_18 x0 x1 x2 x3 x4 x5 x6 x7 x8 x9 x10 x11 x12 (ix3 0 n r) = urow x0 x1 x2 x3 x4 r ⟨2560 + n.val, by omega⟩ := by
  unfold out0_18
  rw [View.canon_unit_zero hz3, pay3_at]
  exact Finset.sum_congr rfl fun k _ => (mul_comm _ _).trans (congrArg₂ (· * ·) (pay24_at _ _ _ _ _ _ _ _ _ _ _ _ _ r k) (ldw2560 x4 n k))

theorem out19_at (n : Fin 8) : out0_19 x0 x1 x2 x3 x4 x5 x6 x7 x8 x9 x10 x11 x12 (ix3 0 n r) = logSigmoid ((∑ k, hrow x0 x1 x2 x3 r k * x5 (ix2 n k)) + x6 (ix2 n 0)) := by
  unfold out0_19
  rw [View.canon_unit_zero hz3, View.ld_unit_zero hz2 _ x5, View.ld_unit_zero hz2 _ x6, pay4_at]
  exact congrArg logSigmoid (congrArg (· + _) (Finset.sum_congr rfl fun k _ => (mul_comm _ _).trans (congrArg₂ (· * ·) (pay24_at _ _ _ _ _ _ _ _ _ _ _ _ _ r k) rfl)))

end

end Cert.Kernel6Ideal.Block

end
-- ==== Proof.ProjPRead.lean ====
/-
  What the arrays hold that the attention layer's input projection works on for the prompt: what the host's
  operations leave for the call to read, what the blocks hold of that, and what the result arrays hold after the run.
-/
module

public import proofs.«01_k».proof.Proof.ProjPBlock
public import proofs.«01_k».proof.Proof.Gen.Kernel6Ideal.Value
public import Idealize.ShloMosaic.Lib.StableHlo.ReadAt
public import Idealize.ShloMosaic.Lib.Tactic
public import Idealize.ShloMosaic.Lib.KernelVsHost

@[expose] public section

set_option maxRecDepth 16384

noncomputable section

open Idealize.ShloMosaic Idealize.ShloMosaic.TcCoe Idealize.SL.Sem

namespace Cert.Kernel6Ideal.ProjRead

open Cert.Kernel6Ideal Cert.Kernel6Ideal.Gen Cert.ProjSpec

variable (m : (ℓ : Loc nD τ sig) → Buf (Elt Ideal) ℓ) (c : Dev nD) (t : Fin cfg0.N)

/-- A grid point's block's row as a row of the flattened batch, its sequence, and its position in the sequence. -/
def row (t : Fin cfg0.N) (r : Fin 512) : Fin 16384 := ⟨t.val * 512 + r.val, by have h : t.val < 32 := t.isLt; omega⟩
def bat (t : Fin cfg0.N) : Fin 8 := ⟨t.val / 4, by have h : t.val < 32 := t.isLt; omega⟩
def pos (t : Fin cfg0.N) (r : Fin 512) : Fin 2048 := ⟨t.val % 4 * 512 + r.val, by omega⟩
/-- The quarter of a sequence that a grid point works on. -/
def qtr (t : Fin cfg0.N) : Fin 4 := ⟨t.val % 4, by omega⟩

theorem row_div (r : Fin 512) : (⟨(row t r).val / 2048, by omega⟩ : Fin 8) = bat t := Fin.ext (by show (t.val * 512 + r.val) / 2048 = t.val / 4; omega)
theorem row_mod (r : Fin 512) : (⟨(row t r).val % 2048, by omega⟩ : Fin 2048) = pos t r := Fin.ext (by show (t.val * 512 + r.val) % 2048 = t.val % 4 * 512 + r.val; omega)

/-! What the host's operations leave, in terms of the arguments. -/

theorem V2 (r : Fin 16384) (k : Fin 1024) : V m c main_v2 (ix2 r k) = m ((c : Thread nD τ).loc main_arg0) (ix3 ⟨r.val / 2048, by omega⟩ ⟨r.val % 2048, by omega⟩ k) := by
  unfold V
  after_reads_at
theorem V5 (k : Fin 1024) : V m c main_v5 (ix2 0 k) = m ((c : Thread nD τ).loc main_arg3) (ix2 0 k) := by
  unfold V
  after_reads_at
theorem V7 (n : Fin 3072) (k : Fin 1024) : V m c main_v7 (ix2 n k) = m ((c : Thread nD τ).loc main_arg4) (ix3 0 k ⟨n.val, by omega⟩) := by
  unfold V
  after_reads_at
theorem V8 (n : Fin 8) (k : Fin 1024) : V m c main_v8 (ix2 n k) = m ((c : Thread nD τ).loc main_arg4) (ix3 0 k ⟨3072 + n.val, by omega⟩) := by
  unfold V
  after_reads_at
theorem V33 (n : Fin 8) : V m c main_v33 (ix2 n 0) = m ((c : Thread nD τ).loc main_arg5) (ix2 0 n) := by
  unfold V
  after_reads_at
set_option maxHeartbeats 4000000 in
theorem V21 (q : Fin 4) (r : Fin 512) (p : Fin 128) : V m c main_v21 (ix3 q r p) = tabC (fun d => m ((c : Thread nD τ).loc main_arg6) (ix2 ⟨q.val * 512 + r.val, by omega⟩ d)) (p.val % 64) := by
  unfold V
  after_reads_at
  unfold tabC
  split_ifs <;> (try (exfalso; omega))
  all_goals after_reads_at
  all_goals first | rw [dif_neg (show ¬ p.val % 64 < 16 by omega)] | rw [dif_pos (show p.val % 64 < 16 by omega)]
set_option maxHeartbeats 4000000 in
theorem V25 (q : Fin 4) (r : Fin 512) (p : Fin 128) : V m c main_v25 (ix3 q r p) = tabP (fun d => m ((c : Thread nD τ).loc main_arg7) (ix2 ⟨q.val * 512 + r.val, by omega⟩ d)) (p.val % 64) := by
  unfold V
  after_reads_at
  unfold tabP
  split_ifs <;> (try (exfalso; omega))
  all_goals after_reads_at
  all_goals first | rw [dif_neg (show ¬ p.val % 64 < 16 by omega)] | rw [dif_pos (show p.val % 64 < 16 by omega)]
set_option maxHeartbeats 4000000 in
theorem V29 (q : Fin 4) (r : Fin 512) (p : Fin 128) : V m c main_v29 (ix3 q r p) = tabM (fun d => m ((c : Thread nD τ).loc main_arg7) (ix2 ⟨q.val * 512 + r.val, by omega⟩ d)) (p.val % 64) := by
  unfold V
  after_reads_at
  unfold tabM
  split_ifs <;> (try (exfalso; omega))
  all_goals after_reads_at
  all_goals first | rw [dif_neg (show ¬ p.val % 64 < 16 by omega)] | rw [dif_pos (show p.val % 64 < 16 by omega)]
set_option maxHeartbeats 4000000 in
theorem V30 (p : Fin 64) (s : Fin 2048) : V m c main_v30 (ix2 p s) = tabC (fun d => m ((c : Thread nD τ).loc main_arg6) (ix2 s d)) p.val := by
  unfold V
  after_reads_at
  unfold tabC
  split_ifs <;> (try (exfalso; omega))
  all_goals after_reads_at
  all_goals first | rw [dif_neg (show ¬ p.val < 16 by omega)] | rw [dif_pos (show p.val < 16 by omega)]
set_option maxHeartbeats 4000000 in
theorem V31 (p : Fin 64) (s : Fin 2048) : V m c main_v31 (ix2 p s) = tabP (fun d => m ((c : Thread nD τ).loc main_arg7) (ix2 s d)) p.val := by
  unfold V
  after_reads_at
  unfold tabP
  split_ifs <;> (try (exfalso; omega))
  all_goals after_reads_at
  all_goals first | rw [dif_neg (show ¬ p.val < 16 by omega)] | rw [dif_pos (show p.val < 16 by omega)]
set_option maxHeartbeats 4000000 in
theorem V32 (p : Fin 64) (s : Fin 2048) : V m c main_v32 (ix2 p s) = tabM (fun d => m ((c : Thread nD τ).loc main_arg7) (ix2 s d)) p.val := by
  unfold V
  after_reads_at
  unfold tabM
  split_ifs <;> (try (exfalso; omega))
  all_goals after_reads_at
  all_goals first | rw [dif_neg (show ¬ p.val < 16 by omega)] | rw [dif_pos (show p.val < 16 by omega)]

/-- Where each window's block starts at a grid point. -/
theorem idx0 : ∀ t : Fin grid0.N, win0_0.index t 0 = t.val ∧ win0_0.index t 1 = 0 := by decide +kernel
theorem idx1 : ∀ t : Fin grid0.N, win0_1.index t 0 = t.val / 4 ∧ win0_1.index t 1 = 0 ∧ win0_1.index t 2 = 0 := by decide +kernel
theorem idx2 : ∀ t : Fin grid0.N, win0_2.index t 0 = t.val / 4 ∧ win0_2.index t 1 = 0 ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = t.val % 4 ∧ win0_7.index t 1 = 0 ∧ win0_7.index t 2 = 0 := by decide +kernel
theorem idx8 : ∀ t : Fin grid0.N, win0_8.index t 0 = t.val % 4 ∧ win0_8.index t 1 = 0 ∧ win0_8.index t 2 = 0 := by decide +kernel
theorem idx9 : ∀ t : Fin grid0.N, win0_9.index t 0 = t.val % 4 ∧ win0_9.index t 1 = 0 ∧ win0_9.index t 2 = 0 := by decide +kernel
theorem idx10 : ∀ t : Fin grid0.N, win0_10.index t 0 = 0 ∧ win0_10.index t 1 = t.val % 4 := by decide +kernel
theorem idx11 : ∀ t : Fin grid0.N, win0_11.index t 0 = 0 ∧ win0_11.index t 1 = t.val % 4 := by decide +kernel
theorem idx12 : ∀ t : Fin grid0.N, win0_12.index t 0 = 0 ∧ win0_12.index t 1 = t.val % 4 := by decide +kernel
theorem idx13 : ∀ t : Fin grid0.N, win0_13.index t 0 = t.val ∧ win0_13.index t 1 = 0 := by decide +kernel
theorem idx14 : ∀ t : Fin grid0.N, win0_14.index t 0 = t.val ∧ win0_14.index t 1 = 0 := by decide +kernel
theorem idx15 : ∀ t : Fin grid0.N, win0_15.index t 0 = t.val / 4 ∧ win0_15.index t 1 = 0 ∧ win0_15.index t 2 = t.val % 4 := by decide +kernel
theorem idx16 : ∀ t : Fin grid0.N, win0_16.index t 0 = t.val / 4 ∧ win0_16.index t 1 = 0 ∧ win0_16.index t 2 = t.val % 4 := by decide +kernel
theorem idx17 : ∀ t : Fin grid0.N, win0_17.index t 0 = t.val / 4 ∧ win0_17.index t 1 = 0 ∧ win0_17.index t 2 = t.val % 4 := by decide +kernel
theorem idx18 : ∀ t : Fin grid0.N, win0_18.index t 0 = t.val / 4 ∧ win0_18.index t 1 = 0 ∧ win0_18.index t 2 = t.val % 4 := by decide +kernel
theorem idx19 : ∀ t : Fin grid0.N, win0_19.index t 0 = t.val / 4 ∧ win0_19.index t 1 = 0 ∧ win0_19.index t 2 = t.val % 4 := by decide +kernel

/-- What window 0's block holds, in terms of the array it is cut from. -/
theorem blk0 (r : Fin 512) (k : Fin 1024) : (iblk m c 0 t : Vec Ideal S512x1024 .f32) (ix2 r k) = V m c main_v2 (ix2 (row t r) k) := by
  unfold iblk
  rw [View.read_apply]
  show V m c main_v2 _ = _
  congr 1
  funext ax
  apply Fin.ext
  match ax with
  | ⟨0, _⟩ => show win0_0.index t 0 * 512 + 1 * r.val = t.val * 512 + r.val; rw [(idx0 t).1] <;> omega
  | ⟨1, _⟩ => show win0_0.index t 1 * 1024 + 1 * k.val = k.val; rw [(idx0 t).2] <;> omega
theorem in0 (r : Fin 512) (k : Fin 1024) : (iblk m c 0 t : Vec Ideal S512x1024 .f32) (ix2 r k) = m ((c : Thread nD τ).loc main_arg0) (ix3 (bat t) (pos t r) k) :=
  (blk0 m c t r k).trans ((V2 m c (row t r) k).trans (by rw [row_div, row_mod]))

/-- What window 1's block holds, in terms of the array it is cut from. -/
theorem blk1 (k : Fin 1024) : (iblk m c 1 t : Vec Ideal S1x1x1024 .f32) (ix3 0 0 k) = V m c main_arg1 (ix3 (bat t) 0 k) := by
  unfold iblk
  rw [View.read_apply]
  show V m c main_arg1 _ = _
  congr 1
  funext ax
  apply Fin.ext
  match ax with
  | ⟨0, _⟩ => show win0_1.index t 0 * 1 + 1 * 0 = t.val / 4; rw [(idx1 t).1] <;> omega
  | ⟨1, _⟩ => show win0_1.index t 1 * 1 + 1 * 0 = 0; rw [(idx1 t).2.1] <;> omega
  | ⟨2, _⟩ => show win0_1.index t 2 * 1024 + 1 * k.val = k.val; rw [(idx1 t).2.2] <;> omega
theorem in1 (k : Fin 1024) : (iblk m c 1 t : Vec Ideal S1x1x1024 .f32) (ix3 0 0 k) = m ((c : Thread nD τ).loc main_arg1) (ix3 (bat t) 0 k) := by
  rw [blk1, V_main_arg1]

/-- What window 2's block holds, in terms of the array it is cut from. -/
theorem blk2 (k : Fin 1024) : (iblk m c 2 t : Vec Ideal S1x1x1024 .f32) (ix3 0 0 k) = V m c main_arg2 (ix3 (bat t) 0 k) := by
  unfold iblk
  rw [View.read_apply]
  show V m c main_arg2 _ = _
  congr 1
  funext ax
  apply Fin.ext
  match ax with
  | ⟨0, _⟩ => show win0_2.index t 0 * 1 + 1 * 0 = t.val / 4; rw [(idx2 t).1] <;> omega
  | ⟨1, _⟩ => show win0_2.index t 1 * 1 + 1 * 0 = 0; rw [(idx2 t).2.1] <;> omega
  | ⟨2, _⟩ => show win0_2.index t 2 * 1024 + 1 * k.val = k.val; rw [(idx2 t).2.2] <;> omega
theorem in2 (k : Fin 1024) : (iblk m c 2 t : Vec Ideal S1x1x1024 .f32) (ix3 0 0 k) = m ((c : Thread nD τ).loc main_arg2) (ix3 (bat t) 0 k) := by
  rw [blk2, V_main_arg2]

/-- What window 3's block holds, in terms of the array it is cut from. -/
theorem blk3 (k : Fin 1024) : (iblk m c 3 t : Vec Ideal S1x1024 .f32) (ix2 0 k) = V m c main_v5 (ix2 0 k) := by
  unfold iblk
  rw [View.read_apply]
  show V m c main_v5 _ = _
  congr 1
  funext ax
  apply Fin.ext
  match ax with
  | ⟨0, _⟩ => show win0_3.index t 0 * 1 + 1 * 0 = 0; rw [(idx3 t).1] <;> omega
  | ⟨1, _⟩ => show win0_3.index t 1 * 1024 + 1 * k.val = k.val; rw [(idx3 t).2] <;> omega
theorem in3 (k : Fin 1024) : (iblk m c 3 t : Vec Ideal S1x1024 .f32) (ix2 0 k) = m ((c : Thread nD τ).loc main_arg3) (ix2 0 k) :=
  (blk3 m c t k).trans (V5 m c k)

/-- What window 4's block holds, in terms of the array it is cut from. -/
theorem blk4 (n : Fin 3072) (k : Fin 1024) : (iblk m c 4 t : Vec Ideal S3072x1024 .bf16) (ix2 n k) = V m c main_v7 (ix2 n k) := by
  unfold iblk
  rw [View.read_apply]
  show V m c main_v7 _ = _
  congr 1
  funext ax
  apply Fin.ext
  match ax with
  | ⟨0, _⟩ => show win0_4.index t 0 * 3072 + 1 * n.val = n.val; rw [(idx4 t).1] <;> omega
  | ⟨1, _⟩ => show win0_4.index t 1 * 1024 + 1 * k.val = k.val; rw [(idx4 t).2] <;> omega
theorem in4 (n : Fin 3072) (k : Fin 1024) : (iblk m c 4 t : Vec Ideal S3072x1024 .bf16) (ix2 n k) = m ((c : Thread nD τ).loc main_arg4) (ix3 0 k ⟨n.val, by omega⟩) :=
  (blk4 m c t n k).trans (V7 m c n k)

/-- What window 5's block holds, in terms of the array it is cut from. -/
theorem blk5 (n : Fin 8) (k : Fin 1024) : (iblk m c 5 t : Vec Ideal S8x1024 .f32) (ix2 n k) = V m c main_v8 (ix2 n k) := by
  unfold iblk
  rw [View.read_apply]
  show V m c main_v8 _ = _
  congr 1
  funext ax
  apply Fin.ext
  match ax with
  | ⟨0, _⟩ => show win0_5.index t 0 * 8 + 1 * n.val = n.val; rw [(idx5 t).1] <;> omega
  | ⟨1, _⟩ => show win0_5.index t 1 * 1024 + 1 * k.val = k.val; rw [(idx5 t).2] <;> omega
theorem in5 (n : Fin 8) (k : Fin 1024) : (iblk m c 5 t : Vec Ideal S8x1024 .f32) (ix2 n k) = m ((c : Thread nD τ).loc main_arg4) (ix3 0 k ⟨3072 + n.val, by omega⟩) :=
  (blk5 m c t n k).trans (V8 m c n k)

/-- What window 6's block holds, in terms of the array it is cut from. -/
theorem blk6 (n : Fin 8) : (iblk m c 6 t : Vec Ideal S8x1 .f32) (ix2 n 0) = V m c main_v33 (ix2 n 0) := by
  unfold iblk
  rw [View.read_apply]
  show V m c main_v33 _ = _
  congr 1
  funext ax
  apply Fin.ext
  match ax with
  | ⟨0, _⟩ => show win0_6.index t 0 * 8 + 1 * n.val = n.val; rw [(idx6 t).1] <;> omega
  | ⟨1, _⟩ => show win0_6.index t 1 * 1 + 1 * 0 = 0; rw [(idx6 t).2] <;> omega
theorem in6 (n : Fin 8) : (iblk m c 6 t : Vec Ideal S8x1 .f32) (ix2 n 0) = m ((c : Thread nD τ).loc main_arg5) (ix2 0 n) :=
  (blk6 m c t n).trans (V33 m c n)

/-- What window 7's block holds, in terms of the array it is cut from. -/
theorem blk7 (r : Fin 512) (p : Fin 128) : (iblk m c 7 t : Vec Ideal S1x512x128 .f32) (ix3 0 r p) = V m c main_v21 (ix3 (qtr t) r p) := by
  unfold iblk
  rw [View.read_apply]
  show V m c main_v21 _ = _
  congr 1
  funext ax
  apply Fin.ext
  match ax with
  | ⟨0, _⟩ => show win0_7.index t 0 * 1 + 1 * 0 = t.val % 4; rw [(idx7 t).1] <;> omega
  | ⟨1, _⟩ => show win0_7.index t 1 * 512 + 1 * r.val = r.val; rw [(idx7 t).2.1] <;> omega
  | ⟨2, _⟩ => show win0_7.index t 2 * 128 + 1 * p.val = p.val; rw [(idx7 t).2.2] <;> omega
theorem in7 (r : Fin 512) (p : Fin 128) : (iblk m c 7 t : Vec Ideal S1x512x128 .f32) (ix3 0 r p) = tabC (fun d => m ((c : Thread nD τ).loc main_arg6) (ix2 (pos t r) d)) (p.val % 64) :=
  (blk7 m c t r p).trans (V21 m c (qtr t) r p)

/-- What window 8's block holds, in terms of the array it is cut from. -/
theorem blk8 (r : Fin 512) (p : Fin 128) : (iblk m c 8 t : Vec Ideal S1x512x128 .f32) (ix3 0 r p) = V m c main_v25 (ix3 (qtr t) r p) := by
  unfold iblk
  rw [View.read_apply]
  show V m c main_v25 _ = _
  congr 1
  funext ax
  apply Fin.ext
  match ax with
  | ⟨0, _⟩ => show win0_8.index t 0 * 1 + 1 * 0 = t.val % 4; rw [(idx8 t).1] <;> omega
  | ⟨1, _⟩ => show win0_8.index t 1 * 512 + 1 * r.val = r.val; rw [(idx8 t).2.1] <;> omega
  | ⟨2, _⟩ => show win0_8.index t 2 * 128 + 1 * p.val = p.val; rw [(idx8 t).2.2] <;> omega
theorem in8 (r : Fin 512) (p : Fin 128) : (iblk m c 8 t : Vec Ideal S1x512x128 .f32) (ix3 0 r p) = tabP (fun d => m ((c : Thread nD τ).loc main_arg7) (ix2 (pos t r) d)) (p.val % 64) :=
  (blk8 m c t r p).trans (V25 m c (qtr t) r p)

/-- What window 9's block holds, in terms of the array it is cut from. -/
theorem blk9 (r : Fin 512) (p : Fin 128) : (iblk m c 9 t : Vec Ideal S1x512x128 .f32) (ix3 0 r p) = V m c main_v29 (ix3 (qtr t) r p) := by
  unfold iblk
  rw [View.read_apply]
  show V m c main_v29 _ = _
  congr 1
  funext ax
  apply Fin.ext
  match ax with
  | ⟨0, _⟩ => show win0_9.index t 0 * 1 + 1 * 0 = t.val % 4; rw [(idx9 t).1] <;> omega
  | ⟨1, _⟩ => show win0_9.index t 1 * 512 + 1 * r.val = r.val; rw [(idx9 t).2.1] <;> omega
  | ⟨2, _⟩ => show win0_9.index t 2 * 128 + 1 * p.val = p.val; rw [(idx9 t).2.2] <;> omega
theorem in9 (r : Fin 512) (p : Fin 128) : (iblk m c 9 t : Vec Ideal S1x512x128 .f32) (ix3 0 r p) = tabM (fun d => m ((c : Thread nD τ).loc main_arg7) (ix2 (pos t r) d)) (p.val % 64) :=
  (blk9 m c t r p).trans (V29 m c (qtr t) r p)

/-- What window 10's block holds, in terms of the array it is cut from. -/
theorem blk10 (p : Fin 64) (r : Fin 512) : (iblk m c 10 t : Vec Ideal S64x512 .f32) (ix2 p r) = V m c main_v30 (ix2 p (pos t r)) := by
  unfold iblk
  rw [View.read_apply]
  show V m c main_v30 _ = _
  congr 1
  funext ax
  apply Fin.ext
  match ax with
  | ⟨0, _⟩ => show win0_10.index t 0 * 64 + 1 * p.val = p.val; rw [(idx10 t).1] <;> omega
  | ⟨1, _⟩ => show win0_10.index t 1 * 512 + 1 * r.val = t.val % 4 * 512 + r.val; rw [(idx10 t).2] <;> omega
theorem in10 (p : Fin 64) (r : Fin 512) : (iblk m c 10 t : Vec Ideal S64x512 .f32) (ix2 p r) = tabC (fun d => m ((c : Thread nD τ).loc main_arg6) (ix2 (pos t r) d)) p.val :=
  (blk10 m c t p r).trans (V30 m c p (pos t r))

/-- What window 11's block holds, in terms of the array it is cut from. -/
theorem blk11 (p : Fin 64) (r : Fin 512) : (iblk m c 11 t : Vec Ideal S64x512 .f32) (ix2 p r) = V m c main_v31 (ix2 p (pos t r)) := by
  unfold iblk
  rw [View.read_apply]
  show V m c main_v31 _ = _
  congr 1
  funext ax
  apply Fin.ext
  match ax with
  | ⟨0, _⟩ => show win0_11.index t 0 * 64 + 1 * p.val = p.val; rw [(idx11 t).1] <;> omega
  | ⟨1, _⟩ => show win0_11.index t 1 * 512 + 1 * r.val = t.val % 4 * 512 + r.val; rw [(idx11 t).2] <;> omega
theorem in11 (p : Fin 64) (r : Fin 512) : (iblk m c 11 t : Vec Ideal S64x512 .f32) (ix2 p r) = tabP (fun d => m ((c : Thread nD τ).loc main_arg7) (ix2 (pos t r) d)) p.val :=
  (blk11 m c t p r).trans (V31 m c p (pos t r))

/-- What window 12's block holds, in terms of the array it is cut from. -/
theorem blk12 (p : Fin 64) (r : Fin 512) : (iblk m c 12 t : Vec Ideal S64x512 .f32) (ix2 p r) = V m c main_v32 (ix2 p (pos t r)) := by
  unfold iblk
  rw [View.read_apply]
  show V m c main_v32 _ = _
  congr 1
  funext ax
  apply Fin.ext
  match ax with
  | ⟨0, _⟩ => show win0_12.index t 0 * 64 + 1 * p.val = p.val; rw [(idx12 t).1] <;> omega
  | ⟨1, _⟩ => show win0_12.index t 1 * 512 + 1 * r.val = t.val % 4 * 512 + r.val; rw [(idx12 t).2] <;> omega
theorem in12 (p : Fin 64) (r : Fin 512) : (iblk m c 12 t : Vec Ideal S64x512 .f32) (ix2 p r) = tabM (fun d => m ((c : Thread nD τ).loc main_arg7) (ix2 (pos t r) d)) p.val :=
  (blk12 m c t p r).trans (V32 m c p (pos t r))

/-- What window 13's array holds after a run, at one index: the grid point whose block holds it left it there. -/
theorem arr13 (r : Fin 512) (n : Fin 512) : ((dats m 0 c).arrAt 13 cfg0.N : Vec Ideal S16384x512 .f32) (ix2 (row t r) n) = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r n) := by
  have h := congrFun ((Value.blocks13 m c t (flush0_13 t)).trans (Value.flushed13 m c t)) (ix2 r n : S512x512.Idx)
  rw [View.read_apply] at h
  refine Eq.trans ?_ (h.trans rfl)
  show (dats m 0 c).arrAt 13 cfg0.N _ = (dats m 0 c).arrAt 13 cfg0.N _
  congr 1
  funext ax
  apply Fin.ext
  match ax with
  | ⟨0, _⟩ => show t.val * 512 + r.val = win0_13.index t 0 * 512 + 1 * r.val; rw [(idx13 t).1] <;> omega
  | ⟨1, _⟩ => show n.val = win0_13.index t 1 * 512 + 1 * n.val; rw [(idx13 t).2] <;> omega

/-- What window 14's array holds after a run, at one index: the grid point whose block holds it left it there. -/
theorem arr14 (r : Fin 512) (n : Fin 512) : ((dats m 0 c).arrAt 14 cfg0.N : Vec Ideal S16384x512 .f32) (ix2 (row t r) n) = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r n) := by
  have h := congrFun ((Value.blocks14 m c t (flush0_14 t)).trans (Value.flushed14 m c t)) (ix2 r n : S512x512.Idx)
  rw [View.read_apply] at h
  refine Eq.trans ?_ (h.trans rfl)
  show (dats m 0 c).arrAt 14 cfg0.N _ = (dats m 0 c).arrAt 14 cfg0.N _
  congr 1
  funext ax
  apply Fin.ext
  match ax with
  | ⟨0, _⟩ => show t.val * 512 + r.val = win0_14.index t 0 * 512 + 1 * r.val; rw [(idx14 t).1] <;> omega
  | ⟨1, _⟩ => show n.val = win0_14.index t 1 * 512 + 1 * n.val; rw [(idx14 t).2] <;> omega

/-- What window 15's array holds after a run, at one index: the grid point whose block holds it left it there. -/
theorem arr15 (n : Fin 512) (r : Fin 512) : ((dats m 0 c).arrAt 15 cfg0.N : Vec Ideal S8x512x2048 .f32) (ix3 (bat t) n (pos t r)) = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 n r) := by
  have h := congrFun ((Value.blocks15 m c t (flush0_15 t)).trans (Value.flushed15 m c t)) (ix3 0 n r : S1x512x512.Idx)
  rw [View.read_apply] at h
  refine Eq.trans ?_ (h.trans rfl)
  show (dats m 0 c).arrAt 15 cfg0.N _ = (dats m 0 c).arrAt 15 cfg0.N _
  congr 1
  funext ax
  apply Fin.ext
  match ax with
  | ⟨0, _⟩ => show t.val / 4 = win0_15.index t 0 * 1 + 1 * 0; rw [(idx15 t).1] <;> omega
  | ⟨1, _⟩ => show n.val = win0_15.index t 1 * 512 + 1 * n.val; rw [(idx15 t).2.1] <;> omega
  | ⟨2, _⟩ => show t.val % 4 * 512 + r.val = win0_15.index t 2 * 512 + 1 * r.val; rw [(idx15 t).2.2] <;> omega

/-- What window 16's array holds after a run, at one index: the grid point whose block holds it left it there. -/
theorem arr16 (n : Fin 512) (r : Fin 512) : ((dats m 0 c).arrAt 16 cfg0.N : Vec Ideal S8x512x2048 .f32) (ix3 (bat t) n (pos t r)) = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 n r) := by
  have h := congrFun ((Value.blocks16 m c t (flush0_16 t)).trans (Value.flushed16 m c t)) (ix3 0 n r : S1x512x512.Idx)
  rw [View.read_apply] at h
  refine Eq.trans ?_ (h.trans rfl)
  show (dats m 0 c).arrAt 16 cfg0.N _ = (dats m 0 c).arrAt 16 cfg0.N _
  congr 1
  funext ax
  apply Fin.ext
  match ax with
  | ⟨0, _⟩ => show t.val / 4 = win0_16.index t 0 * 1 + 1 * 0; rw [(idx16 t).1] <;> omega
  | ⟨1, _⟩ => show n.val = win0_16.index t 1 * 512 + 1 * n.val; rw [(idx16 t).2.1] <;> omega
  | ⟨2, _⟩ => show t.val % 4 * 512 + r.val = win0_16.index t 2 * 512 + 1 * r.val; rw [(idx16 t).2.2] <;> omega

/-- What window 17's array holds after a run, at one index: the grid point whose block holds it left it there. -/
theorem arr17 (n : Fin 512) (r : Fin 512) : ((dats m 0 c).arrAt 17 cfg0.N : Vec Ideal S8x512x2048 .f32) (ix3 (bat t) n (pos t r)) = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 n r) := by
  have h := congrFun ((Value.blocks17 m c t (flush0_17 t)).trans (Value.flushed17 m c t)) (ix3 0 n r : S1x512x512.Idx)
  rw [View.read_apply] at h
  refine Eq.trans ?_ (h.trans rfl)
  show (dats m 0 c).arrAt 17 cfg0.N _ = (dats m 0 c).arrAt 17 cfg0.N _
  congr 1
  funext ax
  apply Fin.ext
  match ax with
  | ⟨0, _⟩ => show t.val / 4 = win0_17.index t 0 * 1 + 1 * 0; rw [(idx17 t).1] <;> omega
  | ⟨1, _⟩ => show n.val = win0_17.index t 1 * 512 + 1 * n.val; rw [(idx17 t).2.1] <;> omega
  | ⟨2, _⟩ => show t.val % 4 * 512 + r.val = win0_17.index t 2 * 512 + 1 * r.val; rw [(idx17 t).2.2] <;> omega

/-- What window 18's array holds after a run, at one index: the grid point whose block holds it left it there. -/
theorem arr18 (n : Fin 512) (r : Fin 512) : ((dats m 0 c).arrAt 18 cfg0.N : Vec Ideal S8x512x2048 .f32) (ix3 (bat t) n (pos t r)) = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 n r) := by
  have h := congrFun ((Value.blocks18 m c t (flush0_18 t)).trans (Value.flushed18 m c t)) (ix3 0 n r : S1x512x512.Idx)
  rw [View.read_apply] at h
  refine Eq.trans ?_ (h.trans rfl)
  show (dats m 0 c).arrAt 18 cfg0.N _ = (dats m 0 c).arrAt 18 cfg0.N _
  congr 1
  funext ax
  apply Fin.ext
  match ax with
  | ⟨0, _⟩ => show t.val / 4 = win0_18.index t 0 * 1 + 1 * 0; rw [(idx18 t).1] <;> omega
  | ⟨1, _⟩ => show n.val = win0_18.index t 1 * 512 + 1 * n.val; rw [(idx18 t).2.1] <;> omega
  | ⟨2, _⟩ => show t.val % 4 * 512 + r.val = win0_18.index t 2 * 512 + 1 * r.val; rw [(idx18 t).2.2] <;> omega

/-- What window 19's array holds after a run, at one index: the grid point whose block holds it left it there. -/
theorem arr19 (n : Fin 8) (r : Fin 512) : ((dats m 0 c).arrAt 19 cfg0.N : Vec Ideal S8x8x2048 .f32) (ix3 (bat t) n (pos t r)) = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 n r) := by
  have h := congrFun ((Value.blocks19 m c t (flush0_19 t)).trans (Value.flushed19 m c t)) (ix3 0 n r : S1x8x512.Idx)
  rw [View.read_apply] at h
  refine Eq.trans ?_ (h.trans rfl)
  show (dats m 0 c).arrAt 19 cfg0.N _ = (dats m 0 c).arrAt 19 cfg0.N _
  congr 1
  funext ax
  apply Fin.ext
  match ax with
  | ⟨0, _⟩ => show t.val / 4 = win0_19.index t 0 * 1 + 1 * 0; rw [(idx19 t).1] <;> omega
  | ⟨1, _⟩ => show n.val = win0_19.index t 1 * 8 + 1 * n.val; rw [(idx19 t).2.1] <;> omega
  | ⟨2, _⟩ => show t.val % 4 * 512 + r.val = win0_19.index t 2 * 512 + 1 * r.val; rw [(idx19 t).2.2] <;> omega

end Cert.Kernel6Ideal.ProjRead

end
-- ==== Proof.ProjPRef.lean ====
/-
  What the reference for the attention layer's input projection computes for the prompt, at an index, as the row
  functions of its arguments.
-/
module

public import proofs.«01_k».proof.Proof.Gen.Reference6Ideal.Read
public import proofs.«01_k».proof.Proof.ProjSpec
public import Idealize.ShloMosaic.Lib.Tactic

@[expose] public section

set_option maxRecDepth 16384

noncomputable section

open Idealize.ShloMosaic

namespace Cert.Reference6Ideal.ProjRef

open Cert.Reference6Ideal Cert.Reference6Ideal.Gen Cert.Reference6Ideal.Read Cert.PostSpec Cert.ProjSpec

variable (x0 : Vec Ideal S8x2048x1024 .f32) (x1 x2 : Vec Ideal S8x1x1024 .f32) (x3 : Vec Ideal S2x1024 .f32) (x4 : Vec Ideal S1x1024x3080 .f32) (x5 : Vec Ideal S1x8 .f32)
  (x6 x7 : Vec Ideal S2048x8 .f32) (b : Fin 8) (s : Fin 2048)

/-- The modulated norm of a row, as the arguments give it. -/
abbrev hrow (k : Fin 1024) : EReal := modul (fun k => x0 (ix3 b s k)) (fun k => x3 (ix2 0 k)) (fun k => x1 (ix3 b 0 k)) (fun k => x2 (ix3 b 0 k)) k
/-- A column of the projected row. -/
abbrev urow (j : Fin 3080) : EReal := ∑ k, hrow x0 x1 x2 x3 b s k * x4 (ix3 0 k j)

theorem h_at (k : Fin 1024) : val_main_v20 x0 x1 x2 x3 (ix3 b s k) = hrow x0 x1 x2 x3 b s k := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0,
    val_main_cst_1, val_main_cst_2]
  rfl

theorem u_at (j : Fin 3080) : val_main_v23 x0 x1 x2 x3 x4 (ix3 b s j) = urow x0 x1 x2 x3 x4 b s j := by
  have h := h_at x0 x1 x2 x3 b s
  unfold val_main_v23
  generalize val_main_v20 x0 x1 x2 x3 = u at *
  pointwise [val_main_v21]
  simp only [h]

set_option maxHeartbeats 4000000 in
theorem qa_at (i : Fin 16384) (n : Fin 512) : val_main_v85 x0 x1 x2 x3 x4 x6 x7 (ix2 i n) =
    rope (fun n => urow x0 x1 x2 x3 x4 ⟨i.val / 2048, by omega⟩ ⟨i.val % 2048, by omega⟩ ⟨0 + n.val, by omega⟩) (fun d => x6 (ix2 ⟨i.val % 2048, by omega⟩ d)) (fun d => x7 (ix2 ⟨i.val % 2048, by omega⟩ d)) n := by
  have h := u_at x0 x1 x2 x3 x4 ⟨i.val / 2048, by omega⟩ ⟨i.val % 2048, by omega⟩
  simp only [← h]
  clear h
  unfold val_main_v85 val_main_v53 val_main_v52 val_main_v51 val_main_v50 val_main_v49 val_main_v46 val_main_v43 val_main_v42 val_main_v39 val_main_v36 val_main_v35 val_main_v34 val_main_v31 val_main_v24
  generalize val_main_v23 x0 x1 x2 x3 x4 = u at *
  pointwise [val_main_v32, val_main_v33, val_main_v37, val_main_v38, val_main_v40, val_main_v41, val_main_v44, val_main_v45, val_main_v47, val_main_v48]
  unfold rope
  split_ifs
  all_goals first
    | exact congrArg₂ (· - ·) (congrArg₂ (· * ·) (congrArg (fun k => u (ix3 ⟨i.val / 2048, by omega⟩ ⟨i.val % 2048, by omega⟩ k)) (Fin.ext (by dsimp only <;> omega))) rfl) (congrArg₂ (· * ·) (congrArg (fun k => u (ix3 ⟨i.val / 2048, by omega⟩ ⟨i.val % 2048, by omega⟩ k)) (Fin.ext (by dsimp only <;> omega))) rfl)
    | exact congrArg₂ (· + ·) (congrArg₂ (· * ·) (congrArg (fun k => u (ix3 ⟨i.val / 2048, by omega⟩ ⟨i.val % 2048, by omega⟩ k)) (Fin.ext (by dsimp only <;> omega))) rfl) (congrArg₂ (· * ·) (congrArg (fun k => u (ix3 ⟨i.val / 2048, by omega⟩ ⟨i.val % 2048, by omega⟩ k)) (Fin.ext (by dsimp only <;> omega))) rfl)
    | (rw [dif_neg (show ¬ n.val % 64 < 8 by omega)]; exact (congrArg (fun k => u (ix3 ⟨i.val / 2048, by omega⟩ ⟨i.val % 2048, by omega⟩ k)) (Fin.ext (by dsimp only <;> omega))))

set_option maxHeartbeats 4000000 in
theorem ka_at (n : Fin 512) : val_main_v88 x0 x1 x2 x3 x4 x6 x7 (ix3 b n s) =
    rope (fun n => urow x0 x1 x2 x3 x4 b s ⟨512 + n.val, by omega⟩) (fun d => x6 (ix2 s d)) (fun d => x7 (ix2 s d)) n := by
  have h := u_at x0 x1 x2 x3 x4 b s
  simp only [← h]
  clear h
  unfold val_main_v88 val_main_v87 val_main_v76 val_main_v75 val_main_v74 val_main_v73 val_main_v72 val_main_v69 val_main_v66 val_main_v65 val_main_v62 val_main_v59 val_main_v58 val_main_v57 val_main_v54 val_main_v25
  generalize val_main_v23 x0 x1 x2 x3 x4 = u at *
  pointwise [val_main_v55, val_main_v56, val_main_v60, val_main_v61, val_main_v63, val_main_v64, val_main_v67, val_main_v68, val_main_v70, val_main_v71]
  unfold rope
  split_ifs
  all_goals first
    | exact congrArg₂ (· - ·) (congrArg₂ (· * ·) (congrArg (fun k => u (ix3 b s k)) (Fin.ext (by dsimp only <;> omega))) rfl) (congrArg₂ (· * ·) (congrArg (fun k => u (ix3 b s k)) (Fin.ext (by dsimp only <;> omega))) rfl)
    | exact congrArg₂ (· + ·) (congrArg₂ (· * ·) (congrArg (fun k => u (ix3 b s k)) (Fin.ext (by dsimp only <;> omega))) rfl) (congrArg₂ (· * ·) (congrArg (fun k => u (ix3 b s k)) (Fin.ext (by dsimp only <;> omega))) rfl)
    | (rw [dif_neg (show ¬ n.val % 64 < 8 by omega)]; exact (congrArg (fun k => u (ix3 b s k)) (Fin.ext (by dsimp only <;> omega))))

theorem qb_at (i : Fin 16384) (n : Fin 512) : val_main_v86 x0 x1 x2 x3 x4 (ix2 i n) = urow x0 x1 x2 x3 x4 ⟨i.val / 2048, by omega⟩ ⟨i.val % 2048, by omega⟩ ⟨1536 + n.val, by omega⟩ := by
  refine Eq.trans ?_ (u_at x0 x1 x2 x3 x4 ⟨i.val / 2048, by omega⟩ ⟨i.val % 2048, by omega⟩ _)
  unfold val_main_v86 val_main_v78 val_main_v27
  generalize val_main_v23 x0 x1 x2 x3 x4 = u at *
  pointwise []

theorem va_at (n : Fin 512) : val_main_v90 x0 x1 x2 x3 x4 (ix3 b n s) = urow x0 x1 x2 x3 x4 b s ⟨1024 + n.val, by omega⟩ := by
  refine Eq.trans ?_ (u_at x0 x1 x2 x3 x4 b s _)
  unfold val_main_v90 val_main_v89 val_main_v77 val_main_v26
  generalize val_main_v23 x0 x1 x2 x3 x4 = u at *
  pointwise []

theorem kb_at (n : Fin 512) : val_main_v92 x0 x1 x2 x3 x4 (ix3 b n s) = urow x0 x1 x2 x3 x4 b s ⟨2048 + n.val, by omega⟩ := by
  refine Eq.trans ?_ (u_at x0 x1 x2 x3 x4 b s _)
  unfold val_main_v92 val_main_v91 val_main_v79 val_main_v28
  generalize val_main_v23 x0 x1 x2 x3 x4 = u at *
  pointwise []

theorem vb_at (n : Fin 512) : val_main_v94 x0 x1 x2 x3 x4 (ix3 b n s) = urow x0 x1 x2 x3 x4 b s ⟨2560 + n.val, by omega⟩ := by
  refine Eq.trans ?_ (u_at x0 x1 x2 x3 x4 b s _)
  unfold val_main_v94 val_main_v93 val_main_v80 val_main_v29
  generalize val_main_v23 x0 x1 x2 x3 x4 = u at *
  pointwise []

theorem lf_at (n : Fin 8) : val_main_v95 x0 x1 x2 x3 x4 x5 (ix3 b n s) = logSigmoid (urow x0 x1 x2 x3 x4 b s ⟨3072 + n.val, by omega⟩ + x5 (ix2 0 n)) := by
  rw [← u_at, ← logSigmoid_eq]
  unfold val_main_v95 val_main_v84 val_main_call0_v1 val_main_call0_call0_v11 val_main_call0_call0_v10 val_main_call0_call0_v9 val_main_call0_call0_v8
    val_main_call0_call0_v7 val_main_call0_call0_v6 val_main_call0_call0_v4 val_main_call0_call0_v3 val_main_call0_call0_v1 val_main_call0_v0 val_main_v83 val_main_v30
  generalize val_main_v23 x0 x1 x2 x3 x4 = u at *
  pointwise [val_main_v82, val_main_v81, val_main_v22, val_main_call0_call0_v5, val_main_call0_call0_v2, val_main_call0_call0_v0, val_main_call0_call0_cst]
  unfold softplus
  simp

end Cert.Reference6Ideal.ProjRef

end
-- ==== Proof.ProjPEq.lean ====
/-
  The attention layer's input projection for the prompt: the arrays that the call returns are the reference's
  results on the same arguments.
-/
module

public import proofs.«01_k».proof.Proof.ProjPRead
public import proofs.«01_k».proof.Proof.ProjPRef

@[expose] public section

set_option maxRecDepth 16384

noncomputable section

open Idealize.ShloMosaic Idealize.ShloMosaic.TcCoe Idealize.SL.Sem

namespace Cert.ProjPEq

open Cert.Kernel6Ideal Cert.Kernel6Ideal.Gen Cert.Kernel6Ideal.ProjRead

variable (m : (ℓ : Loc nD τ sig) → Buf (Elt Ideal) ℓ) (c : Dev nD)

/-- The grid point and the row of its block that hold a row of the flattened batch. -/
theorem row_at (i : Fin 16384) : ∃ (t : Fin cfg0.N) (r : Fin 512), i = row t r :=
  ⟨⟨i.val / 512, by show i.val / 512 < 32; omega⟩, ⟨i.val % 512, by omega⟩, Fin.ext (by show i.val = i.val / 512 * 512 + i.val % 512; omega)⟩
/-- The grid point and the row of its block that hold a sequence's position. -/
theorem pos_at (b : Fin 8) (s : Fin 2048) : ∃ (t : Fin cfg0.N) (r : Fin 512), b = bat t ∧ s = pos t r :=
  ⟨⟨b.val * 4 + s.val / 512, by show b.val * 4 + s.val / 512 < 32; omega⟩, ⟨s.val % 512, by omega⟩,
    Fin.ext (by show b.val = (b.val * 4 + s.val / 512) / 4; omega), Fin.ext (by show s.val = (b.val * 4 + s.val / 512) % 4 * 512 + s.val % 512; omega)⟩

/-- The rotated queries of the sparse mechanism. -/
theorem eq13 : (dats m 0 c).arrAt 13 cfg0.N = Cert.Reference6Ideal.Read.val_main_v85 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  funext i
  obtain ⟨i, n, rfl⟩ : ∃ (a : Fin 16384) (n : Fin 512), i = ix2 a n := ⟨i 0, i 1, by funext a; fin_cases a <;> rfl⟩
  obtain ⟨t, r, rfl⟩ := row_at i
  refine (arr13 m c t r n).trans ?_
  rw [Cert.Kernel6Ideal.Block.out13_at (cs := fun r d => m ((c : Thread nD τ).loc main_arg6) (ix2 (pos t r) d)) (sn := fun r d => m ((c : Thread nD τ).loc main_arg7) (ix2 (pos t r) d)) (hx7 := in7 m c t) (hx8 := in8 m c t) (hx9 := in9 m c t), Cert.Reference6Ideal.ProjRef.qa_at]
  simp only [row_div, row_mod, Cert.Kernel6Ideal.Block.urow, Cert.Kernel6Ideal.Block.hrow, Cert.Reference6Ideal.ProjRef.urow, Cert.Reference6Ideal.ProjRef.hrow, in0, in1, in2, in3, in4]

/-- The queries of the forgetting mechanism. -/
theorem eq14 : (dats m 0 c).arrAt 14 cfg0.N = Cert.Reference6Ideal.Read.val_main_v86 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨i, n, rfl⟩ : ∃ (a : Fin 16384) (n : Fin 512), i = ix2 a n := ⟨i 0, i 1, by funext a; fin_cases a <;> rfl⟩
  obtain ⟨t, r, rfl⟩ := row_at i
  refine (arr14 m c t r n).trans ?_
  rw [Cert.Kernel6Ideal.Block.out14_at, Cert.Reference6Ideal.ProjRef.qb_at]
  simp only [row_div, row_mod, Cert.Kernel6Ideal.Block.urow, Cert.Kernel6Ideal.Block.hrow, Cert.Reference6Ideal.ProjRef.urow, Cert.Reference6Ideal.ProjRef.hrow, in0, in1, in2, in3, in4]

/-- The rotated keys of the sparse mechanism. -/
theorem eq15 : (dats m 0 c).arrAt 15 cfg0.N = Cert.Reference6Ideal.Read.val_main_v88 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  funext i
  obtain ⟨b, n, s, rfl⟩ : ∃ (b : Fin 8) (n : Fin 512) (s : Fin 2048), i = ix3 b n s := ⟨i 0, i 1, i 2, by funext a; fin_cases a <;> rfl⟩
  obtain ⟨t, r, rfl, rfl⟩ := pos_at b s
  refine (arr15 m c t n r).trans ?_
  rw [Cert.Kernel6Ideal.Block.out15_at (cs := fun r d => m ((c : Thread nD τ).loc main_arg6) (ix2 (pos t r) d)) (sn := fun r d => m ((c : Thread nD τ).loc main_arg7) (ix2 (pos t r) d)) (hx10 := in10 m c t) (hx11 := in11 m c t) (hx12 := in12 m c t), Cert.Reference6Ideal.ProjRef.ka_at]
  simp only [Cert.Kernel6Ideal.Block.urow, Cert.Kernel6Ideal.Block.hrow, Cert.Reference6Ideal.ProjRef.urow, Cert.Reference6Ideal.ProjRef.hrow, in0, in1, in2, in3, in4]

/-- The values of the sparse mechanism. -/
theorem eq16 : (dats m 0 c).arrAt 16 cfg0.N = Cert.Reference6Ideal.Read.val_main_v90 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, n, s, rfl⟩ : ∃ (b : Fin 8) (n : Fin 512) (s : Fin 2048), i = ix3 b n s := ⟨i 0, i 1, i 2, by funext a; fin_cases a <;> rfl⟩
  obtain ⟨t, r, rfl, rfl⟩ := pos_at b s
  refine (arr16 m c t n r).trans ?_
  rw [Cert.Kernel6Ideal.Block.out16_at, Cert.Reference6Ideal.ProjRef.va_at]
  simp only [Cert.Kernel6Ideal.Block.urow, Cert.Kernel6Ideal.Block.hrow, Cert.Reference6Ideal.ProjRef.urow, Cert.Reference6Ideal.ProjRef.hrow, in0, in1, in2, in3, in4]

/-- The keys of the forgetting mechanism. -/
theorem eq17 : (dats m 0 c).arrAt 17 cfg0.N = Cert.Reference6Ideal.Read.val_main_v92 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, n, s, rfl⟩ : ∃ (b : Fin 8) (n : Fin 512) (s : Fin 2048), i = ix3 b n s := ⟨i 0, i 1, i 2, by funext a; fin_cases a <;> rfl⟩
  obtain ⟨t, r, rfl, rfl⟩ := pos_at b s
  refine (arr17 m c t n r).trans ?_
  rw [Cert.Kernel6Ideal.Block.out17_at, Cert.Reference6Ideal.ProjRef.kb_at]
  simp only [Cert.Kernel6Ideal.Block.urow, Cert.Kernel6Ideal.Block.hrow, Cert.Reference6Ideal.ProjRef.urow, Cert.Reference6Ideal.ProjRef.hrow, in0, in1, in2, in3, in4]

/-- The values of the forgetting mechanism. -/
theorem eq18 : (dats m 0 c).arrAt 18 cfg0.N = Cert.Reference6Ideal.Read.val_main_v94 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, n, s, rfl⟩ : ∃ (b : Fin 8) (n : Fin 512) (s : Fin 2048), i = ix3 b n s := ⟨i 0, i 1, i 2, by funext a; fin_cases a <;> rfl⟩
  obtain ⟨t, r, rfl, rfl⟩ := pos_at b s
  refine (arr18 m c t n r).trans ?_
  rw [Cert.Kernel6Ideal.Block.out18_at, Cert.Reference6Ideal.ProjRef.vb_at]
  simp only [Cert.Kernel6Ideal.Block.urow, Cert.Kernel6Ideal.Block.hrow, Cert.Reference6Ideal.ProjRef.urow, Cert.Reference6Ideal.ProjRef.hrow, in0, in1, in2, in3, in4]

/-- The logarithms of the forget gates. -/
theorem eq19 : (dats m 0 c).arrAt 19 cfg0.N = Cert.Reference6Ideal.Read.val_main_v95 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨b, n, s, rfl⟩ : ∃ (b : Fin 8) (n : Fin 8) (s : Fin 2048), i = ix3 b n s := ⟨i 0, i 1, i 2, by funext a; fin_cases a <;> rfl⟩
  obtain ⟨t, r, rfl, rfl⟩ := pos_at b s
  refine (arr19 m c t n r).trans ?_
  rw [Cert.Kernel6Ideal.Block.out19_at, Cert.Reference6Ideal.ProjRef.lf_at]
  simp only [Cert.Kernel6Ideal.Block.hrow, Cert.Reference6Ideal.ProjRef.urow, Cert.Reference6Ideal.ProjRef.hrow, in0, in1, in2, in3, in5, in6]

end Cert.ProjPEq

end
-- ==== Proof.ProjABlock.lean ====
/-
  What the attention layer's input projection computes for the sample batch, at an index, as the row functions of the
  blocks that it reads.
-/
module

public import proofs.«01_k».proof.Proof.Gen.Kernel5Ideal.Frame
public import Idealize.ShloMosaic.Lib.Pipeline.Value
public import proofs.«01_k».proof.Proof.ProjSpec

@[expose] public section

set_option maxRecDepth 16384

noncomputable section

open Idealize.ShloMosaic

namespace Cert.Kernel5Ideal.Block

open Cert.Kernel5Ideal Cert.Kernel5Ideal.Gen Cert.PostSpec Cert.ProjSpec

theorem hz3 : (![0, 0, 0] : Fin 3 → Nat) = fun _ => 0 := funext fun a => by fin_cases a <;> rfl
theorem hz2 : (![0, 0] : Fin 2 → Nat) = fun _ => 0 := funext fun a => by fin_cases a <;> rfl

theorem pay2_at (v0 : Vec Ideal S32x1024 .f32) (v2 : Vec Ideal S1x1024 .f32) (v16 v21 : Vec Ideal S1x32x1024 .f32) (r : Fin 32) (k : Fin 1024) :
    k0_pay2 (F := Ideal) v0 v2 v16 v21 (ix2 r k) = modul (fun k => v0 (ix2 r k)) (fun k => v2 (ix2 0 k)) (fun k => v16 (ix3 0 r k)) (fun k => v21 (ix3 0 r k)) k := by
  pointwise [k0_pay2]
  rfl

theorem pay3_at (v0 : Vec Ideal S32x1024 .f32) (v2 : Vec Ideal S1x1024 .f32) (v16 v21 : Vec Ideal S1x32x1024 .f32) (w : Vec Ideal S512x1024 .bf16) (r : Fin 32) (n : Fin 512) :
    k0_pay3 (F := Ideal) v0 v2 v16 v21 w (ix2 r n) = ∑ k, k0_pay2 (F := Ideal) v0 v2 v16 v21 (ix2 r k) * w (ix2 n k) := by
  unfold k0_pay3
  generalize k0_pay2 v0 v2 v16 v21 = u
  pointwise []

theorem pay7_at (h : FVec Ideal S32x1024 .bf16) (w : Vec Ideal S512x1024 .bf16) (r : Fin 32) (n : Fin 512) :
    k0_pay7 (F := Ideal) h w (ix2 r n) = ∑ k, h (ix2 r k) * w (ix2 n k) := by
  pointwise [k0_pay7]

theorem pay9_at (h : FVec Ideal S32x1024 .bf16) (w : Vec Ideal S512x1024 .bf16) (r : Fin 32) (n : Fin 512) :
    k0_pay9 (F := Ideal) h w (ix2 r n) = ∑ k, h (ix2 r k) * w (ix2 n k) := by
  pointwise [k0_pay9]

theorem pay16_at (h : FVec Ideal S32x1024 .bf16) (w : Vec Ideal S512x1024 .bf16) (r : Fin 32) (n : Fin 512) :
    k0_pay16 (F := Ideal) h w (ix2 r n) = ∑ k, h (ix2 r k) * w (ix2 n k) := by
  pointwise [k0_pay16]

theorem pay17_at (h : FVec Ideal S32x1024 .bf16) (w : Vec Ideal S512x1024 .bf16) (r : Fin 32) (n : Fin 512) :
    k0_pay17 (F := Ideal) h w (ix2 r n) = ∑ k, h (ix2 r k) * w (ix2 n k) := by
  pointwise [k0_pay17]

theorem pay18_at (h : FVec Ideal S32x1024 .bf16) (w : Vec Ideal S512x1024 .bf16) (r : Fin 32) (n : Fin 512) :
    k0_pay18 (F := Ideal) h w (ix2 r n) = ∑ k, h (ix2 r k) * w (ix2 n k) := by
  pointwise [k0_pay18]

theorem pay6_at (z : FVec Ideal S32x512 .f32) (x7 x8 x9 : Vec Ideal S1x1x128 .f32) (cs sn : Fin 8 → EReal)
    (hx7 : ∀ p : Fin 128, x7 (ix3 0 0 p) = tabC cs (p.val % 64)) (hx8 : ∀ p : Fin 128, x8 (ix3 0 0 p) = tabP sn (p.val % 64))
    (hx9 : ∀ p : Fin 128, x9 (ix3 0 0 p) = tabM sn (p.val % 64)) (r : Fin 32) (n : Fin 512) :
    k0_pay6 (F := Ideal) z (k0_pay4 x7) (k0_pay5 x8) x9 (ix2 r n) = rope (fun n => z (ix2 r n)) cs sn n := by
  pointwise [k0_pay6, k0_pay4, k0_pay5]
  split_ifs
  all_goals exact rope_of (fun n => z (ix2 r n)) cs sn n _ _ _ _ _ _ (n.val % 64) rfl (congrArg (fun k : Fin 512 => z (ix2 r k)) (Fin.ext (by dsimp only <;> omega))) (fun h => (congrArg (fun k : Fin 512 => z (ix2 r k)) (Fin.ext (by dsimp only <;> omega)))) (fun h => (congrArg (fun k : Fin 512 => z (ix2 r k)) (Fin.ext (by dsimp only <;> omega)))) ((hx7 _).trans (congrArg _ (by dsimp only <;> omega))) ((hx8 _).trans (congrArg _ (by dsimp only <;> omega))) ((hx9 _).trans (congrArg _ (by dsimp only <;> omega)))

theorem pay15_at (h : FVec Ideal S32x1024 .bf16) (w : Vec Ideal S512x1024 .bf16) (x7 x8 x9 : Vec Ideal S1x1x128 .f32) (cs sn : Fin 8 → EReal)
    (hx7 : ∀ p : Fin 128, x7 (ix3 0 0 p) = tabC cs (p.val % 64)) (hx8 : ∀ p : Fin 128, x8 (ix3 0 0 p) = tabP sn (p.val % 64))
    (hx9 : ∀ p : Fin 128, x9 (ix3 0 0 p) = tabM sn (p.val % 64)) (r : Fin 32) (n : Fin 512) :
    k0_pay15 (F := Ideal) (k0_pay9 h w) (k0_pay10 x7) (k0_pay11 x8) (k0_pay12 x9) (k0_pay13 h w x7 x8 x9) (k0_pay14 h w x7 x8 x9) (ix2 r n) =
      rope (fun n => k0_pay9 (F := Ideal) h w (ix2 r n)) cs sn n := by
  unfold k0_pay15 k0_pay13 k0_pay14
  generalize k0_pay9 h w = z
  pointwise [k0_pay10, k0_pay11, k0_pay12]
  split_ifs
  all_goals exact rope_of (fun n => z (ix2 r n)) cs sn n _ _ _ _ _ _ (n.val % 64) rfl (congrArg (fun k : Fin 512 => z (ix2 r k)) (Fin.ext (by dsimp only <;> omega))) (fun h => (congrArg (fun k : Fin 512 => z (ix2 r k)) (Fin.ext (by dsimp only <;> omega)))) (fun h => (congrArg (fun k : Fin 512 => z (ix2 r k)) (Fin.ext (by dsimp only <;> omega)))) ((hx7 _).trans (congrArg _ (by dsimp only <;> omega))) ((hx8 _).trans (congrArg _ (by dsimp only <;> omega))) ((hx9 _).trans (congrArg _ (by dsimp only <;> omega)))

theorem pay1_at (v24 : FVec Ideal S32x1024 .bf16) (x5 : Vec Ideal S8x1024 .f32) (x6 : Vec Ideal S1x8 .f32) (r : Fin 32) (n : Fin 8) :
    k0_pay1 (F := Ideal) v24 (k0_pay8 x5) x6 (ix2 r n) = logSigmoid ((∑ x, v24 (ix2 r x) * x5 (ix2 n x)) + x6 (ix2 0 n)) := by
  pointwise [k0_pay1, k0_pay8]
  rw [show ∀ x : EReal, 0 - x = -x from fun x => by rw [sub_eq_add_neg]; exact zero_add _]
  rfl

section
variable (x0 : Vec Ideal S32x1024 .f32) (x1 x2 : Vec Ideal S1x32x1024 .f32) (x3 : Vec Ideal S1x1024 .f32) (x4 : Vec Ideal S3072x1024 .bf16) (x5 : Vec Ideal S8x1024 .f32)
  (x6 : Vec Ideal S1x8 .f32) (x7 x8 x9 : Vec Ideal S1x1x128 .f32) (r : Fin 32)

/-- The modulated norm of a row, as its blocks give it. -/
abbrev hrow (k : Fin 1024) : EReal := modul (fun k => x0 (ix2 r k)) (fun k => x3 (ix2 0 k)) (fun k => x1 (ix3 0 r k)) (fun k => x2 (ix3 0 r k)) k
/-- A column of the projected row. -/
abbrev urow (n : Fin 3072) : EReal := ∑ k, hrow x0 x1 x2 x3 r k * x4 (ix2 n k)

theorem pay19_at (k : Fin 1024) : k0_pay19 x0 x1 x2 x3 x4 x5 x6 x7 x8 x9 (ix2 r k) = hrow x0 x1 x2 x3 r k := by
  unfold k0_pay19
  rw [View.ld_unit_zero hz2 _ x0, View.ld_unit_zero hz2 _ x3, View.ld_unit_zero hz3 _ x1, View.ld_unit_zero hz3 _ x2, pay2_at]

/-! The loads of one of the six parts of the projection's weights. -/
theorem ldw0 (n : Fin 512) (k : Fin 1024) : View.ld x4 r0_3 (ix2 n k) = x4 (ix2 ⟨0 + n.val, by omega⟩ k) :=
  congrArg x4 (by funext a; apply Fin.ext; match a with | ⟨0, _⟩ => show 0 + 1 * n.val = 0 + n.val; omega | ⟨1, _⟩ => show 0 + 1 * k.val = k.val; omega)
theorem ldw1536 (n : Fin 512) (k : Fin 1024) : View.ld x4 r0_6 (ix2 n k) = x4 (ix2 ⟨1536 + n.val, by omega⟩ k) :=
  congrArg x4 (by funext a; apply Fin.ext; match a with | ⟨0, _⟩ => show 1536 + 1 * n.val = 1536 + n.val; omega | ⟨1, _⟩ => show 0 + 1 * k.val = k.val; omega)
theorem ldw512 (n : Fin 512) (k : Fin 1024) : View.ld x4 r0_8 (ix2 n k) = x4 (ix2 ⟨512 + n.val, by omega⟩ k) :=
  congrArg x4 (by funext a; apply Fin.ext; match a with | ⟨0, _⟩ => show 512 + 1 * n.val = 512 + n.val; omega | ⟨1, _⟩ => show 0 + 1 * k.val = k.val; omega)
theorem ldw1024 (n : Fin 512) (k : Fin 1024) : View.ld x4 r0_9 (ix2 n k) = x4 (ix2 ⟨1024 + n.val, by omega⟩ k) :=
  congrArg x4 (by funext a; apply Fin.ext; match a with | ⟨0, _⟩ => show 1024 + 1 * n.val = 1024 + n.val; omega | ⟨1, _⟩ => show 0 + 1 * k.val = k.val; omega)
theorem ldw2048 (n : Fin 512) (k : Fin 1024) : View.ld x4 r0_10 (ix2 n k) = x4 (ix2 ⟨2048 + n.val, by omega⟩ k) :=
  congrArg x4 (by funext a; apply Fin.ext; match a with | ⟨0, _⟩ => show 2048 + 1 * n.val = 2048 + n.val; omega | ⟨1, _⟩ => show 0 + 1 * k.val = k.val; omega)
theorem ldw2560 (n : Fin 512) (k : Fin 1024) : View.ld x4 r0_11 (ix2 n k) = x4 (ix2 ⟨2560 + n.val, by omega⟩ k) :=
  congrArg x4 (by funext a; apply Fin.ext; match a with | ⟨0, _⟩ => show 2560 + 1 * n.val = 2560 + n.val; omega | ⟨1, _⟩ => show 0 + 1 * k.val = k.val; omega)

theorem out10_at (cs sn : Fin 8 → EReal) (hx7 : ∀ p : Fin 128, x7 (ix3 0 0 p) = tabC cs (p.val % 64)) (hx8 : ∀ p : Fin 128, x8 (ix3 0 0 p) = tabP sn (p.val % 64))
    (hx9 : ∀ p : Fin 128, x9 (ix3 0 0 p) = tabM sn (p.val % 64)) (n : Fin 512) :
    out0_10 x0 x1 x2 x3 x4 x5 x6 x7 x8 x9 (ix2 r n) = rope (fun n => urow x0 x1 x2 x3 x4 r ⟨0 + n.val, by omega⟩) cs sn n := by
  unfold out0_10
  rw [View.canon_unit_zero hz2, View.ld_unit_zero hz2 _ x0, View.ld_unit_zero hz2 _ x3, View.ld_unit_zero hz3 _ x1, View.ld_unit_zero hz3 _ x2, View.ld_unit_zero hz3 _ x7,
    View.ld_unit_zero hz3 _ x8, View.ld_unit_zero hz3 _ x9, pay6_at _ _ _ _ cs sn hx7 hx8 hx9]
  congr 1
  funext n
  rw [pay3_at]
  exact Finset.sum_congr rfl fun k _ => congrArg₂ (· * ·) (pay2_at _ _ _ _ r k) (ldw0 x4 n k)

theorem out12_at (cs sn : Fin 8 → EReal) (hx7 : ∀ p : Fin 128, x7 (ix3 0 0 p) = tabC cs (p.val % 64)) (hx8 : ∀ p : Fin 128, x8 (ix3 0 0 p) = tabP sn (p.val % 64))
    (hx9 : ∀ p : Fin 128, x9 (ix3 0 0 p) = tabM sn (p.val % 64)) (n : Fin 512) :
    out0_12 x0 x1 x2 x3 x4 x5 x6 x7 x8 x9 (ix2 r n) = rope (fun n => urow x0 x1 x2 x3 x4 r ⟨512 + n.val, by omega⟩) cs sn n := by
  unfold out0_12
  rw [View.canon_unit_zero hz2, View.ld_unit_zero hz3 _ x7, View.ld_unit_zero hz3 _ x8, View.ld_unit_zero hz3 _ x9, pay15_at _ _ _ _ _ cs sn hx7 hx8 hx9]
  congr 1
  funext n
  rw [pay9_at]
  exact Finset.sum_congr rfl fun k _ => congrArg₂ (· * ·) (pay19_at _ _ _ _ _ _ _ _ _ _ r k) (ldw512 x4 n k)

theorem out11_at (n : Fin 512) : out0_11 x0 x1 x2 x3 x4 x5 x6 x7 x8 x9 (ix2 r n) = urow x0 x1 x2 x3 x4 r ⟨1536 + n.val, by omega⟩ := by
  unfold out0_11
  rw [View.canon_unit_zero hz2, pay7_at]
  exact Finset.sum_congr rfl fun k _ => congrArg₂ (· * ·) (pay19_at _ _ _ _ _ _ _ _ _ _ r k) (ldw1536 x4 n k)

theorem out13_at (n : Fin 512) : out0_13 x0 x1 x2 x3 x4 x5 x6 x7 x8 x9 (ix2 r n) = urow x0 x1 x2 x3 x4 r ⟨1024 + n.val, by omega⟩ := by
  unfold out0_13
  rw [View.canon_unit_zero hz2, pay16_at]
  exact Finset.sum_congr rfl fun k _ => congrArg₂ (· * ·) (pay19_at _ _ _ _ _ _ _ _ _ _ r k) (ldw1024 x4 n k)

theorem out14_at (n : Fin 512) : out0_14 x0 x1 x2 x3 x4 x5 x6 x7 x8 x9 (ix2 r n) = urow x0 x1 x2 x3 x4 r ⟨2048 + n.val, by omega⟩ := by
  unfold out0_14
  rw [View.canon_unit_zero hz2, pay17_at]
  exact Finset.sum_congr rfl fun k _ => congrArg₂ (· * ·) (pay19_at _ _ _ _ _ _ _ _ _ _ r k) (ldw2048 x4 n k)

theorem out15_at (n : Fin 512) : out0_15 x0 x1 x2 x3 x4 x5 x6 x7 x8 x9 (ix2 r n) = urow x0 x1 x2 x3 x4 r ⟨2560 + n.val, by omega⟩ := by
  unfold out0_15
  rw [View.canon_unit_zero hz2, pay18_at]
  exact Finset.sum_congr rfl fun k _ => congrArg₂ (· * ·) (pay19_at _ _ _ _ _ _ _ _ _ _ r k) (ldw2560 x4 n k)

theorem out16_at (n : Fin 8) : out0_16 x0 x1 x2 x3 x4 x5 x6 x7 x8 x9 (ix2 r n) = logSigmoid ((∑ k, hrow x0 x1 x2 x3 r k * x5 (ix2 n k)) + x6 (ix2 0 n)) := by
  unfold out0_16
  rw [View.canon_unit_zero hz2, View.ld_unit_zero hz2 _ x5, View.ld_unit_zero hz2 _ x6, pay1_at]
  simp only [pay19_at]

end

end Cert.Kernel5Ideal.Block

end
-- ==== Proof.ProjARead.lean ====
/-
  What the arrays hold that the attention layer's input projection works on for the sample batch: what the host's
  operations leave for the call to read, what the blocks hold of that, and what the result arrays hold after the run.
-/
module

public import proofs.«01_k».proof.Proof.ProjABlock
public import proofs.«01_k».proof.Proof.Gen.Kernel5Ideal.Value
public import Idealize.ShloMosaic.Lib.StableHlo.ReadAt
public import Idealize.ShloMosaic.Lib.Tactic
public import Idealize.ShloMosaic.Lib.KernelVsHost

@[expose] public section

set_option maxRecDepth 16384

noncomputable section

open Idealize.ShloMosaic Idealize.ShloMosaic.TcCoe Idealize.SL.Sem

namespace Cert.Kernel5Ideal.ProjRead

open Cert.Kernel5Ideal Cert.Kernel5Ideal.Gen Cert.ProjSpec

variable (m : (ℓ : Loc nD τ sig) → Buf (Elt Ideal) ℓ) (c : Dev nD) (t : Fin cfg0.N)

/-! What the host's operations leave, in terms of the arguments. -/

theorem V2 (r : Fin 32) (k : Fin 1024) : V m c main_v2 (ix2 r k) = m ((c : Thread nD τ).loc main_arg0) (ix3 r 0 k) := by
  unfold V
  after_reads_at
theorem V3 (r : Fin 32) (k : Fin 1024) : V m c main_v3 (ix3 0 r k) = m ((c : Thread nD τ).loc main_arg1) (ix3 r 0 k) := by
  unfold V
  after_reads_at
theorem V4 (r : Fin 32) (k : Fin 1024) : V m c main_v4 (ix3 0 r k) = m ((c : Thread nD τ).loc main_arg2) (ix3 r 0 k) := by
  unfold V
  after_reads_at
theorem V7 (k : Fin 1024) : V m c main_v7 (ix2 0 k) = m ((c : Thread nD τ).loc main_arg3) (ix2 0 k) := by
  unfold V
  after_reads_at
theorem V9 (n : Fin 3072) (k : Fin 1024) : V m c main_v9 (ix2 n k) = m ((c : Thread nD τ).loc main_arg4) (ix3 0 k ⟨n.val, by omega⟩) := by
  unfold V
  after_reads_at
theorem V10 (n : Fin 8) (k : Fin 1024) : V m c main_v10 (ix2 n k) = m ((c : Thread nD τ).loc main_arg4) (ix3 0 k ⟨3072 + n.val, by omega⟩) := by
  unfold V
  after_reads_at
theorem V32 (n : Fin 8) : V m c main_v32 (ix2 0 n) = m ((c : Thread nD τ).loc main_arg5) (ix2 0 n) := by
  unfold V
  after_reads_at
set_option maxHeartbeats 2000000 in
theorem V23 (p : Fin 128) : V m c main_v23 (ix3 0 0 p) = tabC (fun d => m ((c : Thread nD τ).loc main_arg6) (ix2 0 d)) (p.val % 64) := by
  unfold V
  after_reads_at
  unfold tabC
  split_ifs <;> (try (exfalso; omega))
  all_goals after_reads_at
  all_goals first | rw [dif_neg (show ¬ p.val % 64 < 16 by omega)] | rw [dif_pos (show p.val % 64 < 16 by omega)]
set_option maxHeartbeats 2000000 in
theorem V27 (p : Fin 128) : V m c main_v27 (ix3 0 0 p) = tabP (fun d => m ((c : Thread nD τ).loc main_arg7) (ix2 0 d)) (p.val % 64) := by
  unfold V
  after_reads_at
  unfold tabP
  split_ifs <;> (try (exfalso; omega))
  all_goals after_reads_at
  all_goals first | rw [dif_neg (show ¬ p.val % 64 < 16 by omega)] | rw [dif_pos (show p.val % 64 < 16 by omega)]
set_option maxHeartbeats 2000000 in
theorem V31 (p : Fin 128) : V m c main_v31 (ix3 0 0 p) = tabM (fun d => m ((c : Thread nD τ).loc main_arg7) (ix2 0 d)) (p.val % 64) := by
  unfold V
  after_reads_at
  unfold tabM
  split_ifs <;> (try (exfalso; omega))
  all_goals after_reads_at
  all_goals first | rw [dif_neg (show ¬ p.val % 64 < 16 by omega)] | rw [dif_pos (show p.val % 64 < 16 by omega)]

/-- Where each window's block starts at a grid point. -/
theorem idx0 : ∀ t : Fin grid0.N, win0_0.index t 0 = 0 ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = 0 ∧ win0_2.index t 1 = 0 ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 ∧ win0_7.index t 2 = 0 := by decide +kernel
theorem idx8 : ∀ t : Fin grid0.N, win0_8.index t 0 = 0 ∧ win0_8.index t 1 = 0 ∧ win0_8.index t 2 = 0 := by decide +kernel
theorem idx9 : ∀ t : Fin grid0.N, win0_9.index t 0 = 0 ∧ win0_9.index t 1 = 0 ∧ win0_9.index t 2 = 0 := by decide +kernel
theorem idx10 : ∀ t : Fin grid0.N, win0_10.index t 0 = 0 ∧ win0_10.index t 1 = 0 := by decide +kernel
theorem idx11 : ∀ t : Fin grid0.N, win0_11.index t 0 = 0 ∧ win0_11.index t 1 = 0 := by decide +kernel
theorem idx12 : ∀ t : Fin grid0.N, win0_12.index t 0 = 0 ∧ win0_12.index t 1 = 0 := by decide +kernel
theorem idx13 : ∀ t : Fin grid0.N, win0_13.index t 0 = 0 ∧ win0_13.index t 1 = 0 := by decide +kernel
theorem idx14 : ∀ t : Fin grid0.N, win0_14.index t 0 = 0 ∧ win0_14.index t 1 = 0 := by decide +kernel
theorem idx15 : ∀ t : Fin grid0.N, win0_15.index t 0 = 0 ∧ win0_15.index t 1 = 0 := by decide +kernel
theorem idx16 : ∀ t : Fin grid0.N, win0_16.index t 0 = 0 ∧ win0_16.index t 1 = 0 := by decide +kernel

/-- What window 0's block holds, in terms of the array it is cut from. -/
theorem blk0 (r : Fin 32) (k : Fin 1024) : (iblk m c 0 t : Vec Ideal S32x1024 .f32) (ix2 r k) = V m c main_v2 (ix2 r k) := by
  unfold iblk
  rw [View.read_apply]
  show V m c main_v2 _ = _
  congr 1
  funext ax
  apply Fin.ext
  match ax with
  | ⟨0, _⟩ => show win0_0.index t 0 * 32 + 1 * r.val = r.val; rw [(idx0 t).1] <;> omega
  | ⟨1, _⟩ => show win0_0.index t 1 * 1024 + 1 * k.val = k.val; rw [(idx0 t).2] <;> omega
theorem in0 (r : Fin 32) (k : Fin 1024) : (iblk m c 0 t : Vec Ideal S32x1024 .f32) (ix2 r k) = m ((c : Thread nD τ).loc main_arg0) (ix3 r 0 k) :=
  (blk0 m c t r k).trans (V2 m c r k)

/-- What window 1's block holds, in terms of the array it is cut from. -/
theorem blk1 (r : Fin 32) (k : Fin 1024) : (iblk m c 1 t : Vec Ideal S1x32x1024 .f32) (ix3 0 r k) = V m c main_v3 (ix3 0 r k) := by
  unfold iblk
  rw [View.read_apply]
  show V m c main_v3 _ = _
  congr 1
  funext ax
  apply Fin.ext
  match ax with
  | ⟨0, _⟩ => show win0_1.index t 0 * 1 + 1 * 0 = 0; rw [(idx1 t).1] <;> omega
  | ⟨1, _⟩ => show win0_1.index t 1 * 32 + 1 * r.val = r.val; rw [(idx1 t).2.1] <;> omega
  | ⟨2, _⟩ => show win0_1.index t 2 * 1024 + 1 * k.val = k.val; rw [(idx1 t).2.2] <;> omega
theorem in1 (r : Fin 32) (k : Fin 1024) : (iblk m c 1 t : Vec Ideal S1x32x1024 .f32) (ix3 0 r k) = m ((c : Thread nD τ).loc main_arg1) (ix3 r 0 k) :=
  (blk1 m c t r k).trans (V3 m c r k)

/-- What window 2's block holds, in terms of the array it is cut from. -/
theorem blk2 (r : Fin 32) (k : Fin 1024) : (iblk m c 2 t : Vec Ideal S1x32x1024 .f32) (ix3 0 r k) = V m c main_v4 (ix3 0 r k) := by
  unfold iblk
  rw [View.read_apply]
  show V m c main_v4 _ = _
  congr 1
  funext ax
  apply Fin.ext
  match ax with
  | ⟨0, _⟩ => show win0_2.index t 0 * 1 + 1 * 0 = 0; rw [(idx2 t).1] <;> omega
  | ⟨1, _⟩ => show win0_2.index t 1 * 32 + 1 * r.val = r.val; rw [(idx2 t).2.1] <;> omega
  | ⟨2, _⟩ => show win0_2.index t 2 * 1024 + 1 * k.val = k.val; rw [(idx2 t).2.2] <;> omega
theorem in2 (r : Fin 32) (k : Fin 1024) : (iblk m c 2 t : Vec Ideal S1x32x1024 .f32) (ix3 0 r k) = m ((c : Thread nD τ).loc main_arg2) (ix3 r 0 k) :=
  (blk2 m c t r k).trans (V4 m c r k)

/-- What window 3's block holds, in terms of the array it is cut from. -/
theorem blk3 (k : Fin 1024) : (iblk m c 3 t : Vec Ideal S1x1024 .f32) (ix2 0 k) = V m c main_v7 (ix2 0 k) := by
  unfold iblk
  rw [View.read_apply]
  show V m c main_v7 _ = _
  congr 1
  funext ax
  apply Fin.ext
  match ax with
  | ⟨0, _⟩ => show win0_3.index t 0 * 1 + 1 * 0 = 0; rw [(idx3 t).1] <;> omega
  | ⟨1, _⟩ => show win0_3.index t 1 * 1024 + 1 * k.val = k.val; rw [(idx3 t).2] <;> omega
theorem in3 (k : Fin 1024) : (iblk m c 3 t : Vec Ideal S1x1024 .f32) (ix2 0 k) = m ((c : Thread nD τ).loc main_arg3) (ix2 0 k) :=
  (blk3 m c t k).trans (V7 m c k)

/-- What window 4's block holds, in terms of the array it is cut from. -/
theorem blk4 (n : Fin 3072) (k : Fin 1024) : (iblk m c 4 t : Vec Ideal S3072x1024 .bf16) (ix2 n k) = V m c main_v9 (ix2 n k) := by
  unfold iblk
  rw [View.read_apply]
  show V m c main_v9 _ = _
  congr 1
  funext ax
  apply Fin.ext
  match ax with
  | ⟨0, _⟩ => show win0_4.index t 0 * 3072 + 1 * n.val = n.val; rw [(idx4 t).1] <;> omega
  | ⟨1, _⟩ => show win0_4.index t 1 * 1024 + 1 * k.val = k.val; rw [(idx4 t).2] <;> omega
theorem in4 (n : Fin 3072) (k : Fin 1024) : (iblk m c 4 t : Vec Ideal S3072x1024 .bf16) (ix2 n k) = m ((c : Thread nD τ).loc main_arg4) (ix3 0 k ⟨n.val, by omega⟩) :=
  (blk4 m c t n k).trans (V9 m c n k)

/-- What window 5's block holds, in terms of the array it is cut from. -/
theorem blk5 (n : Fin 8) (k : Fin 1024) : (iblk m c 5 t : Vec Ideal S8x1024 .f32) (ix2 n k) = V m c main_v10 (ix2 n k) := by
  unfold iblk
  rw [View.read_apply]
  show V m c main_v10 _ = _
  congr 1
  funext ax
  apply Fin.ext
  match ax with
  | ⟨0, _⟩ => show win0_5.index t 0 * 8 + 1 * n.val = n.val; rw [(idx5 t).1] <;> omega
  | ⟨1, _⟩ => show win0_5.index t 1 * 1024 + 1 * k.val = k.val; rw [(idx5 t).2] <;> omega
theorem in5 (n : Fin 8) (k : Fin 1024) : (iblk m c 5 t : Vec Ideal S8x1024 .f32) (ix2 n k) = m ((c : Thread nD τ).loc main_arg4) (ix3 0 k ⟨3072 + n.val, by omega⟩) :=
  (blk5 m c t n k).trans (V10 m c n k)

/-- What window 6's block holds, in terms of the array it is cut from. -/
theorem blk6 (n : Fin 8) : (iblk m c 6 t : Vec Ideal S1x8 .f32) (ix2 0 n) = V m c main_v32 (ix2 0 n) := by
  unfold iblk
  rw [View.read_apply]
  show V m c main_v32 _ = _
  congr 1
  funext ax
  apply Fin.ext
  match ax with
  | ⟨0, _⟩ => show win0_6.index t 0 * 1 + 1 * 0 = 0; rw [(idx6 t).1] <;> omega
  | ⟨1, _⟩ => show win0_6.index t 1 * 8 + 1 * n.val = n.val; rw [(idx6 t).2] <;> omega
theorem in6 (n : Fin 8) : (iblk m c 6 t : Vec Ideal S1x8 .f32) (ix2 0 n) = m ((c : Thread nD τ).loc main_arg5) (ix2 0 n) :=
  (blk6 m c t n).trans (V32 m c n)

/-- What window 7's block holds, in terms of the array it is cut from. -/
theorem blk7 (p : Fin 128) : (iblk m c 7 t : Vec Ideal S1x1x128 .f32) (ix3 0 0 p) = V m c main_v23 (ix3 0 0 p) := by
  unfold iblk
  rw [View.read_apply]
  show V m c main_v23 _ = _
  congr 1
  funext ax
  apply Fin.ext
  match ax with
  | ⟨0, _⟩ => show win0_7.index t 0 * 1 + 1 * 0 = 0; rw [(idx7 t).1] <;> omega
  | ⟨1, _⟩ => show win0_7.index t 1 * 1 + 1 * 0 = 0; rw [(idx7 t).2.1] <;> omega
  | ⟨2, _⟩ => show win0_7.index t 2 * 128 + 1 * p.val = p.val; rw [(idx7 t).2.2] <;> omega
theorem in7 (p : Fin 128) : (iblk m c 7 t : Vec Ideal S1x1x128 .f32) (ix3 0 0 p) = tabC (fun d => m ((c : Thread nD τ).loc main_arg6) (ix2 0 d)) (p.val % 64) :=
  (blk7 m c t p).trans (V23 m c p)

/-- What window 8's block holds, in terms of the array it is cut from. -/
theorem blk8 (p : Fin 128) : (iblk m c 8 t : Vec Ideal S1x1x128 .f32) (ix3 0 0 p) = V m c main_v27 (ix3 0 0 p) := by
  unfold iblk
  rw [View.read_apply]
  show V m c main_v27 _ = _
  congr 1
  funext ax
  apply Fin.ext
  match ax with
  | ⟨0, _⟩ => show win0_8.index t 0 * 1 + 1 * 0 = 0; rw [(idx8 t).1] <;> omega
  | ⟨1, _⟩ => show win0_8.index t 1 * 1 + 1 * 0 = 0; rw [(idx8 t).2.1] <;> omega
  | ⟨2, _⟩ => show win0_8.index t 2 * 128 + 1 * p.val = p.val; rw [(idx8 t).2.2] <;> omega
theorem in8 (p : Fin 128) : (iblk m c 8 t : Vec Ideal S1x1x128 .f32) (ix3 0 0 p) = tabP (fun d => m ((c : Thread nD τ).loc main_arg7) (ix2 0 d)) (p.val % 64) :=
  (blk8 m c t p).trans (V27 m c p)

/-- What window 9's block holds, in terms of the array it is cut from. -/
theorem blk9 (p : Fin 128) : (iblk m c 9 t : Vec Ideal S1x1x128 .f32) (ix3 0 0 p) = V m c main_v31 (ix3 0 0 p) := by
  unfold iblk
  rw [View.read_apply]
  show V m c main_v31 _ = _
  congr 1
  funext ax
  apply Fin.ext
  match ax with
  | ⟨0, _⟩ => show win0_9.index t 0 * 1 + 1 * 0 = 0; rw [(idx9 t).1] <;> omega
  | ⟨1, _⟩ => show win0_9.index t 1 * 1 + 1 * 0 = 0; rw [(idx9 t).2.1] <;> omega
  | ⟨2, _⟩ => show win0_9.index t 2 * 128 + 1 * p.val = p.val; rw [(idx9 t).2.2] <;> omega
theorem in9 (p : Fin 128) : (iblk m c 9 t : Vec Ideal S1x1x128 .f32) (ix3 0 0 p) = tabM (fun d => m ((c : Thread nD τ).loc main_arg7) (ix2 0 d)) (p.val % 64) :=
  (blk9 m c t p).trans (V31 m c p)

/-- What window 10's array holds after a run, at one index: the grid point whose block holds it left it there. -/
theorem arr10 (r : Fin 32) (n : Fin 512) : ((dats m 0 c).arrAt 10 cfg0.N : Vec Ideal S32x512 .f32) (ix2 r n) = out0_10 (iblk m c 0 t) (iblk m c 1 t) (iblk m c 2 t) (iblk m c 3 t) (iblk m c 4 t) (iblk m c 5 t) (iblk m c 6 t) (iblk m c 7 t) (iblk m c 8 t) (iblk m c 9 t) (ix2 r n) := by
  have h := congrFun ((Value.blocks10 m c t (flush0_10 t)).trans (Value.flushed10 m c t)) (ix2 r n : S32x512.Idx)
  rw [View.read_apply] at h
  refine Eq.trans ?_ (h.trans rfl)
  show (dats m 0 c).arrAt 10 cfg0.N _ = (dats m 0 c).arrAt 10 cfg0.N _
  congr 1
  funext ax
  apply Fin.ext
  match ax with
  | ⟨0, _⟩ => show r.val = win0_10.index t 0 * 32 + 1 * r.val; rw [(idx10 t).1] <;> omega
  | ⟨1, _⟩ => show n.val = win0_10.index t 1 * 512 + 1 * n.val; rw [(idx10 t).2] <;> omega

/-- What window 11's array holds after a run, at one index: the grid point whose block holds it left it there. -/
theorem arr11 (r : Fin 32) (n : Fin 512) : ((dats m 0 c).arrAt 11 cfg0.N : Vec Ideal S32x512 .f32) (ix2 r n) = out0_11 (iblk m c 0 t) (iblk m c 1 t) (iblk m c 2 t) (iblk m c 3 t) (iblk m c 4 t) (iblk m c 5 t) (iblk m c 6 t) (iblk m c 7 t) (iblk m c 8 t) (iblk m c 9 t) (ix2 r n) := by
  have h := congrFun ((Value.blocks11 m c t (flush0_11 t)).trans (Value.flushed11 m c t)) (ix2 r n : S32x512.Idx)
  rw [View.read_apply] at h
  refine Eq.trans ?_ (h.trans rfl)
  show (dats m 0 c).arrAt 11 cfg0.N _ = (dats m 0 c).arrAt 11 cfg0.N _
  congr 1
  funext ax
  apply Fin.ext
  match ax with
  | ⟨0, _⟩ => show r.val = win0_11.index t 0 * 32 + 1 * r.val; rw [(idx11 t).1] <;> omega
  | ⟨1, _⟩ => show n.val = win0_11.index t 1 * 512 + 1 * n.val; rw [(idx11 t).2] <;> omega

/-- What window 12's array holds after a run, at one index: the grid point whose block holds it left it there. -/
theorem arr12 (r : Fin 32) (n : Fin 512) : ((dats m 0 c).arrAt 12 cfg0.N : Vec Ideal S32x512 .f32) (ix2 r n) = out0_12 (iblk m c 0 t) (iblk m c 1 t) (iblk m c 2 t) (iblk m c 3 t) (iblk m c 4 t) (iblk m c 5 t) (iblk m c 6 t) (iblk m c 7 t) (iblk m c 8 t) (iblk m c 9 t) (ix2 r n) := by
  have h := congrFun ((Value.blocks12 m c t (flush0_12 t)).trans (Value.flushed12 m c t)) (ix2 r n : S32x512.Idx)
  rw [View.read_apply] at h
  refine Eq.trans ?_ (h.trans rfl)
  show (dats m 0 c).arrAt 12 cfg0.N _ = (dats m 0 c).arrAt 12 cfg0.N _
  congr 1
  funext ax
  apply Fin.ext
  match ax with
  | ⟨0, _⟩ => show r.val = win0_12.index t 0 * 32 + 1 * r.val; rw [(idx12 t).1] <;> omega
  | ⟨1, _⟩ => show n.val = win0_12.index t 1 * 512 + 1 * n.val; rw [(idx12 t).2] <;> omega

/-- What window 13's array holds after a run, at one index: the grid point whose block holds it left it there. -/
theorem arr13 (r : Fin 32) (n : Fin 512) : ((dats m 0 c).arrAt 13 cfg0.N : Vec Ideal S32x512 .f32) (ix2 r n) = out0_13 (iblk m c 0 t) (iblk m c 1 t) (iblk m c 2 t) (iblk m c 3 t) (iblk m c 4 t) (iblk m c 5 t) (iblk m c 6 t) (iblk m c 7 t) (iblk m c 8 t) (iblk m c 9 t) (ix2 r n) := by
  have h := congrFun ((Value.blocks13 m c t (flush0_13 t)).trans (Value.flushed13 m c t)) (ix2 r n : S32x512.Idx)
  rw [View.read_apply] at h
  refine Eq.trans ?_ (h.trans rfl)
  show (dats m 0 c).arrAt 13 cfg0.N _ = (dats m 0 c).arrAt 13 cfg0.N _
  congr 1
  funext ax
  apply Fin.ext
  match ax with
  | ⟨0, _⟩ => show r.val = win0_13.index t 0 * 32 + 1 * r.val; rw [(idx13 t).1] <;> omega
  | ⟨1, _⟩ => show n.val = win0_13.index t 1 * 512 + 1 * n.val; rw [(idx13 t).2] <;> omega

/-- What window 14's array holds after a run, at one index: the grid point whose block holds it left it there. -/
theorem arr14 (r : Fin 32) (n : Fin 512) : ((dats m 0 c).arrAt 14 cfg0.N : Vec Ideal S32x512 .f32) (ix2 r n) = out0_14 (iblk m c 0 t) (iblk m c 1 t) (iblk m c 2 t) (iblk m c 3 t) (iblk m c 4 t) (iblk m c 5 t) (iblk m c 6 t) (iblk m c 7 t) (iblk m c 8 t) (iblk m c 9 t) (ix2 r n) := by
  have h := congrFun ((Value.blocks14 m c t (flush0_14 t)).trans (Value.flushed14 m c t)) (ix2 r n : S32x512.Idx)
  rw [View.read_apply] at h
  refine Eq.trans ?_ (h.trans rfl)
  show (dats m 0 c).arrAt 14 cfg0.N _ = (dats m 0 c).arrAt 14 cfg0.N _
  congr 1
  funext ax
  apply Fin.ext
  match ax with
  | ⟨0, _⟩ => show r.val = win0_14.index t 0 * 32 + 1 * r.val; rw [(idx14 t).1] <;> omega
  | ⟨1, _⟩ => show n.val = win0_14.index t 1 * 512 + 1 * n.val; rw [(idx14 t).2] <;> omega

/-- What window 15's array holds after a run, at one index: the grid point whose block holds it left it there. -/
theorem arr15 (r : Fin 32) (n : Fin 512) : ((dats m 0 c).arrAt 15 cfg0.N : Vec Ideal S32x512 .f32) (ix2 r n) = out0_15 (iblk m c 0 t) (iblk m c 1 t) (iblk m c 2 t) (iblk m c 3 t) (iblk m c 4 t) (iblk m c 5 t) (iblk m c 6 t) (iblk m c 7 t) (iblk m c 8 t) (iblk m c 9 t) (ix2 r n) := by
  have h := congrFun ((Value.blocks15 m c t (flush0_15 t)).trans (Value.flushed15 m c t)) (ix2 r n : S32x512.Idx)
  rw [View.read_apply] at h
  refine Eq.trans ?_ (h.trans rfl)
  show (dats m 0 c).arrAt 15 cfg0.N _ = (dats m 0 c).arrAt 15 cfg0.N _
  congr 1
  funext ax
  apply Fin.ext
  match ax with
  | ⟨0, _⟩ => show r.val = win0_15.index t 0 * 32 + 1 * r.val; rw [(idx15 t).1] <;> omega
  | ⟨1, _⟩ => show n.val = win0_15.index t 1 * 512 + 1 * n.val; rw [(idx15 t).2] <;> omega

/-- What window 16's array holds after a run, at one index: the grid point whose block holds it left it there. -/
theorem arr16 (r : Fin 32) (n : Fin 8) : ((dats m 0 c).arrAt 16 cfg0.N : Vec Ideal S32x8 .f32) (ix2 r n) = out0_16 (iblk m c 0 t) (iblk m c 1 t) (iblk m c 2 t) (iblk m c 3 t) (iblk m c 4 t) (iblk m c 5 t) (iblk m c 6 t) (iblk m c 7 t) (iblk m c 8 t) (iblk m c 9 t) (ix2 r n) := by
  have h := congrFun ((Value.blocks16 m c t (flush0_16 t)).trans (Value.flushed16 m c t)) (ix2 r n : S32x8.Idx)
  rw [View.read_apply] at h
  refine Eq.trans ?_ (h.trans rfl)
  show (dats m 0 c).arrAt 16 cfg0.N _ = (dats m 0 c).arrAt 16 cfg0.N _
  congr 1
  funext ax
  apply Fin.ext
  match ax with
  | ⟨0, _⟩ => show r.val = win0_16.index t 0 * 32 + 1 * r.val; rw [(idx16 t).1] <;> omega
  | ⟨1, _⟩ => show n.val = win0_16.index t 1 * 8 + 1 * n.val; rw [(idx16 t).2] <;> omega

end Cert.Kernel5Ideal.ProjRead

end
-- ==== Proof.ProjARef.lean ====
/-
  What the reference for the attention layer's input projection computes for the sample batch, at an index, as the row
  functions of its arguments.
-/
module

public import proofs.«01_k».proof.Proof.Gen.Reference5Ideal.Read
public import proofs.«01_k».proof.Proof.ProjSpec
public import Idealize.ShloMosaic.Lib.Tactic

@[expose] public section

set_option maxRecDepth 16384

noncomputable section

open Idealize.ShloMosaic

namespace Cert.Reference5Ideal.ProjRef

open Cert.Reference5Ideal Cert.Reference5Ideal.Gen Cert.Reference5Ideal.Read Cert.PostSpec Cert.ProjSpec

variable (x0 x1 x2 : Vec Ideal S32x1x1024 .f32) (x3 : Vec Ideal S2x1024 .f32) (x4 : Vec Ideal S1x1024x3080 .f32) (x5 : Vec Ideal S1x8 .f32)
  (x6 x7 : Vec Ideal S1x8 .f32) (b : Fin 32)

/-- The modulated norm of a row, as the arguments give it. -/
abbrev hrow (k : Fin 1024) : EReal := modul (fun k => x0 (ix3 b 0 k)) (fun k => x3 (ix2 0 k)) (fun k => x1 (ix3 b 0 k)) (fun k => x2 (ix3 b 0 k)) k
/-- A column of the projected row. -/
abbrev urow (j : Fin 3080) : EReal := ∑ k, hrow x0 x1 x2 x3 b k * x4 (ix3 0 k j)

theorem h_at (k : Fin 1024) : val_main_v18 x0 x1 x2 x3 (ix3 b 0 k) = hrow x0 x1 x2 x3 b k := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_cst_2]
  rfl

theorem u_at (j : Fin 3080) : val_main_v21 x0 x1 x2 x3 x4 (ix3 b 0 j) = urow x0 x1 x2 x3 x4 b j := by
  have h := h_at x0 x1 x2 x3 b
  unfold val_main_v21
  generalize val_main_v18 x0 x1 x2 x3 = u at *
  pointwise [val_main_v19]
  simp only [h]

theorem qa_at (n : Fin 512) : val_main_v83 x0 x1 x2 x3 x4 x6 x7 (ix2 b n) =
    rope (fun n => urow x0 x1 x2 x3 x4 b ⟨0 + n.val, by omega⟩) (fun d => x6 (ix2 0 d)) (fun d => x7 (ix2 0 d)) n := by
  have h := u_at x0 x1 x2 x3 x4 b
  simp only [← h]
  clear h
  unfold val_main_v83 val_main_v51 val_main_v50 val_main_v49 val_main_v48 val_main_v47 val_main_v44 val_main_v41 val_main_v40 val_main_v37 val_main_v34 val_main_v33 val_main_v32 val_main_v29 val_main_v22
  generalize val_main_v21 x0 x1 x2 x3 x4 = u at *
  pointwise [val_main_v30, val_main_v31, val_main_v35, val_main_v36, val_main_v38, val_main_v39, val_main_v42, val_main_v43, val_main_v45, val_main_v46]
  unfold rope
  split_ifs
  all_goals first
    | exact congrArg₂ (· - ·) (congrArg₂ (· * ·) (congrArg (fun k => u (ix3 b 0 k)) (Fin.ext (by dsimp only <;> omega))) rfl) (congrArg₂ (· * ·) (congrArg (fun k => u (ix3 b 0 k)) (Fin.ext (by dsimp only <;> omega))) rfl)
    | exact congrArg₂ (· + ·) (congrArg₂ (· * ·) (congrArg (fun k => u (ix3 b 0 k)) (Fin.ext (by dsimp only <;> omega))) rfl) (congrArg₂ (· * ·) (congrArg (fun k => u (ix3 b 0 k)) (Fin.ext (by dsimp only <;> omega))) rfl)
    | (rw [dif_neg (show ¬ n.val % 64 < 8 by omega)]; exact (congrArg (fun k => u (ix3 b 0 k)) (Fin.ext (by dsimp only <;> omega))))

theorem ka_at (n : Fin 512) : val_main_v85 x0 x1 x2 x3 x4 x6 x7 (ix2 b n) =
    rope (fun n => urow x0 x1 x2 x3 x4 b ⟨512 + n.val, by omega⟩) (fun d => x6 (ix2 0 d)) (fun d => x7 (ix2 0 d)) n := by
  have h := u_at x0 x1 x2 x3 x4 b
  simp only [← h]
  clear h
  unfold val_main_v85 val_main_v74 val_main_v73 val_main_v72 val_main_v71 val_main_v70 val_main_v67 val_main_v64 val_main_v63 val_main_v60 val_main_v57 val_main_v56 val_main_v55 val_main_v52 val_main_v23
  generalize val_main_v21 x0 x1 x2 x3 x4 = u at *
  pointwise [val_main_v53, val_main_v54, val_main_v58, val_main_v59, val_main_v61, val_main_v62, val_main_v65, val_main_v66, val_main_v68, val_main_v69]
  unfold rope
  split_ifs
  all_goals first
    | exact congrArg₂ (· - ·) (congrArg₂ (· * ·) (congrArg (fun k => u (ix3 b 0 k)) (Fin.ext (by dsimp only <;> omega))) rfl) (congrArg₂ (· * ·) (congrArg (fun k => u (ix3 b 0 k)) (Fin.ext (by dsimp only <;> omega))) rfl)
    | exact congrArg₂ (· + ·) (congrArg₂ (· * ·) (congrArg (fun k => u (ix3 b 0 k)) (Fin.ext (by dsimp only <;> omega))) rfl) (congrArg₂ (· * ·) (congrArg (fun k => u (ix3 b 0 k)) (Fin.ext (by dsimp only <;> omega))) rfl)
    | (rw [dif_neg (show ¬ n.val % 64 < 8 by omega)]; exact (congrArg (fun k => u (ix3 b 0 k)) (Fin.ext (by dsimp only <;> omega))))

theorem va_at (n : Fin 512) : val_main_v86 x0 x1 x2 x3 x4 (ix2 b n) = urow x0 x1 x2 x3 x4 b ⟨1024 + n.val, by omega⟩ := by
  refine Eq.trans ?_ (u_at x0 x1 x2 x3 x4 b _)
  unfold val_main_v86 val_main_v75 val_main_v24
  generalize val_main_v21 x0 x1 x2 x3 x4 = u at *
  pointwise []

theorem qb_at (n : Fin 512) : val_main_v84 x0 x1 x2 x3 x4 (ix2 b n) = urow x0 x1 x2 x3 x4 b ⟨1536 + n.val, by omega⟩ := by
  refine Eq.trans ?_ (u_at x0 x1 x2 x3 x4 b _)
  unfold val_main_v84 val_main_v76 val_main_v25
  generalize val_main_v21 x0 x1 x2 x3 x4 = u at *
  pointwise []

theorem kb_at (n : Fin 512) : val_main_v87 x0 x1 x2 x3 x4 (ix2 b n) = urow x0 x1 x2 x3 x4 b ⟨2048 + n.val, by omega⟩ := by
  refine Eq.trans ?_ (u_at x0 x1 x2 x3 x4 b _)
  unfold val_main_v87 val_main_v77 val_main_v26
  generalize val_main_v21 x0 x1 x2 x3 x4 = u at *
  pointwise []

theorem vb_at (n : Fin 512) : val_main_v88 x0 x1 x2 x3 x4 (ix2 b n) = urow x0 x1 x2 x3 x4 b ⟨2560 + n.val, by omega⟩ := by
  refine Eq.trans ?_ (u_at x0 x1 x2 x3 x4 b _)
  unfold val_main_v88 val_main_v78 val_main_v27
  generalize val_main_v21 x0 x1 x2 x3 x4 = u at *
  pointwise []

theorem lf_at (n : Fin 8) : val_main_v89 x0 x1 x2 x3 x4 x5 (ix2 b n) = logSigmoid (urow x0 x1 x2 x3 x4 b ⟨3072 + n.val, by omega⟩ + x5 (ix2 0 n)) := by
  rw [← u_at, ← logSigmoid_eq]
  unfold val_main_v89 val_main_v82 val_main_call0_v1 val_main_call0_call0_v11 val_main_call0_call0_v10 val_main_call0_call0_v9 val_main_call0_call0_v8
    val_main_call0_call0_v7 val_main_call0_call0_v6 val_main_call0_call0_v4 val_main_call0_call0_v3 val_main_call0_call0_v1 val_main_call0_v0 val_main_v81 val_main_v28
  generalize val_main_v21 x0 x1 x2 x3 x4 = u at *
  pointwise [val_main_v80, val_main_v79, val_main_v20, val_main_call0_call0_v5, val_main_call0_call0_v2, val_main_call0_call0_v0, val_main_call0_call0_cst]
  unfold softplus
  simp

end Cert.Reference5Ideal.ProjRef

end
-- ==== Proof.ProjAEq.lean ====
/-
  The attention layer's input projection for the sample batch: the arrays that the call returns are the reference's
  results on the same arguments.
-/
module

public import proofs.«01_k».proof.Proof.ProjARead
public import proofs.«01_k».proof.Proof.ProjARef

@[expose] public section

set_option maxRecDepth 16384

noncomputable section

open Idealize.ShloMosaic Idealize.ShloMosaic.TcCoe Idealize.SL.Sem

namespace Cert.ProjAEq

open Cert.Kernel5Ideal Cert.Kernel5Ideal.Gen Cert.Kernel5Ideal.ProjRead

variable (m : (ℓ : Loc nD τ sig) → Buf (Elt Ideal) ℓ) (c : Dev nD)

/-- The call's only grid point. -/
abbrev t0 : Fin cfg0.N := ⟨0, by decide⟩

/-- The rotated queries of the sparse mechanism. -/
theorem eq10 : (dats m 0 c).arrAt 10 cfg0.N = Cert.Reference5Ideal.Read.val_main_v83 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  funext i
  obtain ⟨r, j, rfl⟩ : ∃ (r : Fin 32) (j : Fin 512), i = ix2 r j := ⟨i 0, i 1, by funext a; fin_cases a <;> rfl⟩
  refine (arr10 m c t0 r j).trans ?_
  rw [Cert.Kernel5Ideal.Block.out10_at (hx7 := in7 m c t0) (hx8 := in8 m c t0) (hx9 := in9 m c t0), Cert.Reference5Ideal.ProjRef.qa_at]
  simp only [Cert.Kernel5Ideal.Block.urow, Cert.Kernel5Ideal.Block.hrow, Cert.Reference5Ideal.ProjRef.urow, Cert.Reference5Ideal.ProjRef.hrow, in0, in1, in2, in3, in4]

/-- The rotated keys of the sparse mechanism. -/
theorem eq12 : (dats m 0 c).arrAt 12 cfg0.N = Cert.Reference5Ideal.Read.val_main_v85 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  funext i
  obtain ⟨r, j, rfl⟩ : ∃ (r : Fin 32) (j : Fin 512), i = ix2 r j := ⟨i 0, i 1, by funext a; fin_cases a <;> rfl⟩
  refine (arr12 m c t0 r j).trans ?_
  rw [Cert.Kernel5Ideal.Block.out12_at (hx7 := in7 m c t0) (hx8 := in8 m c t0) (hx9 := in9 m c t0), Cert.Reference5Ideal.ProjRef.ka_at]
  simp only [Cert.Kernel5Ideal.Block.urow, Cert.Kernel5Ideal.Block.hrow, Cert.Reference5Ideal.ProjRef.urow, Cert.Reference5Ideal.ProjRef.hrow, in0, in1, in2, in3, in4]

/-- The queries of the forgetting mechanism. -/
theorem eq11 : (dats m 0 c).arrAt 11 cfg0.N = Cert.Reference5Ideal.Read.val_main_v84 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, j, rfl⟩ : ∃ (r : Fin 32) (j : Fin 512), i = ix2 r j := ⟨i 0, i 1, by funext a; fin_cases a <;> rfl⟩
  refine (arr11 m c t0 r j).trans ?_
  rw [Cert.Kernel5Ideal.Block.out11_at, Cert.Reference5Ideal.ProjRef.qb_at]
  simp only [Cert.Kernel5Ideal.Block.urow, Cert.Kernel5Ideal.Block.hrow, Cert.Reference5Ideal.ProjRef.urow, Cert.Reference5Ideal.ProjRef.hrow, in0, in1, in2, in3, in4]

/-- The values of the sparse mechanism. -/
theorem eq13 : (dats m 0 c).arrAt 13 cfg0.N = Cert.Reference5Ideal.Read.val_main_v86 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, j, rfl⟩ : ∃ (r : Fin 32) (j : Fin 512), i = ix2 r j := ⟨i 0, i 1, by funext a; fin_cases a <;> rfl⟩
  refine (arr13 m c t0 r j).trans ?_
  rw [Cert.Kernel5Ideal.Block.out13_at, Cert.Reference5Ideal.ProjRef.va_at]
  simp only [Cert.Kernel5Ideal.Block.urow, Cert.Kernel5Ideal.Block.hrow, Cert.Reference5Ideal.ProjRef.urow, Cert.Reference5Ideal.ProjRef.hrow, in0, in1, in2, in3, in4]

/-- The keys of the forgetting mechanism. -/
theorem eq14 : (dats m 0 c).arrAt 14 cfg0.N = Cert.Reference5Ideal.Read.val_main_v87 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, j, rfl⟩ : ∃ (r : Fin 32) (j : Fin 512), i = ix2 r j := ⟨i 0, i 1, by funext a; fin_cases a <;> rfl⟩
  refine (arr14 m c t0 r j).trans ?_
  rw [Cert.Kernel5Ideal.Block.out14_at, Cert.Reference5Ideal.ProjRef.kb_at]
  simp only [Cert.Kernel5Ideal.Block.urow, Cert.Kernel5Ideal.Block.hrow, Cert.Reference5Ideal.ProjRef.urow, Cert.Reference5Ideal.ProjRef.hrow, in0, in1, in2, in3, in4]

/-- The values of the forgetting mechanism. -/
theorem eq15 : (dats m 0 c).arrAt 15 cfg0.N = Cert.Reference5Ideal.Read.val_main_v88 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, j, rfl⟩ : ∃ (r : Fin 32) (j : Fin 512), i = ix2 r j := ⟨i 0, i 1, by funext a; fin_cases a <;> rfl⟩
  refine (arr15 m c t0 r j).trans ?_
  rw [Cert.Kernel5Ideal.Block.out15_at, Cert.Reference5Ideal.ProjRef.vb_at]
  simp only [Cert.Kernel5Ideal.Block.urow, Cert.Kernel5Ideal.Block.hrow, Cert.Reference5Ideal.ProjRef.urow, Cert.Reference5Ideal.ProjRef.hrow, in0, in1, in2, in3, in4]

/-- The logarithms of the forget gates. -/
theorem eq16 : (dats m 0 c).arrAt 16 cfg0.N = Cert.Reference5Ideal.Read.val_main_v89 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨r, j, rfl⟩ : ∃ (r : Fin 32) (j : Fin 8), i = ix2 r j := ⟨i 0, i 1, by funext a; fin_cases a <;> rfl⟩
  refine (arr16 m c t0 r j).trans ?_
  rw [Cert.Kernel5Ideal.Block.out16_at, Cert.Reference5Ideal.ProjRef.lf_at]
  simp only [Cert.Kernel5Ideal.Block.hrow, Cert.Reference5Ideal.ProjRef.urow, Cert.Reference5Ideal.ProjRef.hrow, in0, in1, in2, in3, in5, in6]

end Cert.ProjAEq

end
-- ==== Proof.ProjDBlock.lean ====
/-
  What the recurrent layer's input projection computes for the sample batch, at an index, as the row functions of the
  blocks that it reads.
-/
module

public import proofs.«01_k».proof.Proof.Gen.Kernel4Ideal.Frame
public import Idealize.ShloMosaic.Lib.Pipeline.Value
public import proofs.«01_k».proof.Proof.ProjSpec

@[expose] public section

set_option maxRecDepth 16384

noncomputable section

open Idealize.ShloMosaic

namespace Cert.Kernel4Ideal.Block

open Cert.Kernel4Ideal Cert.Kernel4Ideal.Gen Cert.PostSpec Cert.ProjSpec

theorem pay5_at (v0 : Vec Ideal S32x1024 .f32) (v2 : Vec Ideal S1x1024 .f32) (v16 v21 : Vec Ideal S1x32x1024 .f32) (r : Fin 32) (k : Fin 1024) :
    k0_pay5 (F := Ideal) v0 v2 v16 v21 (ix2 r k) = modul (fun k => v0 (ix2 r k)) (fun k => v2 (ix2 0 k)) (fun k => v16 (ix3 0 r k)) (fun k => v21 (ix3 0 r k)) k := by
  pointwise [k0_pay5]
  rfl

theorem pay6_at (v0 : Vec Ideal S32x1024 .f32) (v2 : Vec Ideal S1x1024 .f32) (v16 v21 : Vec Ideal S1x32x1024 .f32) (v25 : Vec Ideal S2048x1024 .bf16) (r : Fin 32) (n : Fin 2048) :
    k0_pay6 (F := Ideal) v0 v2 v16 v21 v25 (ix2 r n) = ∑ k, k0_pay5 (F := Ideal) v0 v2 v16 v21 (ix2 r k) * v25 (ix2 n k) := by
  unfold k0_pay6
  generalize k0_pay5 v0 v2 v16 v21 = u
  pointwise []

theorem pay7_at (v0 : Vec Ideal S32x1024 .f32) (v2 : Vec Ideal S1x1024 .f32) (v16 v21 : Vec Ideal S1x32x1024 .f32) (v25 : Vec Ideal S128x1024 .bf16) (r : Fin 32) (n : Fin 128) :
    k0_pay7 (F := Ideal) v0 v2 v16 v21 v25 (ix2 r n) = ∑ k, k0_pay5 (F := Ideal) v0 v2 v16 v21 (ix2 r k) * v25 (ix2 n k) := by
  unfold k0_pay7
  generalize k0_pay5 v0 v2 v16 v21 = u
  pointwise []

theorem pay9_at (v31 : FVec Ideal S32x128 .f32) (v33 : Vec Ideal S1x128 .f32) (r : Fin 32) (j : Fin 128) :
    k0_pay9 (F := Ideal) v31 (k0_pay8 v33) (ix2 r j) = softplus (v31 (ix2 r j) + v33 (ix2 0 j)) := by
  pointwise [k0_pay9, k0_pay8]
  unfold softplus
  rw [show ∀ x : EReal, 0 - x = -x from fun x => by rw [sub_eq_add_neg]; exact zero_add _]

/-- The channels that go into the convolution. -/
theorem pay10_at (v24 : FVec Ideal S32x1024 .bf16) (v45 : Vec Ideal S3072x1024 .bf16) (r : Fin 32) (n : Fin 3072) :
    k0_pay10 (F := Ideal) v24 v45 (ix2 r n) = ∑ k, v24 (ix2 r k) * v45 (ix2 n k) := by
  pointwise [k0_pay10]

theorem pay4_at (v48 v50 v52 v54 v62 : Vec Ideal S1x3072 .f32) (v56 v58 v60 : Vec Ideal S1x32x3072 .f32) (v24 : FVec Ideal S32x1024 .bf16) (v45 : Vec Ideal S3072x1024 .bf16)
    (r : Fin 32) (j : Fin 3072) :
    k0_pay4 (F := Ideal) (k0_pay11 v48) (k0_pay12 v50) (k0_pay13 v52) (k0_pay14 v56) (k0_pay15 v58) (k0_pay16 v60) (k0_pay17 v24 v45 v54) (k0_pay18 v62) (ix2 r j) =
      silu (conv (v56 (ix3 0 r j)) (v58 (ix3 0 r j)) (v60 (ix3 0 r j)) (∑ k, v24 (ix2 r k) * v45 (ix2 j k)) (v48 (ix2 0 j)) (v50 (ix2 0 j)) (v52 (ix2 0 j)) (v54 (ix2 0 j))
        (v62 (ix2 0 j))) := by
  pointwise [k0_pay4, k0_pay11, k0_pay12, k0_pay13, k0_pay14, k0_pay15, k0_pay16, k0_pay17, k0_pay18, k0_pay10]
  rfl

theorem pay1_at (v : Vec Ideal S1x32x3072 .f32) (r : Fin 32) (j : Fin 3072) : k0_pay1 (F := Ideal) (k0_pay15 v) (ix3 0 r j) = v (ix3 0 r j) := by
  pointwise [k0_pay1, k0_pay15]
theorem pay2_at (v : Vec Ideal S1x32x3072 .f32) (r : Fin 32) (j : Fin 3072) : k0_pay2 (F := Ideal) (k0_pay16 v) (ix3 0 r j) = v (ix3 0 r j) := by
  pointwise [k0_pay2, k0_pay16]
theorem pay3_at (v : FVec Ideal S32x3072 .f32) (r : Fin 32) (j : Fin 3072) : k0_pay3 (F := Ideal) v (ix3 0 r j) = v (ix2 r j) := by
  pointwise [k0_pay3]

section
variable (x0 : Vec Ideal S32x1024 .f32) (x1 x2 : Vec Ideal S1x32x1024 .f32) (x3 : Vec Ideal S1x1024 .f32) (x4 : Vec Ideal S2048x1024 .bf16) (x5 : Vec Ideal S3072x1024 .bf16)
  (x6 : Vec Ideal S128x1024 .bf16) (x7 : Vec Ideal S1x128 .f32) (x8 : Vec Ideal S4x3072 .f32) (x9 : Vec Ideal S1x3072 .f32) (x10 : Vec Ideal S3x32x3072 .f32) (r : Fin 32)

theorem hz3 : (![0, 0, 0] : Fin 3 → Nat) = fun _ => 0 := funext fun a => by fin_cases a <;> rfl
theorem hz2 : (![0, 0] : Fin 2 → Nat) = fun _ => 0 := funext fun a => by fin_cases a <;> rfl

/-- The modulated norm of a row, as its blocks give it. -/
abbrev hrow (k : Fin 1024) : EReal := modul (fun k => x0 (ix2 r k)) (fun k => x3 (ix2 0 k)) (fun k => x1 (ix3 0 r k)) (fun k => x2 (ix3 0 r k)) k

theorem out11_at (n : Fin 2048) : out0_11 x0 x1 x2 x3 x4 x5 x6 x7 x8 x9 x10 (ix2 r n) = ∑ k, hrow x0 x1 x2 x3 r k * x4 (ix2 n k) := by
  unfold out0_11
  rw [View.canon_unit_zero hz2, View.ld_unit_zero hz2 _ x0, View.ld_unit_zero hz2 _ x3, View.ld_unit_zero hz3 _ x1, View.ld_unit_zero hz3 _ x2, View.ld_unit_zero hz2 _ x4, pay6_at]
  simp only [pay5_at]

theorem out13_at (n : Fin 128) : out0_13 x0 x1 x2 x3 x4 x5 x6 x7 x8 x9 x10 (ix2 r n) = softplus ((∑ k, hrow x0 x1 x2 x3 r k * x6 (ix2 n k)) + x7 (ix2 0 n)) := by
  unfold out0_13
  rw [View.canon_unit_zero hz2, View.ld_unit_zero hz2 _ x0, View.ld_unit_zero hz2 _ x3, View.ld_unit_zero hz3 _ x1, View.ld_unit_zero hz3 _ x2, View.ld_unit_zero hz2 _ x6,
    View.ld_unit_zero hz2 _ x7, pay9_at, pay7_at]
  simp only [pay5_at]

/-! The loads of single rows of the kernel's and the carried rows' arrays. -/
theorem ldw0 (j : Fin 3072) : View.ld x8 r0_9 (ix2 0 j) = x8 (ix2 0 j) := congrArg x8 (by funext a; apply Fin.ext; match a with | ⟨0, _⟩ => rfl | ⟨1, _⟩ => show 0 + 1 * j.val = j.val; omega)
theorem ldw1 (j : Fin 3072) : View.ld x8 r0_10 (ix2 0 j) = x8 (ix2 1 j) := congrArg x8 (by funext a; apply Fin.ext; match a with | ⟨0, _⟩ => rfl | ⟨1, _⟩ => show 0 + 1 * j.val = j.val; omega)
theorem ldw2 (j : Fin 3072) : View.ld x8 r0_11 (ix2 0 j) = x8 (ix2 2 j) := congrArg x8 (by funext a; apply Fin.ext; match a with | ⟨0, _⟩ => rfl | ⟨1, _⟩ => show 0 + 1 * j.val = j.val; omega)
theorem ldw3 (j : Fin 3072) : View.ld x8 r0_12 (ix2 0 j) = x8 (ix2 3 j) := congrArg x8 (by funext a; apply Fin.ext; match a with | ⟨0, _⟩ => rfl | ⟨1, _⟩ => show 0 + 1 * j.val = j.val; omega)
theorem ldp0 (j : Fin 3072) : View.ld x10 r0_13 (ix3 0 r j) = x10 (ix3 0 r j) := congrArg x10 (by funext a; apply Fin.ext; match a with | ⟨0, _⟩ => rfl | ⟨1, _⟩ => show 0 + 1 * r.val = r.val; omega | ⟨2, _⟩ => show 0 + 1 * j.val = j.val; omega)
theorem ldp1 (j : Fin 3072) : View.ld x10 r0_14 (ix3 0 r j) = x10 (ix3 1 r j) := congrArg x10 (by funext a; apply Fin.ext; match a with | ⟨0, _⟩ => rfl | ⟨1, _⟩ => show 0 + 1 * r.val = r.val; omega | ⟨2, _⟩ => show 0 + 1 * j.val = j.val; omega)
theorem ldp2 (j : Fin 3072) : View.ld x10 r0_15 (ix3 0 r j) = x10 (ix3 2 r j) := congrArg x10 (by funext a; apply Fin.ext; match a with | ⟨0, _⟩ => rfl | ⟨1, _⟩ => show 0 + 1 * r.val = r.val; omega | ⟨2, _⟩ => show 0 + 1 * j.val = j.val; omega)

theorem pay19_at (k : Fin 1024) : k0_pay19 x0 x1 x2 x3 x4 x5 x6 x7 x8 x9 x10 (ix2 r k) = hrow x0 x1 x2 x3 r k := by
  unfold k0_pay19
  rw [View.ld_unit_zero hz2 _ x0, View.ld_unit_zero hz2 _ x3, View.ld_unit_zero hz3 _ x1, View.ld_unit_zero hz3 _ x2, pay5_at]

/-- A channel that goes into the convolution, as the blocks give it. -/
abbrev urow (j : Fin 3072) : EReal := ∑ k, hrow x0 x1 x2 x3 r k * x5 (ix2 j k)

theorem out12_at (j : Fin 3072) : out0_12 x0 x1 x2 x3 x4 x5 x6 x7 x8 x9 x10 (ix2 r j) =
    silu (conv (x10 (ix3 0 r j)) (x10 (ix3 1 r j)) (x10 (ix3 2 r j)) (urow x0 x1 x2 x3 x5 r j) (x8 (ix2 0 j)) (x8 (ix2 1 j)) (x8 (ix2 2 j)) (x8 (ix2 3 j)) (x9 (ix2 0 j))) := by
  unfold out0_12 k0_pay20 k0_pay21
  rw [View.canon_unit_zero hz2, pay4_at, ldw0, ldw1, ldw2, ldw3, ldp0, ldp1, ldp2, View.ld_unit_zero hz2 _ x9, View.ld_unit_zero hz2 _ x5]
  simp only [pay19_at]

/-- The three rows that are carried on: the last two that were carried here, and the new one. -/
def carry (s : Fin 3) (j : Fin 3072) : EReal := if h : s.val < 2 then x10 (ix3 ⟨s.val + 1, by omega⟩ r j) else urow x0 x1 x2 x3 x5 r j

theorem out14_at (s : Fin 3) (j : Fin 3072) : out0_14 x0 x1 x2 x3 x4 x5 x6 x7 x8 x9 x10 (ix3 s r j) = carry x0 x1 x2 x3 x5 x10 r s j := by
  unfold out0_14 k0_pay20 k0_pay21
  refine (View.canon_apply_of_pieces (fun i => carry x0 x1 x2 x3 x5 x10 (i 1) (i 0) (i 2)) _ ?_ (ix3 s r j) ?_).trans rfl
  · simp only [List.forall_mem_cons, List.not_mem_nil, false_imp_iff, implies_true, and_true]
    refine ⟨?_, ?_, ?_⟩
    · intro x
      obtain ⟨z, q, k, rfl⟩ : ∃ (z : Fin 1) (q : Fin 32) (k : Fin 3072), x = ix3 z q k := ⟨x 0, x 1, x 2, by funext a; fin_cases a <;> rfl⟩
      obtain rfl : z = 0 := Subsingleton.elim _ _
      refine ((pay3_at _ q k).trans (pay10_at _ _ q k)).trans ?_
      rw [View.ld_unit_zero hz2 _ x5]
      simp only [pay19_at]
      have e : r0_15.emb (ix3 0 q k) = (ix3 2 q k : S3x32x3072.Idx) := by funext a; apply Fin.ext; match a with | ⟨0, _⟩ => rfl | ⟨1, _⟩ => show 0 + 1 * q.val = q.val; omega | ⟨2, _⟩ => show 0 + 1 * k.val = k.val; omega
      refine Eq.trans ?_ (congrArg (fun i : S3x32x3072.Idx => carry x0 x1 x2 x3 x5 x10 (i 1) (i 0) (i 2)) e).symm
      rfl
    · intro x
      obtain ⟨z, q, k, rfl⟩ : ∃ (z : Fin 1) (q : Fin 32) (k : Fin 3072), x = ix3 z q k := ⟨x 0, x 1, x 2, by funext a; fin_cases a <;> rfl⟩
      obtain rfl : z = 0 := Subsingleton.elim _ _
      refine ((pay2_at _ q k).trans (ldp2 x10 q k)).trans ?_
      have e : r0_14.emb (ix3 0 q k) = (ix3 1 q k : S3x32x3072.Idx) := by funext a; apply Fin.ext; match a with | ⟨0, _⟩ => rfl | ⟨1, _⟩ => show 0 + 1 * q.val = q.val; omega | ⟨2, _⟩ => show 0 + 1 * k.val = k.val; omega
      refine Eq.trans ?_ (congrArg (fun i : S3x32x3072.Idx => carry x0 x1 x2 x3 x5 x10 (i 1) (i 0) (i 2)) e).symm
      rfl
    · intro x
      obtain ⟨z, q, k, rfl⟩ : ∃ (z : Fin 1) (q : Fin 32) (k : Fin 3072), x = ix3 z q k := ⟨x 0, x 1, x 2, by funext a; fin_cases a <;> rfl⟩
      obtain rfl : z = 0 := Subsingleton.elim _ _
      refine ((pay1_at _ q k).trans (ldp1 x10 q k)).trans ?_
      have e : r0_13.emb (ix3 0 q k) = (ix3 0 q k : S3x32x3072.Idx) := by funext a; apply Fin.ext; match a with | ⟨0, _⟩ => rfl | ⟨1, _⟩ => show 0 + 1 * q.val = q.val; omega | ⟨2, _⟩ => show 0 + 1 * k.val = k.val; omega
      refine Eq.trans ?_ (congrArg (fun i : S3x32x3072.Idx => carry x0 x1 x2 x3 x5 x10 (i 1) (i 0) (i 2)) e).symm
      rfl
  · have key : ∀ (o : Nat) (inb : ∀ a, (![o, 0, 0] : Fin 3 → Nat) a + (![1, 32, 3072] : Fin 3 → Nat) a ≤ S3x32x3072.size a), o = s.val →
        (ix3 s r j : S3x32x3072.Idx) ∈ (Rect.unit ![o, 0, 0] ![1, 32, 3072] inb).set := by
      intro o inb h1
      rw [Rect.mem_set_unit]
      intro a
      match a with
      | ⟨0, _⟩ => exact ⟨h1.le, by show s.val < o + 1; omega⟩
      | ⟨1, _⟩ => exact ⟨Nat.zero_le _, by show r.val < 0 + 32; omega⟩
      | ⟨2, _⟩ => exact ⟨Nat.zero_le _, by show j.val < 0 + 3072; omega⟩
    rcases (by omega : s.val = 0 ∨ s.val = 1 ∨ s.val = 2) with h | h | h
    · exact ⟨_, List.mem_cons_of_mem _ (List.mem_cons_of_mem _ List.mem_cons_self), key 0 (by decide) h.symm⟩
    · exact ⟨_, List.mem_cons_of_mem _ List.mem_cons_self, key 1 (by decide) h.symm⟩
    · exact ⟨_, List.mem_cons_self, key 2 (by decide) h.symm⟩

end

end Cert.Kernel4Ideal.Block

end
-- ==== Proof.ProjDRead.lean ====
/-
  What the arrays hold that the recurrent layer's first half works on for the sample batch: what the host's operations
  leave for the call to read, what the blocks hold of that, and what the result arrays hold after the run.
-/
module

public import proofs.«01_k».proof.Proof.ProjDBlock
public import proofs.«01_k».proof.Proof.Gen.Kernel4Ideal.Value
public import Idealize.ShloMosaic.Lib.StableHlo.ReadAt
public import Idealize.ShloMosaic.Lib.Tactic
public import Idealize.ShloMosaic.Lib.KernelVsHost

@[expose] public section

set_option maxRecDepth 16384

noncomputable section

open Idealize.ShloMosaic Idealize.ShloMosaic.TcCoe Idealize.SL.Sem

namespace Cert.Kernel4Ideal.ProjRead

open Cert.Kernel4Ideal Cert.Kernel4Ideal.Gen

variable (m : (ℓ : Loc nD τ sig) → Buf (Elt Ideal) ℓ) (c : Dev nD) (t : Fin cfg0.N)

/-! What the host's operations leave, in terms of the arguments. -/

theorem V0 (r : Fin 32) (k : Fin 1024) : V m c main_v0 (ix2 r k) = m ((c : Thread nD τ).loc main_arg0) (ix3 r 0 k) := by
  unfold V
  after_reads_at
theorem V1 (r : Fin 32) (k : Fin 1024) : V m c main_v1 (ix3 0 r k) = m ((c : Thread nD τ).loc main_arg1) (ix3 r 0 k) := by
  unfold V
  after_reads_at
theorem V2 (r : Fin 32) (k : Fin 1024) : V m c main_v2 (ix3 0 r k) = m ((c : Thread nD τ).loc main_arg2) (ix3 r 0 k) := by
  unfold V
  after_reads_at
theorem V5 (k : Fin 1024) : V m c main_v5 (ix2 0 k) = m ((c : Thread nD τ).loc main_arg3) (ix2 1 k) := by
  unfold V
  after_reads_at
theorem V9 (n : Fin 2048) (k : Fin 1024) : V m c main_v9 (ix2 n k) = m ((c : Thread nD τ).loc main_arg4) (ix3 0 k ⟨n.val, by omega⟩) := by
  unfold V
  after_reads_at
theorem V11 (n : Fin 3072) (k : Fin 1024) : V m c main_v11 (ix2 n k) = m ((c : Thread nD τ).loc main_arg4) (ix3 0 k ⟨2048 + n.val, by omega⟩) := by
  unfold V
  after_reads_at
theorem V14 (n : Fin 128) (k : Fin 1024) : V m c main_v14 (ix2 n k) = if h : n.val < 32 then (m ((c : Thread nD τ).loc main_arg4) (ix3 0 k ⟨5120 + n.val, by omega⟩) : EReal) else (0 : EReal) := by
  unfold V
  after_reads_at
  split_ifs
  · rfl
  · exact sitofp_zero (φ := .f32)
theorem V17 (n : Fin 128) : V m c main_v17 (ix2 0 n) = if h : n.val < 32 then (m ((c : Thread nD τ).loc main_arg7) (ix2 0 ⟨n.val, h⟩) : EReal) else (0 : EReal) := by
  unfold V
  after_reads_at
  split_ifs
  · rfl
  · exact sitofp_zero (φ := .f32)
theorem V18 (s : Fin 4) (n : Fin 3072) : V m c main_v18 (ix2 s n) = m ((c : Thread nD τ).loc main_arg5) (ix3 0 s n) := by
  unfold V
  after_reads_at
theorem V20 (n : Fin 3072) : V m c main_v20 (ix2 0 n) = m ((c : Thread nD τ).loc main_arg6) (ix2 0 n) := by
  unfold V
  after_reads_at
theorem V22 (s : Fin 3) (r : Fin 32) (n : Fin 3072) : V m c main_v22 (ix3 s r n) = m ((c : Thread nD τ).loc main_arg8) (ix4 0 r s n) := by
  unfold V
  after_reads_at

/-- Where each window's block starts at a grid point. -/
theorem idx0 : ∀ t : Fin grid0.N, win0_0.index t 0 = 0 ∧ win0_0.index t 1 = 0 := by decide +kernel
theorem idx1 : ∀ t : Fin grid0.N, win0_1.index t 0 = 0 ∧ win0_1.index t 1 = 0 ∧ win0_1.index t 2 = 0 := by decide +kernel
theorem idx2 : ∀ t : Fin grid0.N, win0_2.index t 0 = 0 ∧ win0_2.index t 1 = 0 ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx10 : ∀ t : Fin grid0.N, win0_10.index t 0 = 0 ∧ win0_10.index t 1 = 0 ∧ win0_10.index t 2 = 0 := by decide +kernel
theorem idx11 : ∀ t : Fin grid0.N, win0_11.index t 0 = 0 ∧ win0_11.index t 1 = 0 := by decide +kernel
theorem idx12 : ∀ t : Fin grid0.N, win0_12.index t 0 = 0 ∧ win0_12.index t 1 = 0 := by decide +kernel
theorem idx13 : ∀ t : Fin grid0.N, win0_13.index t 0 = 0 ∧ win0_13.index t 1 = 0 := by decide +kernel
theorem idx14 : ∀ t : Fin grid0.N, win0_14.index t 0 = 0 ∧ win0_14.index t 1 = 0 ∧ win0_14.index t 2 = 0 := by decide +kernel

/-- What window 0's block holds, in terms of the array it is cut from. -/
theorem blk0 (r : Fin 32) (k : Fin 1024) : (iblk m c 0 t : Vec Ideal S32x1024 .f32) (ix2 r k) = V m c main_v0 (ix2 r k) := by
  unfold iblk
  rw [View.read_apply]
  show V m c main_v0 _ = _
  congr 1
  funext ax
  apply Fin.ext
  match ax with
  | ⟨0, _⟩ => show win0_0.index t 0 * 32 + 1 * r.val = r.val; rw [(idx0 t).1] <;> omega
  | ⟨1, _⟩ => show win0_0.index t 1 * 1024 + 1 * k.val = k.val; rw [(idx0 t).2] <;> omega
theorem in0 (r : Fin 32) (k : Fin 1024) : (iblk m c 0 t : Vec Ideal S32x1024 .f32) (ix2 r k) = m ((c : Thread nD τ).loc main_arg0) (ix3 r 0 k) :=
  (blk0 m c t r k).trans (V0 m c r k)

/-- What window 1's block holds, in terms of the array it is cut from. -/
theorem blk1 (r : Fin 32) (k : Fin 1024) : (iblk m c 1 t : Vec Ideal S1x32x1024 .f32) (ix3 0 r k) = V m c main_v1 (ix3 0 r k) := by
  unfold iblk
  rw [View.read_apply]
  show V m c main_v1 _ = _
  congr 1
  funext ax
  apply Fin.ext
  match ax with
  | ⟨0, _⟩ => show win0_1.index t 0 * 1 + 1 * 0 = 0; rw [(idx1 t).1] <;> omega
  | ⟨1, _⟩ => show win0_1.index t 1 * 32 + 1 * r.val = r.val; rw [(idx1 t).2.1] <;> omega
  | ⟨2, _⟩ => show win0_1.index t 2 * 1024 + 1 * k.val = k.val; rw [(idx1 t).2.2] <;> omega
theorem in1 (r : Fin 32) (k : Fin 1024) : (iblk m c 1 t : Vec Ideal S1x32x1024 .f32) (ix3 0 r k) = m ((c : Thread nD τ).loc main_arg1) (ix3 r 0 k) :=
  (blk1 m c t r k).trans (V1 m c r k)

/-- What window 2's block holds, in terms of the array it is cut from. -/
theorem blk2 (r : Fin 32) (k : Fin 1024) : (iblk m c 2 t : Vec Ideal S1x32x1024 .f32) (ix3 0 r k) = V m c main_v2 (ix3 0 r k) := by
  unfold iblk
  rw [View.read_apply]
  show V m c main_v2 _ = _
  congr 1
  funext ax
  apply Fin.ext
  match ax with
  | ⟨0, _⟩ => show win0_2.index t 0 * 1 + 1 * 0 = 0; rw [(idx2 t).1] <;> omega
  | ⟨1, _⟩ => show win0_2.index t 1 * 32 + 1 * r.val = r.val; rw [(idx2 t).2.1] <;> omega
  | ⟨2, _⟩ => show win0_2.index t 2 * 1024 + 1 * k.val = k.val; rw [(idx2 t).2.2] <;> omega
theorem in2 (r : Fin 32) (k : Fin 1024) : (iblk m c 2 t : Vec Ideal S1x32x1024 .f32) (ix3 0 r k) = m ((c : Thread nD τ).loc main_arg2) (ix3 r 0 k) :=
  (blk2 m c t r k).trans (V2 m c r k)

/-- What window 3's block holds, in terms of the array it is cut from. -/
theorem blk3 (k : Fin 1024) : (iblk m c 3 t : Vec Ideal S1x1024 .f32) (ix2 0 k) = V m c main_v5 (ix2 0 k) := by
  unfold iblk
  rw [View.read_apply]
  show V m c main_v5 _ = _
  congr 1
  funext ax
  apply Fin.ext
  match ax with
  | ⟨0, _⟩ => show win0_3.index t 0 * 1 + 1 * 0 = 0; rw [(idx3 t).1] <;> omega
  | ⟨1, _⟩ => show win0_3.index t 1 * 1024 + 1 * k.val = k.val; rw [(idx3 t).2] <;> omega
theorem in3 (k : Fin 1024) : (iblk m c 3 t : Vec Ideal S1x1024 .f32) (ix2 0 k) = m ((c : Thread nD τ).loc main_arg3) (ix2 1 k) :=
  (blk3 m c t k).trans (V5 m c k)

/-- What window 4's block holds, in terms of the array it is cut from. -/
theorem blk4 (n : Fin 2048) (k : Fin 1024) : (iblk m c 4 t : Vec Ideal S2048x1024 .bf16) (ix2 n k) = V m c main_v9 (ix2 n k) := by
  unfold iblk
  rw [View.read_apply]
  show V m c main_v9 _ = _
  congr 1
  funext ax
  apply Fin.ext
  match ax with
  | ⟨0, _⟩ => show win0_4.index t 0 * 2048 + 1 * n.val = n.val; rw [(idx4 t).1] <;> omega
  | ⟨1, _⟩ => show win0_4.index t 1 * 1024 + 1 * k.val = k.val; rw [(idx4 t).2] <;> omega
theorem in4 (n : Fin 2048) (k : Fin 1024) : (iblk m c 4 t : Vec Ideal S2048x1024 .bf16) (ix2 n k) = m ((c : Thread nD τ).loc main_arg4) (ix3 0 k ⟨n.val, by omega⟩) :=
  (blk4 m c t n k).trans (V9 m c n k)

/-- What window 5's block holds, in terms of the array it is cut from. -/
theorem blk5 (n : Fin 3072) (k : Fin 1024) : (iblk m c 5 t : Vec Ideal S3072x1024 .bf16) (ix2 n k) = V m c main_v11 (ix2 n k) := by
  unfold iblk
  rw [View.read_apply]
  show V m c main_v11 _ = _
  congr 1
  funext ax
  apply Fin.ext
  match ax with
  | ⟨0, _⟩ => show win0_5.index t 0 * 3072 + 1 * n.val = n.val; rw [(idx5 t).1] <;> omega
  | ⟨1, _⟩ => show win0_5.index t 1 * 1024 + 1 * k.val = k.val; rw [(idx5 t).2] <;> omega
theorem in5 (n : Fin 3072) (k : Fin 1024) : (iblk m c 5 t : Vec Ideal S3072x1024 .bf16) (ix2 n k) = m ((c : Thread nD τ).loc main_arg4) (ix3 0 k ⟨2048 + n.val, by omega⟩) :=
  (blk5 m c t n k).trans (V11 m c n k)

/-- What window 6's block holds, in terms of the array it is cut from. -/
theorem blk6 (n : Fin 128) (k : Fin 1024) : (iblk m c 6 t : Vec Ideal S128x1024 .bf16) (ix2 n k) = V m c main_v14 (ix2 n k) := by
  unfold iblk
  rw [View.read_apply]
  show V m c main_v14 _ = _
  congr 1
  funext ax
  apply Fin.ext
  match ax with
  | ⟨0, _⟩ => show win0_6.index t 0 * 128 + 1 * n.val = n.val; rw [(idx6 t).1] <;> omega
  | ⟨1, _⟩ => show win0_6.index t 1 * 1024 + 1 * k.val = k.val; rw [(idx6 t).2] <;> omega
theorem in6 (n : Fin 128) (k : Fin 1024) : (iblk m c 6 t : Vec Ideal S128x1024 .bf16) (ix2 n k) = if h : n.val < 32 then (m ((c : Thread nD τ).loc main_arg4) (ix3 0 k ⟨5120 + n.val, by omega⟩) : EReal) else (0 : EReal) :=
  (blk6 m c t n k).trans (V14 m c n k)

/-- What window 7's block holds, in terms of the array it is cut from. -/
theorem blk7 (n : Fin 128) : (iblk m c 7 t : Vec Ideal S1x128 .f32) (ix2 0 n) = V m c main_v17 (ix2 0 n) := by
  unfold iblk
  rw [View.read_apply]
  show V m c main_v17 _ = _
  congr 1
  funext ax
  apply Fin.ext
  match ax with
  | ⟨0, _⟩ => show win0_7.index t 0 * 1 + 1 * 0 = 0; rw [(idx7 t).1] <;> omega
  | ⟨1, _⟩ => show win0_7.index t 1 * 128 + 1 * n.val = n.val; rw [(idx7 t).2] <;> omega
theorem in7 (n : Fin 128) : (iblk m c 7 t : Vec Ideal S1x128 .f32) (ix2 0 n) = if h : n.val < 32 then (m ((c : Thread nD τ).loc main_arg7) (ix2 0 ⟨n.val, h⟩) : EReal) else (0 : EReal) :=
  (blk7 m c t n).trans (V17 m c n)

/-- What window 8's block holds, in terms of the array it is cut from. -/
theorem blk8 (s : Fin 4) (n : Fin 3072) : (iblk m c 8 t : Vec Ideal S4x3072 .f32) (ix2 s n) = V m c main_v18 (ix2 s n) := by
  unfold iblk
  rw [View.read_apply]
  show V m c main_v18 _ = _
  congr 1
  funext ax
  apply Fin.ext
  match ax with
  | ⟨0, _⟩ => show win0_8.index t 0 * 4 + 1 * s.val = s.val; rw [(idx8 t).1] <;> omega
  | ⟨1, _⟩ => show win0_8.index t 1 * 3072 + 1 * n.val = n.val; rw [(idx8 t).2] <;> omega
theorem in8 (s : Fin 4) (n : Fin 3072) : (iblk m c 8 t : Vec Ideal S4x3072 .f32) (ix2 s n) = m ((c : Thread nD τ).loc main_arg5) (ix3 0 s n) :=
  (blk8 m c t s n).trans (V18 m c s n)

/-- What window 9's block holds, in terms of the array it is cut from. -/
theorem blk9 (n : Fin 3072) : (iblk m c 9 t : Vec Ideal S1x3072 .f32) (ix2 0 n) = V m c main_v20 (ix2 0 n) := by
  unfold iblk
  rw [View.read_apply]
  show V m c main_v20 _ = _
  congr 1
  funext ax
  apply Fin.ext
  match ax with
  | ⟨0, _⟩ => show win0_9.index t 0 * 1 + 1 * 0 = 0; rw [(idx9 t).1] <;> omega
  | ⟨1, _⟩ => show win0_9.index t 1 * 3072 + 1 * n.val = n.val; rw [(idx9 t).2] <;> omega
theorem in9 (n : Fin 3072) : (iblk m c 9 t : Vec Ideal S1x3072 .f32) (ix2 0 n) = m ((c : Thread nD τ).loc main_arg6) (ix2 0 n) :=
  (blk9 m c t n).trans (V20 m c n)

/-- What window 10's block holds, in terms of the array it is cut from. -/
theorem blk10 (s : Fin 3) (r : Fin 32) (n : Fin 3072) : (iblk m c 10 t : Vec Ideal S3x32x3072 .f32) (ix3 s r n) = V m c main_v22 (ix3 s r n) := by
  unfold iblk
  rw [View.read_apply]
  show V m c main_v22 _ = _
  congr 1
  funext ax
  apply Fin.ext
  match ax with
  | ⟨0, _⟩ => show win0_10.index t 0 * 3 + 1 * s.val = s.val; rw [(idx10 t).1] <;> omega
  | ⟨1, _⟩ => show win0_10.index t 1 * 32 + 1 * r.val = r.val; rw [(idx10 t).2.1] <;> omega
  | ⟨2, _⟩ => show win0_10.index t 2 * 3072 + 1 * n.val = n.val; rw [(idx10 t).2.2] <;> omega
theorem in10 (s : Fin 3) (r : Fin 32) (n : Fin 3072) : (iblk m c 10 t : Vec Ideal S3x32x3072 .f32) (ix3 s r n) = m ((c : Thread nD τ).loc main_arg8) (ix4 0 r s n) :=
  (blk10 m c t s r n).trans (V22 m c s r n)

/-- What window 11's array holds after a run, at one index: the grid point whose block holds it left it there. -/
theorem arr11 (r : Fin 32) (n : Fin 2048) : ((dats m 0 c).arrAt 11 cfg0.N : Vec Ideal S32x2048 .f32) (ix2 r n) = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) := by
  have h := congrFun ((Value.blocks11 m c t (flush0_11 t)).trans (Value.flushed11 m c t)) (ix2 r n : S32x2048.Idx)
  rw [View.read_apply] at h
  refine Eq.trans ?_ (h.trans rfl)
  show (dats m 0 c).arrAt 11 cfg0.N _ = (dats m 0 c).arrAt 11 cfg0.N _
  congr 1
  funext ax
  apply Fin.ext
  match ax with
  | ⟨0, _⟩ => show r.val = win0_11.index t 0 * 32 + 1 * r.val; rw [(idx11 t).1] <;> omega
  | ⟨1, _⟩ => show n.val = win0_11.index t 1 * 2048 + 1 * n.val; rw [(idx11 t).2] <;> omega

/-- What window 12's array holds after a run, at one index: the grid point whose block holds it left it there. -/
theorem arr12 (r : Fin 32) (n : Fin 3072) : ((dats m 0 c).arrAt 12 cfg0.N : Vec Ideal S32x3072 .f32) (ix2 r n) = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) := by
  have h := congrFun ((Value.blocks12 m c t (flush0_12 t)).trans (Value.flushed12 m c t)) (ix2 r n : S32x3072.Idx)
  rw [View.read_apply] at h
  refine Eq.trans ?_ (h.trans rfl)
  show (dats m 0 c).arrAt 12 cfg0.N _ = (dats m 0 c).arrAt 12 cfg0.N _
  congr 1
  funext ax
  apply Fin.ext
  match ax with
  | ⟨0, _⟩ => show r.val = win0_12.index t 0 * 32 + 1 * r.val; rw [(idx12 t).1] <;> omega
  | ⟨1, _⟩ => show n.val = win0_12.index t 1 * 3072 + 1 * n.val; rw [(idx12 t).2] <;> omega

/-- What window 13's array holds after a run, at one index: the grid point whose block holds it left it there. -/
theorem arr13 (r : Fin 32) (n : Fin 128) : ((dats m 0 c).arrAt 13 cfg0.N : Vec Ideal S32x128 .f32) (ix2 r n) = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n) := by
  have h := congrFun ((Value.blocks13 m c t (flush0_13 t)).trans (Value.flushed13 m c t)) (ix2 r n : S32x128.Idx)
  rw [View.read_apply] at h
  refine Eq.trans ?_ (h.trans rfl)
  show (dats m 0 c).arrAt 13 cfg0.N _ = (dats m 0 c).arrAt 13 cfg0.N _
  congr 1
  funext ax
  apply Fin.ext
  match ax with
  | ⟨0, _⟩ => show r.val = win0_13.index t 0 * 32 + 1 * r.val; rw [(idx13 t).1] <;> omega
  | ⟨1, _⟩ => show n.val = win0_13.index t 1 * 128 + 1 * n.val; rw [(idx13 t).2] <;> omega

/-- What window 14's array holds after a run, at one index: the grid point whose block holds it left it there. -/
theorem arr14 (s : Fin 3) (r : Fin 32) (n : Fin 3072) : ((dats m 0 c).arrAt 14 cfg0.N : Vec Ideal S3x32x3072 .f32) (ix3 s r n) = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 s r n) := by
  have h := congrFun ((Value.blocks14 m c t (flush0_14 t)).trans (Value.flushed14 m c t)) (ix3 s r n : S3x32x3072.Idx)
  rw [View.read_apply] at h
  refine Eq.trans ?_ (h.trans rfl)
  show (dats m 0 c).arrAt 14 cfg0.N _ = (dats m 0 c).arrAt 14 cfg0.N _
  congr 1
  funext ax
  apply Fin.ext
  match ax with
  | ⟨0, _⟩ => show s.val = win0_14.index t 0 * 3 + 1 * s.val; rw [(idx14 t).1] <;> omega
  | ⟨1, _⟩ => show r.val = win0_14.index t 1 * 32 + 1 * r.val; rw [(idx14 t).2.1] <;> omega
  | ⟨2, _⟩ => show n.val = win0_14.index t 2 * 3072 + 1 * n.val; rw [(idx14 t).2.2] <;> omega

end Cert.Kernel4Ideal.ProjRead

end
-- ==== Proof.ProjDRef.lean ====
/-
  What the reference for the recurrent layer's input projection computes for the sample batch, at an index, as the row
  functions of its arguments.
-/
module

public import proofs.«01_k».proof.Proof.Gen.Reference4Ideal.Read
public import proofs.«01_k».proof.Proof.ProjSpec
public import Idealize.ShloMosaic.Lib.Tactic
public import Idealize.ShloMosaic.Lib.KernelVsHost

@[expose] public section

set_option maxRecDepth 16384

noncomputable section

open Idealize.ShloMosaic

namespace Cert.Reference4Ideal.ProjRef

open Cert.Reference4Ideal Cert.Reference4Ideal.Gen Cert.Reference4Ideal.Read Cert.PostSpec Cert.ProjSpec

variable (x0 x1 x2 : Vec Ideal S32x1x1024 .f32) (x3 : Vec Ideal S2x1024 .f32) (x4 : Vec Ideal S1x1024x5152 .f32) (x5 : Vec Ideal S1x4x3072 .f32)
  (x6 : Vec Ideal S1x3072 .f32) (x7 : Vec Ideal S1x32 .f32) (x8 : Vec Ideal S1x32x3x3072 .f32) (b : Fin 32)

/-- The modulated norm of a row, as the arguments give it. -/
abbrev hrow (k : Fin 1024) : EReal := modul (fun k => x0 (ix3 b 0 k)) (fun k => x3 (ix2 1 k)) (fun k => x1 (ix3 b 0 k)) (fun k => x2 (ix3 b 0 k)) k
/-- A column of the projected row. -/
abbrev urow (j : Fin 5152) : EReal := ∑ k, hrow x0 x1 x2 x3 b k * x4 (ix3 0 k j)

theorem h_at (k : Fin 1024) : val_main_v18 x0 x1 x2 x3 (ix3 b 0 k) = hrow x0 x1 x2 x3 b k := by
  pointwise [val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0,
    val_main_cst_1, val_main_cst_2]
  rfl

theorem u_at (j : Fin 5152) : val_main_v20 x0 x1 x2 x3 x4 (ix3 b 0 j) = urow x0 x1 x2 x3 x4 b j := by
  have h := h_at x0 x1 x2 x3 b
  unfold val_main_v20
  generalize val_main_v18 x0 x1 x2 x3 = u at *
  pointwise [val_main_v19]
  simp only [h]

/-- The reference's gate columns. -/
theorem z_at (j : Fin 2048) : val_main_v68 x0 x1 x2 x3 x4 (ix2 b j) = urow x0 x1 x2 x3 x4 b ⟨j.val, by omega⟩ := by
  have h := u_at x0 x1 x2 x3 x4 b
  unfold val_main_v68 val_main_v21
  generalize val_main_v20 x0 x1 x2 x3 x4 = u at *
  pointwise []
  exact h _

/-- The carried rows and the new one, in order. -/
def cat (s : Fin 4) (j : Fin 3072) : EReal := if h : s.val < 3 then x8 (ix4 0 b ⟨s.val, h⟩ j) else urow x0 x1 x2 x3 x4 b ⟨2048 + j.val, by omega⟩

theorem cat_at (s : Fin 4) (j : Fin 3072) : val_main_v27 x0 x1 x2 x3 x4 x8 (ix3 b s j) = cat x0 x1 x2 x3 x4 x8 b s j := by
  have h := u_at x0 x1 x2 x3 x4 b
  unfold val_main_v27 val_main_v22
  generalize val_main_v20 x0 x1 x2 x3 x4 = u at *
  pointwise [val_main_v24]
  unfold cat
  split_ifs with hs h1
  · rfl
  · refine Eq.trans ?_ (h ⟨2048 + j.val, by omega⟩)
    congr 1
    funext ax
    apply Fin.ext
    match ax with
    | ⟨0, _⟩ => rfl
    | ⟨1, _⟩ => show s.val - 3 = 0; omega
    | ⟨2, _⟩ => rfl
  · exact absurd rfl h1

theorem cs_at (s : Fin 3) (j : Fin 3072) : val_main_v71 x0 x1 x2 x3 x4 x8 (ix3 s b j) = cat x0 x1 x2 x3 x4 x8 b ⟨1 + s.val, by omega⟩ j := by
  have h := cat_at x0 x1 x2 x3 x4 x8 b
  unfold val_main_v71 val_main_v61
  generalize val_main_v27 x0 x1 x2 x3 x4 x8 = u at *
  pointwise []
  exact h _ _

theorem xc_at (j : Fin 3072) : val_main_v69 x0 x1 x2 x3 x4 x5 x6 x8 (ix2 b j) =
    silu (conv (x8 (ix4 0 b 0 j)) (x8 (ix4 0 b 1 j)) (x8 (ix4 0 b 2 j)) (urow x0 x1 x2 x3 x4 b ⟨2048 + j.val, by omega⟩) (x5 (ix3 0 0 j)) (x5 (ix3 0 1 j))
      (x5 (ix3 0 2 j)) (x5 (ix3 0 3 j)) (x6 (ix2 0 j))) := by
  have h := cat_at x0 x1 x2 x3 x4 x8 b
  have h0 : _ = x8 (ix4 0 b 0 j) := h 0 j
  have h1 : _ = x8 (ix4 0 b 1 j) := h 1 j
  have h2 : _ = x8 (ix4 0 b 2 j) := h 2 j
  have h3 : _ = urow x0 x1 x2 x3 x4 b ⟨2048 + j.val, by omega⟩ := h 3 j
  rw [← h0, ← h1, ← h2, ← h3, ← conv_eq]
  clear h h0 h1 h2 h3
  unfold val_main_v69 val_main_v60 val_main_call0_v5 val_main_call0_v3 val_main_call0_v1 val_main_call0_v0 val_main_v59 val_main_v56 val_main_v55 val_main_v50 val_main_v49 val_main_v48 val_main_v43 val_main_v42 val_main_v41 val_main_v36 val_main_v35 val_main_v33 val_main_v28
  generalize val_main_v27 x0 x1 x2 x3 x4 x8 = u at *
  pointwise [val_main_v29, val_main_v30, val_main_v31, val_main_v32, val_main_cst_3, val_main_v34, val_main_v37, val_main_v38, val_main_v39, val_main_v40, val_main_v44, val_main_v45, val_main_v46, val_main_v47, val_main_v51, val_main_v52, val_main_v53, val_main_v54, val_main_v57, val_main_v58, val_main_call0_cst, val_main_call0_v2, val_main_call0_cst_0, val_main_call0_v4, val_main_v25, val_main_v26]
  rfl

theorem pad_at (j : Fin 128) : val_main_v66 x0 x1 x2 x3 x4 x7 (ix3 b 0 j) =
    if h : j.val < 32 then urow x0 x1 x2 x3 x4 b ⟨5120 + j.val, by omega⟩ + x7 (ix2 0 ⟨j.val, h⟩) else 0 := by
  have h := u_at x0 x1 x2 x3 x4 b
  unfold val_main_v66 val_main_v65 val_main_v23
  generalize val_main_v20 x0 x1 x2 x3 x4 = u at *
  pointwise [val_main_call1_v0, val_main_c, val_main_v64, val_main_v63, val_main_v62]
  split_ifs with hj
  · exact congrArg (· + _) (h ⟨5120 + j.val, by omega⟩)
  · exact Idealize.ShloMosaic.sitofp_zero (φ := .f32)

theorem dt_at (j : Fin 128) : val_main_v70 x0 x1 x2 x3 x4 x7 (ix2 b j) =
    softplus (if h : j.val < 32 then urow x0 x1 x2 x3 x4 b ⟨5120 + j.val, by omega⟩ + x7 (ix2 0 ⟨j.val, h⟩) else 0) := by
  rw [← pad_at]
  unfold val_main_v70 val_main_v67 val_main_call2_v11 val_main_call2_v10 val_main_call2_v9 val_main_call2_v8 val_main_call2_v7 val_main_call2_v6 val_main_call2_v4
    val_main_call2_v3 val_main_call2_v1
  generalize val_main_v66 x0 x1 x2 x3 x4 x7 = u at *
  pointwise [val_main_call2_v5, val_main_call2_v2, val_main_call2_v0, val_main_call2_cst]
  unfold softplus
  simp

end Cert.Reference4Ideal.ProjRef

end
-- ==== Proof.ProjDEq.lean ====
/-
  The recurrent layer's input projection for the sample batch: the arrays that the call returns are the reference's
  results on the same arguments.
-/
module

public import proofs.«01_k».proof.Proof.ProjDRead
public import proofs.«01_k».proof.Proof.ProjDRef

@[expose] public section

set_option maxRecDepth 16384

noncomputable section

open Idealize.ShloMosaic Idealize.ShloMosaic.TcCoe Idealize.SL.Sem

namespace Cert.ProjDEq

open Cert.Kernel4Ideal Cert.Kernel4Ideal.Gen Cert.Kernel4Ideal.ProjRead

variable (m : (ℓ : Loc nD τ sig) → Buf (Elt Ideal) ℓ) (c : Dev nD)

/-- The call's only grid point. -/
abbrev t0 : Fin cfg0.N := ⟨0, by decide⟩

/-- The gate columns. -/
theorem eq11 : (dats m 0 c).arrAt 11 cfg0.N = Cert.Reference4Ideal.Read.val_main_v68 (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, j, rfl⟩ : ∃ (r : Fin 32) (j : Fin 2048), i = ix2 r j := ⟨i 0, i 1, by funext a; fin_cases a <;> rfl⟩
  refine (arr11 m c t0 r j).trans ?_
  rw [Cert.Kernel4Ideal.Block.out11_at, Cert.Reference4Ideal.ProjRef.z_at]
  simp only [Cert.Kernel4Ideal.Block.hrow, Cert.Reference4Ideal.ProjRef.urow, Cert.Reference4Ideal.ProjRef.hrow, in0, in1, in2, in3, in4]

/-- The convolved channels. -/
theorem eq12 : (dats m 0 c).arrAt 12 cfg0.N = Cert.Reference4Ideal.Read.val_main_v69 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  funext i
  obtain ⟨r, j, rfl⟩ : ∃ (r : Fin 32) (j : Fin 3072), i = ix2 r j := ⟨i 0, i 1, by funext a; fin_cases a <;> rfl⟩
  refine (arr12 m c t0 r j).trans ?_
  rw [Cert.Kernel4Ideal.Block.out12_at, Cert.Reference4Ideal.ProjRef.xc_at]
  simp only [Cert.Kernel4Ideal.Block.urow, Cert.Kernel4Ideal.Block.hrow, Cert.Reference4Ideal.ProjRef.urow, Cert.Reference4Ideal.ProjRef.hrow, in0, in1, in2, in3, in5, in8, in9, in10]

/-- The step sizes; the lanes beyond the heads hold the step size of a zero. -/
theorem eq13 : (dats m 0 c).arrAt 13 cfg0.N = Cert.Reference4Ideal.Read.val_main_v70 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  funext i
  obtain ⟨r, j, rfl⟩ : ∃ (r : Fin 32) (j : Fin 128), i = ix2 r j := ⟨i 0, i 1, by funext a; fin_cases a <;> rfl⟩
  refine (arr13 m c t0 r j).trans ?_
  rw [Cert.Kernel4Ideal.Block.out13_at, Cert.Reference4Ideal.ProjRef.dt_at]
  simp only [Cert.Kernel4Ideal.Block.hrow, Cert.Reference4Ideal.ProjRef.urow, Cert.Reference4Ideal.ProjRef.hrow, in0, in1, in2, in3, in6, in7]
  congr 1
  split_ifs with h
  · rfl
  · simp only [mul_zero, Finset.sum_const_zero, add_zero]

/-- The rows that are carried on. -/
theorem eq14 : (dats m 0 c).arrAt 14 cfg0.N = Cert.Reference4Ideal.Read.val_main_v71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  funext i
  obtain ⟨s, r, j, rfl⟩ : ∃ (s : Fin 3) (r : Fin 32) (j : Fin 3072), i = ix3 s r j := ⟨i 0, i 1, i 2, by funext a; fin_cases a <;> rfl⟩
  refine (arr14 m c t0 s r j).trans ?_
  rw [Cert.Kernel4Ideal.Block.out14_at, Cert.Reference4Ideal.ProjRef.cs_at]
  unfold Cert.Kernel4Ideal.Block.carry Cert.Reference4Ideal.ProjRef.cat
  by_cases h : s.val < 2
  · rw [dif_pos h, dif_pos (show 1 + s.val < 3 by omega), in10]
    congr 2
    exact Fin.ext (by show s.val + 1 = 1 + s.val; omega)
  · rw [dif_neg h, dif_neg (show ¬ 1 + s.val < 3 by omega)]
    simp only [Cert.Kernel4Ideal.Block.urow, Cert.Kernel4Ideal.Block.hrow, Cert.Reference4Ideal.ProjRef.urow, Cert.Reference4Ideal.ProjRef.hrow, in0, in1, in2, in3, in5]

end Cert.ProjDEq

end
-- ==== Proof.lean ====
/- The proof of the certificate's claim: the frames, and the equality of each kernel's results with its reference's. -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.StepEq
public import proofs.«01_k».proof.Proof.StepFinite
public import proofs.«01_k».proof.Proof.PostAEq
public import proofs.«01_k».proof.Proof.PostBEq
public import proofs.«01_k».proof.Proof.ProjSEq
public import proofs.«01_k».proof.Proof.PostCEq
public import proofs.«01_k».proof.Proof.ProjPEq
public import proofs.«01_k».proof.Proof.ProjAEq
public import proofs.«01_k».proof.Proof.ProjDEq
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Proof

open Idealize.ShloMosaic Idealize.SL.Sem Cert.Kernel

/-- The one-token step: the kernel's output and new state are the reference's, when every argument is finite. -/
theorem step_algebraic : letI := Cert.KernelIdeal.Gen.facts; letI := Cert.ReferenceIdeal.Gen.facts; letI := Cert.Pre_finite.Gen.facts
    Cert.algebraic_KernelIdeal_ReferenceIdeal_pre_finite := by
  intro m g m' g' hpre hagree
  refine ⟨fun c => (Cert.KernelIdeal.Gen.dats m 0 c).arrAt 9 Cert.KernelIdeal.cfg0.N, fun c => (Cert.KernelIdeal.Gen.dats m 0 c).arrAt 10 Cert.KernelIdeal.cfg0.N,
    Cert.KernelIdeal.Value.run_blocks m g, (θ_run _ _ _).mono (fun r h c => ?_) (Cert.ReferenceIdeal.Value.run m' g')⟩
  obtain ⟨e0, e1, e2, e3, e4⟩ := hagree c
  obtain ⟨r0, r1, k⟩ := h c
  obtain ⟨h0, h1, h2, h3, h4⟩ := Cert.StepFinite.real_args _ _ _ _ _ (hpre c)
  refine ⟨r0.trans ?_, r1.trans ?_, k⟩
  · rw [e0, e1, e2, e3, e4]
    exact (Cert.ReferenceIdeal.Read.val_main_v62_eq _ _ _ _ _).trans (Cert.StepEq.y_eq m c h0 h1 h2 h3 h4).symm
  · rw [e0, e1, e2, e4]
    exact (Cert.ReferenceIdeal.Read.val_main_v63_eq _ _ _ _).trans (Cert.StepEq.h_eq m c h0 h1 h2 h4).symm

/-- The step's reference runs, keeps its arguments and ends with every counter at zero. -/
theorem step_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩) (Cert.ReferenceIdeal.Value.run m ρ)

/-- The second half of the recurrent layer: the kernel's result is the reference's. -/
theorem ssm_post_algebraic : letI := Cert.Kernel2Ideal.Gen.facts; letI := Cert.Reference2Ideal.Gen.facts
    Cert.algebraic_Kernel2Ideal_Reference2Ideal := by
  intro m g m' g' hpre hagree
  refine ⟨fun c => (Cert.Kernel2Ideal.Gen.dats m 0 c).arrAt 14 Cert.Kernel2Ideal.cfg0.N,
    Cert.Kernel2Ideal.Value.run_blocks m g, (θ_run _ _ _).mono (fun r h c => ?_) (Cert.Reference2Ideal.Value.run m' g')⟩
  obtain ⟨e0, e1, e2, e3, e4, e5, e6, e7, e8, e9, e10, e11, e12, e13⟩ := hagree c
  obtain ⟨r0, k⟩ := h c
  have E := Cert.PostBEq.eq m c
  rw [← e0, ← e1, ← e2, ← e3, ← e4, ← e5, ← e6, ← e7, ← e8, ← e9, ← e10, ← e11, ← e12, ← e13] at E
  exact ⟨r0.trans ((Cert.Reference2Ideal.Read.val_main_v88_eq (StableHlo.launchContents m' c)).trans E.symm), k⟩

/-- The second half of the recurrent layer: the reference runs, keeps its arguments and ends with every counter at zero. -/
theorem ssm_post_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩) (Cert.Reference2Ideal.Value.run m ρ)

/-- The second half of the attention layer: the kernel's result is the reference's. -/
theorem attn_post_algebraic : letI := Cert.Kernel3Ideal.Gen.facts; letI := Cert.Reference3Ideal.Gen.facts
    Cert.algebraic_Kernel3Ideal_Reference3Ideal := by
  intro m g m' g' hpre hagree
  refine ⟨fun c => (Cert.Kernel3Ideal.Gen.dats m 0 c).arrAt 13 Cert.Kernel3Ideal.cfg0.N,
    Cert.Kernel3Ideal.Value.run_blocks m g, (θ_run _ _ _).mono (fun r h c => ?_) (Cert.Reference3Ideal.Value.run m' g')⟩
  obtain ⟨e0, e1, e2, e3, e4, e5, e6, e7, e8, e9, e10, e11, e12⟩ := hagree c
  obtain ⟨r0, k⟩ := h c
  refine ⟨(r0.trans (Cert.Reference3Ideal.Read.val_main_v70_eq m' c)).trans ?_, k⟩
  rw [e0, e1, e2, e3, e4, e5, e6, e7, e8, e9, e10, e11, e12]
  exact (Cert.PostAEq.eq m c).symm

/-- The second half of the attention layer: the reference runs, keeps its arguments and ends with every counter at zero. -/
theorem attn_post_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run m ρ)

set_option maxHeartbeats 4000000 in
/-- The recurrent layer's input projection for the sample batch: the kernel's results are the reference's. -/
theorem ssm_in_sample_algebraic : letI := Cert.Kernel4Ideal.Gen.facts; letI := Cert.Reference4Ideal.Gen.facts
    Cert.algebraic_Kernel4Ideal_Reference4Ideal := by
  intro m g m' g' hpre hagree
  refine ⟨fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, fun c => (Cert.Kernel4Ideal.Gen.dats m 0 c).arrAt 14 Cert.Kernel4Ideal.cfg0.N,
    Cert.Kernel4Ideal.Value.run_blocks m g, (θ_run _ _ _).mono (fun r h c => ?_) (Cert.Reference4Ideal.Value.run m' g')⟩
  obtain ⟨e0, e1, e2, e3, e4, e5, e6, e7, e8⟩ := hagree c
  obtain ⟨r0, r1, r2, r3, k⟩ := h c
  refine ⟨(r0.trans (Cert.Reference4Ideal.Read.val_main_v68_eq _ _ _ _ _)).trans ?_, (r1.trans (Cert.Reference4Ideal.Read.val_main_v69_eq m' c)).trans ?_, (r2.trans (Cert.Reference4Ideal.Read.val_main_v70_eq m' c)).trans ?_, (r3.trans (Cert.Reference4Ideal.Read.val_main_v71_eq _ _ _ _ _ _)).trans ?_, k⟩
  · rw [e0, e1, e2, e3, e4]
    exact (Cert.ProjDEq.eq11 m c).symm
  · rw [e0, e1, e2, e3, e4, e5, e6, e8]
    exact (Cert.ProjDEq.eq12 m c).symm
  · rw [e0, e1, e2, e3, e4, e7]
    exact (Cert.ProjDEq.eq13 m c).symm
  · rw [e0, e1, e2, e3, e4, e8]
    exact (Cert.ProjDEq.eq14 m c).symm

/-- The recurrent layer's input projection for the sample batch: the reference runs, keeps its arguments and ends with every counter at zero. -/
theorem ssm_in_sample_reference : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩) (Cert.Reference4Ideal.Value.run m ρ)

set_option maxHeartbeats 4000000 in
/-- The attention layer's input projection for the sample batch: the kernel's results are the reference's. -/
theorem attn_in_sample_algebraic : letI := Cert.Kernel5Ideal.Gen.facts; letI := Cert.Reference5Ideal.Gen.facts
    Cert.algebraic_Kernel5Ideal_Reference5Ideal := by
  intro m g m' g' hpre hagree
  refine ⟨fun c => (Cert.Kernel5Ideal.Gen.dats m 0 c).arrAt 10 Cert.Kernel5Ideal.cfg0.N, fun c => (Cert.Kernel5Ideal.Gen.dats m 0 c).arrAt 11 Cert.Kernel5Ideal.cfg0.N, fun c => (Cert.Kernel5Ideal.Gen.dats m 0 c).arrAt 12 Cert.Kernel5Ideal.cfg0.N, fun c => (Cert.Kernel5Ideal.Gen.dats m 0 c).arrAt 13 Cert.Kernel5Ideal.cfg0.N, fun c => (Cert.Kernel5Ideal.Gen.dats m 0 c).arrAt 14 Cert.Kernel5Ideal.cfg0.N, fun c => (Cert.Kernel5Ideal.Gen.dats m 0 c).arrAt 15 Cert.Kernel5Ideal.cfg0.N, fun c => (Cert.Kernel5Ideal.Gen.dats m 0 c).arrAt 16 Cert.Kernel5Ideal.cfg0.N,
    Cert.Kernel5Ideal.Value.run_blocks m g, (θ_run _ _ _).mono (fun r h c => ?_) (Cert.Reference5Ideal.Value.run m' g')⟩
  obtain ⟨e0, e1, e2, e3, e4, e5, e6, e7⟩ := hagree c
  obtain ⟨r0, r1, r2, r3, r4, r5, r6, k⟩ := h c
  refine ⟨(r0.trans (Cert.Reference5Ideal.Read.val_main_v83_eq m' c)).trans ?_, (r1.trans (Cert.Reference5Ideal.Read.val_main_v84_eq _ _ _ _ _)).trans ?_, (r2.trans (Cert.Reference5Ideal.Read.val_main_v85_eq m' c)).trans ?_, (r3.trans (Cert.Reference5Ideal.Read.val_main_v86_eq _ _ _ _ _)).trans ?_, (r4.trans (Cert.Reference5Ideal.Read.val_main_v87_eq _ _ _ _ _)).trans ?_, (r5.trans (Cert.Reference5Ideal.Read.val_main_v88_eq _ _ _ _ _)).trans ?_, (r6.trans (Cert.Reference5Ideal.Read.val_main_v89_eq m' c)).trans ?_, k⟩
  · rw [e0, e1, e2, e3, e4, e6, e7]
    exact (Cert.ProjAEq.eq10 m c).symm
  · rw [e0, e1, e2, e3, e4]
    exact (Cert.ProjAEq.eq11 m c).symm
  · rw [e0, e1, e2, e3, e4, e6, e7]
    exact (Cert.ProjAEq.eq12 m c).symm
  · rw [e0, e1, e2, e3, e4]
    exact (Cert.ProjAEq.eq13 m c).symm
  · rw [e0, e1, e2, e3, e4]
    exact (Cert.ProjAEq.eq14 m c).symm
  · rw [e0, e1, e2, e3, e4]
    exact (Cert.ProjAEq.eq15 m c).symm
  · rw [e0, e1, e2, e3, e4, e5]
    exact (Cert.ProjAEq.eq16 m c).symm

/-- The attention layer's input projection for the sample batch: the reference runs, keeps its arguments and ends with every counter at zero. -/
theorem attn_in_sample_reference : Cert.quiescent_Reference5Ideal (hReference5Ideal := Cert.Reference5Ideal.Gen.facts) := fun m ρ _ =>
  (θ_run Cert.Reference5Ideal.defs _ _).mono (fun r h => ⟨fun c => (h c).2.2.2.2.2.2.2, sem_eq_zero_of_no_sems (by decide) r.2⟩) (Cert.Reference5Ideal.Value.run m ρ)

set_option maxHeartbeats 4000000 in
/-- The attention layer's input projection for the prompt: the kernel's results are the reference's. -/
theorem attn_in_prompt_algebraic : letI := Cert.Kernel6Ideal.Gen.facts; letI := Cert.Reference6Ideal.Gen.facts
    Cert.algebraic_Kernel6Ideal_Reference6Ideal := by
  intro m g m' g' hpre hagree
  refine ⟨fun c => (Cert.Kernel6Ideal.Gen.dats m 0 c).arrAt 13 Cert.Kernel6Ideal.cfg0.N, fun c => (Cert.Kernel6Ideal.Gen.dats m 0 c).arrAt 14 Cert.Kernel6Ideal.cfg0.N, fun c => (Cert.Kernel6Ideal.Gen.dats m 0 c).arrAt 15 Cert.Kernel6Ideal.cfg0.N, fun c => (Cert.Kernel6Ideal.Gen.dats m 0 c).arrAt 16 Cert.Kernel6Ideal.cfg0.N, fun c => (Cert.Kernel6Ideal.Gen.dats m 0 c).arrAt 17 Cert.Kernel6Ideal.cfg0.N, fun c => (Cert.Kernel6Ideal.Gen.dats m 0 c).arrAt 18 Cert.Kernel6Ideal.cfg0.N, fun c => (Cert.Kernel6Ideal.Gen.dats m 0 c).arrAt 19 Cert.Kernel6Ideal.cfg0.N,
    Cert.Kernel6Ideal.Value.run_blocks m g, (θ_run _ _ _).mono (fun r h c => ?_) (Cert.Reference6Ideal.Value.run m' g')⟩
  obtain ⟨e0, e1, e2, e3, e4, e5, e6, e7⟩ := hagree c
  obtain ⟨r0, r1, r2, r3, r4, r5, r6, k⟩ := h c
  refine ⟨(r0.trans (Cert.Reference6Ideal.Read.val_main_v85_eq m' c)).trans ?_, (r1.trans (Cert.Reference6Ideal.Read.val_main_v86_eq _ _ _ _ _)).trans ?_, (r2.trans (Cert.Reference6Ideal.Read.val_main_v88_eq m' c)).trans ?_, (r3.trans (Cert.Reference6Ideal.Read.val_main_v90_eq _ _ _ _ _)).trans ?_, (r4.trans (Cert.Reference6Ideal.Read.val_main_v92_eq _ _ _ _ _)).trans ?_, (r5.trans (Cert.Reference6Ideal.Read.val_main_v94_eq _ _ _ _ _)).trans ?_, (r6.trans (Cert.Reference6Ideal.Read.val_main_v95_eq m' c)).trans ?_, k⟩
  · rw [e0, e1, e2, e3, e4, e6, e7]
    exact (Cert.ProjPEq.eq13 m c).symm
  · rw [e0, e1, e2, e3, e4]
    exact (Cert.ProjPEq.eq14 m c).symm
  · rw [e0, e1, e2, e3, e4, e6, e7]
    exact (Cert.ProjPEq.eq15 m c).symm
  · rw [e0, e1, e2, e3, e4]
    exact (Cert.ProjPEq.eq16 m c).symm
  · rw [e0, e1, e2, e3, e4]
    exact (Cert.ProjPEq.eq17 m c).symm
  · rw [e0, e1, e2, e3, e4]
    exact (Cert.ProjPEq.eq18 m c).symm
  · rw [e0, e1, e2, e3, e4, e5]
    exact (Cert.ProjPEq.eq19 m c).symm

/-- The attention layer's input projection for the prompt: the reference runs, keeps its arguments and ends with every counter at zero. -/
theorem attn_in_prompt_reference : Cert.quiescent_Reference6Ideal (hReference6Ideal := Cert.Reference6Ideal.Gen.facts) := fun m ρ _ =>
  (θ_run Cert.Reference6Ideal.defs _ _).mono (fun r h => ⟨fun c => (h c).2.2.2.2.2.2.2, sem_eq_zero_of_no_sems (by decide) r.2⟩) (Cert.Reference6Ideal.Value.run m ρ)

set_option maxHeartbeats 4000000 in
/-- The recurrent layer's input projection for the prompt: the kernel's results are the reference's. -/
theorem ssm_in_prompt_algebraic : letI := Cert.Kernel7Ideal.Gen.facts; letI := Cert.Reference7Ideal.Gen.facts
    Cert.algebraic_Kernel7Ideal_Reference7Ideal := by
  intro m g m' g' hpre hagree
  refine ⟨fun c => (Cert.Kernel7Ideal.Gen.dats m 0 c).arrAt 10 Cert.Kernel7Ideal.cfg0.N, fun c => (Cert.Kernel7Ideal.Gen.dats m 0 c).arrAt 11 Cert.Kernel7Ideal.cfg0.N, fun c => (Cert.Kernel7Ideal.Gen.dats m 0 c).arrAt 12 Cert.Kernel7Ideal.cfg0.N, fun c => (Cert.Kernel7Ideal.Gen.dats m 0 c).arrAt 13 Cert.Kernel7Ideal.cfg0.N,
    Cert.Kernel7Ideal.Value.run_blocks m g, (θ_run _ _ _).mono (fun r h c => ?_) (Cert.Reference7Ideal.Value.run m' g')⟩
  obtain ⟨e0, e1, e2, e3, e4, e5, e6, e7⟩ := hagree c
  obtain ⟨r0, r1, r2, r3, k⟩ := h c
  refine ⟨(r0.trans (Cert.Reference7Ideal.Read.val_main_v70_eq _ _ _ _ _)).trans ?_, (r1.trans (Cert.Reference7Ideal.Read.val_main_v71_eq m' c)).trans ?_, (r2.trans (Cert.Reference7Ideal.Read.val_main_v72_eq m' c)).trans ?_, (r3.trans (Cert.Reference7Ideal.Read.val_main_v74_eq _ _ _ _ _)).trans ?_, k⟩
  · rw [e0, e1, e2, e3, e4]
    exact (Cert.ProjSEq.eq10 m c).symm
  · rw [e0, e1, e2, e3, e4, e5, e6]
    exact (Cert.ProjSEq.eq11 m c).symm
  · rw [e0, e1, e2, e3, e4, e7]
    exact (Cert.ProjSEq.eq12 m c).symm
  · rw [e0, e1, e2, e3, e4]
    exact (Cert.ProjSEq.eq13 m c).symm

/-- The recurrent layer's input projection for the prompt: the reference runs, keeps its arguments and ends with every counter at zero. -/
theorem ssm_in_prompt_reference : Cert.quiescent_Reference7Ideal (hReference7Ideal := Cert.Reference7Ideal.Gen.facts) := fun m ρ _ =>
  (θ_run Cert.Reference7Ideal.defs _ _).mono (fun r h => ⟨fun c => (h c).2.2.2.2, sem_eq_zero_of_no_sems (by decide) r.2⟩) (Cert.Reference7Ideal.Value.run m ρ)

set_option maxHeartbeats 4000000 in
/-- The recurrent layer's second half for the sample batch: the kernel's results are the reference's. -/
theorem ssm_post_sample_algebraic : letI := Cert.Kernel8Ideal.Gen.facts; letI := Cert.Reference8Ideal.Gen.facts
    Cert.algebraic_Kernel8Ideal_Reference8Ideal := by
  intro m g m' g' hpre hagree
  refine ⟨fun c => (Cert.Kernel8Ideal.Gen.dats m 0 c).arrAt 14 Cert.Kernel8Ideal.cfg0.N,
    Cert.Kernel8Ideal.Value.run_blocks m g, (θ_run _ _ _).mono (fun r h c => ?_) (Cert.Reference8Ideal.Value.run m' g')⟩
  obtain ⟨e0, e1, e2, e3, e4, e5, e6, e7, e8, e9, e10, e11, e12, e13⟩ := hagree c
  obtain ⟨r0, k⟩ := h c
  have E := Cert.PostCEq.eq m c
  rw [← e0, ← e1, ← e2, ← e3, ← e4, ← e5, ← e6, ← e7, ← e8, ← e9, ← e10, ← e11, ← e12, ← e13] at E
  exact ⟨r0.trans ((Cert.Reference8Ideal.Read.val_main_v84_eq (StableHlo.launchContents m' c)).trans E.symm), k⟩

/-- The recurrent layer's second half for the sample batch: the reference runs, keeps its arguments and ends with every counter at zero. -/
theorem ssm_post_sample_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩) (Cert.Reference8Ideal.Value.run m ρ)

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  step_reference, fun m ρ _ => step_reference m ρ trivial,
  fun m ρ _ => Cert.Kernel2.Gen.frame m ρ, fun m ρ _ => Cert.Kernel2Ideal.Gen.frame m ρ, ssm_post_reference,
  fun m ρ _ => Cert.Kernel3.Gen.frame m ρ, fun m ρ _ => Cert.Kernel3Ideal.Gen.frame m ρ, attn_post_reference,
  fun m ρ _ => Cert.Kernel4.Gen.frame m ρ, fun m ρ _ => Cert.Kernel4Ideal.Gen.frame m ρ, ssm_in_sample_reference,
  fun m ρ _ => Cert.Kernel5.Gen.frame m ρ, fun m ρ _ => Cert.Kernel5Ideal.Gen.frame m ρ, attn_in_sample_reference,
  fun m ρ _ => Cert.Kernel6.Gen.frame m ρ, fun m ρ _ => Cert.Kernel6Ideal.Gen.frame m ρ, attn_in_prompt_reference,
  fun m ρ _ => Cert.Kernel7.Gen.frame m ρ, fun m ρ _ => Cert.Kernel7Ideal.Gen.frame m ρ, ssm_in_prompt_reference,
  fun m ρ _ => Cert.Kernel8.Gen.frame m ρ, fun m ρ _ => Cert.Kernel8Ideal.Gen.frame m ρ, ssm_post_sample_reference,
  fun m ρ _ => Cert.Kernel9.Gen.frame m ρ, fun m ρ _ => Cert.Kernel9Ideal.Gen.frame m ρ,
  trivial, step_algebraic, trivial, trivial, trivial, trivial, trivial, trivial, trivial, trivial,
  ssm_post_algebraic, attn_post_algebraic, ssm_in_sample_algebraic, attn_in_sample_algebraic, attn_in_prompt_algebraic, ssm_in_prompt_algebraic, ssm_post_sample_algebraic⟩

end Cert.Proof

end
